-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sensible [hPre_sensible : Cert.Pre_sensible.Facts] (m : (ℓ : Loc Cert.KernelIdeal.nD Cert.KernelIdeal.τ Cert.KernelIdeal.sig) → Buf (Elt Ideal) ℓ) : Prop :=
  ∀ c : Dev Cert.KernelIdeal.nD,
    (Cert.Pre_sensible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sensible [hPre_sensible : Cert.Pre_sensible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sensible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sensible [hKernelIdeal : Cert.KernelIdeal.Facts] [hPre_sensible : Cert.Pre_sensible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sensible m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sensible [hReferenceIdeal : Cert.ReferenceIdeal.Facts] [hPre_sensible : Cert.Pre_sensible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sensible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_boxes_and_landmarks_pre_sensible [hKernelIdeal : Cert.KernelIdeal.Facts] [hReferenceIdeal : Cert.ReferenceIdeal.Facts] [hPre_sensible : Cert.Pre_sensible.Facts] [hOn_boxes_and_landmarks : Cert.On_boxes_and_landmarks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sensible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (Cert.KernelIdeal.threads (F := Ideal)) ⟨m, fun _ => 0, g⟩ (fun r => ∀ c : Dev Cert.KernelIdeal.nD,
          (∀ i : (⟨0, ![]⟩ : Shape).Idx, (Cert.On_boxes_and_landmarks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v20) i = v0 c i)
          ∧ (∀ i : (⟨0, ![]⟩ : Shape).Idx, (Cert.On_boxes_and_landmarks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v24) i = v1 c i)
          ∧ (∀ i : (⟨0, ![]⟩ : Shape).Idx, (Cert.On_boxes_and_landmarks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v28) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨0, ![]⟩ : Shape).Idx, (Cert.On_boxes_and_landmarks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v216) i = v0 c i)
          ∧ (∀ i : (⟨0, ![]⟩ : Shape).Idx, (Cert.On_boxes_and_landmarks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v218) i = v1 c i)
          ∧ (∀ i : (⟨0, ![]⟩ : Shape).Idx, (Cert.On_boxes_and_landmarks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v220) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sensible : Cert.Pre_sensible.Facts) (hOn_boxes_and_landmarks : Cert.On_boxes_and_landmarks.Facts),
    quiescent_Kernel (hKernel := hKernel)
    ∧ quiescent_KernelIdeal (hKernelIdeal := hKernelIdeal)
    ∧ quiescent_KernelIdeal_pre_sensible (hKernelIdeal := hKernelIdeal) (hPre_sensible := hPre_sensible)
    ∧ quiescent_ReferenceIdeal (hReferenceIdeal := hReferenceIdeal)
    ∧ quiescent_ReferenceIdeal_pre_sensible (hReferenceIdeal := hReferenceIdeal) (hPre_sensible := hPre_sensible)
    ∧ preserves_Kernel_KernelIdeal
    ∧ algebraic_KernelIdeal_ReferenceIdeal_on_boxes_and_landmarks_pre_sensible (hKernelIdeal := hKernelIdeal) (hReferenceIdeal := hReferenceIdeal) (hPre_sensible := hPre_sensible) (hOn_boxes_and_landmarks := hOn_boxes_and_landmarks)
-- ==== On_boxes_and_landmarks.lean ====
abbrev S8x16000x2 : Shape := ⟨3, ![8, 16000, 2]⟩
abbrev S8x16000x4 : Shape := ⟨3, ![8, 16000, 4]⟩
abbrev S8x16000x10 : Shape := ⟨3, ![8, 16000, 10]⟩
abbrev S16000x4 : Shape := ⟨2, ![16000, 4]⟩
abbrev S8x32x14 : Shape := ⟨3, ![8, 32, 14]⟩
abbrev S_ : Shape := ⟨0, ![]⟩

class Facts : Prop where

variable [Facts]

def fn {F : FTy → Type} [FloatOps F] (main_arg0 : IVec S8x16000x2 32) (main_arg1 : FVec F S8x16000x4 .f32) (main_arg2 : FVec F S8x16000x10 .f32) (main_arg3 : FVec F S16000x4 .f32) (main_arg4 : FVec F S8x32x14 .f32) : IVec S_ 1 × IVec S_ 1 × IVec S_ 1 :=
  let main_c : IVec S_ 1 := constantI S_ 1 0#1
  let main_c_0 : IVec S_ 1 := constantI S_ 1 1#1
  let main_c_1 : IVec S_ 1 := constantI S_ 1 1#1
  (main_c, main_c_0, main_c_1)
-- ==== Pre_sensible.lean ====
abbrev S8x16000x2 : Shape := ⟨3, ![8, 16000, 2]⟩
abbrev S8x16000x4 : Shape := ⟨3, ![8, 16000, 4]⟩
abbrev S8x16000x10 : Shape := ⟨3, ![8, 16000, 10]⟩
abbrev S16000x4 : Shape := ⟨2, ![16000, 4]⟩
abbrev S8x32x14 : Shape := ⟨3, ![8, 32, 14]⟩
abbrev S16000x1 : Shape := ⟨2, ![16000, 1]⟩
abbrev S16000 : Shape := ⟨1, ![16000]⟩
abbrev S8x32x1 : Shape := ⟨3, ![8, 32, 1]⟩
abbrev S8x32 : Shape := ⟨2, ![8, 32]⟩
abbrev S_ : Shape := ⟨0, ![]⟩

class Facts : Prop where
  slices_S16000x4_S16000x1_0_0 : S16000x4.Slices ![0, 0] S16000x1
  shapeCasts_S16000x1_S16000 : S16000x1.ShapeCasts S16000
  slices_S16000x4_S16000x1_0_1 : S16000x4.Slices ![0, 1] S16000x1
  slices_S16000x4_S16000x1_0_2 : S16000x4.Slices ![0, 2] S16000x1
  slices_S16000x4_S16000x1_0_3 : S16000x4.Slices ![0, 3] S16000x1
  slices_S8x32x14_S8x32x1_0_0_0 : S8x32x14.Slices ![0, 0, 0] S8x32x1
  shapeCasts_S8x32x1_S8x32 : S8x32x1.ShapeCasts S8x32
  slices_S8x32x14_S8x32x1_0_0_1 : S8x32x14.Slices ![0, 0, 1] S8x32x1
  slices_S8x32x14_S8x32x1_0_0_2 : S8x32x14.Slices ![0, 0, 2] S8x32x1
  slices_S8x32x14_S8x32x1_0_0_3 : S8x32x14.Slices ![0, 0, 3] S8x32x1
  bcast_S_S16000 : S_.BroadcastsInDim S16000 (![] : Fin 0 → Fin S16000.rank)
  bcast_S_S8x32 : S_.BroadcastsInDim S8x32 (![] : Fin 0 → Fin S8x32.rank)
  reducesTo_S16000_S_d0 : S16000.ReducesTo [0] S_
  h_S_ : 0 < S_.numel
  reducesTo_S8x32_S_d0_1 : S8x32.ReducesTo [0, 1] S_

variable [Facts]

def fn_part3 {F : FTy → Type} [FloatOps F] (main_v59 : IVec S8x32 1) (main_v60 : IVec S_ 1) (main_c_8 : IVec S_ 1) : IVec S_ 1 :=
  let main_v61 : IVec S_ 1 := (fun x v => Host.reduce IntOp.andi x v reducesTo_S8x32_S_d0_1 h_S_) main_v59 main_c_8
  let main_v62 : IVec S_ 1 := andi main_v60 main_v61
  main_v62

def fn_part2 {F : FTy → Type} [FloatOps F] (main_v9 : FVec F S8x32 .f32) (main_v11 : FVec F S8x32 .f32) (main_v13 : FVec F S8x32 .f32) (main_v15 : FVec F S8x32 .f32) (main_v34 : IVec S16000 1) (main_v41 : IVec S8x32 1) : IVec S_ 1 :=
  let main_v42 : FVec F S8x32 .f32 := Host.absf main_v13
  let main_cst_5 : FVec F S_ .f32 := constant S_ .f32 0x7F800000#32
  let main_v43 : FVec F S8x32 .f32 := broadcastInDim S8x32 ![] bcast_S_S8x32 main_cst_5
  let main_v44 : IVec S8x32 1 := cmpf .olt main_v42 main_v43
  let main_v45 : IVec S8x32 1 := andi main_v41 main_v44
  let main_v46 : FVec F S8x32 .f32 := Host.absf main_v15
  let main_cst_6 : FVec F S_ .f32 := constant S_ .f32 0x7F800000#32
  let main_v47 : FVec F S8x32 .f32 := broadcastInDim S8x32 ![] bcast_S_S8x32 main_cst_6
  let main_v48 : IVec S8x32 1 := cmpf .olt main_v46 main_v47
  let main_v49 : IVec S8x32 1 := andi main_v45 main_v48
  let main_v50 : IVec S8x32 1 := cmpf .olt main_v9 main_v13
  let main_v51 : IVec S8x32 1 := andi main_v49 main_v50
  let main_v52 : IVec S8x32 1 := cmpf .olt main_v11 main_v15
  let main_v53 : IVec S8x32 1 := andi main_v51 main_v52
  let main_v54 : FVec F S8x32 .f32 := subf main_v13 main_v9
  let main_v55 : FVec F S8x32 .f32 := subf main_v15 main_v11
  let main_v56 : FVec F S8x32 .f32 := mulf main_v54 main_v55
  let main_cst_7 : FVec F S_ .f32 := constant S_ .f32 0x322BCC77#32
  let main_v57 : FVec F S8x32 .f32 := broadcastInDim S8x32 ![] bcast_S_S8x32 main_cst_7
  let main_v58 : IVec S8x32 1 := cmpf .oge main_v56 main_v57
  let main_v59 : IVec S8x32 1 := andi main_v53 main_v58
  let main_c : IVec S_ 1 := constantI S_ 1 1#1
  let main_v60 : IVec S_ 1 := (fun x v => Host.reduce IntOp.andi x v reducesTo_S16000_S_d0 h_S_) main_v34 main_c
  let main_c_8 : IVec S_ 1 := constantI S_ 1 1#1
  fn_part3 (F := F) main_v59 main_v60 main_c_8

def fn_part1 {F : FTy → Type} [FloatOps F] (main_v1 : FVec F S16000 .f32) (main_v3 : FVec F S16000 .f32) (main_v5 : FVec F S16000 .f32) (main_v7 : FVec F S16000 .f32) (main_v9 : FVec F S8x32 .f32) (main_v11 : FVec F S8x32 .f32) (main_v13 : FVec F S8x32 .f32) (main_v15 : FVec F S8x32 .f32) (main_v18 : IVec S16000 1) (main_v21 : IVec S16000 1) : IVec S_ 1 :=
  let main_v22 : IVec S16000 1 := andi main_v18 main_v21
  let main_v23 : FVec F S16000 .f32 := Host.absf main_v5
  let main_cst_1 : FVec F S_ .f32 := constant S_ .f32 0x7F800000#32
  let main_v24 : FVec F S16000 .f32 := broadcastInDim S16000 ![] bcast_S_S16000 main_cst_1
  let main_v25 : IVec S16000 1 := cmpf .olt main_v23 main_v24
  let main_v26 : IVec S16000 1 := andi main_v22 main_v25
  let main_v27 : FVec F S16000 .f32 := Host.absf main_v7
  let main_cst_2 : FVec F S_ .f32 := constant S_ .f32 0x7F800000#32
  let main_v28 : FVec F S16000 .f32 := broadcastInDim S16000 ![] bcast_S_S16000 main_cst_2
  let main_v29 : IVec S16000 1 := cmpf .olt main_v27 main_v28
  let main_v30 : IVec S16000 1 := andi main_v26 main_v29
  let main_v31 : IVec S16000 1 := cmpf .olt main_v1 main_v5
  let main_v32 : IVec S16000 1 := andi main_v30 main_v31
  let main_v33 : IVec S16000 1 := cmpf .olt main_v3 main_v7
  let main_v34 : IVec S16000 1 := andi main_v32 main_v33
  let main_v35 : FVec F S8x32 .f32 := Host.absf main_v9
  let main_cst_3 : FVec F S_ .f32 := constant S_ .f32 0x7F800000#32
  let main_v36 : FVec F S8x32 .f32 := broadcastInDim S8x32 ![] bcast_S_S8x32 main_cst_3
  let main_v37 : IVec S8x32 1 := cmpf .olt main_v35 main_v36
  let main_v38 : FVec F S8x32 .f32 := Host.absf main_v11
  let main_cst_4 : FVec F S_ .f32 := constant S_ .f32 0x7F800000#32
  let main_v39 : FVec F S8x32 .f32 := broadcastInDim S8x32 ![] bcast_S_S8x32 main_cst_4
  let main_v40 : IVec S8x32 1 := cmpf .olt main_v38 main_v39
  let main_v41 : IVec S8x32 1 := andi main_v37 main_v40
  fn_part2 (F := F) main_v9 main_v11 main_v13 main_v15 main_v34 main_v41

def fn {F : FTy → Type} [FloatOps F] (main_arg0 : IVec S8x16000x2 32) (main_arg1 : FVec F S8x16000x4 .f32) (main_arg2 : FVec F S8x16000x10 .f32) (main_arg3 : FVec F S16000x4 .f32) (main_arg4 : FVec F S8x32x14 .f32) : IVec S_ 1 :=
  let main_v0 : FVec F S16000x1 .f32 := (extractStridedSlice S16000x1 ![0, 0] · slices_S16000x4_S16000x1_0_0) main_arg3
  let main_v1 : FVec F S16000 .f32 := shapeCast S16000 main_v0 shapeCasts_S16000x1_S16000
  let main_v2 : FVec F S16000x1 .f32 := (extractStridedSlice S16000x1 ![0, 1] · slices_S16000x4_S16000x1_0_1) main_arg3
  let main_v3 : FVec F S16000 .f32 := shapeCast S16000 main_v2 shapeCasts_S16000x1_S16000
  let main_v4 : FVec F S16000x1 .f32 := (extractStridedSlice S16000x1 ![0, 2] · slices_S16000x4_S16000x1_0_2) main_arg3
  let main_v5 : FVec F S16000 .f32 := shapeCast S16000 main_v4 shapeCasts_S16000x1_S16000
  let main_v6 : FVec F S16000x1 .f32 := (extractStridedSlice S16000x1 ![0, 3] · slices_S16000x4_S16000x1_0_3) main_arg3
  let main_v7 : FVec F S16000 .f32 := shapeCast S16000 main_v6 shapeCasts_S16000x1_S16000
  let main_v8 : FVec F S8x32x1 .f32 := (extractStridedSlice S8x32x1 ![0, 0, 0] · slices_S8x32x14_S8x32x1_0_0_0) main_arg4
  let main_v9 : FVec F S8x32 .f32 := shapeCast S8x32 main_v8 shapeCasts_S8x32x1_S8x32
  let main_v10 : FVec F S8x32x1 .f32 := (extractStridedSlice S8x32x1 ![0, 0, 1] · slices_S8x32x14_S8x32x1_0_0_1) main_arg4
  let main_v11 : FVec F S8x32 .f32 := shapeCast S8x32 main_v10 shapeCasts_S8x32x1_S8x32
  let main_v12 : FVec F S8x32x1 .f32 := (extractStridedSlice S8x32x1 ![0, 0, 2] · slices_S8x32x14_S8x32x1_0_0_2) main_arg4
  let main_v13 : FVec F S8x32 .f32 := shapeCast S8x32 main_v12 shapeCasts_S8x32x1_S8x32
  let main_v14 : FVec F S8x32x1 .f32 := (extractStridedSlice S8x32x1 ![0, 0, 3] · slices_S8x32x14_S8x32x1_0_0_3) main_arg4
  let main_v15 : FVec F S8x32 .f32 := shapeCast S8x32 main_v14 shapeCasts_S8x32x1_S8x32
  let main_v16 : FVec F S16000 .f32 := Host.absf main_v1
  let main_cst : FVec F S_ .f32 := constant S_ .f32 0x7F800000#32
  let main_v17 : FVec F S16000 .f32 := broadcastInDim S16000 ![] bcast_S_S16000 main_cst
  let main_v18 : IVec S16000 1 := cmpf .olt main_v16 main_v17
  let main_v19 : FVec F S16000 .f32 := Host.absf main_v3
  let main_cst_0 : FVec F S_ .f32 := constant S_ .f32 0x7F800000#32
  let main_v20 : FVec F S16000 .f32 := broadcastInDim S16000 ![] bcast_S_S16000 main_cst_0
  let main_v21 : IVec S16000 1 := cmpf .olt main_v19 main_v20
  fn_part1 (F := F) main_v1 main_v3 main_v5 main_v7 main_v9 main_v11 main_v13 main_v15 main_v18 main_v21
-- ==== Kernel.lean ====
abbrev S8x16000x2 : Shape := ⟨3, ![8, 16000, 2]⟩
abbrev S8x16000x4 : Shape := ⟨3, ![8, 16000, 4]⟩
abbrev S8x16000x10 : Shape := ⟨3, ![8, 16000, 10]⟩
abbrev S16000x4 : Shape := ⟨2, ![16000, 4]⟩
abbrev S8x32x14 : Shape := ⟨3, ![8, 32, 14]⟩
abbrev S4x16000 : Shape := ⟨2, ![4, 16000]⟩
abbrev S64000 : Shape := ⟨1, ![64000]⟩
abbrev S8x2x16000 : Shape := ⟨3, ![8, 2, 16000]⟩
abbrev S256000 : Shape := ⟨1, ![256000]⟩
abbrev S8x4x16000 : Shape := ⟨3, ![8, 4, 16000]⟩
abbrev S512000 : Shape := ⟨1, ![512000]⟩
abbrev S8x10x16000 : Shape := ⟨3, ![8, 10, 16000]⟩
abbrev S1280000 : Shape := ⟨1, ![1280000]⟩
abbrev S8x32x4 : Shape := ⟨3, ![8, 32, 4]⟩
abbrev S8x4x32 : Shape := ⟨3, ![8, 4, 32]⟩
abbrev S8x4x32x1 : Shape := ⟨4, ![8, 4, 32, 1]⟩
abbrev S8x4x32x16 : Shape := ⟨4, ![8, 4, 32, 16]⟩
abbrev S16384 : Shape := ⟨1, ![16384]⟩
abbrev S8x14x32 : Shape := ⟨3, ![8, 14, 32]⟩
abbrev S3584 : Shape := ⟨1, ![3584]⟩
abbrev S128 : Shape := ⟨1, ![128]⟩
abbrev S4000 : Shape := ⟨1, ![4000]⟩
abbrev S2048 : Shape := ⟨1, ![2048]⟩
abbrev S448 : Shape := ⟨1, ![448]⟩
abbrev S512 : Shape := ⟨1, ![512]⟩
abbrev S256 : Shape := ⟨1, ![256]⟩
abbrev S96 : Shape := ⟨1, ![96]⟩
abbrev S384 : Shape := ⟨1, ![384]⟩
abbrev S1024 : Shape := ⟨1, ![1024]⟩
abbrev S16 : Shape := ⟨1, ![16]⟩
abbrev S1536 : Shape := ⟨1, ![1536]⟩
abbrev S8192 : Shape := ⟨1, ![8192]⟩
abbrev S_ : Shape := ⟨0, ![]⟩
abbrev S64 : Shape := ⟨1, ![64]⟩
abbrev S1 : Shape := ⟨1, ![1]⟩
abbrev S32 : Shape := ⟨1, ![32]⟩
abbrev S8x16 : Shape := ⟨2, ![8, 16]⟩
abbrev S8x1 : Shape := ⟨2, ![8, 1]⟩
abbrev S8 : Shape := ⟨1, ![8]⟩

abbrev nBuf : Table → Nat
  | .hbm => 40
  | .shared => 4
  | .local .scVector .vmem => 33
  | _ => 0

abbrev bufTy : (tb : Table) → Fin (nBuf tb) → BufTy
  | .hbm, ⟨0, _⟩ => ⟨S8x16000x2, .i32⟩
  | .hbm, ⟨1, _⟩ => ⟨S8x16000x4, .f32⟩
  | .hbm, ⟨2, _⟩ => ⟨S8x16000x10, .f32⟩
  | .hbm, ⟨3, _⟩ => ⟨S16000x4, .f32⟩
  | .hbm, ⟨4, _⟩ => ⟨S8x32x14, .f32⟩
  | .hbm, ⟨5, _⟩ => ⟨S4x16000, .f32⟩
  | .hbm, ⟨6, _⟩ => ⟨S64000, .f32⟩
  | .hbm, ⟨7, _⟩ => ⟨S8x2x16000, .i32⟩
  | .hbm, ⟨8, _⟩ => ⟨S256000, .i32⟩
  | .hbm, ⟨9, _⟩ => ⟨S8x4x16000, .f32⟩
  | .hbm, ⟨10, _⟩ => ⟨S512000, .f32⟩
  | .hbm, ⟨11, _⟩ => ⟨S8x10x16000, .f32⟩
  | .hbm, ⟨12, _⟩ => ⟨S1280000, .f32⟩
  | .hbm, ⟨13, _⟩ => ⟨S8x32x4, .f32⟩
  | .hbm, ⟨14, _⟩ => ⟨S8x4x32, .f32⟩
  | .hbm, ⟨15, _⟩ => ⟨S8x4x32x1, .f32⟩
  | .hbm, ⟨16, _⟩ => ⟨S8x4x32x16, .f32⟩
  | .hbm, ⟨17, _⟩ => ⟨S16384, .f32⟩
  | .hbm, ⟨18, _⟩ => ⟨S8x14x32, .f32⟩
  | .hbm, ⟨19, _⟩ => ⟨S3584, .f32⟩
  | .hbm, ⟨20, _⟩ => ⟨S128, .f32⟩
  | .hbm, ⟨21, _⟩ => ⟨S8x16, .f32⟩
  | .hbm, ⟨22, _⟩ => ⟨S8x1, .f32⟩
  | .hbm, ⟨23, _⟩ => ⟨S8, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x1, .f32⟩
  | .hbm, ⟨29, _⟩ => ⟨S8, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x1, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .shared, ⟨0, _⟩ => ⟨S1024, .f32⟩
  | .shared, ⟨1, _⟩ => ⟨S1536, .f32⟩
  | .shared, ⟨2, _⟩ => ⟨S8192, .f32⟩
  | .shared, ⟨3, _⟩ => ⟨S512, .f32⟩
  | .local .scVector .vmem, ⟨0, _⟩ => ⟨S4000, .f32⟩
  | .local .scVector .vmem, ⟨1, _⟩ => ⟨S4000, .f32⟩
  | .local .scVector .vmem, ⟨2, _⟩ => ⟨S4000, .f32⟩
  | .local .scVector .vmem, ⟨3, _⟩ => ⟨S4000, .f32⟩
  | .local .scVector .vmem, ⟨4, _⟩ => ⟨S4000, .i32⟩
  | .local .scVector .vmem, ⟨5, _⟩ => ⟨S4000, .i32⟩
  | .local .scVector .vmem, ⟨6, _⟩ => ⟨S4000, .f32⟩
  | .local .scVector .vmem, ⟨7, _⟩ => ⟨S4000, .f32⟩
  | .local .scVector .vmem, ⟨8, _⟩ => ⟨S4000, .f32⟩
  | .local .scVector .vmem, ⟨9, _⟩ => ⟨S4000, .f32⟩
  | .local .scVector .vmem, ⟨10, _⟩ => ⟨S4000, .f32⟩
  | .local .scVector .vmem, ⟨11, _⟩ => ⟨S4000, .f32⟩
  | .local .scVector .vmem, ⟨12, _⟩ => ⟨S4000, .f32⟩
  | .local .scVector .vmem, ⟨13, _⟩ => ⟨S4000, .f32⟩
  | .local .scVector .vmem, ⟨14, _⟩ => ⟨S4000, .f32⟩
  | .local .scVector .vmem, ⟨15, _⟩ => ⟨S4000, .f32⟩
  | .local .scVector .vmem, ⟨16, _⟩ => ⟨S4000, .f32⟩
  | .local .scVector .vmem, ⟨17, _⟩ => ⟨S4000, .f32⟩
  | .local .scVector .vmem, ⟨18, _⟩ => ⟨S4000, .f32⟩
  | .local .scVector .vmem, ⟨19, _⟩ => ⟨S4000, .f32⟩
  | .local .scVector .vmem, ⟨20, _⟩ => ⟨S4000, .f32⟩
  | .local .scVector .vmem, ⟨21, _⟩ => ⟨S4000, .i32⟩
  | .local .scVector .vmem, ⟨22, _⟩ => ⟨S4000, .i32⟩
  | .local .scVector .vmem, ⟨23, _⟩ => ⟨S2048, .f32⟩
  | .local .scVector .vmem, ⟨24, _⟩ => ⟨S448, .f32⟩
  | .local .scVector .vmem, ⟨25, _⟩ => ⟨S512, .f32⟩
  | .local .scVector .vmem, ⟨26, _⟩ => ⟨S256, .f32⟩
  | .local .scVector .vmem, ⟨27, _⟩ => ⟨S96, .f32⟩
  | .local .scVector .vmem, ⟨28, _⟩ => ⟨S256, .f32⟩
  | .local .scVector .vmem, ⟨29, _⟩ => ⟨S384, .f32⟩
  | .local .scVector .vmem, ⟨30, _⟩ => ⟨S1024, .f32⟩
  | .local .scVector .vmem, ⟨31, _⟩ => ⟨S128, .f32⟩
  | .local .scVector .vmem, ⟨32, _⟩ => ⟨S16, .f32⟩
  | _, _ => ⟨S8x16000x2, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | _ => false

abbrev sig : RefSig :=
  ofTables nBuf rfl bufTy 5 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v1_scv : Ref sig .scVector := ⟨.hbm, 6, rfl⟩
abbrev main_v3_scv : Ref sig .scVector := ⟨.hbm, 8, rfl⟩
abbrev main_v5_scv : Ref sig .scVector := ⟨.hbm, 10, rfl⟩
abbrev main_v7_scv : Ref sig .scVector := ⟨.hbm, 12, rfl⟩
abbrev main_v12_scv : Ref sig .scVector := ⟨.hbm, 17, rfl⟩
abbrev main_v14_scv : Ref sig .scVector := ⟨.hbm, 19, rfl⟩
abbrev main_v15_scv : Ref sig .scVector := ⟨.hbm, 20, rfl⟩
abbrev cc0_scratch33 : Ref sig .scVector := ⟨.shared, 0, rfl⟩
abbrev cc0_scratch34 : Ref sig .scVector := ⟨.shared, 1, rfl⟩
abbrev cc0_scratch35 : Ref sig .scVector := ⟨.shared, 2, rfl⟩
abbrev cc0_scratch36 : Ref sig .scVector := ⟨.shared, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev cc0_scratch21 : Ref sig .scVector := ⟨.vmem, 21, rfl⟩
abbrev cc0_scratch22 : Ref sig .scVector := ⟨.vmem, 22, rfl⟩
abbrev cc0_scratch23 : Ref sig .scVector := ⟨.vmem, 23, rfl⟩
abbrev cc0_scratch24 : Ref sig .scVector := ⟨.vmem, 24, rfl⟩
abbrev cc0_scratch25 : Ref sig .scVector := ⟨.vmem, 25, rfl⟩
abbrev cc0_scratch26 : Ref sig .scVector := ⟨.vmem, 26, rfl⟩
abbrev cc0_scratch27 : Ref sig .scVector := ⟨.vmem, 27, rfl⟩
abbrev cc0_scratch28 : Ref sig .scVector := ⟨.vmem, 28, rfl⟩
abbrev cc0_scratch29 : Ref sig .scVector := ⟨.vmem, 29, rfl⟩
abbrev cc0_scratch30 : Ref sig .scVector := ⟨.vmem, 30, rfl⟩
abbrev cc0_scratch31 : Ref sig .scVector := ⟨.vmem, 31, rfl⟩
abbrev cc0_scratch32 : Ref sig .scVector := ⟨.vmem, 32, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) (c0_i32_12 : BitVec 32) : Fin 1 → Nat :=
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4000_i32 : BitVec 32 := 4000#32
  let v29 : BitVec 32 := Scalar.muli v26 c4000_i32
  let v35 : BitVec 32 := Scalar.addi c0_i32_12 v29
  ![v35.toNat]
def k0_off2 (i : grid0.Coords) (c0_i32_14 : BitVec 32) : Fin 1 → Nat :=
  let arg0 : BitVec 32 := BitVec.ofNat 32 (i 0).val
  let c4_i32_10 : BitVec 32 := 4#32
  let v27 : BitVec 32 := Scalar.muli arg0 c4_i32_10
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let v28 : BitVec 32 := Scalar.addi v27 v16
  let c32000_i32_13 : BitVec 32 := 32000#32
  let v47 : BitVec 32 := Scalar.muli v28 c32000_i32_13
  let v48 : BitVec 32 := Scalar.addi v47 c0_i32_14
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4000_i32 : BitVec 32 := 4000#32
  let v29 : BitVec 32 := Scalar.muli v26 c4000_i32
  let v49 : BitVec 32 := Scalar.addi v48 v29
  ![v49.toNat]
def k0_off3 (i : grid0.Coords) (c0_i32_17 : BitVec 32) : Fin 1 → Nat :=
  let arg0 : BitVec 32 := BitVec.ofNat 32 (i 0).val
  let c4_i32_10 : BitVec 32 := 4#32
  let v27 : BitVec 32 := Scalar.muli arg0 c4_i32_10
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let v28 : BitVec 32 := Scalar.addi v27 v16
  let c64000_i32 : BitVec 32 := 64000#32
  let v57 : BitVec 32 := Scalar.muli v28 c64000_i32
  let v58 : BitVec 32 := Scalar.addi v57 c0_i32_17
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4000_i32 : BitVec 32 := 4000#32
  let v29 : BitVec 32 := Scalar.muli v26 c4000_i32
  let v59 : BitVec 32 := Scalar.addi v58 v29
  ![v59.toNat]
def k0_off4 (i : grid0.Coords) (c0_i32_24 : BitVec 32) : Fin 1 → Nat :=
  let arg0 : BitVec 32 := BitVec.ofNat 32 (i 0).val
  let c4_i32_10 : BitVec 32 := 4#32
  let v27 : BitVec 32 := Scalar.muli arg0 c4_i32_10
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let v28 : BitVec 32 := Scalar.addi v27 v16
  let c160000_i32 : BitVec 32 := 160000#32
  let v77 : BitVec 32 := Scalar.muli v28 c160000_i32
  let v78 : BitVec 32 := Scalar.addi v77 c0_i32_24
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4000_i32 : BitVec 32 := 4000#32
  let v29 : BitVec 32 := Scalar.muli v26 c4000_i32
  let v79 : BitVec 32 := Scalar.addi v78 v29
  ![v79.toNat]
def k0_off5 (i : grid0.Coords) : Fin 1 → Nat :=
  let arg0 : BitVec 32 := BitVec.ofNat 32 (i 0).val
  let c4_i32_10 : BitVec 32 := 4#32
  let v27 : BitVec 32 := Scalar.muli arg0 c4_i32_10
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let v28 : BitVec 32 := Scalar.addi v27 v16
  let c2048_i32 : BitVec 32 := 2048#32
  let v127 : BitVec 32 := Scalar.muli v28 c2048_i32
  ![v127.toNat]
def k0_off6 (i : grid0.Coords) : Fin 1 → Nat :=
  let arg0 : BitVec 32 := BitVec.ofNat 32 (i 0).val
  let c4_i32_10 : BitVec 32 := 4#32
  let v27 : BitVec 32 := Scalar.muli arg0 c4_i32_10
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let v28 : BitVec 32 := Scalar.addi v27 v16
  let c448_i32 : BitVec 32 := 448#32
  let v130 : BitVec 32 := Scalar.muli v28 c448_i32
  ![v130.toNat]
@[reducible] def k0_t1_loop : Scf.Loop 32 :=
  let c0_i32_71 : BitVec 32 := 0#32
  let c125_i32 : BitVec 32 := 125#32
  let v434 : BitVec 32 := Scalar.addi c0_i32_71 c125_i32
  let c1_i32_72 : BitVec 32 := 1#32
  ⟨c0_i32_71, v434, c1_i32_72⟩
def k0_off7 (k0_t1 : Fin k0_t1_loop.trips) : Fin 1 → Nat :=
  let c2_i32_993 : BitVec 32 := 2#32
  let c0_i32_71 : BitVec 32 := 0#32
  let c1_i32_72 : BitVec 32 := 1#32
  let arg49 : BitVec 32 := Scf.iv c0_i32_71 c1_i32_72 k0_t1
  let v3027 : BitVec 32 := Scalar.muli c2_i32_993 arg49
  let c16_i32_994 : BitVec 32 := 16#32
  let v3028 : BitVec 32 := Scalar.muli v3027 c16_i32_994
  let v3029 : Index := Scalar.indexCast v3028
  ![v3029.toNat]
def k0_off8 (k0_t1 : Fin k0_t1_loop.trips) : Fin 1 → Nat :=
  let c2_i32_1208 : BitVec 32 := 2#32
  let c0_i32_71 : BitVec 32 := 0#32
  let c1_i32_72 : BitVec 32 := 1#32
  let arg49 : BitVec 32 := Scf.iv c0_i32_71 c1_i32_72 k0_t1
  let v3814 : BitVec 32 := Scalar.muli c2_i32_1208 arg49
  let c1_i32_1209 : BitVec 32 := 1#32
  let v3815 : BitVec 32 := Scalar.addi v3814 c1_i32_1209
  let c16_i32_1210 : BitVec 32 := 16#32
  let v3816 : BitVec 32 := Scalar.muli v3815 c16_i32_1210
  let v3817 : Index := Scalar.indexCast v3816
  ![v3817.toNat]
def k0_off9 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c4_i32_78 : BitVec 32 := 4#32
  let v440 : BitVec 32 := Scalar.muli v16 c4_i32_78
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v441 : BitVec 32 := Scalar.addi v440 v26
  let c4_i32_79 : BitVec 32 := 4#32
  let v442 : BitVec 32 := Scalar.muli v441 c4_i32_79
  let c16_i32_80 : BitVec 32 := 16#32
  let v443 : BitVec 32 := Scalar.muli v442 c16_i32_80
  ![v443.toNat]
def k0_off10 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c4_i32_82 : BitVec 32 := 4#32
  let v444 : BitVec 32 := Scalar.muli v16 c4_i32_82
  let c4_i32_83 : BitVec 32 := 4#32
  let v445 : BitVec 32 := Scalar.muli v444 c4_i32_83
  let c16_i32_84 : BitVec 32 := 16#32
  let v446 : BitVec 32 := Scalar.muli v445 c16_i32_84
  ![v446.toNat]
@[reducible] def k0_t2_loop : Scf.Loop 32 :=
  let c0_i32_102 : BitVec 32 := 0#32
  let c250_i32 : BitVec 32 := 250#32
  let v674 : BitVec 32 := Scalar.addi c0_i32_102 c250_i32
  let c1_i32_103 : BitVec 32 := 1#32
  ⟨c0_i32_102, v674, c1_i32_103⟩
def k0_off11 (k0_t2 : Fin k0_t2_loop.trips) : Fin 1 → Nat :=
  let c0_i32_102 : BitVec 32 := 0#32
  let c1_i32_103 : BitVec 32 := 1#32
  let arg49 : BitVec 32 := Scf.iv c0_i32_102 c1_i32_103 k0_t2
  let c16_i32_993 : BitVec 32 := 16#32
  let v3027 : BitVec 32 := Scalar.muli arg49 c16_i32_993
  let v3028 : Index := Scalar.indexCast v3027
  ![v3028.toNat]

def k0_chk1 (v3059 : IVec S16 32) : Prop :=
  (∀ a x, ((![v3059] : Fin 1 → IVec S16 32) a x).toNat < S448.size a)
theorem k0_idx1_inb : ∀ (v3059 : IVec S16 32) (k0_hw1 : k0_chk1 v3059), ∀ a x, ((![v3059] : Fin 1 → IVec S16 32) a x).toNat < S448.size a := fun v3059 k0_hw1 => k0_hw1

def k0_chk2 (v3062 : IVec S16 32) : Prop :=
  (∀ a x, ((![v3062] : Fin 1 → IVec S16 32) a x).toNat < S448.size a)
theorem k0_idx2_inb : ∀ (v3062 : IVec S16 32) (k0_hw2 : k0_chk2 v3062), ∀ a x, ((![v3062] : Fin 1 → IVec S16 32) a x).toNat < S448.size a := fun v3062 k0_hw2 => k0_hw2

def k0_chk3 (v3065 : IVec S16 32) : Prop :=
  (∀ a x, ((![v3065] : Fin 1 → IVec S16 32) a x).toNat < S448.size a)
theorem k0_idx3_inb : ∀ (v3065 : IVec S16 32) (k0_hw3 : k0_chk3 v3065), ∀ a x, ((![v3065] : Fin 1 → IVec S16 32) a x).toNat < S448.size a := fun v3065 k0_hw3 => k0_hw3

def k0_chk4 (v3068 : IVec S16 32) : Prop :=
  (∀ a x, ((![v3068] : Fin 1 → IVec S16 32) a x).toNat < S448.size a)
theorem k0_idx4_inb : ∀ (v3068 : IVec S16 32) (k0_hw4 : k0_chk4 v3068), ∀ a x, ((![v3068] : Fin 1 → IVec S16 32) a x).toNat < S448.size a := fun v3068 k0_hw4 => k0_hw4

def k0_chk5 (v3071 : IVec S16 32) : Prop :=
  (∀ a x, ((![v3071] : Fin 1 → IVec S16 32) a x).toNat < S448.size a)
theorem k0_idx5_inb : ∀ (v3071 : IVec S16 32) (k0_hw5 : k0_chk5 v3071), ∀ a x, ((![v3071] : Fin 1 → IVec S16 32) a x).toNat < S448.size a := fun v3071 k0_hw5 => k0_hw5

def k0_chk6 (v3074 : IVec S16 32) : Prop :=
  (∀ a x, ((![v3074] : Fin 1 → IVec S16 32) a x).toNat < S448.size a)
theorem k0_idx6_inb : ∀ (v3074 : IVec S16 32) (k0_hw6 : k0_chk6 v3074), ∀ a x, ((![v3074] : Fin 1 → IVec S16 32) a x).toNat < S448.size a := fun v3074 k0_hw6 => k0_hw6

def k0_chk7 (v3077 : IVec S16 32) : Prop :=
  (∀ a x, ((![v3077] : Fin 1 → IVec S16 32) a x).toNat < S448.size a)
theorem k0_idx7_inb : ∀ (v3077 : IVec S16 32) (k0_hw7 : k0_chk7 v3077), ∀ a x, ((![v3077] : Fin 1 → IVec S16 32) a x).toNat < S448.size a := fun v3077 k0_hw7 => k0_hw7

def k0_chk8 (v3080 : IVec S16 32) : Prop :=
  (∀ a x, ((![v3080] : Fin 1 → IVec S16 32) a x).toNat < S448.size a)
theorem k0_idx8_inb : ∀ (v3080 : IVec S16 32) (k0_hw8 : k0_chk8 v3080), ∀ a x, ((![v3080] : Fin 1 → IVec S16 32) a x).toNat < S448.size a := fun v3080 k0_hw8 => k0_hw8

def k0_chk9 (v3083 : IVec S16 32) : Prop :=
  (∀ a x, ((![v3083] : Fin 1 → IVec S16 32) a x).toNat < S448.size a)
theorem k0_idx9_inb : ∀ (v3083 : IVec S16 32) (k0_hw9 : k0_chk9 v3083), ∀ a x, ((![v3083] : Fin 1 → IVec S16 32) a x).toNat < S448.size a := fun v3083 k0_hw9 => k0_hw9

def k0_chk10 (v3086 : IVec S16 32) : Prop :=
  (∀ a x, ((![v3086] : Fin 1 → IVec S16 32) a x).toNat < S448.size a)
theorem k0_idx10_inb : ∀ (v3086 : IVec S16 32) (k0_hw10 : k0_chk10 v3086), ∀ a x, ((![v3086] : Fin 1 → IVec S16 32) a x).toNat < S448.size a := fun v3086 k0_hw10 => k0_hw10

def k0_chk11 (v3089 : IVec S16 32) : Prop :=
  (∀ a x, ((![v3089] : Fin 1 → IVec S16 32) a x).toNat < S448.size a)
theorem k0_idx11_inb : ∀ (v3089 : IVec S16 32) (k0_hw11 : k0_chk11 v3089), ∀ a x, ((![v3089] : Fin 1 → IVec S16 32) a x).toNat < S448.size a := fun v3089 k0_hw11 => k0_hw11

def k0_chk12 (v3092 : IVec S16 32) : Prop :=
  (∀ a x, ((![v3092] : Fin 1 → IVec S16 32) a x).toNat < S448.size a)
theorem k0_idx12_inb : ∀ (v3092 : IVec S16 32) (k0_hw12 : k0_chk12 v3092), ∀ a x, ((![v3092] : Fin 1 → IVec S16 32) a x).toNat < S448.size a := fun v3092 k0_hw12 => k0_hw12

def k0_chk13 (v3095 : IVec S16 32) : Prop :=
  (∀ a x, ((![v3095] : Fin 1 → IVec S16 32) a x).toNat < S448.size a)
theorem k0_idx13_inb : ∀ (v3095 : IVec S16 32) (k0_hw13 : k0_chk13 v3095), ∀ a x, ((![v3095] : Fin 1 → IVec S16 32) a x).toNat < S448.size a := fun v3095 k0_hw13 => k0_hw13

def k0_chk14 (v3098 : IVec S16 32) : Prop :=
  (∀ a x, ((![v3098] : Fin 1 → IVec S16 32) a x).toNat < S448.size a)
theorem k0_idx14_inb : ∀ (v3098 : IVec S16 32) (k0_hw14 : k0_chk14 v3098), ∀ a x, ((![v3098] : Fin 1 → IVec S16 32) a x).toNat < S448.size a := fun v3098 k0_hw14 => k0_hw14
def k0_off12 (k0_t2 : Fin k0_t2_loop.trips) : Fin 1 → Nat :=
  let c0_i32_102 : BitVec 32 := 0#32
  let c1_i32_103 : BitVec 32 := 1#32
  let arg49 : BitVec 32 := Scf.iv c0_i32_102 c1_i32_103 k0_t2
  let c16_i32_993 : BitVec 32 := 16#32
  let v3027 : BitVec 32 := Scalar.muli arg49 c16_i32_993
  let v3124 : Index := Scalar.indexCast v3027
  ![v3124.toNat]
def k0_off13 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c4_i32_111 : BitVec 32 := 4#32
  let v682 : BitVec 32 := Scalar.muli v16 c4_i32_111
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v683 : BitVec 32 := Scalar.addi v682 v26
  let c6_i32 : BitVec 32 := 6#32
  let v684 : BitVec 32 := Scalar.muli v683 c6_i32
  let c16_i32_112 : BitVec 32 := 16#32
  let v685 : BitVec 32 := Scalar.muli v684 c16_i32_112
  ![v685.toNat]
def k0_off14 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c4_i32_114 : BitVec 32 := 4#32
  let v686 : BitVec 32 := Scalar.muli v16 c4_i32_114
  let c6_i32_115 : BitVec 32 := 6#32
  let v687 : BitVec 32 := Scalar.muli v686 c6_i32_115
  let c16_i32_116 : BitVec 32 := 16#32
  let v688 : BitVec 32 := Scalar.muli v687 c16_i32_116
  ![v688.toNat]
@[reducible] def k0_t3_loop : Scf.Loop 32 :=
  let c0_i32_159 : BitVec 32 := 0#32
  let c250_i32_160 : BitVec 32 := 250#32
  let v1042 : BitVec 32 := Scalar.addi c0_i32_159 c250_i32_160
  let c1_i32_161 : BitVec 32 := 1#32
  ⟨c0_i32_159, v1042, c1_i32_161⟩
def k0_off15 (k0_t3 : Fin k0_t3_loop.trips) : Fin 1 → Nat :=
  let c0_i32_159 : BitVec 32 := 0#32
  let c1_i32_161 : BitVec 32 := 1#32
  let arg49 : BitVec 32 := Scf.iv c0_i32_159 c1_i32_161 k0_t3
  let c16_i32_993 : BitVec 32 := 16#32
  let v3027 : BitVec 32 := Scalar.muli arg49 c16_i32_993
  let v3028 : Index := Scalar.indexCast v3027
  ![v3028.toNat]

def k0_chk15 (v3039 : IVec S16 32) : Prop :=
  (∀ a x, ((![v3039] : Fin 1 → IVec S16 32) a x).toNat < S256.size a)
theorem k0_idx15_inb : ∀ (v3039 : IVec S16 32) (k0_hw15 : k0_chk15 v3039), ∀ a x, ((![v3039] : Fin 1 → IVec S16 32) a x).toNat < S256.size a := fun v3039 k0_hw15 => k0_hw15
def k0_off16 (i : grid0.Coords) (c0_i32_163 : BitVec 32) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let v1044 : BitVec 32 := Scalar.addi c0_i32_163 v16
  let c4_i32_164 : BitVec 32 := 4#32
  let v1045 : BitVec 32 := Scalar.muli v1044 c4_i32_164
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1046 : BitVec 32 := Scalar.addi v1045 v26
  let c256_i32 : BitVec 32 := 256#32
  let v1047 : BitVec 32 := Scalar.muli v1046 c256_i32
  ![v1047.toNat]
def k0_off17 (i : grid0.Coords) (c0_i32_166 : BitVec 32) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let v1048 : BitVec 32 := Scalar.addi c0_i32_166 v16
  let c4_i32_167 : BitVec 32 := 4#32
  let v1049 : BitVec 32 := Scalar.muli v1048 c4_i32_167
  let c256_i32_168 : BitVec 32 := 256#32
  let v1050 : BitVec 32 := Scalar.muli v1049 c256_i32_168
  ![v1050.toNat]
@[reducible] def k0_t4_loop : Scf.Loop 32 :=
  let c0_i32_258 : BitVec 32 := 0#32
  let c250_i32_259 : BitVec 32 := 250#32
  let v1269 : BitVec 32 := Scalar.addi c0_i32_258 c250_i32_259
  let c1_i32_260 : BitVec 32 := 1#32
  ⟨c0_i32_258, v1269, c1_i32_260⟩
def k0_off18 (k0_t4 : Fin k0_t4_loop.trips) : Fin 1 → Nat :=
  let c0_i32_258 : BitVec 32 := 0#32
  let c1_i32_260 : BitVec 32 := 1#32
  let arg49 : BitVec 32 := Scf.iv c0_i32_258 c1_i32_260 k0_t4
  let c16_i32_993 : BitVec 32 := 16#32
  let v3027 : BitVec 32 := Scalar.muli arg49 c16_i32_993
  let v3028 : Index := Scalar.indexCast v3027
  ![v3028.toNat]

def k0_chk16 (v3039 : IVec S16 32) : Prop :=
  (∀ a x, ((![v3039] : Fin 1 → IVec S16 32) a x).toNat < S256.size a)
theorem k0_idx16_inb : ∀ (v3039 : IVec S16 32) (k0_hw16 : k0_chk16 v3039), ∀ a x, ((![v3039] : Fin 1 → IVec S16 32) a x).toNat < S256.size a := fun v3039 k0_hw16 => k0_hw16
@[reducible] def k0_t5_loop : Scf.Loop 32 :=
  let c0_i32_359 : BitVec 32 := 0#32
  let c250_i32_360 : BitVec 32 := 250#32
  let v1496 : BitVec 32 := Scalar.addi c0_i32_359 c250_i32_360
  let c1_i32_361 : BitVec 32 := 1#32
  ⟨c0_i32_359, v1496, c1_i32_361⟩
def k0_off19 (k0_t5 : Fin k0_t5_loop.trips) : Fin 1 → Nat :=
  let c0_i32_359 : BitVec 32 := 0#32
  let c1_i32_361 : BitVec 32 := 1#32
  let arg49 : BitVec 32 := Scf.iv c0_i32_359 c1_i32_361 k0_t5
  let c16_i32_993 : BitVec 32 := 16#32
  let v3027 : BitVec 32 := Scalar.muli arg49 c16_i32_993
  let v3028 : Index := Scalar.indexCast v3027
  ![v3028.toNat]

def k0_chk17 (v3039 : IVec S16 32) : Prop :=
  (∀ a x, ((![v3039] : Fin 1 → IVec S16 32) a x).toNat < S256.size a)
theorem k0_idx17_inb : ∀ (v3039 : IVec S16 32) (k0_hw17 : k0_chk17 v3039), ∀ a x, ((![v3039] : Fin 1 → IVec S16 32) a x).toNat < S256.size a := fun v3039 k0_hw17 => k0_hw17
@[reducible] def k0_t6_loop : Scf.Loop 32 :=
  let c0_i32_460 : BitVec 32 := 0#32
  let c250_i32_461 : BitVec 32 := 250#32
  let v1723 : BitVec 32 := Scalar.addi c0_i32_460 c250_i32_461
  let c1_i32_462 : BitVec 32 := 1#32
  ⟨c0_i32_460, v1723, c1_i32_462⟩
def k0_off20 (k0_t6 : Fin k0_t6_loop.trips) : Fin 1 → Nat :=
  let c0_i32_460 : BitVec 32 := 0#32
  let c1_i32_462 : BitVec 32 := 1#32
  let arg49 : BitVec 32 := Scf.iv c0_i32_460 c1_i32_462 k0_t6
  let c16_i32_993 : BitVec 32 := 16#32
  let v3027 : BitVec 32 := Scalar.muli arg49 c16_i32_993
  let v3028 : Index := Scalar.indexCast v3027
  ![v3028.toNat]

def k0_chk18 (v3039 : IVec S16 32) : Prop :=
  (∀ a x, ((![v3039] : Fin 1 → IVec S16 32) a x).toNat < S256.size a)
theorem k0_idx18_inb : ∀ (v3039 : IVec S16 32) (k0_hw18 : k0_chk18 v3039), ∀ a x, ((![v3039] : Fin 1 → IVec S16 32) a x).toNat < S256.size a := fun v3039 k0_hw18 => k0_hw18
@[reducible] def k0_t7_loop : Scf.Loop 32 :=
  let c0_i32_562 : BitVec 32 := 0#32
  let c250_i32_563 : BitVec 32 := 250#32
  let v1950 : BitVec 32 := Scalar.addi c0_i32_562 c250_i32_563
  let c1_i32_564 : BitVec 32 := 1#32
  ⟨c0_i32_562, v1950, c1_i32_564⟩
def k0_off21 (k0_t7 : Fin k0_t7_loop.trips) : Fin 1 → Nat :=
  let c0_i32_562 : BitVec 32 := 0#32
  let c1_i32_564 : BitVec 32 := 1#32
  let arg49 : BitVec 32 := Scf.iv c0_i32_562 c1_i32_564 k0_t7
  let c16_i32_993 : BitVec 32 := 16#32
  let v3027 : BitVec 32 := Scalar.muli arg49 c16_i32_993
  let v3028 : Index := Scalar.indexCast v3027
  ![v3028.toNat]

def k0_chk19 (v3039 : IVec S16 32) : Prop :=
  (∀ a x, ((![v3039] : Fin 1 → IVec S16 32) a x).toNat < S256.size a)
theorem k0_idx19_inb : ∀ (v3039 : IVec S16 32) (k0_hw19 : k0_chk19 v3039), ∀ a x, ((![v3039] : Fin 1 → IVec S16 32) a x).toNat < S256.size a := fun v3039 k0_hw19 => k0_hw19
@[reducible] def k0_t8_loop : Scf.Loop 32 :=
  let c0_i32_663 : BitVec 32 := 0#32
  let c250_i32_664 : BitVec 32 := 250#32
  let v2177 : BitVec 32 := Scalar.addi c0_i32_663 c250_i32_664
  let c1_i32_665 : BitVec 32 := 1#32
  ⟨c0_i32_663, v2177, c1_i32_665⟩
def k0_off22 (k0_t8 : Fin k0_t8_loop.trips) : Fin 1 → Nat :=
  let c0_i32_663 : BitVec 32 := 0#32
  let c1_i32_665 : BitVec 32 := 1#32
  let arg49 : BitVec 32 := Scf.iv c0_i32_663 c1_i32_665 k0_t8
  let c16_i32_993 : BitVec 32 := 16#32
  let v3027 : BitVec 32 := Scalar.muli arg49 c16_i32_993
  let v3028 : Index := Scalar.indexCast v3027
  ![v3028.toNat]

def k0_chk20 (v3039 : IVec S16 32) : Prop :=
  (∀ a x, ((![v3039] : Fin 1 → IVec S16 32) a x).toNat < S256.size a)
theorem k0_idx20_inb : ∀ (v3039 : IVec S16 32) (k0_hw20 : k0_chk20 v3039), ∀ a x, ((![v3039] : Fin 1 → IVec S16 32) a x).toNat < S256.size a := fun v3039 k0_hw20 => k0_hw20
@[reducible] def k0_t9_loop : Scf.Loop 32 :=
  let c0_i32_764 : BitVec 32 := 0#32
  let c250_i32_765 : BitVec 32 := 250#32
  let v2404 : BitVec 32 := Scalar.addi c0_i32_764 c250_i32_765
  let c1_i32_766 : BitVec 32 := 1#32
  ⟨c0_i32_764, v2404, c1_i32_766⟩
def k0_off23 (k0_t9 : Fin k0_t9_loop.trips) : Fin 1 → Nat :=
  let c0_i32_764 : BitVec 32 := 0#32
  let c1_i32_766 : BitVec 32 := 1#32
  let arg49 : BitVec 32 := Scf.iv c0_i32_764 c1_i32_766 k0_t9
  let c16_i32_993 : BitVec 32 := 16#32
  let v3027 : BitVec 32 := Scalar.muli arg49 c16_i32_993
  let v3028 : Index := Scalar.indexCast v3027
  ![v3028.toNat]

def k0_chk21 (v3039 : IVec S16 32) : Prop :=
  (∀ a x, ((![v3039] : Fin 1 → IVec S16 32) a x).toNat < S256.size a)
theorem k0_idx21_inb : ∀ (v3039 : IVec S16 32) (k0_hw21 : k0_chk21 v3039), ∀ a x, ((![v3039] : Fin 1 → IVec S16 32) a x).toNat < S256.size a := fun v3039 k0_hw21 => k0_hw21
@[reducible] def k0_t10_loop : Scf.Loop 32 :=
  let c0_i32_866 : BitVec 32 := 0#32
  let c250_i32_867 : BitVec 32 := 250#32
  let v2631 : BitVec 32 := Scalar.addi c0_i32_866 c250_i32_867
  let c1_i32_868 : BitVec 32 := 1#32
  ⟨c0_i32_866, v2631, c1_i32_868⟩
def k0_off24 (k0_t10 : Fin k0_t10_loop.trips) : Fin 1 → Nat :=
  let c0_i32_866 : BitVec 32 := 0#32
  let c1_i32_868 : BitVec 32 := 1#32
  let arg49 : BitVec 32 := Scf.iv c0_i32_866 c1_i32_868 k0_t10
  let c16_i32_993 : BitVec 32 := 16#32
  let v3027 : BitVec 32 := Scalar.muli arg49 c16_i32_993
  let v3028 : Index := Scalar.indexCast v3027
  ![v3028.toNat]

def k0_chk22 (v3039 : IVec S16 32) : Prop :=
  (∀ a x, ((![v3039] : Fin 1 → IVec S16 32) a x).toNat < S256.size a)
theorem k0_idx22_inb : ∀ (v3039 : IVec S16 32) (k0_hw22 : k0_chk22 v3039), ∀ a x, ((![v3039] : Fin 1 → IVec S16 32) a x).toNat < S256.size a := fun v3039 k0_hw22 => k0_hw22
@[reducible] def k0_t11_loop : Scf.Loop 32 :=
  let c0_i32_951 : BitVec 32 := 0#32
  let c250_i32_952 : BitVec 32 := 250#32
  let v2842 : BitVec 32 := Scalar.addi c0_i32_951 c250_i32_952
  let c1_i32_953 : BitVec 32 := 1#32
  ⟨c0_i32_951, v2842, c1_i32_953⟩
def k0_off25 (k0_t11 : Fin k0_t11_loop.trips) : Fin 1 → Nat :=
  let c0_i32_951 : BitVec 32 := 0#32
  let c1_i32_953 : BitVec 32 := 1#32
  let arg49 : BitVec 32 := Scf.iv c0_i32_951 c1_i32_953 k0_t11
  let c16_i32_993 : BitVec 32 := 16#32
  let v3027 : BitVec 32 := Scalar.muli arg49 c16_i32_993
  let v3028 : Index := Scalar.indexCast v3027
  ![v3028.toNat]
def k0_off26 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c4_i32_957 : BitVec 32 := 4#32
  let v2846 : BitVec 32 := Scalar.muli v16 c4_i32_957
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v2847 : BitVec 32 := Scalar.addi v2846 v26
  let c2_i32 : BitVec 32 := 2#32
  let v2848 : BitVec 32 := Scalar.muli v2847 c2_i32
  let c16_i32_958 : BitVec 32 := 16#32
  let v2849 : BitVec 32 := Scalar.muli v2848 c16_i32_958
  ![v2849.toNat]
def k0_off27 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c4_i32_960 : BitVec 32 := 4#32
  let v2850 : BitVec 32 := Scalar.muli v16 c4_i32_960
  let c2_i32_961 : BitVec 32 := 2#32
  let v2851 : BitVec 32 := Scalar.muli v2850 c2_i32_961
  let c16_i32_962 : BitVec 32 := 16#32
  let v2852 : BitVec 32 := Scalar.muli v2851 c16_i32_962
  ![v2852.toNat]
def k0_cond1 (i : grid0.Coords) : BitVec 1 :=
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_991 : BitVec 32 := 0#32
  let v3024 : BitVec 1 := Scalar.cmpi .eq v26 c0_i32_991
  let v3025 : BitVec 32 := Scalar.extui v3024
  let c0_i32_992 : BitVec 32 := 0#32
  let v3026 : BitVec 1 := Scalar.cmpi .ne v3025 c0_i32_992
  v3026

def k0_off28 (i : grid0.Coords) : Fin 1 → Nat :=
  let arg0 : BitVec 32 := BitVec.ofNat 32 (i 0).val
  let c4_i32_10 : BitVec 32 := 4#32
  let v27 : BitVec 32 := Scalar.muli arg0 c4_i32_10
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let v28 : BitVec 32 := Scalar.addi v27 v16
  let c16_i32_993 : BitVec 32 := 16#32
  let v3027 : BitVec 32 := Scalar.muli v28 c16_i32_993
  ![v3027.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x16000x2 : Shape := ⟨3, ![8, 16000, 2]⟩
abbrev S8x16000x4 : Shape := ⟨3, ![8, 16000, 4]⟩
abbrev S8x16000x10 : Shape := ⟨3, ![8, 16000, 10]⟩
abbrev S16000x4 : Shape := ⟨2, ![16000, 4]⟩
abbrev S8x32x14 : Shape := ⟨3, ![8, 32, 14]⟩
abbrev S16000x2 : Shape := ⟨2, ![16000, 2]⟩
abbrev S_ : Shape := ⟨0, ![]⟩
abbrev S8x32x2 : Shape := ⟨3, ![8, 32, 2]⟩
abbrev S1x16000x1x2 : Shape := ⟨4, ![1, 16000, 1, 2]⟩
abbrev S8x1x32x2 : Shape := ⟨4, ![8, 1, 32, 2]⟩
abbrev S8x16000x32x2 : Shape := ⟨4, ![8, 16000, 32, 2]⟩
abbrev S8x16000x32x1 : Shape := ⟨4, ![8, 16000, 32, 1]⟩
abbrev S8x16000x32 : Shape := ⟨3, ![8, 16000, 32]⟩
abbrev S16000x1 : Shape := ⟨2, ![16000, 1]⟩
abbrev S16000 : Shape := ⟨1, ![16000]⟩
abbrev S1x16000x1 : Shape := ⟨3, ![1, 16000, 1]⟩
abbrev S8x32x1 : Shape := ⟨3, ![8, 32, 1]⟩
abbrev S8x32 : Shape := ⟨2, ![8, 32]⟩
abbrev S8x1x32 : Shape := ⟨3, ![8, 1, 32]⟩
abbrev S8x16000 : Shape := ⟨2, ![8, 16000]⟩
abbrev S8x16000x1 : Shape := ⟨3, ![8, 16000, 1]⟩
abbrev S32 : Shape := ⟨1, ![32]⟩
abbrev S8 : Shape := ⟨1, ![8]⟩
abbrev S8x2 : Shape := ⟨2, ![8, 2]⟩
abbrev S8x1x2 : Shape := ⟨3, ![8, 1, 2]⟩
abbrev S1x16000 : Shape := ⟨2, ![1, 16000]⟩
abbrev S8x1 : Shape := ⟨2, ![8, 1]⟩
abbrev S256x14 : Shape := ⟨2, ![256, 14]⟩
abbrev S8x16000x14 : Shape := ⟨3, ![8, 16000, 14]⟩
abbrev S1x16000x2 : Shape := ⟨3, ![1, 16000, 2]⟩
abbrev S8x16000x5x2 : Shape := ⟨4, ![8, 16000, 5, 2]⟩
abbrev S16000x1x2 : Shape := ⟨3, ![16000, 1, 2]⟩

abbrev nBuf : Space → Nat
  | .hbm => 321
  | .vmem => 0
  | .smem => 0
  | _ => 0

abbrev hbmTy0_0 (i : Nat) : BufTy := match i % 128 with
  | 0 => ⟨S8x16000x2, .i32⟩
  | 1 => ⟨S8x16000x4, .f32⟩
  | 2 => ⟨S8x16000x10, .f32⟩
  | 3 => ⟨S16000x4, .f32⟩
  | 4 => ⟨S8x32x14, .f32⟩
  | 5 => ⟨S8x16000x2, .f32⟩
  | 6 => ⟨S16000x2, .f32⟩
  | 7 => ⟨S16000x2, .f32⟩
  | 8 => ⟨S16000x2, .f32⟩
  | 9 => ⟨S16000x2, .f32⟩
  | 10 => ⟨S_, .f32⟩
  | 11 => ⟨S16000x2, .f32⟩
  | 12 => ⟨S16000x2, .f32⟩
  | 13 => ⟨S16000x2, .f32⟩
  | 14 => ⟨S8x32x2, .f32⟩
  | 15 => ⟨S8x32x2, .f32⟩
  | 16 => ⟨S8x32x2, .f32⟩
  | 17 => ⟨S16000x2, .f32⟩
  | 18 => ⟨S1x16000x1x2, .f32⟩
  | 19 => ⟨S8x32x2, .f32⟩
  | 20 => ⟨S8x1x32x2, .f32⟩
  | 21 => ⟨S8x16000x32x2, .f32⟩
  | 22 => ⟨S8x16000x32x2, .f32⟩
  | 23 => ⟨S8x16000x32x2, .f32⟩
  | 24 => ⟨S16000x2, .f32⟩
  | 25 => ⟨S1x16000x1x2, .f32⟩
  | 26 => ⟨S8x32x2, .f32⟩
  | 27 => ⟨S8x1x32x2, .f32⟩
  | 28 => ⟨S8x16000x32x2, .f32⟩
  | 29 => ⟨S8x16000x32x2, .f32⟩
  | 30 => ⟨S8x16000x32x2, .f32⟩
  | 31 => ⟨S8x16000x32x2, .f32⟩
  | 32 => ⟨S_, .f32⟩
  | 33 => ⟨S8x16000x32x2, .f32⟩
  | 34 => ⟨S8x16000x32x2, .f32⟩
  | 35 => ⟨S8x16000x32x1, .f32⟩
  | 36 => ⟨S8x16000x32, .f32⟩
  | 37 => ⟨S8x16000x32x1, .f32⟩
  | 38 => ⟨S8x16000x32, .f32⟩
  | 39 => ⟨S8x16000x32, .f32⟩
  | 40 => ⟨S16000x1, .f32⟩
  | 41 => ⟨S16000, .f32⟩
  | 42 => ⟨S16000x1, .f32⟩
  | 43 => ⟨S16000, .f32⟩
  | 44 => ⟨S16000, .f32⟩
  | 45 => ⟨S1x16000x1, .f32⟩
  | 46 => ⟨S8x32x1, .f32⟩
  | 47 => ⟨S8x32, .f32⟩
  | 48 => ⟨S8x32x1, .f32⟩
  | 49 => ⟨S8x32, .f32⟩
  | 50 => ⟨S8x32, .f32⟩
  | 51 => ⟨S8x1x32, .f32⟩
  | 52 => ⟨S8x16000x32, .f32⟩
  | 53 => ⟨S8x16000x32, .f32⟩
  | 54 => ⟨S8x16000x32, .f32⟩
  | 55 => ⟨S8x16000x32, .f32⟩
  | 56 => ⟨S_, .f32⟩
  | 57 => ⟨S8x16000x32, .f32⟩
  | 58 => ⟨S8x16000x32, .f32⟩
  | 59 => ⟨S8x16000x32, .f32⟩
  | 60 => ⟨S_, .f32⟩
  | 61 => ⟨S8x16000, .f32⟩
  | 62 => ⟨S8x16000x1, .f32⟩
  | 63 => ⟨S8x16000x32, .f32⟩
  | 64 => ⟨S8x16000x32, .i1⟩
  | 65 => ⟨S32, .i32⟩
  | 66 => ⟨S_, .i32⟩
  | 67 => ⟨S_, .i32⟩
  | 68 => ⟨S8x16000x32, .i32⟩
  | 69 => ⟨S8x16000x32, .i32⟩
  | 70 => ⟨S8x16000x32, .i32⟩
  | 71 => ⟨S_, .i32⟩
  | 72 => ⟨S8x16000, .i32⟩
  | 73 => ⟨S_, .f32⟩
  | 74 => ⟨S8x16000, .f32⟩
  | 75 => ⟨S8x16000, .i1⟩
  | 76 => ⟨S_, .f32⟩
  | 77 => ⟨S8x16000, .f32⟩
  | 78 => ⟨S8x16000, .i1⟩
  | 79 => ⟨S8x16000, .i32⟩
  | 80 => ⟨S_, .i32⟩
  | 81 => ⟨S8, .i32⟩
  | 82 => ⟨S8x16000, .i32⟩
  | 83 => ⟨S_, .i32⟩
  | 84 => ⟨S8, .i32⟩
  | 85 => ⟨S_, .f32⟩
  | 86 => ⟨S8x2, .f32⟩
  | 87 => ⟨S_, .f32⟩
  | 88 => ⟨S8x2, .f32⟩
  | 89 => ⟨S8x2, .f32⟩
  | 90 => ⟨S8x1x2, .f32⟩
  | 91 => ⟨S8x16000x2, .f32⟩
  | 92 => ⟨S8x16000x2, .f32⟩
  | 93 => ⟨S8x16000x2, .f32⟩
  | 94 => ⟨S_, .f32⟩
  | 95 => ⟨S8x2, .f32⟩
  | 96 => ⟨S8x1x2, .f32⟩
  | 97 => ⟨S8x1x2, .f32⟩
  | 98 => ⟨S8x16000x2, .f32⟩
  | 99 => ⟨S8x16000x2, .f32⟩
  | 100 => ⟨S8x16000x1, .f32⟩
  | 101 => ⟨S8x16000, .f32⟩
  | 102 => ⟨S8x16000, .f32⟩
  | 103 => ⟨S_, .f32⟩
  | 104 => ⟨S_, .f32⟩
  | 105 => ⟨S8x16000, .f32⟩
  | 106 => ⟨S8x16000, .f32⟩
  | 107 => ⟨S8x16000, .f32⟩
  | 108 => ⟨S8x16000, .f32⟩
  | 109 => ⟨S8x16000, .f32⟩
  | 110 => ⟨S_, .i32⟩
  | 111 => ⟨S8, .i32⟩
  | 112 => ⟨S8, .i32⟩
  | 113 => ⟨S8, .i32⟩
  | 114 => ⟨S16000, .i32⟩
  | 115 => ⟨S1x16000, .i32⟩
  | 116 => ⟨S8x1, .i32⟩
  | 117 => ⟨S8x16000, .i32⟩
  | 118 => ⟨S8x16000, .i32⟩
  | 119 => ⟨S8x16000, .i1⟩
  | 120 => ⟨S_, .f32⟩
  | 121 => ⟨S_, .f32⟩
  | 122 => ⟨S8x16000, .f32⟩
  | 123 => ⟨S8x16000, .f32⟩
  | 124 => ⟨S_, .f32⟩
  | 125 => ⟨S8, .f32⟩
  | 126 => ⟨S_, .i32⟩
  | 127 => ⟨S8, .i32⟩
  | _ => ⟨S8x16000x2, .i32⟩

abbrev hbmTy0_1 (i : Nat) : BufTy := match i % 128 with
  | 0 => ⟨S8, .i32⟩
  | 1 => ⟨S8, .f32⟩
  | 2 => ⟨S8, .f32⟩
  | 3 => ⟨S8x16000x1, .f32⟩
  | 4 => ⟨S8x16000, .f32⟩
  | 5 => ⟨S8x16000, .f32⟩
  | 6 => ⟨S_, .f32⟩
  | 7 => ⟨S_, .f32⟩
  | 8 => ⟨S8x16000, .f32⟩
  | 9 => ⟨S8x16000, .f32⟩
  | 10 => ⟨S_, .f32⟩
  | 11 => ⟨S8, .f32⟩
  | 12 => ⟨S_, .i32⟩
  | 13 => ⟨S8, .i32⟩
  | 14 => ⟨S8, .i32⟩
  | 15 => ⟨S8, .f32⟩
  | 16 => ⟨S8, .f32⟩
  | 17 => ⟨S_, .i32⟩
  | 18 => ⟨S8, .i32⟩
  | 19 => ⟨S8, .i1⟩
  | 20 => ⟨S8, .f32⟩
  | 21 => ⟨S_, .f32⟩
  | 22 => ⟨S_, .f32⟩
  | 23 => ⟨S8, .f32⟩
  | 24 => ⟨S8, .f32⟩
  | 25 => ⟨S256x14, .f32⟩
  | 26 => ⟨S8, .i32⟩
  | 27 => ⟨S8x1, .i32⟩
  | 28 => ⟨S_, .i32⟩
  | 29 => ⟨S8x1, .i32⟩
  | 30 => ⟨S8x1, .i32⟩
  | 31 => ⟨S8x16000, .i32⟩
  | 32 => ⟨S8x16000, .i32⟩
  | 33 => ⟨S8x16000x1, .i32⟩
  | 34 => ⟨S8x16000x14, .f32⟩
  | 35 => ⟨S8x16000x2, .f32⟩
  | 36 => ⟨S8x16000x2, .f32⟩
  | 37 => ⟨S8x16000x2, .f32⟩
  | 38 => ⟨S8x16000x2, .f32⟩
  | 39 => ⟨S_, .f32⟩
  | 40 => ⟨S8x16000x2, .f32⟩
  | 41 => ⟨S8x16000x2, .f32⟩
  | 42 => ⟨S8x16000x2, .f32⟩
  | 43 => ⟨S1x16000x2, .f32⟩
  | 44 => ⟨S8x16000x2, .f32⟩
  | 45 => ⟨S8x16000x2, .f32⟩
  | 46 => ⟨S_, .f32⟩
  | 47 => ⟨S16000x2, .f32⟩
  | 48 => ⟨S16000x2, .f32⟩
  | 49 => ⟨S1x16000x2, .f32⟩
  | 50 => ⟨S8x16000x2, .f32⟩
  | 51 => ⟨S8x16000x2, .f32⟩
  | 52 => ⟨S_, .f32⟩
  | 53 => ⟨S8x16000x2, .f32⟩
  | 54 => ⟨S8x16000x2, .f32⟩
  | 55 => ⟨S_, .f32⟩
  | 56 => ⟨S16000x2, .f32⟩
  | 57 => ⟨S16000x2, .f32⟩
  | 58 => ⟨S1x16000x2, .f32⟩
  | 59 => ⟨S8x16000x2, .f32⟩
  | 60 => ⟨S8x16000x2, .f32⟩
  | 61 => ⟨S8x16000x2, .f32⟩
  | 62 => ⟨S_, .f32⟩
  | 63 => ⟨S8x16000x2, .f32⟩
  | 64 => ⟨S8x16000x2, .f32⟩
  | 65 => ⟨S8x16000x2, .f32⟩
  | 66 => ⟨S8x16000x2, .f32⟩
  | 67 => ⟨S8x16000x2, .f32⟩
  | 68 => ⟨S_, .f32⟩
  | 69 => ⟨S8x16000x2, .f32⟩
  | 70 => ⟨S8x16000x2, .i1⟩
  | 71 => ⟨S_, .f32⟩
  | 72 => ⟨S8x16000x2, .f32⟩
  | 73 => ⟨S8x16000x2, .f32⟩
  | 74 => ⟨S8x16000x2, .f32⟩
  | 75 => ⟨S_, .f32⟩
  | 76 => ⟨S8x16000x2, .f32⟩
  | 77 => ⟨S8x16000x2, .f32⟩
  | 78 => ⟨S8x16000x2, .f32⟩
  | 79 => ⟨S_, .f32⟩
  | 80 => ⟨S8x16000, .f32⟩
  | 81 => ⟨S8x16000x2, .f32⟩
  | 82 => ⟨S8x16000x2, .f32⟩
  | 83 => ⟨S8x16000x2, .f32⟩
  | 84 => ⟨S_, .f32⟩
  | 85 => ⟨S8x16000x2, .f32⟩
  | 86 => ⟨S8x16000x2, .i1⟩
  | 87 => ⟨S_, .f32⟩
  | 88 => ⟨S8x16000x2, .f32⟩
  | 89 => ⟨S8x16000x2, .f32⟩
  | 90 => ⟨S8x16000x2, .f32⟩
  | 91 => ⟨S_, .f32⟩
  | 92 => ⟨S8x16000x2, .f32⟩
  | 93 => ⟨S8x16000x2, .f32⟩
  | 94 => ⟨S8x16000x2, .f32⟩
  | 95 => ⟨S_, .f32⟩
  | 96 => ⟨S8x16000, .f32⟩
  | 97 => ⟨S8x16000, .f32⟩
  | 98 => ⟨S_, .f32⟩
  | 99 => ⟨S_, .f32⟩
  | 100 => ⟨S8x16000, .f32⟩
  | 101 => ⟨S8x16000, .f32⟩
  | 102 => ⟨S_, .f32⟩
  | 103 => ⟨S8, .f32⟩
  | 104 => ⟨S_, .i32⟩
  | 105 => ⟨S8, .i32⟩
  | 106 => ⟨S8, .i1⟩
  | 107 => ⟨S_, .i32⟩
  | 108 => ⟨S8, .i32⟩
  | 109 => ⟨S8, .i32⟩
  | 110 => ⟨S8, .f32⟩
  | 111 => ⟨S_, .f32⟩
  | 112 => ⟨S8, .f32⟩
  | 113 => ⟨S8, .f32⟩
  | 114 => ⟨S8, .f32⟩
  | 115 => ⟨S_, .f32⟩
  | 116 => ⟨S_, .f32⟩
  | 117 => ⟨S8, .f32⟩
  | 118 => ⟨S8, .f32⟩
  | 119 => ⟨S8x16000x10, .f32⟩
  | 120 => ⟨S_, .f32⟩
  | 121 => ⟨S8x16000, .f32⟩
  | 122 => ⟨S_, .f32⟩
  | 123 => ⟨S8x16000, .f32⟩
  | 124 => ⟨S8x16000, .i1⟩
  | 125 => ⟨S8x16000, .i1⟩
  | 126 => ⟨S8x16000, .i32⟩
  | 127 => ⟨S_, .i32⟩
  | _ => ⟨S8x16000x2, .i32⟩

abbrev hbmTy0_2 (i : Nat) : BufTy := match i % 128 with
  | 0 => ⟨S8, .i32⟩
  | 1 => ⟨S8x16000x5x2, .f32⟩
  | 2 => ⟨S16000x1x2, .f32⟩
  | 3 => ⟨S1x16000x1x2, .f32⟩
  | 4 => ⟨S8x16000x5x2, .f32⟩
  | 5 => ⟨S8x16000x5x2, .f32⟩
  | 6 => ⟨S_, .f32⟩
  | 7 => ⟨S16000x2, .f32⟩
  | 8 => ⟨S16000x2, .f32⟩
  | 9 => ⟨S16000x1x2, .f32⟩
  | 10 => ⟨S1x16000x1x2, .f32⟩
  | 11 => ⟨S8x16000x5x2, .f32⟩
  | 12 => ⟨S8x16000x5x2, .f32⟩
  | 13 => ⟨S_, .f32⟩
  | 14 => ⟨S8x16000x5x2, .f32⟩
  | 15 => ⟨S8x16000x5x2, .f32⟩
  | 16 => ⟨S8x16000x5x2, .f32⟩
  | 17 => ⟨S8x16000x5x2, .f32⟩
  | 18 => ⟨S8x16000x5x2, .f32⟩
  | 19 => ⟨S_, .f32⟩
  | 20 => ⟨S8x16000x5x2, .f32⟩
  | 21 => ⟨S8x16000x5x2, .i1⟩
  | 22 => ⟨S_, .f32⟩
  | 23 => ⟨S8x16000x5x2, .f32⟩
  | 24 => ⟨S8x16000x5x2, .f32⟩
  | 25 => ⟨S8x16000x5x2, .f32⟩
  | 26 => ⟨S_, .f32⟩
  | 27 => ⟨S8x16000x5x2, .f32⟩
  | 28 => ⟨S8x16000x5x2, .f32⟩
  | 29 => ⟨S8x16000x5x2, .f32⟩
  | 30 => ⟨S_, .f32⟩
  | 31 => ⟨S8x16000, .f32⟩
  | 32 => ⟨S_, .f32⟩
  | 33 => ⟨S_, .f32⟩
  | 34 => ⟨S8x16000, .f32⟩
  | 35 => ⟨S8x16000, .f32⟩
  | 36 => ⟨S_, .f32⟩
  | 37 => ⟨S8, .f32⟩
  | 38 => ⟨S_, .i32⟩
  | 39 => ⟨S8, .i32⟩
  | 40 => ⟨S8, .i1⟩
  | 41 => ⟨S_, .i32⟩
  | 42 => ⟨S8, .i32⟩
  | 43 => ⟨S8, .i32⟩
  | 44 => ⟨S8, .f32⟩
  | 45 => ⟨S_, .f32⟩
  | 46 => ⟨S8, .f32⟩
  | 47 => ⟨S8, .f32⟩
  | 48 => ⟨S8, .f32⟩
  | 49 => ⟨S_, .f32⟩
  | 50 => ⟨S_, .f32⟩
  | 51 => ⟨S8, .f32⟩
  | 52 => ⟨S8, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | _ => ⟨S8x16000x2, .i32⟩

abbrev hbmTy (i : Nat) : BufTy := match i / 128 with
  | 0 => hbmTy0_0 i
  | 1 => hbmTy0_1 i
  | 2 => hbmTy0_2 i
  | _ => ⟨S8x16000x2, .i32⟩

abbrev bufTy : (tb : Table) → Fin (tcTables nBuf tb) → BufTy
  | .hbm, ⟨i, _⟩ => hbmTy i
  | _, _ => ⟨S8x16000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_1 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_2 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_c : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v57 : Ref sig .tc := ⟨.hbm, 70, rfl⟩
abbrev main_c_3 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_6 : Ref sig .tc := ⟨.hbm, 80, rfl⟩
abbrev main_v64 : Ref sig .tc := ⟨.hbm, 81, rfl⟩
abbrev main_v65 : Ref sig .tc := ⟨.hbm, 82, rfl⟩
abbrev main_c_7 : Ref sig .tc := ⟨.hbm, 83, rfl⟩
abbrev main_v66 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_8 : Ref sig .tc := ⟨.hbm, 103, rfl⟩
abbrev main_call2_v0 : Ref sig .tc := ⟨.hbm, 104, rfl⟩
abbrev main_call2_v1 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_9 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_10 : Ref sig .tc := ⟨.hbm, 120, rfl⟩
abbrev main_call4_v0 : Ref sig .tc := ⟨.hbm, 121, rfl⟩
abbrev main_call4_v1 : Ref sig .tc := ⟨.hbm, 122, rfl⟩
abbrev main_v84 : Ref sig .tc := ⟨.hbm, 123, rfl⟩
abbrev main_cst_11 : Ref sig .tc := ⟨.hbm, 124, rfl⟩
abbrev main_v85 : Ref sig .tc := ⟨.hbm, 125, rfl⟩
abbrev main_c_12 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_13 : Ref sig .tc := ⟨.hbm, 134, rfl⟩
abbrev main_call5_v0 : Ref sig .tc := ⟨.hbm, 135, rfl⟩
abbrev main_call5_v1 : Ref sig .tc := ⟨.hbm, 136, rfl⟩
abbrev main_v93 : Ref sig .tc := ⟨.hbm, 137, rfl⟩
abbrev main_cst_14 : Ref sig .tc := ⟨.hbm, 138, rfl⟩
abbrev main_v94 : Ref sig .tc := ⟨.hbm, 139, rfl⟩
abbrev main_c_15 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_16 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_17 : Ref sig .tc := ⟨.hbm, 149, rfl⟩
abbrev main_call6_v0 : Ref sig .tc := ⟨.hbm, 150, rfl⟩
abbrev main_call6_v1 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_c_18 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_call7_v0 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_19 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_20 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_21 : Ref sig .tc := ⟨.hbm, 180, rfl⟩
abbrev main_v126 : Ref sig .tc := ⟨.hbm, 181, rfl⟩
abbrev main_v127 : Ref sig .tc := ⟨.hbm, 182, rfl⟩
abbrev main_cst_22 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_23 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_24 : Ref sig .tc := ⟨.hbm, 196, rfl⟩
abbrev main_v139 : Ref sig .tc := ⟨.hbm, 197, rfl⟩
abbrev main_v140 : Ref sig .tc := ⟨.hbm, 198, rfl⟩
abbrev main_cst_25 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_26 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_27 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_cst_28 : Ref sig .tc := ⟨.hbm, 212, rfl⟩
abbrev main_v151 : Ref sig .tc := ⟨.hbm, 213, rfl⟩
abbrev main_v152 : Ref sig .tc := ⟨.hbm, 214, rfl⟩
abbrev main_cst_29 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_cst_30 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_cst_31 : Ref sig .tc := ⟨.hbm, 223, rfl⟩
abbrev main_v159 : Ref sig .tc := ⟨.hbm, 224, rfl⟩
abbrev main_v160 : Ref sig .tc := ⟨.hbm, 225, rfl⟩
abbrev main_cst_32 : Ref sig .tc := ⟨.hbm, 226, rfl⟩
abbrev main_call10_v0 : Ref sig .tc := ⟨.hbm, 227, rfl⟩
abbrev main_call10_v1 : Ref sig .tc := ⟨.hbm, 228, rfl⟩
abbrev main_v161 : Ref sig .tc := ⟨.hbm, 229, rfl⟩
abbrev main_cst_33 : Ref sig .tc := ⟨.hbm, 230, rfl⟩
abbrev main_v162 : Ref sig .tc := ⟨.hbm, 231, rfl⟩
abbrev main_c_34 : Ref sig .tc := ⟨.hbm, 232, rfl⟩
abbrev main_v163 : Ref sig .tc := ⟨.hbm, 233, rfl⟩
abbrev main_v164 : Ref sig .tc := ⟨.hbm, 234, rfl⟩
abbrev main_c_35 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_cst_36 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_cst_37 : Ref sig .tc := ⟨.hbm, 243, rfl⟩
abbrev main_call11_v0 : Ref sig .tc := ⟨.hbm, 244, rfl⟩
abbrev main_call11_v1 : Ref sig .tc := ⟨.hbm, 245, rfl⟩
abbrev main_v171 : Ref sig .tc := ⟨.hbm, 246, rfl⟩
abbrev main_v172 : Ref sig .tc := ⟨.hbm, 247, rfl⟩
abbrev main_cst_38 : Ref sig .tc := ⟨.hbm, 248, rfl⟩
abbrev main_v173 : Ref sig .tc := ⟨.hbm, 249, rfl⟩
abbrev main_cst_39 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_c_40 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_cst_41 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_cst_42 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_cst_43 : Ref sig .tc := ⟨.hbm, 275, rfl⟩
abbrev main_v195 : Ref sig .tc := ⟨.hbm, 276, rfl⟩
abbrev main_v196 : Ref sig .tc := ⟨.hbm, 277, rfl⟩
abbrev main_cst_44 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_cst_45 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_cst_46 : Ref sig .tc := ⟨.hbm, 286, rfl⟩
abbrev main_v203 : Ref sig .tc := ⟨.hbm, 287, rfl⟩
abbrev main_cst_47 : Ref sig .tc := ⟨.hbm, 288, rfl⟩
abbrev main_call13_v0 : Ref sig .tc := ⟨.hbm, 289, rfl⟩
abbrev main_call13_v1 : Ref sig .tc := ⟨.hbm, 290, rfl⟩
abbrev main_v204 : Ref sig .tc := ⟨.hbm, 291, rfl⟩
abbrev main_cst_48 : Ref sig .tc := ⟨.hbm, 292, rfl⟩
abbrev main_v205 : Ref sig .tc := ⟨.hbm, 293, rfl⟩
abbrev main_c_49 : Ref sig .tc := ⟨.hbm, 294, rfl⟩
abbrev main_v206 : Ref sig .tc := ⟨.hbm, 295, rfl⟩
abbrev main_v207 : Ref sig .tc := ⟨.hbm, 296, rfl⟩
abbrev main_c_50 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_cst_51 : Ref sig .tc := ⟨.hbm, 301, rfl⟩
abbrev main_v211 : Ref sig .tc := ⟨.hbm, 302, rfl⟩
abbrev main_v212 : Ref sig .tc := ⟨.hbm, 303, rfl⟩
abbrev main_v213 : Ref sig .tc := ⟨.hbm, 304, rfl⟩
abbrev main_cst_52 : Ref sig .tc := ⟨.hbm, 305, rfl⟩
abbrev main_call14_v0 : Ref sig .tc := ⟨.hbm, 306, rfl⟩
abbrev main_call14_v1 : Ref sig .tc := ⟨.hbm, 307, rfl⟩
abbrev main_v214 : Ref sig .tc := ⟨.hbm, 308, rfl⟩
abbrev main_cst_53 : Ref sig .tc := ⟨.hbm, 309, rfl⟩
abbrev main_v215 : Ref sig .tc := ⟨.hbm, 310, rfl⟩
abbrev main_cst_54 : Ref sig .tc := ⟨.hbm, 311, rfl⟩
abbrev main_v216 : Ref sig .tc := ⟨.hbm, 312, rfl⟩
abbrev main_cst_55 : Ref sig .tc := ⟨.hbm, 313, rfl⟩
abbrev main_v217 : Ref sig .tc := ⟨.hbm, 314, rfl⟩
abbrev main_cst_56 : Ref sig .tc := ⟨.hbm, 315, rfl⟩
abbrev main_v218 : Ref sig .tc := ⟨.hbm, 316, rfl⟩
abbrev main_cst_57 : Ref sig .tc := ⟨.hbm, 317, rfl⟩
abbrev main_v219 : Ref sig .tc := ⟨.hbm, 318, rfl⟩
abbrev main_cst_58 : Ref sig .tc := ⟨.hbm, 319, rfl⟩
abbrev main_v220 : Ref sig .tc := ⟨.hbm, 320, rfl⟩

abbrev nD : Nat := 1
abbrev τ : Topo := Topo.v7x

variable {F : FTy → Type} [FloatOps F]
-- ==== Proof.K.Prog.lean ====
/- The text of one tile's run, cut into named pieces: the copies in, the box areas, one trip of each
   loop, the exchanges through the shared memory, one round of the digit selection, and the end.
   Each piece is generic in what the printed text repeats (the group, the round, the loop). -/
module

public import proofs.«01_k».proof.Proof.Gen.KernelIdeal
public import proofs.«01_k».proof.Proof.Gen.KernelIdeal.Skeleton

@[expose] public section

noncomputable section

namespace Cert.Proof.K

open Cert.KernelIdeal Cert.KernelIdeal.Gen
open Idealize.ShloMosaic Idealize.SL.Sem

variable {F : FTy → Type} [FloatOps F]

/-- A program of the tile at the grid point `i`. -/
abbrev TP (F : FTy → Type) [FloatOps F] (i : grid0.Coords) (α : Type) : Type 1 :=
  Prog (TpuEff nD τ sig (Elt F) Λ₀ (.scVector ((i 0).castLE hcore0) ((i 1).castLE hsub0))) α

/-- The rank-one shape of `n` elements. -/
abbrev L1 (n : Nat) : Shape := ⟨1, ![n]⟩

abbrev ax0 : Memref sig .scVector .vmem S4000 .f32 := Memref.whole cc0_scratch0
abbrev ay0 : Memref sig .scVector .vmem S4000 .f32 := Memref.whole cc0_scratch1
abbrev ax1 : Memref sig .scVector .vmem S4000 .f32 := Memref.whole cc0_scratch2
abbrev ay1 : Memref sig .scVector .vmem S4000 .f32 := Memref.whole cc0_scratch3
abbrev c0v : Memref sig .scVector .vmem S4000 .i32 := Memref.whole cc0_scratch4
abbrev c1v : Memref sig .scVector .vmem S4000 .i32 := Memref.whole cc0_scratch5
abbrev br0 : Memref sig .scVector .vmem S4000 .f32 := Memref.whole cc0_scratch6
abbrev br1 : Memref sig .scVector .vmem S4000 .f32 := Memref.whole cc0_scratch7
abbrev br2 : Memref sig .scVector .vmem S4000 .f32 := Memref.whole cc0_scratch8
abbrev br3 : Memref sig .scVector .vmem S4000 .f32 := Memref.whole cc0_scratch9
abbrev lm0 : Memref sig .scVector .vmem S4000 .f32 := Memref.whole cc0_scratch10
abbrev lm1 : Memref sig .scVector .vmem S4000 .f32 := Memref.whole cc0_scratch11
abbrev lm2 : Memref sig .scVector .vmem S4000 .f32 := Memref.whole cc0_scratch12
abbrev lm3 : Memref sig .scVector .vmem S4000 .f32 := Memref.whole cc0_scratch13
abbrev lm4 : Memref sig .scVector .vmem S4000 .f32 := Memref.whole cc0_scratch14
abbrev lm5 : Memref sig .scVector .vmem S4000 .f32 := Memref.whole cc0_scratch15
abbrev lm6 : Memref sig .scVector .vmem S4000 .f32 := Memref.whole cc0_scratch16
abbrev lm7 : Memref sig .scVector .vmem S4000 .f32 := Memref.whole cc0_scratch17
abbrev lm8 : Memref sig .scVector .vmem S4000 .f32 := Memref.whole cc0_scratch18
abbrev lm9 : Memref sig .scVector .vmem S4000 .f32 := Memref.whole cc0_scratch19
abbrev iouv : Memref sig .scVector .vmem S4000 .f32 := Memref.whole cc0_scratch20
abbrev argv : Memref sig .scVector .vmem S4000 .i32 := Memref.whole cc0_scratch21
abbrev keyv : Memref sig .scVector .vmem S4000 .i32 := Memref.whole cc0_scratch22
abbrev annb : Memref sig .scVector .vmem S2048 .f32 := Memref.whole cc0_scratch23
abbrev tab : Memref sig .scVector .vmem S448 .f32 := Memref.whole cc0_scratch24
abbrev area : Memref sig .scVector .vmem S512 .f32 := Memref.whole cc0_scratch25
abbrev hist : Memref sig .scVector .vmem S256 .f32 := Memref.whole cc0_scratch26
abbrev stg : Memref sig .scVector .vmem S96 .f32 := Memref.whole cc0_scratch27
abbrev rdA : Memref sig .scVector .vmem S256 .f32 := Memref.whole cc0_scratch28
abbrev rdB : Memref sig .scVector .vmem S384 .f32 := Memref.whole cc0_scratch29
abbrev rdH : Memref sig .scVector .vmem S1024 .f32 := Memref.whole cc0_scratch30
abbrev rdC : Memref sig .scVector .vmem S128 .f32 := Memref.whole cc0_scratch31
abbrev outv : Memref sig .scVector .vmem S16 .f32 := Memref.whole cc0_scratch32
abbrev sA : Memref sig .scVector .shared S1024 .f32 := Memref.whole cc0_scratch33
abbrev sB : Memref sig .scVector .shared S1536 .f32 := Memref.whole cc0_scratch34
abbrev sH : Memref sig .scVector .shared S8192 .f32 := Memref.whole cc0_scratch35
abbrev sC : Memref sig .scVector .shared S512 .f32 := Memref.whole cc0_scratch36
abbrev hAnc : Memref sig .scVector .hbm S64000 .f32 := Memref.whole main_v1_scv
abbrev hCls : Memref sig .scVector .hbm S256000 .i32 := Memref.whole main_v3_scv
abbrev hReg : Memref sig .scVector .hbm S512000 .f32 := Memref.whole main_v5_scv
abbrev hLdm : Memref sig .scVector .hbm S1280000 .f32 := Memref.whole main_v7_scv
abbrev hBox : Memref sig .scVector .hbm S16384 .f32 := Memref.whole main_v12_scv
abbrev hTab : Memref sig .scVector .hbm S3584 .f32 := Memref.whole main_v14_scv
abbrev hOut : Memref sig .scVector .hbm S128 .f32 := Memref.whole main_v15_scv

/-- Sixteen elements of a tile buffer, from the offset on. -/
abbrev ld {i : grid0.Coords} {n : Nat} {e : EltTy} (m : Memref sig .scVector .vmem (L1 n) e) (o : Fin 1 → Nat)
    (h : ∀ a, o a + S16.size a ≤ (L1 n).size a) : TP F i (Vec F S16 e) :=
  Prog.lift (.load m (Rect.unit (s := L1 n) o S16.size h).toLoadRect (View.loadsAt_vmem h_S16))

/-- Sixteen floats stored at the offset, after a read of them nothing uses. -/
abbrev stf {i : grid0.Coords} {n : Nat} (m : Memref sig .scVector .vmem (L1 n) .f32) (o : Fin 1 → Nat)
    (h : ∀ a, o a + S16.size a ≤ (L1 n).size a) (v : Vec F S16 .f32) : TP F i PUnit := do
  let _ ← ld (F := F) (i := i) m o h
  Prog.lift (.store m (Rect.unit (s := L1 n) o S16.size h) v Finset.univ (View.stores_vmem_bits_univ h_S16 rfl) (.inl rfl))

/-- Sixteen integers stored at the offset, after a read of them nothing uses. -/
abbrev sti {i : grid0.Coords} {n : Nat} (m : Memref sig .scVector .vmem (L1 n) .i32) (o : Fin 1 → Nat)
    (h : ∀ a, o a + S16.size a ≤ (L1 n).size a) (v : Vec F S16 .i32) : TP F i PUnit := do
  let _ ← ld (F := F) (i := i) m o h
  Prog.lift (.store m (Rect.unit (s := L1 n) o S16.size h) v Finset.univ (View.stores_vmem_bits_univ h_S16 rfl) (.inl rfl))

/-- `n` steps from the step `k` on, the state handed from one to the next. -/
def rep {i : grid0.Coords} {N : Nat} {σ : Type} (f : Fin N → σ → TP F i σ) : (n k : Nat) → k + n = N → σ → TP F i σ
  | 0, _, _, s => pure s
  | n + 1, k, h, s => f ⟨k, by omega⟩ s >>= rep f n (k + 1) (by omega)

theorem goff {n : Nat} {b : Nat} (h : b + 16 ≤ n) : ∀ a, (![b] : Fin 1 → Nat) a + S16.size a ≤ (L1 n).size a := by
  intro a
  match a with
  | 0 => exact h

/-- The float `w` in all sixteen lanes. -/
abbrev bf (w : BitVec 32) : FVec F S16 .f32 := broadcast S16 (Scalar.ofBits .f32 w)

/-- The integer `w` in all sixteen lanes. -/
abbrev bi (w : BitVec 32) : IVec S16 32 := broadcast S16 w

/-- Lane `k` of a vector. -/
abbrev lane (v : FVec F S16 .f32) (k : Nat) (h : S16.Slices ![k] S1) : F .f32 :=
  extractAt ![0] (extractStridedSlice S1 ![k] v h) inpos_S1_p0

/-- The sum of the sixteen lanes, left to right, in every lane. -/
def lsum (v : FVec F S16 .f32) : FVec F S16 .f32 :=
  broadcast S16 (Scalar.addf (Scalar.addf (Scalar.addf (Scalar.addf (Scalar.addf (Scalar.addf (Scalar.addf (Scalar.addf (Scalar.addf (Scalar.addf (Scalar.addf (Scalar.addf (Scalar.addf (Scalar.addf (Scalar.addf (lane v 0 slices_S16_o0_S1) (lane v 1 slices_S16_o1_S1)) (lane v 2 slices_S16_o2_S1)) (lane v 3 slices_S16_o3_S1)) (lane v 4 slices_S16_o4_S1)) (lane v 5 slices_S16_o5_S1)) (lane v 6 slices_S16_o6_S1)) (lane v 7 slices_S16_o7_S1)) (lane v 8 slices_S16_o8_S1)) (lane v 9 slices_S16_o9_S1)) (lane v 10 slices_S16_o10_S1)) (lane v 11 slices_S16_o11_S1)) (lane v 12 slices_S16_o12_S1)) (lane v 13 slices_S16_o13_S1)) (lane v 14 slices_S16_o14_S1)) (lane v 15 slices_S16_o15_S1))

/-- The greatest of the sixteen lanes, in every lane. -/
def lmax (v : FVec F S16 .f32) : FVec F S16 .f32 :=
  broadcast S16 (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (lane v 0 slices_S16_o0_S1) (lane v 1 slices_S16_o1_S1)) (lane v 2 slices_S16_o2_S1)) (lane v 3 slices_S16_o3_S1)) (lane v 4 slices_S16_o4_S1)) (lane v 5 slices_S16_o5_S1)) (lane v 6 slices_S16_o6_S1)) (lane v 7 slices_S16_o7_S1)) (lane v 8 slices_S16_o8_S1)) (lane v 9 slices_S16_o9_S1)) (lane v 10 slices_S16_o10_S1)) (lane v 11 slices_S16_o11_S1)) (lane v 12 slices_S16_o12_S1)) (lane v 13 slices_S16_o13_S1)) (lane v 14 slices_S16_o14_S1)) (lane v 15 slices_S16_o15_S1))

/-- The state of the search for the best box: the intersection and the union of the best so far, and its index. -/
abbrev Best (F : FTy → Type) : Type := FVec F S16 .f32 × FVec F S16 .f32 × IVec S16 32

/-- One box compared with the best so far. -/
def better (g : Nat) (x0 y0 x1 y1 ar bx0 by0 bx1 by1 ab : FVec F S16 .f32) (s : Best F) : Best F :=
  let iw := subf (minimumf x1 bx1) (maximumf x0 bx0)
  let ih := subf (minimumf y1 by1) (maximumf y0 by0)
  let inter := mulf (maximumf iw (bf 0x00000000#32)) ih
  let ua := subf (addf ar ab) inter
  let upd := cmpf .ogt (mulf inter s.2.1) (mulf s.1 ua)
  (select upd inter s.1, select upd ua s.2.1, select upd (bi (BitVec.ofNat 32 g)) s.2.2)

/-- The step of the search for the box `g`: its corners and area loaded and compared. -/
def boxStep {i : grid0.Coords} (x0 y0 x1 y1 ar : FVec F S16 .f32) (g : Fin 32) (s : Best F) : TP F i (Best F) := do
  let bx0 ← ld annb ![16 * g.val] (goff (by omega))
  let by0 ← ld annb ![512 + 16 * g.val] (goff (by omega))
  let bx1 ← ld annb ![1024 + 16 * g.val] (goff (by omega))
  let by1 ← ld annb ![1536 + 16 * g.val] (goff (by omega))
  let ab ← ld area ![16 * g.val] (goff (by omega))
  pure (better g.val x0 y0 x1 y1 ar bx0 by0 bx1 by1 ab s)

/-- The sums and maxima the first loop carries. -/
abbrev Car1 (F : FTy → Type) : Type := FVec F S16 .f32 × FVec F S16 .f32 × FVec F S16 .f32 × FVec F S16 .f32

/-- The word by which a negative anchor's score is ordered; all ones for the others. -/
def keyOf (iou : FVec F S16 .f32) (bb : IVec S16 32) : IVec S16 32 :=
  select (cmpf .olt iou (bf 0x3E99999A#32))
    (select (cmpi .sge bb (bi 0#32)) (xori bb (bi 2147483648#32)) (xori bb (constantI S16 32 4294967295#32)))
    (bi 4294967295#32)

/-- What the first loop carries, after sixteen more anchors. -/
def car1Step (iou : FVec F S16 .f32) (c0 c1 : IVec S16 32) (s : Car1 F) : Car1 F :=
  (addf s.1 (select (cmpf .oge iou (bf 0x3F000000#32)) (bf 0x3F800000#32) (bf 0x00000000#32)),
   addf s.2.1 (select (cmpf .olt iou (bf 0x3E99999A#32)) (bf 0x3F800000#32) (bf 0x00000000#32)),
   maximumf s.2.2.1 (bitcastToFloat .f32 c0), maximumf s.2.2.2 (bitcastToFloat .f32 c1))

/-- Sixteen anchors of the first loop: their best box, the counts, the maxima and the ordering word. -/
def half1 {i : grid0.Coords} (o : Fin 1 → Nat) (h : ∀ a, o a + S16.size a ≤ S4000.size a) (s : Car1 F) : TP F i (Car1 F) := do
  let x0 ← ld ax0 o h
  let y0 ← ld ay0 o h
  let x1 ← ld ax1 o h
  let y1 ← ld ay1 o h
  let b ← rep (boxStep x0 y0 x1 y1 (mulf (subf x1 x0) (subf y1 y0))) 32 0 rfl
    (bf 0x00000000#32, bf 0x3F800000#32, bi 0#32)
  stf iouv o h (divf b.1 b.2.1)
  sti argv o h b.2.2
  let c0 ← ld c0v o h
  let c1 ← ld c1v o h
  let bb ← ld c1v o h
  sti keyv o h (keyOf (divf b.1 b.2.1) bb)
  pure (car1Step (divf b.1 b.2.1) c0 c1 s)

/-- A trip of the first loop. -/
def trip1 {i : grid0.Coords} (t : Fin k0_t1_loop.trips) (s : Car1 F) : TP F i (Car1 F) := do
  let s ← half1 (k0_off7 t) (k0_off7_inb t) s
  half1 (k0_off8 t) (k0_off8_inb t) s

/-- One column of the labels' table, looked up at sixteen labels' rows. -/
def gath {i : grid0.Coords} (am : IVec S16 32) (f : Nat) : TP F i (Vec F S16 .f32) := do
  have hw : k0_chk1 (addi am (bi (BitVec.ofNat 32 (32 * f)))) :=
    (← Prog.lift (TpuEff.assume (k0_chk1 (addi am (bi (BitVec.ofNat 32 (32 * f))))) (k0_chk1.dec (addi am (bi (BitVec.ofNat 32 (32 * f))))))).down
  SparseCore.vectorLoadIdx tab ![addi am (bi (BitVec.ofNat 32 (32 * f)))] (k0_idx1_inb (addi am (bi (BitVec.ofNat 32 (32 * f)))) hw) (View.loads_vmem h_S448)

/-- The smooth absolute difference. -/
def sl1 (t b : FVec F S16 .f32) : FVec F S16 .f32 :=
  select (cmpf .olt (absf (subf t b)) (bf 0x3F800000#32))
    (mulf (mulf (bf 0x3F000000#32) (absf (subf t b))) (absf (subf t b)))
    (subf (absf (subf t b)) (bf 0x3F000000#32))

/-- A centre: the low corner and half the width. -/
def ctr (x0 w : FVec F S16 .f32) : FVec F S16 .f32 := addf x0 (mulf (bf 0x3F000000#32) w)

/-- One over a width, the width kept off zero. -/
def rcp (w : FVec F S16 .f32) : FVec F S16 .f32 := divf (bf 0x3F800000#32) (addf w (bf 0x283424DC#32))

/-- The target of a coordinate: its distance from the anchor's centre over the anchor's width, times ten. -/
def tgt (g c r : FVec F S16 .f32) : FVec F S16 .f32 := mulf (mulf (subf g c) r) (bf 0x41200000#32)

/-- The target of a width: the logarithm of its ratio to the anchor's, times five. -/
def tgw (g r : FVec F S16 .f32) : FVec F S16 .f32 := mulf (log (mulf g r)) (bf 0x40A00000#32)

/-- The six sums the second loop carries. -/
abbrev Car2 (F : FTy → Type) : Type :=
  FVec F S16 .f32 × FVec F S16 .f32 × FVec F S16 .f32 × FVec F S16 .f32 × FVec F S16 .f32 × FVec F S16 .f32

/-- The box loss of sixteen anchors, summed over the four coordinates. -/
def bbSum (x0 y0 x1 y1 g0 g1 g2 g3 b0 b1 b2 b3 : FVec F S16 .f32) : FVec F S16 .f32 :=
  addf (addf (addf
    (sl1 (tgt (ctr g0 (subf g2 g0)) (ctr x0 (subf x1 x0)) (rcp (subf x1 x0))) b0)
    (sl1 (tgt (ctr g1 (subf g3 g1)) (ctr y0 (subf y1 y0)) (rcp (subf y1 y0))) b1))
    (sl1 (tgw (subf g2 g0) (rcp (subf x1 x0))) b2))
    (sl1 (tgw (subf g3 g1) (rcp (subf y1 y0))) b3)

/-- The landmark loss of sixteen anchors, summed over the ten coordinates. -/
def ldSum (x0 y0 x1 y1 g4 g5 g6 g7 g8 g9 g10 g11 g12 g13 l0 l1 l2 l3 l4 l5 l6 l7 l8 l9 : FVec F S16 .f32) : FVec F S16 .f32 :=
  addf (addf (addf (addf (addf (addf (addf (addf (addf (addf (bf 0x00000000#32) (sl1 (tgt g4 (ctr x0 (subf x1 x0)) (rcp (subf x1 x0))) l0)) (sl1 (tgt g5 (ctr y0 (subf y1 y0)) (rcp (subf y1 y0))) l1)) (sl1 (tgt g6 (ctr x0 (subf x1 x0)) (rcp (subf x1 x0))) l2)) (sl1 (tgt g7 (ctr y0 (subf y1 y0)) (rcp (subf y1 y0))) l3)) (sl1 (tgt g8 (ctr x0 (subf x1 x0)) (rcp (subf x1 x0))) l4)) (sl1 (tgt g9 (ctr y0 (subf y1 y0)) (rcp (subf y1 y0))) l5)) (sl1 (tgt g10 (ctr x0 (subf x1 x0)) (rcp (subf x1 x0))) l6)) (sl1 (tgt g11 (ctr y0 (subf y1 y0)) (rcp (subf y1 y0))) l7)) (sl1 (tgt g12 (ctr x0 (subf x1 x0)) (rcp (subf x1 x0))) l8)) (sl1 (tgt g13 (ctr y0 (subf y1 y0)) (rcp (subf y1 y0))) l9)

/-- Whether the labels' landmarks are given: their sum is above zero. -/
def ldPos (g4 g5 g6 g7 g8 g9 g10 g11 g12 g13 : FVec F S16 .f32) : IVec S16 1 :=
  cmpf .ogt (addf (addf (addf (addf (addf (addf (addf (addf (addf (g4) g5) g6) g7) g8) g9) g10) g11) g12) g13) (bf 0x00000000#32)

/-- The six sums after sixteen more anchors. -/
def car2Step (m0 m1 iou x0 y0 x1 y1 g0 g1 g2 g3 g4 g5 g6 g7 g8 g9 g10 g11 g12 g13 b0 b1 b2 b3 l0 l1 l2 l3 l4 l5 l6 l7 l8 l9 : FVec F S16 .f32)
    (c0 c1 : IVec S16 32) (s : Car2 F) : Car2 F :=
  let pos := cmpf .oge iou (bf 0x3F000000#32)
  let mask := andi (ldPos g4 g5 g6 g7 g8 g9 g10 g11 g12 g13) pos
  (addf s.1 (exp (subf (bitcastToFloat .f32 c0) m0)),
   addf s.2.1 (exp (subf (bitcastToFloat .f32 c1) m1)),
   addf s.2.2.1 (select pos (bitcastToFloat .f32 c0) (bf 0x00000000#32)),
   addf s.2.2.2.1 (select pos (bbSum x0 y0 x1 y1 g0 g1 g2 g3 b0 b1 b2 b3) (bf 0x00000000#32)),
   addf s.2.2.2.2.1 (select mask (ldSum x0 y0 x1 y1 g4 g5 g6 g7 g8 g9 g10 g11 g12 g13 l0 l1 l2 l3 l4 l5 l6 l7 l8 l9) (bf 0x00000000#32)),
   addf s.2.2.2.2.2 (select mask (bf 0x3F800000#32) (bf 0x00000000#32)))

/-- A trip of the second loop. -/
def trip2 {i : grid0.Coords} (m0 m1 : FVec F S16 .f32) (t : Fin k0_t2_loop.trips) (s : Car2 F) : TP F i (Car2 F) := do
  let iou ← ld iouv (k0_off11 t) (k0_off11_inb t)
  let am ← ld argv (k0_off11 t) (k0_off11_inb t)
  let x0 ← ld ax0 (k0_off11 t) (k0_off11_inb t)
  let y0 ← ld ay0 (k0_off11 t) (k0_off11_inb t)
  let x1 ← ld ax1 (k0_off11 t) (k0_off11_inb t)
  let y1 ← ld ay1 (k0_off11 t) (k0_off11_inb t)
  let g0 ← gath am 0
  let g1 ← gath am 1
  let g2 ← gath am 2
  let g3 ← gath am 3
  let g4 ← gath am 4
  let g5 ← gath am 5
  let g6 ← gath am 6
  let g7 ← gath am 7
  let g8 ← gath am 8
  let g9 ← gath am 9
  let g10 ← gath am 10
  let g11 ← gath am 11
  let g12 ← gath am 12
  let g13 ← gath am 13
  let b0 ← ld br0 (k0_off12 t) (k0_off12_inb t)
  let b1 ← ld br1 (k0_off12 t) (k0_off12_inb t)
  let b2 ← ld br2 (k0_off12 t) (k0_off12_inb t)
  let b3 ← ld br3 (k0_off12 t) (k0_off12_inb t)
  let l0 ← ld lm0 (k0_off12 t) (k0_off12_inb t)
  let l1 ← ld lm1 (k0_off12 t) (k0_off12_inb t)
  let l2 ← ld lm2 (k0_off12 t) (k0_off12_inb t)
  let l3 ← ld lm3 (k0_off12 t) (k0_off12_inb t)
  let l4 ← ld lm4 (k0_off12 t) (k0_off12_inb t)
  let l5 ← ld lm5 (k0_off12 t) (k0_off12_inb t)
  let l6 ← ld lm6 (k0_off12 t) (k0_off12_inb t)
  let l7 ← ld lm7 (k0_off12 t) (k0_off12_inb t)
  let l8 ← ld lm8 (k0_off12 t) (k0_off12_inb t)
  let l9 ← ld lm9 (k0_off12 t) (k0_off12_inb t)
  let c0 ← ld c0v (k0_off12 t) (k0_off12_inb t)
  let c1 ← ld c1v (k0_off12 t) (k0_off12_inb t)
  pure (car2Step m0 m1 iou x0 y0 x1 y1 g0 g1 g2 g3 g4 g5 g6 g7 g8 g9 g10 g11 g12 g13 b0 b1 b2 b3 l0 l1 l2 l3 l4 l5 l6 l7 l8 l9 c0 c1 s)

/-- A copy from a tile's buffer into the shared memory, and the wait for it. -/
abbrev put {i : grid0.Coords} {s : Shape} (src : Memref sig .scVector .vmem s .f32) (dst : Memref sig .scVector .shared s .f32)
    (sem : DmaSems sig S_) (ws : src.view.WordExact) (wd : dst.view.WordExact) : TP F i PUnit := do
  Prog.lift (.enqueueDma src (.here dst) (.dma sem.sem) ws wd ⟨Or.inl rfl, trivial⟩)
  Prog.lift (.waitDma2 sem.sem src dst ws wd)

/-- A copy from the shared memory into a tile's buffer, and the wait for it. -/
abbrev get {i : grid0.Coords} {s : Shape} (src : Memref sig .scVector .shared s .f32) (dst : Memref sig .scVector .vmem s .f32)
    (sem : DmaSems sig S_) (ws : src.view.WordExact) (wd : dst.view.WordExact) : TP F i PUnit := do
  Prog.lift (.enqueueDma src (.here dst) (.dma sem.sem) ws wd ⟨Or.inl rfl, trivial⟩)
  Prog.lift (.waitDma2 sem.sem src dst ws wd)

/-- The barrier of the sixteen tiles. -/
abbrev barr {i : grid0.Coords} : TP F i PUnit := SparseCore.subcoreBarrier sc_bar0 (grid0.bound 1) hsub0

/-- The copies of a tile's share of the arrays into its buffers, all in flight together, and the waits for them. -/
def copies {i : grid0.Coords} : TP F i PUnit := do
  Prog.lift (.enqueueDma (hAnc.slice (Rect.unit (s := S64000) (k0_off1 i 0#32) S4000.size (k0_off1_inb i 0)) (fun _ => rfl)) (.here ax0) (.dma cc0_scratch37.sem) (View.wordExact_bits rfl) (Memref.isWhole_whole _).wordExact ⟨Or.inl rfl, trivial⟩)
  Prog.lift (.enqueueDma (hAnc.slice (Rect.unit (s := S64000) (k0_off1 i 16000#32) S4000.size (k0_off1_inb i 1)) (fun _ => rfl)) (.here ay0) (.dma cc0_scratch37.sem) (View.wordExact_bits rfl) (Memref.isWhole_whole _).wordExact ⟨Or.inl rfl, trivial⟩)
  Prog.lift (.enqueueDma (hAnc.slice (Rect.unit (s := S64000) (k0_off1 i 32000#32) S4000.size (k0_off1_inb i 2)) (fun _ => rfl)) (.here ax1) (.dma cc0_scratch37.sem) (View.wordExact_bits rfl) (Memref.isWhole_whole _).wordExact ⟨Or.inl rfl, trivial⟩)
  Prog.lift (.enqueueDma (hAnc.slice (Rect.unit (s := S64000) (k0_off1 i 48000#32) S4000.size (k0_off1_inb i 3)) (fun _ => rfl)) (.here ay1) (.dma cc0_scratch37.sem) (View.wordExact_bits rfl) (Memref.isWhole_whole _).wordExact ⟨Or.inl rfl, trivial⟩)
  Prog.lift (.enqueueDma (hCls.slice (Rect.unit (s := S256000) (k0_off2 i 0#32) S4000.size (k0_off2_inb i 0)) (fun _ => rfl)) (.here c0v) (.dma cc0_scratch37.sem) (View.wordExact_bits rfl) (Memref.isWhole_whole _).wordExact ⟨Or.inl rfl, trivial⟩)
  Prog.lift (.enqueueDma (hCls.slice (Rect.unit (s := S256000) (k0_off2 i 16000#32) S4000.size (k0_off2_inb i 1)) (fun _ => rfl)) (.here c1v) (.dma cc0_scratch37.sem) (View.wordExact_bits rfl) (Memref.isWhole_whole _).wordExact ⟨Or.inl rfl, trivial⟩)
  Prog.lift (.enqueueDma (hReg.slice (Rect.unit (s := S512000) (k0_off3 i 0#32) S4000.size (k0_off3_inb i 0)) (fun _ => rfl)) (.here br0) (.dma cc0_scratch37.sem) (View.wordExact_bits rfl) (Memref.isWhole_whole _).wordExact ⟨Or.inl rfl, trivial⟩)
  Prog.lift (.enqueueDma (hReg.slice (Rect.unit (s := S512000) (k0_off3 i 16000#32) S4000.size (k0_off3_inb i 1)) (fun _ => rfl)) (.here br1) (.dma cc0_scratch37.sem) (View.wordExact_bits rfl) (Memref.isWhole_whole _).wordExact ⟨Or.inl rfl, trivial⟩)
  Prog.lift (.enqueueDma (hReg.slice (Rect.unit (s := S512000) (k0_off3 i 32000#32) S4000.size (k0_off3_inb i 2)) (fun _ => rfl)) (.here br2) (.dma cc0_scratch37.sem) (View.wordExact_bits rfl) (Memref.isWhole_whole _).wordExact ⟨Or.inl rfl, trivial⟩)
  Prog.lift (.enqueueDma (hReg.slice (Rect.unit (s := S512000) (k0_off3 i 48000#32) S4000.size (k0_off3_inb i 3)) (fun _ => rfl)) (.here br3) (.dma cc0_scratch37.sem) (View.wordExact_bits rfl) (Memref.isWhole_whole _).wordExact ⟨Or.inl rfl, trivial⟩)
  Prog.lift (.enqueueDma (hLdm.slice (Rect.unit (s := S1280000) (k0_off4 i 0#32) S4000.size (k0_off4_inb i 0)) (fun _ => rfl)) (.here lm0) (.dma cc0_scratch37.sem) (View.wordExact_bits rfl) (Memref.isWhole_whole _).wordExact ⟨Or.inl rfl, trivial⟩)
  Prog.lift (.enqueueDma (hLdm.slice (Rect.unit (s := S1280000) (k0_off4 i 16000#32) S4000.size (k0_off4_inb i 1)) (fun _ => rfl)) (.here lm1) (.dma cc0_scratch37.sem) (View.wordExact_bits rfl) (Memref.isWhole_whole _).wordExact ⟨Or.inl rfl, trivial⟩)
  Prog.lift (.enqueueDma (hLdm.slice (Rect.unit (s := S1280000) (k0_off4 i 32000#32) S4000.size (k0_off4_inb i 2)) (fun _ => rfl)) (.here lm2) (.dma cc0_scratch37.sem) (View.wordExact_bits rfl) (Memref.isWhole_whole _).wordExact ⟨Or.inl rfl, trivial⟩)
  Prog.lift (.enqueueDma (hLdm.slice (Rect.unit (s := S1280000) (k0_off4 i 48000#32) S4000.size (k0_off4_inb i 3)) (fun _ => rfl)) (.here lm3) (.dma cc0_scratch37.sem) (View.wordExact_bits rfl) (Memref.isWhole_whole _).wordExact ⟨Or.inl rfl, trivial⟩)
  Prog.lift (.enqueueDma (hLdm.slice (Rect.unit (s := S1280000) (k0_off4 i 64000#32) S4000.size (k0_off4_inb i 4)) (fun _ => rfl)) (.here lm4) (.dma cc0_scratch37.sem) (View.wordExact_bits rfl) (Memref.isWhole_whole _).wordExact ⟨Or.inl rfl, trivial⟩)
  Prog.lift (.enqueueDma (hLdm.slice (Rect.unit (s := S1280000) (k0_off4 i 80000#32) S4000.size (k0_off4_inb i 5)) (fun _ => rfl)) (.here lm5) (.dma cc0_scratch37.sem) (View.wordExact_bits rfl) (Memref.isWhole_whole _).wordExact ⟨Or.inl rfl, trivial⟩)
  Prog.lift (.enqueueDma (hLdm.slice (Rect.unit (s := S1280000) (k0_off4 i 96000#32) S4000.size (k0_off4_inb i 6)) (fun _ => rfl)) (.here lm6) (.dma cc0_scratch37.sem) (View.wordExact_bits rfl) (Memref.isWhole_whole _).wordExact ⟨Or.inl rfl, trivial⟩)
  Prog.lift (.enqueueDma (hLdm.slice (Rect.unit (s := S1280000) (k0_off4 i 112000#32) S4000.size (k0_off4_inb i 7)) (fun _ => rfl)) (.here lm7) (.dma cc0_scratch37.sem) (View.wordExact_bits rfl) (Memref.isWhole_whole _).wordExact ⟨Or.inl rfl, trivial⟩)
  Prog.lift (.enqueueDma (hLdm.slice (Rect.unit (s := S1280000) (k0_off4 i 128000#32) S4000.size (k0_off4_inb i 8)) (fun _ => rfl)) (.here lm8) (.dma cc0_scratch37.sem) (View.wordExact_bits rfl) (Memref.isWhole_whole _).wordExact ⟨Or.inl rfl, trivial⟩)
  Prog.lift (.enqueueDma (hLdm.slice (Rect.unit (s := S1280000) (k0_off4 i 144000#32) S4000.size (k0_off4_inb i 9)) (fun _ => rfl)) (.here lm9) (.dma cc0_scratch37.sem) (View.wordExact_bits rfl) (Memref.isWhole_whole _).wordExact ⟨Or.inl rfl, trivial⟩)
  Prog.lift (.enqueueDma (hBox.slice (Rect.unit (s := S16384) (k0_off5 i) S2048.size (k0_off5_inb i)) (fun _ => rfl)) (.here annb) (.dma cc0_scratch38.sem) (View.wordExact_bits rfl) (Memref.isWhole_whole _).wordExact ⟨Or.inl rfl, trivial⟩)
  Prog.lift (.enqueueDma (hTab.slice (Rect.unit (s := S3584) (k0_off6 i) S448.size (k0_off6_inb i)) (fun _ => rfl)) (.here tab) (.dma cc0_scratch39.sem) (View.wordExact_bits rfl) (Memref.isWhole_whole _).wordExact ⟨Or.inl rfl, trivial⟩)
  Prog.lift (.waitDma2 cc0_scratch37.sem (hAnc.slice (Rect.unit (s := S64000) (k0_off1 i 0#32) S4000.size (k0_off1_inb i 0)) (fun _ => rfl)) ax0 (View.wordExact_bits rfl) (Memref.isWhole_whole _).wordExact)
  Prog.lift (.waitDma2 cc0_scratch37.sem (hAnc.slice (Rect.unit (s := S64000) (k0_off1 i 16000#32) S4000.size (k0_off1_inb i 1)) (fun _ => rfl)) ay0 (View.wordExact_bits rfl) (Memref.isWhole_whole _).wordExact)
  Prog.lift (.waitDma2 cc0_scratch37.sem (hAnc.slice (Rect.unit (s := S64000) (k0_off1 i 32000#32) S4000.size (k0_off1_inb i 2)) (fun _ => rfl)) ax1 (View.wordExact_bits rfl) (Memref.isWhole_whole _).wordExact)
  Prog.lift (.waitDma2 cc0_scratch37.sem (hAnc.slice (Rect.unit (s := S64000) (k0_off1 i 48000#32) S4000.size (k0_off1_inb i 3)) (fun _ => rfl)) ay1 (View.wordExact_bits rfl) (Memref.isWhole_whole _).wordExact)
  Prog.lift (.waitDma2 cc0_scratch37.sem (hCls.slice (Rect.unit (s := S256000) (k0_off2 i 0#32) S4000.size (k0_off2_inb i 0)) (fun _ => rfl)) c0v (View.wordExact_bits rfl) (Memref.isWhole_whole _).wordExact)
  Prog.lift (.waitDma2 cc0_scratch37.sem (hCls.slice (Rect.unit (s := S256000) (k0_off2 i 16000#32) S4000.size (k0_off2_inb i 1)) (fun _ => rfl)) c1v (View.wordExact_bits rfl) (Memref.isWhole_whole _).wordExact)
  Prog.lift (.waitDma2 cc0_scratch37.sem (hReg.slice (Rect.unit (s := S512000) (k0_off3 i 0#32) S4000.size (k0_off3_inb i 0)) (fun _ => rfl)) br0 (View.wordExact_bits rfl) (Memref.isWhole_whole _).wordExact)
  Prog.lift (.waitDma2 cc0_scratch37.sem (hReg.slice (Rect.unit (s := S512000) (k0_off3 i 16000#32) S4000.size (k0_off3_inb i 1)) (fun _ => rfl)) br1 (View.wordExact_bits rfl) (Memref.isWhole_whole _).wordExact)
  Prog.lift (.waitDma2 cc0_scratch37.sem (hReg.slice (Rect.unit (s := S512000) (k0_off3 i 32000#32) S4000.size (k0_off3_inb i 2)) (fun _ => rfl)) br2 (View.wordExact_bits rfl) (Memref.isWhole_whole _).wordExact)
  Prog.lift (.waitDma2 cc0_scratch37.sem (hReg.slice (Rect.unit (s := S512000) (k0_off3 i 48000#32) S4000.size (k0_off3_inb i 3)) (fun _ => rfl)) br3 (View.wordExact_bits rfl) (Memref.isWhole_whole _).wordExact)
  Prog.lift (.waitDma2 cc0_scratch37.sem (hLdm.slice (Rect.unit (s := S1280000) (k0_off4 i 0#32) S4000.size (k0_off4_inb i 0)) (fun _ => rfl)) lm0 (View.wordExact_bits rfl) (Memref.isWhole_whole _).wordExact)
  Prog.lift (.waitDma2 cc0_scratch37.sem (hLdm.slice (Rect.unit (s := S1280000) (k0_off4 i 16000#32) S4000.size (k0_off4_inb i 1)) (fun _ => rfl)) lm1 (View.wordExact_bits rfl) (Memref.isWhole_whole _).wordExact)
  Prog.lift (.waitDma2 cc0_scratch37.sem (hLdm.slice (Rect.unit (s := S1280000) (k0_off4 i 32000#32) S4000.size (k0_off4_inb i 2)) (fun _ => rfl)) lm2 (View.wordExact_bits rfl) (Memref.isWhole_whole _).wordExact)
  Prog.lift (.waitDma2 cc0_scratch37.sem (hLdm.slice (Rect.unit (s := S1280000) (k0_off4 i 48000#32) S4000.size (k0_off4_inb i 3)) (fun _ => rfl)) lm3 (View.wordExact_bits rfl) (Memref.isWhole_whole _).wordExact)
  Prog.lift (.waitDma2 cc0_scratch37.sem (hLdm.slice (Rect.unit (s := S1280000) (k0_off4 i 64000#32) S4000.size (k0_off4_inb i 4)) (fun _ => rfl)) lm4 (View.wordExact_bits rfl) (Memref.isWhole_whole _).wordExact)
  Prog.lift (.waitDma2 cc0_scratch37.sem (hLdm.slice (Rect.unit (s := S1280000) (k0_off4 i 80000#32) S4000.size (k0_off4_inb i 5)) (fun _ => rfl)) lm5 (View.wordExact_bits rfl) (Memref.isWhole_whole _).wordExact)
  Prog.lift (.waitDma2 cc0_scratch37.sem (hLdm.slice (Rect.unit (s := S1280000) (k0_off4 i 96000#32) S4000.size (k0_off4_inb i 6)) (fun _ => rfl)) lm6 (View.wordExact_bits rfl) (Memref.isWhole_whole _).wordExact)
  Prog.lift (.waitDma2 cc0_scratch37.sem (hLdm.slice (Rect.unit (s := S1280000) (k0_off4 i 112000#32) S4000.size (k0_off4_inb i 7)) (fun _ => rfl)) lm7 (View.wordExact_bits rfl) (Memref.isWhole_whole _).wordExact)
  Prog.lift (.waitDma2 cc0_scratch37.sem (hLdm.slice (Rect.unit (s := S1280000) (k0_off4 i 128000#32) S4000.size (k0_off4_inb i 8)) (fun _ => rfl)) lm8 (View.wordExact_bits rfl) (Memref.isWhole_whole _).wordExact)
  Prog.lift (.waitDma2 cc0_scratch37.sem (hLdm.slice (Rect.unit (s := S1280000) (k0_off4 i 144000#32) S4000.size (k0_off4_inb i 9)) (fun _ => rfl)) lm9 (View.wordExact_bits rfl) (Memref.isWhole_whole _).wordExact)
  Prog.lift (.waitDma2 cc0_scratch38.sem (hBox.slice (Rect.unit (s := S16384) (k0_off5 i) S2048.size (k0_off5_inb i)) (fun _ => rfl)) annb (View.wordExact_bits rfl) (Memref.isWhole_whole _).wordExact)
  Prog.lift (.waitDma2 cc0_scratch39.sem (hTab.slice (Rect.unit (s := S3584) (k0_off6 i) S448.size (k0_off6_inb i)) (fun _ => rfl)) tab (View.wordExact_bits rfl) (Memref.isWhole_whole _).wordExact)

/-- The area of one box. -/
def areaStep {i : grid0.Coords} (g : Fin 32) (_ : PUnit) : TP F i PUnit := do
  let bx0 ← ld annb ![16 * g.val] (goff (by omega))
  let by0 ← ld annb ![512 + 16 * g.val] (goff (by omega))
  let bx1 ← ld annb ![1024 + 16 * g.val] (goff (by omega))
  let by1 ← ld annb ![1536 + 16 * g.val] (goff (by omega))
  stf area ![16 * g.val] (goff (by omega)) (mulf (subf bx1 bx0) (subf by1 by0))

/-- The first exchange: the counts and the maxima of a tile put where its group reads them. -/
def exch1 {i : grid0.Coords} (s : Car1 F) : TP F i PUnit := do
  stf stg ![0] inb_S96_S16_0 s.1
  stf stg ![16] inb_S96_S16_16 s.2.1
  stf stg ![32] inb_S96_S16_32 s.2.2.1
  stf stg ![48] inb_S96_S16_48 s.2.2.2
  put (stg.slice (Rect.unit (s := S96) ![0] S64.size inb_S96_S64_0) (fun _ => rfl))
    (sA.slice (Rect.unit (s := S1024) (k0_off9 i) S64.size (k0_off9_inb i)) (fun _ => rfl)) cc0_scoped0
    (View.wordExact_bits rfl) (View.wordExact_bits rfl)
  barr
  get (sA.slice (Rect.unit (s := S1024) (k0_off10 i) S256.size (k0_off10_inb i)) (fun _ => rfl)) rdA cc0_scoped1
    (View.wordExact_bits rfl) (Memref.isWhole_whole _).wordExact

/-- Four groups of sixteen of one tile of the group, added or compared. -/
def gat1 {i : grid0.Coords} (k : Fin 4) (s : Car1 F) : TP F i (Car1 F) := do
  let a ← ld rdA ![64 * k.val] (goff (by omega))
  let b ← ld rdA ![64 * k.val + 16] (goff (by omega))
  let c ← ld rdA ![64 * k.val + 32] (goff (by omega))
  let d ← ld rdA ![64 * k.val + 48] (goff (by omega))
  pure (addf s.1 a, addf s.2.1 b, maximumf s.2.2.1 c, maximumf s.2.2.2 d)

/-- The second exchange: the six sums of a tile put where its group reads them. -/
def exch2 {i : grid0.Coords} (s : Car2 F) : TP F i PUnit := do
  stf stg ![0] inb_S96_S16_0 s.1
  stf stg ![16] inb_S96_S16_16 s.2.1
  stf stg ![32] inb_S96_S16_32 s.2.2.1
  stf stg ![48] inb_S96_S16_48 s.2.2.2.1
  stf stg ![64] inb_S96_S16_64 s.2.2.2.2.1
  stf stg ![80] inb_S96_S16_80 s.2.2.2.2.2
  put (stg.slice (Rect.unit (s := S96) ![0] S96.size inb_S96_S96_0) (fun _ => rfl))
    (sB.slice (Rect.unit (s := S1536) (k0_off13 i) S96.size (k0_off13_inb i)) (fun _ => rfl)) cc0_scoped2
    (View.wordExact_bits rfl) (View.wordExact_bits rfl)
  barr
  get (sB.slice (Rect.unit (s := S1536) (k0_off14 i) S384.size (k0_off14_inb i)) (fun _ => rfl)) rdB cc0_scoped3
    (View.wordExact_bits rfl) (Memref.isWhole_whole _).wordExact

/-- Six groups of sixteen of one tile of the group, added. -/
def gat2 {i : grid0.Coords} (k : Fin 4) (s : Car2 F) : TP F i (Car2 F) := do
  let a ← ld rdB ![96 * k.val] (goff (by omega))
  let b ← ld rdB ![96 * k.val + 16] (goff (by omega))
  let c ← ld rdB ![96 * k.val + 32] (goff (by omega))
  let d ← ld rdB ![96 * k.val + 48] (goff (by omega))
  let e ← ld rdB ![96 * k.val + 64] (goff (by omega))
  let f ← ld rdB ![96 * k.val + 80] (goff (by omega))
  pure (addf s.1 a, addf s.2.1 b, addf s.2.2.1 c, addf s.2.2.2.1 d, addf s.2.2.2.2.1 e, addf s.2.2.2.2.2 f)

/-- Sixteen counters set to zero. -/
def zeroStep {i : grid0.Coords} (g : Fin 16) (_ : PUnit) : TP F i PUnit :=
  stf hist ![16 * g.val] (goff (by omega)) (bf 0x00000000#32)

/-- The counter each lane adds to: its own sixteen, at the digit of its key. -/
def digIdx (sh : BitVec 32) (key : IVec S16 32) : IVec S16 32 :=
  addi (muli (iota .scVector S16 32 [0] iota_S16_d0_w32_scVector) (bi 16#32)) (andi (shrsi key (bi sh)) (bi 15#32))

/-- A trip of a round's counting loop: the keys that agree with the digits found so far counted by their next digit. -/
def cntTrip {i : grid0.Coords} (mk sh : BitVec 32) (p : IVec S16 32) (t : Fin k0_t3_loop.trips) (_ : BitVec 32) :
    TP F i (BitVec 32) := do
  let key ← ld keyv (k0_off15 t) (k0_off15_inb t)
  have hw : k0_chk15 (digIdx sh key) := (← Prog.lift (TpuEff.assume (k0_chk15 (digIdx sh key)) (k0_chk15.dec (digIdx sh key)))).down
  SparseCore.vectorStoreIdx hist ![digIdx sh key] (bf (F := F) 0x3F800000#32) (cmpi .eq (andi key (bi mk)) (andi p (bi mk))) true
    (k0_idx15_inb (digIdx sh key) hw) (View.stores_vmem_bits_univ h_S256 rfl)
  pure 0#32

/-- Sixteen counters of the group's sixty-four added. -/
def gatH {i : grid0.Coords} (k : Fin 64) (s : FVec F S16 .f32) : TP F i (FVec F S16 .f32) := do
  let a ← ld rdH ![16 * k.val] (goff (by omega))
  pure (addf s a)

/-- The number of lanes before the first whose running count reaches `kr`. -/
def digOf (cnts kr : FVec F S16 .f32) : IVec S16 32 :=
  let cum := sitofp (F := F) .f32 (scan .sum (fptosi 32 cnts))
  let seen := scan .sum (select (cmpf .oge cum kr) (bi 1#32) (bi 0#32))
  let z := scan .sum (select (cmpi .eq seen (bi 0#32)) (bi 1#32) (bi 0#32))
  bi (extractAt ![0] (extractStridedSlice S1 ![15] z slices_S16_o15_S1) inpos_S1_p0)

/-- The digits found and how many are still to be counted, after a round. -/
def rndStep (sh : BitVec 32) (cnts : FVec F S16 .f32) (s : IVec S16 32 × FVec F S16 .f32) : IVec S16 32 × FVec F S16 .f32 :=
  (ori s.1 (shli (digOf cnts s.2) (bi sh)),
   subf s.2 (lsum (select (cmpi .slt (iota .scVector S16 32 [0] iota_S16_d0_w32_scVector) (digOf cnts s.2)) cnts (bf 0x00000000#32))))

/-- One round of the selection: the next digit of the wanted key. -/
def round {i : grid0.Coords} (b : Fin 2) (mk sh : BitVec 32) (s1 s2 : DmaSems sig S_) (s : IVec S16 32 × FVec F S16 .f32) :
    TP F i (IVec S16 32 × FVec F S16 .f32) := do
  rep zeroStep 16 0 rfl ⟨⟩
  let _ ← Scf.Loop.for k0_t3_loop k0_t3_ok 0#32 (cntTrip mk sh s.1)
  put hist (sH.slice (Rect.unit (s := S8192) (k0_off16 i (BitVec.ofNat 32 (4 * b.val))) S256.size (k0_off16_inb i b)) (fun _ => rfl)) s1
    (Memref.isWhole_whole _).wordExact (View.wordExact_bits rfl)
  barr
  get (sH.slice (Rect.unit (s := S8192) (k0_off17 i (BitVec.ofNat 32 (4 * b.val))) S1024.size (k0_off17_inb i b)) (fun _ => rfl)) rdH s2
    (View.wordExact_bits rfl) (Memref.isWhole_whole _).wordExact
  let cnts ← rep gatH 64 0 rfl (bf 0x00000000#32)
  pure (rndStep sh cnts s)

/-- A trip of the last loop: the keys below the found one counted, their scores added. -/
def trip3 {i : grid0.Coords} (p : IVec S16 32) (t : Fin k0_t11_loop.trips) (s : FVec F S16 .f32 × FVec F S16 .f32) :
    TP F i (FVec F S16 .f32 × FVec F S16 .f32) := do
  let key ← ld keyv (k0_off25 t) (k0_off25_inb t)
  let c1 ← ld c1v (k0_off25 t) (k0_off25_inb t)
  let lt := cmpi .slt (xori key (bi 2147483648#32)) (xori p (bi 2147483648#32))
  pure (addf s.1 (select lt (bf 0x3F800000#32) (bf 0x00000000#32)),
    addf s.2 (select lt (bitcastToFloat .f32 c1) (bf 0x00000000#32)))

/-- The third exchange: the count and the sum of a tile put where its group reads them. -/
def exch3 {i : grid0.Coords} (s : FVec F S16 .f32 × FVec F S16 .f32) : TP F i PUnit := do
  stf stg ![0] inb_S96_S16_0 s.1
  stf stg ![16] inb_S96_S16_16 s.2
  put (stg.slice (Rect.unit (s := S96) ![0] S32.size inb_S96_S32_0) (fun _ => rfl))
    (sC.slice (Rect.unit (s := S512) (k0_off26 i) S32.size (k0_off26_inb i)) (fun _ => rfl)) cc0_scoped20
    (View.wordExact_bits rfl) (View.wordExact_bits rfl)
  barr
  get (sC.slice (Rect.unit (s := S512) (k0_off27 i) S128.size (k0_off27_inb i)) (fun _ => rfl)) rdC cc0_scoped21
    (View.wordExact_bits rfl) (Memref.isWhole_whole _).wordExact

/-- Two groups of sixteen of one tile of the group, added. -/
def gat3 {i : grid0.Coords} (k : Fin 4) (s : FVec F S16 .f32 × FVec F S16 .f32) : TP F i (FVec F S16 .f32 × FVec F S16 .f32) := do
  let a ← ld rdC ![32 * k.val] (goff (by omega))
  let b ← ld rdC ![32 * k.val + 16] (goff (by omega))
  pure (addf s.1 a, addf s.2 b)

/-- The image's classification loss, from the group's totals. -/
def clsOf (np kr mx0 mx1 se0 se1 spc : FVec F S16 .f32) (p : IVec S16 32) (cl sm : FVec F S16 .f32) : FVec F S16 .f32 :=
  let vs := bitcastToFloat (F := F) .f32 (select (cmpi .slt p (bi 0#32)) (xori p (bi 2147483648#32)) (xori p (constantI S16 32 4294967295#32)))
  let posl := subf (addf mx0 (log se0)) (divf spc (maximumf np (bf 0x3F800000#32)))
  let top := addf sm (mulf vs (subf kr cl))
  let negl := select (cmpf .ogt kr (bf 0x00000000#32))
    (divf (subf (mulf kr (addf mx1 (log se1))) top) (maximumf kr (bf 0x3F800000#32))) (bf 0x00000000#32)
  select (cmpf .ogt np (bf 0x00000000#32)) (addf posl negl) (bf 0x00000000#32)

/-- The image's box loss, from the group's totals. -/
def bbxOf (np bbs : FVec F S16 .f32) : FVec F S16 .f32 :=
  select (cmpf .ogt np (bf 0x00000000#32)) (divf bbs (mulf (maximumf np (bf 0x3F800000#32)) (bf 0x40800000#32))) (bf 0x00000000#32)

/-- The image's landmark loss, from the group's totals. -/
def ldmOf (nlp lds : FVec F S16 .f32) : FVec F S16 .f32 :=
  select (cmpf .ogt nlp (bf 0x00000000#32)) (divf lds (mulf (maximumf nlp (bf 0x3F800000#32)) (bf 0x41200000#32))) (bf 0x00000000#32)

/-- The three losses in the first three lanes. -/
def res3 (c b l : FVec F S16 .f32) : FVec F S16 .f32 :=
  let io := iota .scVector S16 32 [0] iota_S16_d0_w32_scVector
  select (cmpi .eq io (bi 0#32)) c (select (cmpi .eq io (bi 1#32)) b (select (cmpi .eq io (bi 2#32)) l (bf 0x00000000#32)))

/-- The copy of the image's losses out, by the first tile of the group. -/
def outCopy {i : grid0.Coords} : TP F i PUnit :=
  if h : k0_cond1 i = 1#1 then do
    Prog.lift (.enqueueDma outv (.here (hOut.slice (Rect.unit (s := S128) (k0_off28 i) S16.size (k0_off28_inb i h)) (fun _ => rfl)))
      (.dma cc0_scoped22.sem) (Memref.isWhole_whole _).wordExact (View.wordExact_bits rfl) ⟨Or.inl rfl, trivial⟩)
    Prog.lift (.waitDma2 cc0_scoped22.sem outv (hOut.slice (Rect.unit (s := S128) (k0_off28 i) S16.size (k0_off28_inb i h)) (fun _ => rfl))
      (Memref.isWhole_whole _).wordExact (View.wordExact_bits rfl))
  else pure ⟨⟩

/-- The part before the selection: the copies, the areas, the two loops and the two exchanges. What it returns is the first
    loop's totals of the group and the second's. -/
def part1 {i : grid0.Coords} : TP F i (Car1 F × Car2 F) := do
  copies
  rep areaStep 32 0 rfl ⟨⟩
  let s1 ← Scf.Loop.for k0_t1_loop k0_t1_ok (bf 0x00000000#32, bf 0x00000000#32, bf 0xFF61B1E6#32, bf 0xFF61B1E6#32) trip1
  exch1 s1
  let a ← rep gat1 4 0 rfl (bf 0x00000000#32, bf 0x00000000#32, bf 0xFF61B1E6#32, bf 0xFF61B1E6#32)
  let s2 ← Scf.Loop.for k0_t2_loop k0_t2_ok
    (bf 0x00000000#32, bf 0x00000000#32, bf 0x00000000#32, bf 0x00000000#32, bf 0x00000000#32, bf 0x00000000#32)
    (trip2 (lmax a.2.2.1) (lmax a.2.2.2))
  exch2 s2
  let b ← rep gat2 4 0 rfl
    (bf 0x00000000#32, bf 0x00000000#32, bf 0x00000000#32, bf 0x00000000#32, bf 0x00000000#32, bf 0x00000000#32)
  pure (a, b)

/-- How many negatives are taken: no more than three for each positive. -/
def kOf (np nn : FVec F S16 .f32) : FVec F S16 .f32 := minimumf nn (mulf (bf 0x40400000#32) np)

/-- The eight rounds of the selection. -/
def rounds {i : grid0.Coords} (s : IVec S16 32 × FVec F S16 .f32) : TP F i (IVec S16 32 × FVec F S16 .f32) := do
  let s ← round 0 0#32 28#32 cc0_scoped4 cc0_scoped5 s
  let s ← round 1 4026531840#32 24#32 cc0_scoped6 cc0_scoped7 s
  let s ← round 0 4278190080#32 20#32 cc0_scoped8 cc0_scoped9 s
  let s ← round 1 4293918720#32 16#32 cc0_scoped10 cc0_scoped11 s
  let s ← round 0 4294901760#32 12#32 cc0_scoped12 cc0_scoped13 s
  let s ← round 1 4294963200#32 8#32 cc0_scoped14 cc0_scoped15 s
  let s ← round 0 4294967040#32 4#32 cc0_scoped16 cc0_scoped17 s
  let s ← round 1 4294967280#32 0#32 cc0_scoped18 cc0_scoped19 s
  pure s

/-- The part after the selection: the sum over the keys below the found one, the losses, and their copy out. -/
def part3 {i : grid0.Coords} (a : Car1 F) (b : Car2 F) (p : IVec S16 32) : TP F i PUnit := do
  let s ← Scf.Loop.for k0_t11_loop k0_t11_ok (bf 0x00000000#32, bf 0x00000000#32) (trip3 p)
  exch3 s
  let c ← rep gat3 4 0 rfl (bf 0x00000000#32, bf 0x00000000#32)
  stf outv ![0] inb_S16_S16_0
    (res3 (clsOf (lsum a.1) (kOf (lsum a.1) (lsum a.2.1)) (lmax a.2.2.1) (lmax a.2.2.2) (lsum b.1) (lsum b.2.1) (lsum b.2.2.1) p (lsum c.1) (lsum c.2))
      (bbxOf (lsum a.1) (lsum b.2.2.2.1)) (ldmOf (lsum b.2.2.2.2.2) (lsum b.2.2.2.2.1)))
  outCopy

/-- One tile's run. -/
def tile (F : FTy → Type) [FloatOps F] (i : grid0.Coords) : TP F i PUnit := do
  let ab ← part1
  let s ← rounds (bi 0#32, kOf (lsum ab.1.1) (lsum ab.1.2.1))
  part3 ab.1 ab.2 s.1

end Cert.Proof.K

end
-- ==== Proof.K.Spec.lean ====
/- What a tile's buffers hold as the run goes, as functions of what the copies brought in; over any float values. -/
module

public import proofs.«01_k».proof.Proof.K.Prog

@[expose] public section

noncomputable section

namespace Cert.Proof.K

open Cert.KernelIdeal Cert.KernelIdeal.Gen
open Idealize.ShloMosaic Idealize.SL.Sem

/-! ## Rank-one contents -/

section Rank1

variable {α : Type}

/-- The index `k`, taken around the extent. -/
def ixm (n : Nat) [NeZero n] (k : Nat) : (L1 n).Idx := fun a => Fin.cast (by match a with | 0 => rfl) (Fin.ofNat n k)

theorem ixm_val (n : Nat) [NeZero n] (k : Nat) (a : Fin 1) : (ixm n k a).val = k % n := by
  match a with
  | 0 => rfl

theorem ixm_val_of_lt (n : Nat) [NeZero n] {k : Nat} (h : k < n) (a : Fin 1) : (ixm n k a).val = k := by
  rw [ixm_val, Nat.mod_eq_of_lt h]

theorem lt_of_idx {n : Nat} (j : (L1 n).Idx) : (j 0).val < n := (j 0).isLt

theorem idx_ext {n : Nat} {i j : (L1 n).Idx} (h : (i 0).val = (j 0).val) : i = j := by
  funext a
  match a with
  | 0 => exact Fin.ext h

theorem ixm_self (n : Nat) [NeZero n] (j : (L1 n).Idx) : ixm n (j 0).val = j :=
  idx_ext (ixm_val_of_lt n (lt_of_idx j) 0)

/-- Sixteen elements from `k` on. -/
def rdN {n : Nat} [NeZero n] (g : (L1 n).Idx → α) (k : Nat) : S16.Idx → α := fun x => g (ixm n (k + (x 0).val))

/-- The contents with the sixteen elements from `k` on rewritten. -/
def wrN {n : Nat} (g : (L1 n).Idx → α) (k : Nat) (v : S16.Idx → α) : (L1 n).Idx → α :=
  fun j => if k ≤ (j 0).val ∧ (j 0).val < k + 16 then v (ixm 16 ((j 0).val - k)) else g j

/-- Pieces of `m` elements, one after the other. -/
def catN (m n : Nat) [NeZero m] (v : Nat → (L1 m).Idx → α) : (L1 n).Idx → α :=
  fun j => v ((j 0).val / m) (ixm m ((j 0).val % m))

theorem catN_ixm {m n : Nat} [NeZero m] [NeZero n] (v : Nat → (L1 m).Idx → α) {k r : Nat} (hr : r < m) (hn : m * k + r < n) :
    catN m n v (ixm n (m * k + r)) = v k (ixm m r) := by
  unfold catN
  rw [ixm_val_of_lt n hn]
  have hm : 0 < m := Nat.pos_of_ne_zero (NeZero.ne m)
  rw [Nat.mul_add_div hm, Nat.div_eq_of_lt hr, Nat.add_zero, Nat.mul_add_mod, Nat.mod_eq_of_lt hr]

theorem rdN_cat {m n : Nat} [NeZero m] [NeZero n] (v : Nat → (L1 m).Idx → α) {k o : Nat} (ho : o + 16 ≤ m) (hn : m * k + m ≤ n) :
    rdN (catN m n v) (m * k + o) = rdN (v k) o := by
  funext x
  have hx := lt_of_idx (n := 16) x
  unfold rdN
  rw [Nat.add_assoc, catN_ixm v (by omega) (by omega)]

theorem rdN_blk {n : Nat} [NeZero n] (v : Nat → S16.Idx → α) {g : Nat} (hn : 16 * g + 16 ≤ n) :
    rdN (catN 16 n v) (16 * g) = v g := by
  funext x
  have hx := lt_of_idx (n := 16) x
  unfold rdN
  rw [catN_ixm v hx (by omega), ixm_self 16 x]

/-- Two contents agree below `k`. -/
def Agr {n : Nat} (f h : (L1 n).Idx → α) (k : Nat) : Prop := ∀ j : (L1 n).Idx, (j 0).val < k → f j = h j

theorem Agr.zero {n : Nat} (f h : (L1 n).Idx → α) : Agr f h 0 := fun _ hj => absurd hj (Nat.not_lt_zero _)

theorem Agr.eq {n k : Nat} {f h : (L1 n).Idx → α} (H : Agr f h k) (hk : n ≤ k) : f = h :=
  funext fun j => H j (lt_of_lt_of_le (lt_of_idx j) hk)

theorem Agr.wr {n : Nat} {f : (L1 n).Idx → α} {v : Nat → S16.Idx → α} {g : Nat} (H : Agr f (catN 16 n v) (16 * g)) :
    Agr (wrN f (16 * g) (v g)) (catN 16 n v) (16 * (g + 1)) := by
  intro j hj
  unfold wrN
  split
  · next h =>
    unfold catN
    rw [show (j 0).val / 16 = g by omega, show (j 0).val % 16 = (j 0).val - 16 * g by omega]
  · next h => exact H j (by omega)

end Rank1

/-- `f` taken `k` times, with the step's number. -/
def iter {σ : Type} (f : Nat → σ → σ) (s : σ) : Nat → σ
  | 0 => s
  | k + 1 => f k (iter f s k)

variable {F : FTy → Type} [FloatOps F]

/-- What the copies bring a tile. -/
structure TileIn (F : FTy → Type) where
  x0 : Vec F S4000 .f32
  y0 : Vec F S4000 .f32
  x1 : Vec F S4000 .f32
  y1 : Vec F S4000 .f32
  c0 : Vec F S4000 .i32
  c1 : Vec F S4000 .i32
  b0 : Vec F S4000 .f32
  b1 : Vec F S4000 .f32
  b2 : Vec F S4000 .f32
  b3 : Vec F S4000 .f32
  l0 : Vec F S4000 .f32
  l1 : Vec F S4000 .f32
  l2 : Vec F S4000 .f32
  l3 : Vec F S4000 .f32
  l4 : Vec F S4000 .f32
  l5 : Vec F S4000 .f32
  l6 : Vec F S4000 .f32
  l7 : Vec F S4000 .f32
  l8 : Vec F S4000 .f32
  l9 : Vec F S4000 .f32
  box : Vec F S2048 .f32
  tb : Vec F S448 .f32

namespace TileIn

variable (A : TileIn F)

/-- The area of the box `g`, in all lanes. -/
def areaOf (g : Nat) : FVec F S16 .f32 :=
  mulf (subf (rdN A.box (1024 + 16 * g)) (rdN A.box (16 * g))) (subf (rdN A.box (1536 + 16 * g)) (rdN A.box (512 + 16 * g)))

def AREA : Vec F S512 .f32 := catN 16 512 A.areaOf

/-- The search of the best box for the sixteen anchors from `o` on, after `k` boxes. -/
def best (o : Nat) (k : Nat) : Best F :=
  iter (fun g s => better g (rdN A.x0 o) (rdN A.y0 o) (rdN A.x1 o) (rdN A.y1 o)
      (mulf (subf (rdN A.x1 o) (rdN A.x0 o)) (subf (rdN A.y1 o) (rdN A.y0 o)))
      (rdN A.box (16 * g)) (rdN A.box (512 + 16 * g)) (rdN A.box (1024 + 16 * g)) (rdN A.box (1536 + 16 * g)) (A.areaOf g) s)
    (bf 0x00000000#32, bf 0x3F800000#32, bi 0#32) k

def iouOf (g : Nat) : FVec F S16 .f32 := divf (A.best (16 * g) 32).1 (A.best (16 * g) 32).2.1
def argOf (g : Nat) : IVec S16 32 := (A.best (16 * g) 32).2.2
def kyOf (g : Nat) : IVec S16 32 := keyOf (A.iouOf g) (rdN A.c1 (16 * g))

def IOU : Vec F S4000 .f32 := catN 16 4000 A.iouOf
def ARG : Vec F S4000 .i32 := catN (α := BitVec 32) 16 4000 A.argOf
def KEY : Vec F S4000 .i32 := catN (α := BitVec 32) 16 4000 A.kyOf

/-- What the first loop starts from. -/
def zero1 : Car1 F := (bf 0x00000000#32, bf 0x00000000#32, bf 0xFF61B1E6#32, bf 0xFF61B1E6#32)

/-- What the first loop carries after `k` groups of sixteen. -/
def car1 (k : Nat) : Car1 F := iter (fun g s => car1Step (A.iouOf g) (rdN A.c0 (16 * g)) (rdN A.c1 (16 * g)) s) zero1 k

/-- A label's column `f` for the sixteen anchors of the group `g`. -/
def lab (g f : Nat) : FVec F S16 .f32 := fun x => A.tb (ixm 448 ((A.argOf g x).toNat + 32 * f))

/-- What the second loop starts from. -/
def zero2 : Car2 F :=
  (bf 0x00000000#32, bf 0x00000000#32, bf 0x00000000#32, bf 0x00000000#32, bf 0x00000000#32, bf 0x00000000#32)

/-- What the second loop carries after `k` groups of sixteen. -/
def car2 (m0 m1 : FVec F S16 .f32) (k : Nat) : Car2 F :=
  iter (fun g s => car2Step m0 m1 (A.iouOf g) (rdN A.x0 (16 * g)) (rdN A.y0 (16 * g)) (rdN A.x1 (16 * g)) (rdN A.y1 (16 * g))
    (A.lab g 0) (A.lab g 1) (A.lab g 2) (A.lab g 3) (A.lab g 4) (A.lab g 5) (A.lab g 6) (A.lab g 7) (A.lab g 8) (A.lab g 9)
    (A.lab g 10) (A.lab g 11) (A.lab g 12) (A.lab g 13)
    (rdN A.b0 (16 * g)) (rdN A.b1 (16 * g)) (rdN A.b2 (16 * g)) (rdN A.b3 (16 * g))
    (rdN A.l0 (16 * g)) (rdN A.l1 (16 * g)) (rdN A.l2 (16 * g)) (rdN A.l3 (16 * g)) (rdN A.l4 (16 * g)) (rdN A.l5 (16 * g))
    (rdN A.l6 (16 * g)) (rdN A.l7 (16 * g)) (rdN A.l8 (16 * g)) (rdN A.l9 (16 * g))
    (rdN A.c0 (16 * g)) (rdN A.c1 (16 * g)) s) zero2 k

theorem digIdx_lt (sh : BitVec 32) (key : IVec S16 32) : k0_chk15 (digIdx sh key) := by
  intro a x
  match a with
  | 0 =>
    have hx := lt_of_idx (n := 16) x
    have hi : iota .scVector S16 32 [0] iota_S16_d0_w32_scVector x = BitVec.ofNat 32 (x 0).val := by
      simp [iota]
    show (iota .scVector S16 32 [0] iota_S16_d0_w32_scVector x * 16#32 + (shrsi key (bi sh) x &&& 15#32)).toNat < 256
    rw [hi]
    have h15 : (shrsi key (bi sh) x &&& 15#32).toNat ≤ 15 := by
      rw [BitVec.toNat_and]; exact Nat.and_le_right
    rw [BitVec.toNat_add, BitVec.toNat_mul, BitVec.toNat_ofNat]
    show ((x 0).val % 2 ^ 32 * 16 % 2 ^ 32 + _) % 2 ^ 32 < 256
    omega

/-- The counters after `k` groups of sixteen keys. -/
def hist (mk sh : BitVec 32) (p : IVec S16 32) (k : Nat) : Vec F S256 .f32 :=
  iter (fun g h => storeIdx (F := F) (s := S256) (e := .f32) h ![digIdx sh (A.kyOf g)] (bf (F := F) 0x3F800000#32)
      (cmpi .eq (andi (A.kyOf g) (bi mk)) (andi p (bi mk))) true (k0_idx15_inb (digIdx sh (A.kyOf g)) (digIdx_lt sh _)))
    (fun _ => Scalar.ofBits (F := F) .f32 0x00000000#32) k

/-- What the last loop carries after `k` groups of sixteen keys. -/
def car3 (p : IVec S16 32) (k : Nat) : FVec F S16 .f32 × FVec F S16 .f32 :=
  iter (fun g s =>
    (addf s.1 (select (cmpi .slt (xori (A.kyOf g) (bi 2147483648#32)) (xori p (bi 2147483648#32))) (bf 0x3F800000#32) (bf 0x00000000#32)),
     addf s.2 (select (cmpi .slt (xori (A.kyOf g) (bi 2147483648#32)) (xori p (bi 2147483648#32)))
       (bitcastToFloat .f32 (rdN A.c1 (16 * g))) (bf 0x00000000#32)))) (bf 0x00000000#32, bf 0x00000000#32) k

end TileIn

/-! ## A SparseCore's sixteen tiles: what they exchange -/

/-- Four vectors, one after the other; six; two. -/
def stgA (s : Car1 F) : (L1 64).Idx → F .f32 :=
  catN 16 64 fun g => match g with | 0 => s.1 | 1 => s.2.1 | 2 => s.2.2.1 | _ => s.2.2.2
def stgB (s : Car2 F) : (L1 96).Idx → F .f32 :=
  catN 16 96 fun g => match g with | 0 => s.1 | 1 => s.2.1 | 2 => s.2.2.1 | 3 => s.2.2.2.1 | 4 => s.2.2.2.2.1 | _ => s.2.2.2.2.2
def stgC (s : FVec F S16 .f32 × FVec F S16 .f32) : (L1 32).Idx → F .f32 :=
  catN 16 32 fun g => match g with | 0 => s.1 | _ => s.2

variable (A : Nat → TileIn F)

/-- The group's totals of the first loop, after `k` of its four tiles; `q` is the group. -/
def tot1 (q k : Nat) : Car1 F :=
  iter (fun r s => (addf s.1 ((A (4 * q + r)).car1 250).1, addf s.2.1 ((A (4 * q + r)).car1 250).2.1,
    maximumf s.2.2.1 ((A (4 * q + r)).car1 250).2.2.1, maximumf s.2.2.2 ((A (4 * q + r)).car1 250).2.2.2)) TileIn.zero1 k

/-- What a tile of the group carries out of the second loop. -/
def out2 (t : Nat) : Car2 F :=
  (A t).car2 (lmax (tot1 A (t / 4) 4).2.2.1) (lmax (tot1 A (t / 4) 4).2.2.2) 250

/-- The group's totals of the second loop. -/
def tot2 (q k : Nat) : Car2 F :=
  iter (fun r s => (addf s.1 (out2 A (4 * q + r)).1, addf s.2.1 (out2 A (4 * q + r)).2.1, addf s.2.2.1 (out2 A (4 * q + r)).2.2.1,
    addf s.2.2.2.1 (out2 A (4 * q + r)).2.2.2.1, addf s.2.2.2.2.1 (out2 A (4 * q + r)).2.2.2.2.1,
    addf s.2.2.2.2.2 (out2 A (4 * q + r)).2.2.2.2.2)) TileIn.zero2 k

/-- How many negatives the group takes. -/
def kSel (q : Nat) : FVec F S16 .f32 := kOf (lsum (tot1 A q 4).1) (lsum (tot1 A q 4).2.1)

/-- The bits fixed before round `r`, and the round's shift. -/
def mkN (r : Nat) : BitVec 32 :=
  match r with
  | 0 => 0#32 | 1 => 4026531840#32 | 2 => 4278190080#32 | 3 => 4293918720#32
  | 4 => 4294901760#32 | 5 => 4294963200#32 | 6 => 4294967040#32 | _ => 4294967280#32
def shN (r : Nat) : BitVec 32 :=
  match r with
  | 0 => 28#32 | 1 => 24#32 | 2 => 20#32 | 3 => 16#32 | 4 => 12#32 | 5 => 8#32 | 6 => 4#32 | _ => 0#32

/-- A tile's counters in the round `r`, the group having found `p`. -/
def histN (r : Nat) (p : IVec S16 32) (t : Nat) : Vec F S256 .f32 := (A t).hist (mkN r) (shN r) p 250

/-- The group's counters of the round. -/
def grpH (r : Nat) (p : IVec S16 32) (q : Nat) : (L1 1024).Idx → F .f32 := catN 256 1024 fun k => histN A r p (4 * q + k)

/-- What the group has found before round `r`, and how many are still to be counted. -/
def rnd (q : Nat) (r : Nat) : IVec S16 32 × FVec F S16 .f32 :=
  iter (fun r s => rndStep (shN r) (iter (fun k c => addf c (rdN (grpH A r s.1 q) (16 * k))) (bf 0x00000000#32) 64) s)
    (bi 0#32, kSel A q) r

/-- What a tile carries out of the last loop. -/
def out3 (t : Nat) : FVec F S16 .f32 × FVec F S16 .f32 := (A t).car3 (rnd A (t / 4) 8).1 250

/-- The group's totals of the last loop. -/
def tot3 (q k : Nat) : FVec F S16 .f32 × FVec F S16 .f32 :=
  iter (fun r s => (addf s.1 (out3 A (4 * q + r)).1, addf s.2 (out3 A (4 * q + r)).2)) (bf 0x00000000#32, bf 0x00000000#32) k

/-- The image's three losses. -/
def loss (q : Nat) : FVec F S16 .f32 :=
  res3 (clsOf (lsum (tot1 A q 4).1) (kSel A q) (lmax (tot1 A q 4).2.2.1) (lmax (tot1 A q 4).2.2.2) (lsum (tot2 A q 4).1)
      (lsum (tot2 A q 4).2.1) (lsum (tot2 A q 4).2.2.1) (rnd A q 8).1 (lsum (tot3 A q 4).1) (lsum (tot3 A q 4).2))
    (bbxOf (lsum (tot1 A q 4).1) (lsum (tot2 A q 4).2.2.2.1)) (ldmOf (lsum (tot2 A q 4).2.2.2.2.2) (lsum (tot2 A q 4).2.2.2.2.1))

/-- What the four shared buffers hold: each tile's piece after the other. -/
def GA : (L1 1024).Idx → F .f32 := catN 64 1024 fun t => stgA ((A t).car1 250)
def GB : (L1 1536).Idx → F .f32 := catN 96 1536 fun t => stgB (out2 A t)
/-- The two halves in the round `r`, the one it does not use the same as the one it does. -/
def GH (r : Nat) : (L1 8192).Idx → F .f32 := catN 256 8192 fun t => histN A r (rnd A (t % 16 / 4) r).1 (t % 16)
def GC : (L1 512).Idx → F .f32 := catN 32 512 fun t => stgC (out3 A t)

end Cert.Proof.K

end
-- ==== Proof.K.Base.lean ====
/- The setting of a tile's run: the resources the proof names, and the steps the pieces of the run are made of. -/
module

public import proofs.«01_k».proof.Proof.K.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it, and the resources -/

abbrev ΛP : Labels := Pipeline.Sig Λ₀ (Fin 0) fun p => (pcfgs (F := F) p).Adm
abbrev Cf : SparseCore.Cfg τ sig (ΛP (F := F)) 1 := sc (F := F)
abbrev 𝒱₀ : Variants := Variants.none
abbrev 𝒱 : Variants := 𝒱₀.lift
abbrev v₀ : 𝒱.V := Sum.inl none

/-- The one call owns eleven stages, one for each time its tiles meet. -/
@[reducible] def stages : SparseCore.Cfg.Blocks 1 11 where
  first := fun _ => 0
  last := fun _ => 10
  fst := fun k => if k = 0 then 0 else 11
  blk := fun _ ι => ∃ j, ι = some j
  first_le_last := fun _ => Fin.zero_le _
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; decide
  blk_iff := fun _ ι => ⟨fun ⟨j, h⟩ => ⟨j, Fin.zero_le _, Fin.le_last _, h⟩, fun ⟨j, _, _, h⟩ => ⟨j, h⟩⟩

/-- The handshakes' rounds, the barrier's rounds, the copies' counters. -/
abbrev UH : Type := URounds (GSem nD τ sig) ℕ
abbrev UB : Type := URounds (GSem nD τ sig) ℕ
abbrev UU : Type := UH × (UB × Counters)

local notation "𝕄" => MT nD τ sig (HIx 11) (Elt F) ℕ UU ℕ

abbrev EH : Emb UH (MT nD τ sig (HIx 11) (Elt F) ℕ UU ℕ) := embL
/-- Where the barrier's rounds lie. -/
def EB : Emb UB (MT nD τ sig (HIx 11) (Elt F) ℕ UU ℕ) :=
  ((Emb.inl : Emb UB (UB × Counters)).trans (Emb.inr : Emb (UB × Counters) UU)).trans
    (uEmb (nD := nD) (sig := sig) (Ix := HIx 11) (Val := Elt F) (Name := ℕ) (U := UU) (Lvl := ℕ)).toEmb
instance EB_landsIn : (EB : Emb UB 𝕄).LandsIn (upEmb : UEmb _ 𝕄) := by unfold EB; infer_instance

abbrev cV (i : grid0.Coords) : Fin τ.nSC := (i 0).castLE hcore0
abbrev jV (i : grid0.Coords) : Fin τ.nSub := (i 1).castLE hsub0
/-- The tile at the grid point `i`. -/
abbrev thr (d : Dev nD) (i : grid0.Coords) : Thread nD τ := V d (cV i) (jV i)

variable [FloatOps F]

/-- A tile's program runs and ends at `Q`. -/
abbrev WP (d : Dev nD) (i : grid0.Coords) {α : Type} (p : TP F i α) (Q : α → sProp 𝕄) : sProp 𝕄 :=
  wp frame (wpE (defs₀ (F := F)) 𝒱₀ (V d (cV i) (jV i)) none) Set.univ p Q

/-- A tile's memref holds the contents `g`. -/
def At (d : Dev nD) (i : grid0.Coords) {sp : Space} {s : Shape} {e : EltTy} (m : Memref sig .scVector sp s e) (g : s.Idx → Elt F e) :
    sProp 𝕄 :=
  iprop(∃ f : Buf (Elt F) (m.view.loc (thr d i)), ⌜m.view.read (Elt F) f = g⌝ ∗ (m.view.loc (thr d i) ↦[m.view.set]{fullShare} f))

section Steps

variable (d : Dev nD) (i : grid0.Coords)

theorem at_intro {sp : Space} {s : Shape} {e : EltTy} (m : Memref sig .scVector sp s e) (f : Buf (Elt F) (m.view.loc (thr d i))) :
    (m.view.loc (thr d i) ↦[m.view.set]{fullShare} f : sProp 𝕄) ⊢ At d i m (m.view.read (Elt F) f) := by
  unfold At
  iintro H
  iexists f; isplitr; · ipureintro; rfl
  iexact H

/-- The element a rank-one unit rectangle names. -/
theorem unit_emb {n : Nat} [NeZero n] (o : Fin 1 → Nat) (h : ∀ a, o a + S16.size a ≤ (L1 n).size a) {k : Nat} (ho : o = ![k])
    (x : S16.Idx) : (Rect.unit (s := L1 n) o S16.size h).emb x = ixm n (k + (x 0).val) := by
  subst ho
  have hx := lt_of_idx (n := 16) x
  have hk : k + 16 ≤ n := h 0
  refine idx_ext ?_
  rw [ixm_val_of_lt n (by omega)]
  rw [Rect.emb_apply]
  show k + 1 * (x 0).val = _
  omega

/-- Sixteen elements read. -/
theorem wp_ld {n : Nat} [NeZero n] {e : EltTy} {m : Memref sig .scVector .vmem (L1 n) e} {g : (L1 n).Idx → Elt F e} {o : Fin 1 → Nat}
    {h : ∀ a, o a + S16.size a ≤ (L1 n).size a} (k : Nat) (ho : o = ![k]) {α : Type} {K : Vec F S16 e → TP F i α} {Q : α → sProp 𝕄} :
    At d i m g ⊢ iprop((At d i m g -∗ WP d i (K (rdN g k)) Q) -∗ WP d i (ld m o h >>= K) Q) := by
  unfold At
  iintro ⟨%f, %hf, H⟩ Hk
  iapply (wp_load_rect (defs := defs₀ (F := F)) 𝒱₀ none Set.univ (c := V d (cV i) (jV i)) (m := m)
    (r := Rect.unit (s := L1 n) o S16.size h) (View.set_slice_subset m.view (Rect.unit (s := L1 n) o S16.size h))) $$ H
  iintro H
  have hr : (m.access (Rect.unit (s := L1 n) o S16.size h)).read (Elt F) f = rdN g k := by
    funext x
    show m.view.read (Elt F) f ((Rect.unit (s := L1 n) o S16.size h).emb x) = _
    rw [unit_emb o h ho, hf]; rfl
  rw [hr]
  iapply Hk
  iexists f; isplitr; · ipureintro; exact hf
  iexact H

/-- What a store through a rectangle leaves, read whole. -/
theorem read_store {n : Nat} [NeZero n] {e : EltTy} (m : Memref sig .scVector .vmem (L1 n) e)
    (f : m.view.ty.Contents (Elt F)) (v : S16.Idx → Elt F e) (o : Fin 1 → Nat)
    (h : ∀ a, o a + S16.size a ≤ (L1 n).size a) (k : Nat) (ho : o = ![k]) :
    m.view.read (Elt F) ((m.access (Rect.unit (s := L1 n) o S16.size h)).write (Elt F) f v Finset.univ)
      = wrN (m.view.read (Elt F) f) k v := by
  subst ho
  have hk : k + 16 ≤ n := h 0
  funext j
  unfold wrN
  split
  · next hj =>
    have hx : j = (Rect.unit (s := L1 n) ![k] S16.size h).emb (ixm 16 ((j 0).val - k)) := by
      rw [unit_emb _ h rfl]
      refine idx_ext ?_
      rw [ixm_val_of_lt 16 (by omega), ixm_val_of_lt n (by omega)]
      omega
    conv_lhs => rw [hx]
    rw [View.read_apply, show m.view.emb ((Rect.unit (s := L1 n) ![k] S16.size h).emb (ixm 16 ((j 0).val - k)))
        = (m.access (Rect.unit (s := L1 n) ![k] S16.size h)).emb (ixm 16 ((j 0).val - k)) from rfl,
      View.write_emb_of_mem _ _ (Finset.mem_univ _), cast_cast, cast_eq]
  · next hj =>
    show _root_.cast _ ((m.access (Rect.unit (s := L1 n) ![k] S16.size h)).write (Elt F) f v Finset.univ (m.view.emb j)) = _
    rw [View.write_of_not_mem]
    · rfl
    · rw [show (m.access (Rect.unit (s := L1 n) ![k] S16.size h)).setOn Finset.univ = (m.view.slice (Rect.unit (s := L1 n) ![k] S16.size h)).set from rfl,
        View.set_slice]
      intro hmem
      obtain ⟨y, hy, hye⟩ := Finset.mem_map.mp hmem
      obtain rfl := m.view.emb.injective hye
      rw [Rect.mem_set_unit] at hy
      have := hy 0
      exact hj ⟨this.1, this.2⟩

/-- Sixteen floats stored. -/
theorem wp_stf {n : Nat} [NeZero n] {m : Memref sig .scVector .vmem (L1 n) .f32} {g : (L1 n).Idx → Elt F .f32} {o : Fin 1 → Nat}
    {h : ∀ a, o a + S16.size a ≤ (L1 n).size a} (k : Nat) (ho : o = ![k]) {v : Vec F S16 .f32} {α : Type} {K : PUnit → TP F i α}
    {Q : α → sProp 𝕄} :
    At d i m g ⊢ iprop((At d i m (wrN g k v) -∗ WP d i (K ⟨⟩) Q) -∗ WP d i (stf m o h v >>= K) Q) := by
  rw [show (stf (F := F) (i := i) m o h v >>= K) = (ld m o h >>= fun _ =>
    Prog.lift (.store m (Rect.unit (s := L1 n) o S16.size h) v Finset.univ (View.stores_vmem_bits_univ h_S16 rfl) (.inl rfl)) >>= K) from rfl]
  iintro H Hk
  iapply (wp_ld d i k ho) $$ H
  unfold At
  iintro ⟨%f, %hf, H⟩
  iapply (wp_store (defs := defs₀ (F := F)) 𝒱₀ none Set.univ (c := V d (cV i) (jV i)) (m := m)
    (r := Rect.unit (s := L1 n) o S16.size h) (View.set_slice_subset m.view (Rect.unit (s := L1 n) o S16.size h))) $$ H
  iintro H
  iapply Hk
  iexists _; isplitr; swap; · iexact H
  ipureintro
  rw [read_store m f v o h k ho, hf]

/-- Sixteen integers stored. -/
theorem wp_sti {n : Nat} [NeZero n] {m : Memref sig .scVector .vmem (L1 n) .i32} {g : (L1 n).Idx → Elt F .i32} {o : Fin 1 → Nat}
    {h : ∀ a, o a + S16.size a ≤ (L1 n).size a} (k : Nat) (ho : o = ![k]) {v : Vec F S16 .i32} {α : Type} {K : PUnit → TP F i α}
    {Q : α → sProp 𝕄} :
    At d i m g ⊢ iprop((At d i m (wrN g k v) -∗ WP d i (K ⟨⟩) Q) -∗ WP d i (sti m o h v >>= K) Q) := by
  rw [show (sti (F := F) (i := i) m o h v >>= K) = (ld m o h >>= fun _ =>
    Prog.lift (.store m (Rect.unit (s := L1 n) o S16.size h) v Finset.univ (View.stores_vmem_bits_univ h_S16 rfl) (.inl rfl)) >>= K) from rfl]
  iintro H Hk
  iapply (wp_ld d i k ho) $$ H
  unfold At
  iintro ⟨%f, %hf, H⟩
  iapply (wp_store (defs := defs₀ (F := F)) 𝒱₀ none Set.univ (c := V d (cV i) (jV i)) (m := m)
    (r := Rect.unit (s := L1 n) o S16.size h) (View.set_slice_subset m.view (Rect.unit (s := L1 n) o S16.size h))) $$ H
  iintro H
  iapply Hk
  iexists _; isplitr; swap; · iexact H
  ipureintro
  rw [read_store m f v o h k ho, hf]

/-- Steps one after the other. -/
theorem wp_rep {N : Nat} {σ : Type} (f : Fin N → σ → TP F i σ) (I : Nat → σ → sProp 𝕄)
    (hs : ∀ (k : Fin N) (s : σ), I k.val s ⊢ WP d i (f k s) (I (k.val + 1))) :
    ∀ (n k : Nat) (h : k + n = N) (s : σ), I k s ⊢ WP d i (rep f n k h s) (I N)
  | 0, k, h, s => by
    obtain rfl : k = N := by omega
    show _ ⊢ WP d i (pure s) _
    unfold WP
    rw [wp_pure]
    iintro H; imodintro; iexact H
  | n + 1, k, h, s => by
    show _ ⊢ WP d i (f ⟨k, by omega⟩ s >>= rep f n (k + 1) (by omega)) _
    unfold WP
    rw [wp_bind]
    refine (hs ⟨k, by omega⟩ s).trans ?_
    exact wp_mono _ _ _ fun s' => wp_rep f I hs n (k + 1) (by omega) s'

end Steps

end Cert.Proof.K

end
-- ==== Proof.K.Wp.lean ====
/- The pieces of a tile's run that touch its own buffers only: the areas, the trips of the loops, the sums of what the group put. -/
module

public import proofs.«01_k».proof.Proof.K.Base

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 11) (Elt F) ℕ UU ℕ

section

variable (d : Dev nD) (i : grid0.Coords)

/-- The end of a program. -/
theorem wp_done {α : Type} {a : α} {Q : α → sProp 𝕄} : Q a ⊢ WP d i (pure a) Q := by
  unfold WP; rw [wp_pure]
  iintro H; imodintro; iexact H

/-- A step of a sequence at the head of a program. -/
theorem wp_rep_bind {N : Nat} {σ β : Type} (f : Fin N → σ → TP F i σ) (I : Nat → σ → sProp 𝕄)
    (hs : ∀ (k : Fin N) (s : σ), I k.val s ⊢ WP d i (f k s) (I (k.val + 1))) (s : σ) (h : 0 + N = N) {K : σ → TP F i β}
    {Q : β → sProp 𝕄} : I 0 s ⊢ iprop((∀ s', I N s' -∗ WP d i (K s') Q) -∗ WP d i (rep f N 0 h s >>= K) Q) := by
  unfold WP
  rw [wp_bind]
  exact (wp_rep d i f I hs N 0 h s).trans (wp_wand _ _ _)

/-- A loop at the head of a program. -/
theorem wp_loop_bind {σ β : Type} (L : Scf.Loop 32) (hL : L.OK) (init : σ) (body : Fin L.trips → σ → TP F i σ) (I : Nat → σ → sProp 𝕄)
    (hs : ∀ (k : Fin L.trips) (s : σ), I k.val s ⊢ WP d i (body k s) (I (k.val + 1))) {K : σ → TP F i β}
    {Q : β → sProp 𝕄} : I 0 init ⊢ iprop((∀ s', I L.trips s' -∗ WP d i (K s') Q) -∗ WP d i (Scf.Loop.for L hL init body >>= K) Q) :=
  Scf.wp_for_bind _ _ _ _ _ _ _ _ _ I hs

/-- A piece proved by its end, at the head of a program. -/
theorem wp_cut {α β : Type} {p : TP F i α} {K : α → TP F i β} {P : sProp 𝕄} {R : α → sProp 𝕄} {Q : β → sProp 𝕄} (h : P ⊢ WP d i p R) :
    P ⊢ iprop((∀ a, R a -∗ WP d i (K a) Q) -∗ WP d i (p >>= K) Q) := by
  unfold WP
  rw [wp_bind]
  exact h.trans (wp_wand _ _ _)

end

variable (d : Dev nD) (i : grid0.Coords) (A : TileIn F)

/-! ## The areas -/

theorem area_step (g : Fin 32) (u : PUnit) :
    iprop(At d i annb A.box ∗ ∃ f, ⌜Agr f A.AREA (16 * g.val)⌝ ∗ At d i area f)
      ⊢ WP d i (areaStep g u) (fun _ => iprop(At d i annb A.box ∗ ∃ f, ⌜Agr f A.AREA (16 * (g.val + 1))⌝ ∗ At d i area f)) := by
  iintro ⟨Hb, %f, %hf, Ha⟩
  unfold areaStep
  iapply (wp_ld d i (16 * g.val) rfl) $$ Hb
  iintro Hb
  iapply (wp_ld d i (512 + 16 * g.val) rfl) $$ Hb
  iintro Hb
  iapply (wp_ld d i (1024 + 16 * g.val) rfl) $$ Hb
  iintro Hb
  iapply (wp_ld d i (1536 + 16 * g.val) rfl) $$ Hb
  iintro Hb
  rw [← bind_pure (stf area _ _ _)]
  iapply (wp_stf d i (16 * g.val) rfl) $$ Ha
  iintro Ha
  iapply (wp_done d i)
  isplitl [Hb]; · iexact Hb
  iexists _; isplitr; swap; · iexact Ha
  ipureintro
  exact Agr.wr (v := A.areaOf) hf

/-! ## The first loop -/

/-- What the search of the best box reads. -/
theorem box_step (o : Nat) (g : Fin 32) (s : Best F) :
    iprop(⌜s = A.best o g.val⌝ ∗ At d i annb A.box ∗ At d i area A.AREA)
      ⊢ WP d i (boxStep (rdN A.x0 o) (rdN A.y0 o) (rdN A.x1 o) (rdN A.y1 o)
          (mulf (subf (rdN A.x1 o) (rdN A.x0 o)) (subf (rdN A.y1 o) (rdN A.y0 o))) g s)
        (fun s => iprop(⌜s = A.best o (g.val + 1)⌝ ∗ At d i annb A.box ∗ At d i area A.AREA)) := by
  iintro ⟨%hs, Hb, Ha⟩
  unfold boxStep
  iapply (wp_ld d i (16 * g.val) rfl) $$ Hb
  iintro Hb
  iapply (wp_ld d i (512 + 16 * g.val) rfl) $$ Hb
  iintro Hb
  iapply (wp_ld d i (1024 + 16 * g.val) rfl) $$ Hb
  iintro Hb
  iapply (wp_ld d i (1536 + 16 * g.val) rfl) $$ Hb
  iintro Hb
  iapply (wp_ld d i (16 * g.val) rfl) $$ Ha
  iintro Ha
  iapply (wp_done d i)
  isplitr
  · ipureintro
    subst hs
    rw [show rdN A.AREA (16 * g.val) = A.areaOf g.val from rdN_blk _ (by omega)]
    rfl
  isplitl [Hb] <;> iassumption

/-- What the first loop reads. -/
def In1 : sProp 𝕄 :=
  iprop(At d i ax0 A.x0 ∗ At d i ay0 A.y0 ∗ At d i ax1 A.x1 ∗ At d i ay1 A.y1 ∗ At d i c0v A.c0 ∗ At d i c1v A.c1
    ∗ At d i annb A.box ∗ At d i area A.AREA)

/-- What the first loop has written, up to the group `g`. -/
def Out1 (g : Nat) : sProp 𝕄 :=
  iprop((∃ f, ⌜Agr f A.IOU (16 * g)⌝ ∗ At d i iouv f) ∗ (∃ f, ⌜Agr f A.ARG (16 * g)⌝ ∗ At d i argv f)
    ∗ (∃ f, ⌜Agr f A.KEY (16 * g)⌝ ∗ At d i keyv f))

theorem half1_step (g : Nat) (o : Fin 1 → Nat) (h : ∀ a, o a + S16.size a ≤ S4000.size a) (ho : o = ![16 * g]) (s : Car1 F) :
    iprop(⌜s = A.car1 g⌝ ∗ In1 d i A ∗ Out1 d i A g)
      ⊢ WP d i (half1 o h s) (fun s => iprop(⌜s = A.car1 (g + 1)⌝ ∗ In1 d i A ∗ Out1 d i A (g + 1))) := by
  unfold In1 Out1
  iintro ⟨%hs, ⟨Hx0, Hy0, Hx1, Hy1, Hc0, Hc1, Hb, Ha⟩, ⟨%fi, %hfi, Hi⟩, ⟨%fa, %hfa, Hg⟩, ⟨%fk, %hfk, Hk⟩⟩
  unfold half1
  iapply (wp_ld d i (16 * g) ho) $$ Hx0
  iintro Hx0
  iapply (wp_ld d i (16 * g) ho) $$ Hy0
  iintro Hy0
  iapply (wp_ld d i (16 * g) ho) $$ Hx1
  iintro Hx1
  iapply (wp_ld d i (16 * g) ho) $$ Hy1
  iintro Hy1
  iapply (wp_rep_bind d i _ (fun k s => iprop(⌜s = A.best (16 * g) k⌝ ∗ At d i annb A.box ∗ At d i area A.AREA))
    (fun k s => box_step d i A (16 * g) k s)) $$ [Hb Ha]
  · isplitr
    · ipureintro; rfl
    isplitl [Hb] <;> iassumption
  iintro %b ⟨%hb, Hb, Ha⟩
  subst hb
  iapply (wp_stf d i (16 * g) ho) $$ Hi
  iintro Hi
  iapply (wp_sti d i (16 * g) ho) $$ Hg
  iintro Hg
  iapply (wp_ld d i (16 * g) ho) $$ Hc0
  iintro Hc0
  iapply (wp_ld d i (16 * g) ho) $$ Hc1
  iintro Hc1
  iapply (wp_ld d i (16 * g) ho) $$ Hc1
  iintro Hc1
  iapply (wp_sti d i (16 * g) ho) $$ Hk
  iintro Hk
  iapply (wp_done d i)
  isplitr
  · ipureintro; subst hs; rfl
  isplitl [Hx0 Hy0 Hx1 Hy1 Hc0 Hc1 Hb Ha]
  · isplitl [Hx0]; · iexact Hx0
    isplitl [Hy0]; · iexact Hy0
    isplitl [Hx1]; · iexact Hx1
    isplitl [Hy1]; · iexact Hy1
    isplitl [Hc0]; · iexact Hc0
    isplitl [Hc1]; · iexact Hc1
    isplitl [Hb] <;> iassumption
  isplitl [Hi]
  · iexists _; isplitr; swap; · iexact Hi
    ipureintro; exact Agr.wr (v := A.iouOf) hfi
  isplitl [Hg]
  · iexists _; isplitr; swap; · iexact Hg
    ipureintro; exact Agr.wr (α := BitVec 32) (v := A.argOf) hfa
  · iexists _; isplitr; swap; · iexact Hk
    ipureintro; exact Agr.wr (α := BitVec 32) (v := A.kyOf) hfk

theorem trip1_step (t : Fin k0_t1_loop.trips) (s : Car1 F) :
    iprop(⌜s = A.car1 (2 * t.val)⌝ ∗ In1 d i A ∗ Out1 d i A (2 * t.val))
      ⊢ WP d i (trip1 t s) (fun s => iprop(⌜s = A.car1 (2 * (t.val + 1))⌝ ∗ In1 d i A ∗ Out1 d i A (2 * (t.val + 1)))) := by
  iintro H
  unfold trip1
  iapply (wp_cut d i (half1_step d i A (2 * t.val) (k0_off7 t) (k0_off7_inb t) (by rw [k0_off7_eq]; congr 1; omega) s)) $$ H
  iintro %s' H
  iapply (half1_step d i A (2 * t.val + 1) (k0_off8 t) (k0_off8_inb t) (by rw [k0_off8_eq]; congr 1; omega) s') $$ H

/-! ## The second loop -/

theorem best_lt (o k : Nat) (hk : k ≤ 32) (x : S16.Idx) : ((A.best o k).2.2 x).toNat < 32 := by
  induction k with
  | zero => show (0#32).toNat < 32; decide
  | succ k ih =>
    have hk' := ih (by omega)
    show (select _ (bi (BitVec.ofNat 32 k)) (A.best o k).2.2 x).toNat < 32
    unfold select Scalar.select
    generalize (A.best o k).2.2 x = z at hk' ⊢
    split
    · show (BitVec.ofNat 32 k).toNat < 32
      rw [BitVec.toNat_ofNat]; omega
    · exact hk'

theorem gath_step (g : Nat) (f : Nat) (hf : f < 14) {α : Type} {K : Vec F S16 .f32 → TP F i α} {Q : α → sProp 𝕄} :
    At d i tab A.tb ⊢ iprop((At d i tab A.tb -∗ WP d i (K (A.lab g f)) Q) -∗ WP d i (gath (A.argOf g) f >>= K) Q) := by
  have hv : ∀ x, (addi (A.argOf g) (bi (BitVec.ofNat 32 (32 * f))) x).toNat = (A.argOf g x).toNat + 32 * f := by
    intro x
    have hb := best_lt A (16 * g) 32 le_rfl x
    show (A.argOf g x + BitVec.ofNat 32 (32 * f)).toNat = _
    rw [BitVec.toNat_add, BitVec.toNat_ofNat]
    have hb' : (A.argOf g x).toNat < 32 := hb
    omega
  have hchk : k0_chk1 (addi (A.argOf g) (bi (BitVec.ofNat 32 (32 * f)))) := by
    intro a x
    match a with
    | 0 =>
      have hb : (A.argOf g x).toNat < 32 := best_lt A (16 * g) 32 le_rfl x
      show (addi (A.argOf g) (bi (BitVec.ofNat 32 (32 * f))) x).toNat < 448
      rw [hv]; omega
  unfold At
  iintro ⟨%fT, %hT, H⟩ Hk
  unfold gath
  rw [show (Prog.lift (TpuEff.assume (nD := nD) (τ := τ) (sig := sig) (Val := Elt F) (Λ := Λ₀) (p := .scVector ((i 0).castLE hcore0) ((i 1).castLE hsub0))
      (k0_chk1 (addi (A.argOf g) (bi (BitVec.ofNat 32 (32 * f))))) (k0_chk1.dec (addi (A.argOf g) (bi (BitVec.ofNat 32 (32 * f)))))) >>= fun __do_lift =>
      SparseCore.vectorLoadIdx tab ![addi (A.argOf g) (bi (BitVec.ofNat 32 (32 * f)))] (k0_idx1_inb _ __do_lift.down) (View.loads_vmem h_S448)) >>= K
    = Prog.op (TpuEff.assume _ (k0_chk1.dec (addi (A.argOf g) (bi (BitVec.ofNat 32 (32 * f)))))) (fun z => SparseCore.vectorLoadIdx tab ![addi (A.argOf g) (bi (BitVec.ofNat 32 (32 * f)))] (k0_idx1_inb _ z.down) (View.loads_vmem h_S448) >>= K) from rfl]
  unfold WP
  rw [wp_assume_of _ _ _ _ hchk]
  iapply (SparseCore.wp_vectorLoadIdx 𝒱₀ (V d (cV i) (jV i)) none Set.univ (base := tab) (View.set_slice_subset tab.view (Rect.whole S448))) $$ H
  iintro H
  rw [show loadIdx ((tab.access (.whole S448)).read (Elt F) fT) ![addi (A.argOf g) (bi (BitVec.ofNat 32 (32 * f)))] (k0_idx1_inb _ hchk)
      = A.lab g f by
    funext x
    rw [show (tab.access (.whole S448)).read (Elt F) fT = A.tb from (Memref.read_access_whole (Elt F) cc0_scratch24 fT).trans hT]
    refine congrArg A.tb (idx_ext ?_)
    have hb : (A.argOf g x).toNat < 32 := best_lt A (16 * g) 32 le_rfl x
    rw [ixm_val_of_lt 448 (by omega)]
    exact hv x]
  iapply Hk
  iexists fT; isplitr; · ipureintro; exact hT
  iexact H

/-- What the second loop reads. -/
def In2 : sProp 𝕄 :=
  iprop(At d i iouv A.IOU ∗ At d i argv A.ARG ∗ At d i ax0 A.x0 ∗ At d i ay0 A.y0 ∗ At d i ax1 A.x1 ∗ At d i ay1 A.y1
    ∗ At d i tab A.tb ∗ At d i br0 A.b0 ∗ At d i br1 A.b1 ∗ At d i br2 A.b2 ∗ At d i br3 A.b3
    ∗ At d i lm0 A.l0 ∗ At d i lm1 A.l1 ∗ At d i lm2 A.l2 ∗ At d i lm3 A.l3 ∗ At d i lm4 A.l4 ∗ At d i lm5 A.l5 ∗ At d i lm6 A.l6
    ∗ At d i lm7 A.l7 ∗ At d i lm8 A.l8 ∗ At d i lm9 A.l9 ∗ At d i c0v A.c0 ∗ At d i c1v A.c1)

theorem trip2_step (m0 m1 : FVec F S16 .f32) (t : Fin k0_t2_loop.trips) (s : Car2 F) :
    iprop(⌜s = A.car2 m0 m1 t.val⌝ ∗ In2 d i A)
      ⊢ WP d i (trip2 m0 m1 t s) (fun s => iprop(⌜s = A.car2 m0 m1 (t.val + 1)⌝ ∗ In2 d i A)) := by
  have h11 := k0_off11_eq t
  have h12 := k0_off12_eq t
  have ht : t.val < 250 := t.isLt
  unfold In2
  iintro ⟨%hs, Hi, Hg, Hx0, Hy0, Hx1, Hy1, Ht, Hb0, Hb1, Hb2, Hb3, Hl0, Hl1, Hl2, Hl3, Hl4, Hl5, Hl6, Hl7, Hl8, Hl9, Hc0, Hc1⟩
  unfold trip2
  iapply (wp_ld d i (16 * t.val) h11) $$ Hi
  iintro Hi
  iapply (wp_ld d i (16 * t.val) h11) $$ Hg
  iintro Hg
  rw [show rdN A.IOU (16 * t.val) = A.iouOf t.val from rdN_blk _ (by omega),
    show rdN A.ARG (16 * t.val) = A.argOf t.val from rdN_blk (α := BitVec 32) _ (by omega)]
  iapply (wp_ld d i (16 * t.val) h11) $$ Hx0
  iintro Hx0
  iapply (wp_ld d i (16 * t.val) h11) $$ Hy0
  iintro Hy0
  iapply (wp_ld d i (16 * t.val) h11) $$ Hx1
  iintro Hx1
  iapply (wp_ld d i (16 * t.val) h11) $$ Hy1
  iintro Hy1
  iapply (gath_step d i A t.val 0 (by omega)) $$ Ht
  iintro Ht
  iapply (gath_step d i A t.val 1 (by omega)) $$ Ht
  iintro Ht
  iapply (gath_step d i A t.val 2 (by omega)) $$ Ht
  iintro Ht
  iapply (gath_step d i A t.val 3 (by omega)) $$ Ht
  iintro Ht
  iapply (gath_step d i A t.val 4 (by omega)) $$ Ht
  iintro Ht
  iapply (gath_step d i A t.val 5 (by omega)) $$ Ht
  iintro Ht
  iapply (gath_step d i A t.val 6 (by omega)) $$ Ht
  iintro Ht
  iapply (gath_step d i A t.val 7 (by omega)) $$ Ht
  iintro Ht
  iapply (gath_step d i A t.val 8 (by omega)) $$ Ht
  iintro Ht
  iapply (gath_step d i A t.val 9 (by omega)) $$ Ht
  iintro Ht
  iapply (gath_step d i A t.val 10 (by omega)) $$ Ht
  iintro Ht
  iapply (gath_step d i A t.val 11 (by omega)) $$ Ht
  iintro Ht
  iapply (gath_step d i A t.val 12 (by omega)) $$ Ht
  iintro Ht
  iapply (gath_step d i A t.val 13 (by omega)) $$ Ht
  iintro Ht
  iapply (wp_ld d i (16 * t.val) h12) $$ Hb0
  iintro Hb0
  iapply (wp_ld d i (16 * t.val) h12) $$ Hb1
  iintro Hb1
  iapply (wp_ld d i (16 * t.val) h12) $$ Hb2
  iintro Hb2
  iapply (wp_ld d i (16 * t.val) h12) $$ Hb3
  iintro Hb3
  iapply (wp_ld d i (16 * t.val) h12) $$ Hl0
  iintro Hl0
  iapply (wp_ld d i (16 * t.val) h12) $$ Hl1
  iintro Hl1
  iapply (wp_ld d i (16 * t.val) h12) $$ Hl2
  iintro Hl2
  iapply (wp_ld d i (16 * t.val) h12) $$ Hl3
  iintro Hl3
  iapply (wp_ld d i (16 * t.val) h12) $$ Hl4
  iintro Hl4
  iapply (wp_ld d i (16 * t.val) h12) $$ Hl5
  iintro Hl5
  iapply (wp_ld d i (16 * t.val) h12) $$ Hl6
  iintro Hl6
  iapply (wp_ld d i (16 * t.val) h12) $$ Hl7
  iintro Hl7
  iapply (wp_ld d i (16 * t.val) h12) $$ Hl8
  iintro Hl8
  iapply (wp_ld d i (16 * t.val) h12) $$ Hl9
  iintro Hl9
  iapply (wp_ld d i (16 * t.val) h12) $$ Hc0
  iintro Hc0
  iapply (wp_ld d i (16 * t.val) h12) $$ Hc1
  iintro Hc1
  iapply (wp_done d i)
  isplitr
  · ipureintro; subst hs; rfl
  isplitl [Hi]; · iexact Hi
  isplitl [Hg]; · iexact Hg
  isplitl [Hx0]; · iexact Hx0
  isplitl [Hy0]; · iexact Hy0
  isplitl [Hx1]; · iexact Hx1
  isplitl [Hy1]; · iexact Hy1
  isplitl [Ht]; · iexact Ht
  isplitl [Hb0]; · iexact Hb0
  isplitl [Hb1]; · iexact Hb1
  isplitl [Hb2]; · iexact Hb2
  isplitl [Hb3]; · iexact Hb3
  isplitl [Hl0]; · iexact Hl0
  isplitl [Hl1]; · iexact Hl1
  isplitl [Hl2]; · iexact Hl2
  isplitl [Hl3]; · iexact Hl3
  isplitl [Hl4]; · iexact Hl4
  isplitl [Hl5]; · iexact Hl5
  isplitl [Hl6]; · iexact Hl6
  isplitl [Hl7]; · iexact Hl7
  isplitl [Hl8]; · iexact Hl8
  isplitl [Hl9]; · iexact Hl9
  isplitl [Hc0]; · iexact Hc0
  iexact Hc1

/-! ## The counters -/

theorem zero_step (g : Fin 16) (u : PUnit) :
    iprop(∃ f, ⌜Agr f (fun _ => Scalar.ofBits (F := F) .f32 0x00000000#32) (16 * g.val)⌝ ∗ At d i hist f)
      ⊢ WP d i (zeroStep g u) (fun _ => iprop(∃ f, ⌜Agr f (fun _ => Scalar.ofBits (F := F) .f32 0x00000000#32) (16 * (g.val + 1))⌝ ∗ At d i hist f)) := by
  iintro ⟨%f, %hf, Ha⟩
  unfold zeroStep
  rw [← bind_pure (stf hist _ _ _)]
  iapply (wp_stf d i (16 * g.val) rfl) $$ Ha
  iintro Ha
  iapply (wp_done d i)
  iexists _; isplitr; swap; · iexact Ha
  ipureintro
  exact Agr.wr (v := fun _ => bf 0x00000000#32) hf

theorem wp_hist {g : (L1 256).Idx → Elt F .f32} {idx : IVec S16 32} {v : Vec F S16 .f32} {mask : IVec S16 1}
    {h : ∀ a x, ((![idx] : Fin 1 → IVec S16 32) a x).toNat < S256.size a} {hs : (hist.access (.whole S256)).Stores Finset.univ}
    {α : Type} {K : PUnit → TP F i α} {Q : α → sProp 𝕄} :
    At d i hist g ⊢ iprop((At d i hist (storeIdx (F := F) (s := S256) (e := .f32) g ![idx] v mask true h) -∗ WP d i (K ⟨⟩) Q)
      -∗ WP d i (SparseCore.vectorStoreIdx hist ![idx] v mask true h hs >>= K) Q) := by
  have hset : (hist.access (.whole S256)).set = hist.view.set :=
    (Memref.set_access_whole cc0_scratch26).trans (View.set_whole cc0_scratch26).symm
  have key (fT : hist.view.ty.Contents (Elt F)) :=
    SparseCore.wp_vectorStoreIdx (defs := defs₀ (F := F)) (Ix := HIx 11) (Name := ℕ) (U := UU) (Lvl := ℕ) 𝒱₀ (V d (cV i) (jV i)) none Set.univ
      (base := hist) (idxs := ![idx]) (v := v) (mask := mask) (add := true) (h := h) (hs := hs) (k := K) (Q := Q) (f := fT)
  simp only [hset] at key
  unfold At
  iintro ⟨%fT, %hT, H⟩ Hk
  iapply (key fT) $$ H
  iintro H
  iapply Hk
  iexists _; isplitr; swap; · iexact H
  ipureintro
  rw [show (hist.access (.whole S256)).read (Elt F) fT = g from (Memref.read_access_whole (Elt F) cc0_scratch26 fT).trans hT]
  exact Memref.write_access_whole_univ (Elt F) cc0_scratch26 fT _

theorem cnt_step (mk sh : BitVec 32) (p : IVec S16 32) (t : Fin k0_t3_loop.trips) (u : BitVec 32) :
    iprop(At d i keyv A.KEY ∗ At d i hist (A.hist mk sh p t.val))
      ⊢ WP d i (cntTrip mk sh p t u) (fun _ => iprop(At d i keyv A.KEY ∗ At d i hist (A.hist mk sh p (t.val + 1)))) := by
  have ht : t.val < 250 := t.isLt
  iintro ⟨Hk, Hh⟩
  unfold cntTrip
  iapply (wp_ld d i (16 * t.val) (k0_off15_eq t)) $$ Hk
  iintro Hk
  rw [show rdN A.KEY (16 * t.val) = A.kyOf t.val from rdN_blk (α := BitVec 32) _ (by omega)]
  have hchk := TileIn.digIdx_lt sh (A.kyOf t.val)
  rw [show ∀ (P : Prop) (D : Decidable P) (kk : PLift P → TP F i (BitVec 32)), (Prog.lift (TpuEff.assume P D) >>= kk) = Prog.op (TpuEff.assume P D) kk from fun _ _ _ => rfl]
  unfold WP
  rw [wp_assume_of _ _ _ _ hchk]
  iapply (wp_hist d i) $$ Hh
  iintro Hh
  iapply (wp_done d i)
  isplitl [Hk]; · iexact Hk
  iexact Hh

/-! ## The sums over the group -/

theorem gat1_step (B : Nat → TileIn F) (q : Nat) (G : (L1 256).Idx → F .f32)
    (hG : G = catN 64 256 fun r => stgA ((B (4 * q + r)).car1 250)) (k : Fin 4) (s : Car1 F) :
    iprop(⌜s = tot1 B q k.val⌝ ∗ At d i rdA G) ⊢ WP d i (gat1 k s) (fun s => iprop(⌜s = tot1 B q (k.val + 1)⌝ ∗ At d i rdA G)) := by
  iintro ⟨%hs, H⟩
  unfold gat1
  iapply (wp_ld d i (64 * k.val) rfl) $$ H
  iintro H
  iapply (wp_ld d i (64 * k.val + 16) rfl) $$ H
  iintro H
  iapply (wp_ld d i (64 * k.val + 32) rfl) $$ H
  iintro H
  iapply (wp_ld d i (64 * k.val + 48) rfl) $$ H
  iintro H
  iapply (wp_done d i)
  isplitr; swap; · iexact H
  ipureintro
  subst hs hG
  have e (o : Nat) (ho : o + 16 ≤ 64) := rdN_cat (n := 256) (fun r => stgA ((B (4 * q + r)).car1 250)) (k := k.val) ho (by omega)
  have e0 := e (16 * 0) (by omega)
  rw [Nat.mul_zero, Nat.add_zero] at e0
  rw [e0, e (16 * 1) (by omega), e (16 * 2) (by omega), e (16 * 3) (by omega)]
  unfold stgA
  rw [show rdN _ 0 = _ from rdN_blk (g := 0) _ (by omega), rdN_blk _ (by omega), rdN_blk _ (by omega), rdN_blk _ (by omega)]
  rfl

theorem gat2_step (B : Nat → TileIn F) (q : Nat) (G : (L1 384).Idx → F .f32)
    (hG : G = catN 96 384 fun r => stgB (out2 B (4 * q + r))) (k : Fin 4) (s : Car2 F) :
    iprop(⌜s = tot2 B q k.val⌝ ∗ At d i rdB G) ⊢ WP d i (gat2 k s) (fun s => iprop(⌜s = tot2 B q (k.val + 1)⌝ ∗ At d i rdB G)) := by
  iintro ⟨%hs, H⟩
  unfold gat2
  iapply (wp_ld d i (96 * k.val) rfl) $$ H
  iintro H
  iapply (wp_ld d i (96 * k.val + 16) rfl) $$ H
  iintro H
  iapply (wp_ld d i (96 * k.val + 32) rfl) $$ H
  iintro H
  iapply (wp_ld d i (96 * k.val + 48) rfl) $$ H
  iintro H
  iapply (wp_ld d i (96 * k.val + 64) rfl) $$ H
  iintro H
  iapply (wp_ld d i (96 * k.val + 80) rfl) $$ H
  iintro H
  iapply (wp_done d i)
  isplitr; swap; · iexact H
  ipureintro
  subst hs hG
  have e (o : Nat) (ho : o + 16 ≤ 96) := rdN_cat (n := 384) (fun r => stgB (out2 B (4 * q + r))) (k := k.val) ho (by omega)
  have e0 := e (16 * 0) (by omega)
  rw [Nat.mul_zero, Nat.add_zero] at e0
  rw [e0, e (16 * 1) (by omega), e (16 * 2) (by omega), e (16 * 3) (by omega), e (16 * 4) (by omega), e (16 * 5) (by omega)]
  unfold stgB
  rw [show rdN _ 0 = _ from rdN_blk (g := 0) _ (by omega), rdN_blk _ (by omega), rdN_blk _ (by omega), rdN_blk _ (by omega),
    rdN_blk _ (by omega), rdN_blk _ (by omega)]
  rfl

theorem gat3_step (B : Nat → TileIn F) (q : Nat) (G : (L1 128).Idx → F .f32)
    (hG : G = catN 32 128 fun r => stgC (out3 B (4 * q + r))) (k : Fin 4) (s : FVec F S16 .f32 × FVec F S16 .f32) :
    iprop(⌜s = tot3 B q k.val⌝ ∗ At d i rdC G) ⊢ WP d i (gat3 k s) (fun s => iprop(⌜s = tot3 B q (k.val + 1)⌝ ∗ At d i rdC G)) := by
  iintro ⟨%hs, H⟩
  unfold gat3
  iapply (wp_ld d i (32 * k.val) rfl) $$ H
  iintro H
  iapply (wp_ld d i (32 * k.val + 16) rfl) $$ H
  iintro H
  iapply (wp_done d i)
  isplitr; swap; · iexact H
  ipureintro
  subst hs hG
  have e (o : Nat) (ho : o + 16 ≤ 32) := rdN_cat (n := 128) (fun r => stgC (out3 B (4 * q + r))) (k := k.val) ho (by omega)
  have e0 := e (16 * 0) (by omega)
  rw [Nat.mul_zero, Nat.add_zero] at e0
  rw [e0, e (16 * 1) (by omega)]
  unfold stgC
  rw [show rdN _ 0 = _ from rdN_blk (g := 0) _ (by omega), rdN_blk _ (by omega)]
  rfl

theorem gatH_step (G : (L1 1024).Idx → F .f32) (k : Fin 64) (s : FVec F S16 .f32) :
    iprop(⌜s = iter (fun k c => addf c (rdN G (16 * k))) (bf 0x00000000#32) k.val⌝ ∗ At d i rdH G)
      ⊢ WP d i (gatH k s) (fun s => iprop(⌜s = iter (fun k c => addf c (rdN G (16 * k))) (bf 0x00000000#32) (k.val + 1)⌝ ∗ At d i rdH G)) := by
  iintro ⟨%hs, H⟩
  unfold gatH
  iapply (wp_ld d i (16 * k.val) rfl) $$ H
  iintro H
  iapply (wp_done d i)
  isplitr; swap; · iexact H
  ipureintro
  subst hs; rfl

/-! ## The last loop -/

theorem trip3_step (p : IVec S16 32) (t : Fin k0_t11_loop.trips) (s : FVec F S16 .f32 × FVec F S16 .f32) :
    iprop(⌜s = A.car3 p t.val⌝ ∗ At d i keyv A.KEY ∗ At d i c1v A.c1)
      ⊢ WP d i (trip3 p t s) (fun s => iprop(⌜s = A.car3 p (t.val + 1)⌝ ∗ At d i keyv A.KEY ∗ At d i c1v A.c1)) := by
  have ht : t.val < 250 := t.isLt
  iintro ⟨%hs, Hk, Hc⟩
  unfold trip3
  iapply (wp_ld d i (16 * t.val) (k0_off25_eq t)) $$ Hk
  iintro Hk
  rw [show rdN A.KEY (16 * t.val) = A.kyOf t.val from rdN_blk (α := BitVec 32) _ (by omega)]
  iapply (wp_ld d i (16 * t.val) (k0_off25_eq t)) $$ Hc
  iintro Hc
  iapply (wp_done d i)
  isplitr
  · ipureintro; subst hs; rfl
  isplitl [Hk] <;> iassumption

end Cert.Proof.K

end
-- ==== Proof.K.Barrier.lean ====
/- The tiles of a SparseCore meet eleven times at one semaphore each. What they hand one another goes through a store per
   tile: on arriving a tile lays down, for every tile, what it hands over, and on leaving each tile picks up what is laid down
   for it. The units of the semaphore carry only the evidence that the others have laid down theirs: a unit of a later
   meeting may come before a unit of an earlier one, and then it brings the evidence of the earlier meeting with it. -/
module

public import proofs.«01_k».proof.Proof.K.Wp

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 11) (Elt F) ℕ UU ℕ

/-- A tile of a SparseCore. -/
abbrev TI : Type := Fin (grid0.bound 1)
/-- Its semaphore for the meetings. -/
abbrev bcell (d : Dev nD) (c : Fin τ.nSC) (j : TI) : GSem nD τ sig := (V d c (j.castLE hsub0), .reg sc_bar0)
/-- The name its store goes by. -/
abbrev lab (d : Dev nD) (c : Fin τ.nSC) (k : TI) : GSem nD τ sig := (V d c (k.castLE hsub0), .dma cc0_scratch37.sem)

theorem sc_bar0_ne_go : (sc_bar0 : Sem sig) ≠ sc_go := by decide

def isBar (g : GSem nD τ sig) : Bool :=
  match g with
  | ((_, .scVector _ _), sm) => decide (sm = .reg sc_bar0)
  | _ => false

/-- The tile a unit's number names. -/
def tileOf (n : ℕ) : TI := ⟨n % 16, Nat.mod_lt _ (by decide)⟩

/-- What unit `n` brings, unit `k` of meeting `b` being `16 b + k`: tile `k` has laid down for meeting `b`, and every tile for the
    meetings before. -/
def bPay (g : GSem nD τ sig) (n : ℕ) : sProp 𝕄 :=
  match g with
  | ((d, .scVector c _), _) =>
    iprop(reached EB (lab d c (tileOf n)) (n / 16 + 1) ∗ bigSep Finset.univ fun k : TI => reached EB (lab d c k) (n / 16))
  | _ => iprop(emp)

instance bPay_persistent (g : GSem nD τ sig) (n : ℕ) : BI.Persistent (bPay (F := F) g n) := by
  unfold bPay
  rcases g with ⟨⟨d, _ | c | ⟨c, i⟩⟩, sm⟩ <;> dsimp only <;> infer_instance

/-- The semaphores' units: one run of `176` units on each. -/
def bRd : Rounds.Schedule (GSem nD τ sig) ℕ 𝕄 where
  duties g r := if isBar g ∧ r = 0 then Finset.range 176 else ∅
  amount _ _ _ := 1
  payload g _ n := bPay g n
  amount_pos _ _ _ _ := Nat.one_pos

instance bRd_payload_storable (g : GSem nD τ sig) (r n : ℕ) : BI.Storable (upEmb : UEmb _ 𝕄) ((bRd (F := F)).payload g r n) := by
  show BI.Storable upEmb (bPay g n)
  unfold bPay
  rcases g with ⟨⟨d, _ | c | ⟨c, i⟩⟩, sm⟩ <;> dsimp only <;> infer_instance

theorem bRd_duties₀ (d : Dev nD) (c : Fin τ.nSC) (j : TI) : (bRd (F := F)).duties (bcell d c j) 0 = Finset.range 176 := by
  simp [bRd, isBar]
theorem bRd_duties_succ (g : GSem nD τ sig) (r : ℕ) (hr : 1 ≤ r) : (bRd (F := F)).duties g r = ∅ :=
  if_neg fun h => absurd h.2 (Nat.ne_of_gt hr)
theorem bRd_expect (d : Dev nD) (c : Fin τ.nSC) (j : TI) : (bRd (F := F)).expect (bcell d c j) 0 = 176 := by
  unfold Rounds.Schedule.expect; rw [bRd_duties₀]
  show ∑ x ∈ Finset.range 176, 1 = 176
  simp

/-! ## The evidence -/

/-- Sixteen units for each meeting up to `b` name every tile at `b`, or a later meeting. -/
theorem evidence_pick {T : Finset ℕ} {b : ℕ} (hc : 16 * (b + 1) ≤ T.card) (k : TI) :
    ∃ n ∈ T, (n = 16 * b + k.val) ∨ b + 1 ≤ n / 16 := by
  by_contra h
  push Not at h
  have hk : k.val < 16 := k.isLt
  have hsub : T ⊆ (Finset.range (16 * (b + 1))).erase (16 * b + k.val) := by
    intro n hn
    obtain ⟨h1, h2⟩ := h n hn
    rw [Finset.mem_erase, Finset.mem_range]
    exact ⟨h1, by omega⟩
  have := Finset.card_le_card hsub
  rw [Finset.card_erase_of_mem (by rw [Finset.mem_range]; omega), Finset.card_range] at this
  omega

theorem evidence (d : Dev nD) (c : Fin τ.nSC) (j : TI) {T : Finset ℕ} {b : ℕ} (hc : 16 * (b + 1) ≤ T.card) :
    (bigSep T fun n => bPay (F := F) (bcell d c j) n) ⊢ bigSep Finset.univ fun k : TI => (reached EB (lab d c k) (b + 1) : sProp 𝕄) := by
  refine bigSep_intro_persistent fun k _ => ?_
  obtain ⟨n, hn, h⟩ := evidence_pick hc k
  refine (bigSep_elim (Φ := fun n => bPay (F := F) (bcell d c j) n) hn).trans ?_
  show iprop(reached EB (lab d c (tileOf n)) (n / 16 + 1) ∗ bigSep Finset.univ fun k : TI => reached EB (lab d c k) (n / 16)) ⊢ _
  have hk : k.val < 16 := k.isLt
  rcases h with h | h
  · have e1 : tileOf n = k := Fin.ext (by show n % 16 = k.val; omega)
    have e2 : n / 16 = b := by omega
    rw [e1, e2]
    iintro ⟨H, -⟩
    iexact H
  · iintro ⟨-, H⟩
    ihave H' := (SparseCore.ent (bigSep_elim (Φ := fun k : TI => (reached EB (lab d c k) (n / 16) : sProp 𝕄)) (Finset.mem_univ k))) $$ H
    iapply (reached_mono EB h)
    iexact H'

/-! ## The stores -/

section Store

/-- Tile `k`'s store: for every meeting it has arrived at and every tile `j`, what it hands `j`, or the mark that `j` has it. -/
def esc (pay : ℕ → TI → TI → sProp 𝕄) (d : Dev nD) (c : Fin τ.nSC) (k : TI) : sProp 𝕄 :=
  iprop(∃ n : ℕ, roundAuth EB (lab d c k) n ∅ 0
    ∗ bigSep (Finset.range n) fun b => bigSep Finset.univ fun j : TI => iprop(pay b k j ∨ dutyTok EB (lab d c k) b j.val))

instance esc_storable (pay : ℕ → TI → TI → sProp 𝕄) [∀ b k j, BI.Storable (upEmb : UEmb _ 𝕄) (pay b k j)] (d : Dev nD) (c : Fin τ.nSC) (k : TI) :
    BI.Storable (upEmb : UEmb _ 𝕄) (esc pay d c k) := by unfold esc; infer_instance

/-- A tile lays down for meeting `b`. -/
theorem deposit (pay : ℕ → TI → TI → sProp 𝕄) (d : Dev nD) (c : Fin τ.nSC) (k : TI) (ν : ℕ) (b : ℕ) :
    iprop(inv ν (esc pay d c k) ∗ atPos EB (lab d c k) b ∅ 0 ∗ bigSep Finset.univ fun j : TI => pay b k j)
      ⊢ iprop(|={Set.univ}=> (atPos EB (lab d c k) (b + 1) ∅ 0 ∗ reached EB (lab d c k) (b + 1))) := by
  iintro ⟨Hi, Hat, Hp⟩
  imod (inv_acc (Set.mem_univ ν)) $$ Hi with ⟨Hb, Hclose⟩
  unfold esc
  icases Hb with ⟨%n, Ha, Hs⟩
  icombine Ha Hat gives %hag
  obtain ⟨rfl, -, -⟩ := hag
  icombine Ha Hat as H
  imod (roundAuth_atPos_move EB (b + 1) ∅ 0 (Nat.le_succ _)) $$ H with ⟨Ha, Hat⟩
  imod (roundAuth_witness EB) $$ Ha with ⟨Ha, Hr⟩
  ihave Hc := Hclose $$ [Ha Hs Hp]
  · iexists (b + 1)
    isplitl [Ha]; · iexact Ha
    rw [Finset.range_add_one, SparseCore.bigSep_insert' Finset.notMem_range_self]
    isplitl [Hp]
    · iapply (SparseCore.ent (bigSep_mono (Φ := fun j : TI => pay b k j)
        (Ψ := fun j : TI => iprop(pay b k j ∨ dutyTok EB (lab d c k) b j.val)) fun j _ => BI.or_introL)) $$ Hp
    iexact Hs
  imod Hc
  imodintro
  isplitl [Hat]; · iexact Hat
  iexact Hr

/-- Tile `j` picks up what tile `k` laid down for it. -/
theorem pick (pay : ℕ → TI → TI → sProp 𝕄) (d : Dev nD) (c : Fin τ.nSC) (k j : TI) (ν : ℕ) (b : ℕ) :
    iprop(inv ν (esc pay d c k) ∗ reached EB (lab d c k) (b + 1) ∗ dutyTok EB (lab d c k) b j.val)
      ⊢ iprop(|={Set.univ}=> pay b k j) := by
  iintro ⟨Hi, #Hr, Ht⟩
  imod (inv_acc (Set.mem_univ ν)) $$ Hi with ⟨Hb, Hclose⟩
  unfold esc
  icases Hb with ⟨%n, Ha, Hs⟩
  icombine Ha Hr gives %hag
  have hmem : b ∈ Finset.range n := Finset.mem_range.mpr hag
  have e : (bigSep (Finset.range n) fun b => bigSep Finset.univ fun j : TI => iprop(pay b k j ∨ dutyTok EB (lab d c k) b j.val))
      = iprop((iprop(pay b k j ∨ dutyTok EB (lab d c k) b j.val)
          ∗ bigSep (Finset.univ.erase j) fun j : TI => iprop(pay b k j ∨ dutyTok EB (lab d c k) b j.val))
        ∗ bigSep ((Finset.range n).erase b) fun b => bigSep Finset.univ fun j : TI => iprop(pay b k j ∨ dutyTok EB (lab d c k) b j.val)) := by
    rw [SparseCore.bigSep_erase' hmem, SparseCore.bigSep_erase' (Finset.mem_univ j)]
  ihave Hs' := (Entails.of_eq e) $$ Hs
  icases Hs' with ⟨⟨Hj, Hjs⟩, Hs⟩
  icases Hj with (Hj | Hj)
  · ihave Hc := Hclose $$ [Ha Hs Hjs Ht]
    · iexists n
      isplitl [Ha]; · iexact Ha
      iapply (Entails.of_eq e.symm)
      isplitl [Ht Hjs]
      · isplitl [Ht]; · iright; iexact Ht
        iexact Hjs
      iexact Hs
    imod Hc
    imodintro
    iexact Hj
  · iexfalso
    iapply (dutyTok_dutyTok_false EB)
    isplitl [Ht]; · iexact Ht
    iexact Hj

end Store

/-! ## A meeting -/

/-- The meetings from `b` on. -/
def frm (b : ℕ) : Finset (Fin 11) := Finset.univ.filter fun b' => b ≤ b'.val

theorem frm_eq {b : ℕ} (hb : b < 11) : frm b = insert (⟨b, hb⟩ : Fin 11) (frm (b + 1)) := by
  ext x
  simp only [frm, Finset.mem_filter, Finset.mem_univ, true_and, Finset.mem_insert, Fin.ext_iff]
  omega
theorem not_mem_frm {b : ℕ} (hb : b < 11) : (⟨b, hb⟩ : Fin 11) ∉ frm (b + 1) := by
  simp [frm]
theorem frm_zero : frm 0 = Finset.univ := by simp [frm]
theorem frm_last : frm 11 = ∅ := by
  ext x; simp [frm]

theorem frm_split {b : ℕ} (hb : b < 11) (Φ : Fin 11 → sProp 𝕄) :
    bigSep (frm b) Φ = iprop(Φ ⟨b, hb⟩ ∗ bigSep (frm (b + 1)) Φ) := by
  rw [frm_eq hb, SparseCore.bigSep_insert' (not_mem_frm hb)]

/-- The units a tile owes from meeting `b` on. -/
def oxF (d : Dev nD) (c : Fin τ.nSC) (b : ℕ) : CellTallies nD τ sig (HIx 11) :=
  ∑ b' ∈ frm b, ∑ k : TI, tallyAt (bcell d c k) (some b') 1

theorem oxF_eq (d : Dev nD) (c : Fin τ.nSC) {b : ℕ} (hb : b < 11) :
    oxF d c b = (∑ k : TI, tallyAt (bcell d c k) (some ⟨b, hb⟩) 1) + oxF d c (b + 1) := by
  unfold oxF
  rw [frm_eq hb, Finset.sum_insert (not_mem_frm hb)]
theorem oxF_last (d : Dev nD) (c : Fin τ.nSC) : oxF d c 11 = 0 := by
  unfold oxF
  rw [frm_last, Finset.sum_empty]

theorem oxF_apply_pos {d : Dev nD} {c : Fin τ.nSC} {b : ℕ} {g : GSem nD τ sig} {ι : HIx 11} (h : 0 < oxF d c b g ι) :
    ∃ (k : TI) (b' : Fin 11), g = bcell d c k ∧ ι = some b' ∧ b ≤ b'.val := by
  unfold oxF at h
  rw [Finset.sum_apply, Finsupp.finsetSum_apply] at h
  obtain ⟨b', hb', hj⟩ := Finset.exists_ne_zero_of_sum_ne_zero (Nat.pos_iff_ne_zero.mp h)
  rw [Finset.sum_apply, Finsupp.finsetSum_apply] at hj
  obtain ⟨k, -, hk⟩ := Finset.exists_ne_zero_of_sum_ne_zero hj
  rw [tallyAt_apply] at hk
  split at hk
  · next e => exact ⟨k, b', e.1, e.2, (Finset.mem_filter.mp hb').2⟩
  · exact absurd rfl hk

theorem oxF_none (d : Dev nD) (c : Fin τ.nSC) (b : ℕ) (g : GSem nD τ sig) : oxF d c b g none = 0 := by
  by_contra h
  obtain ⟨_, _, _, h2, _⟩ := oxF_apply_pos (Nat.pos_of_ne_zero h)
  exact absurd h2 (by simp)

/-- What every tile of a SparseCore knows. -/
def binv (pay : ℕ → TI → TI → sProp 𝕄) (d : Dev nD) (c : Fin τ.nSC) (κ ν : TI → ℕ) : sProp 𝕄 :=
  iprop((bigSep Finset.univ fun k : TI => cellInv EB (bRd (F := F)) (κ k) (bcell d c k))
    ∗ (bigSep Finset.univ fun k : TI => reached EB (bcell d c k) 0)
    ∗ bigSep Finset.univ fun k : TI => inv (ν k) (esc pay d c k))

instance binv_persistent (pay : ℕ → TI → TI → sProp 𝕄) (d : Dev nD) (c : Fin τ.nSC) (κ ν : TI → ℕ) :
    BI.Persistent (binv pay d c κ ν) := by unfold binv; infer_instance

/-- What tile `j` holds before meeting `b`. -/
def bst (d : Dev nD) (c : Fin τ.nSC) (j : TI) (b : ℕ) : sProp 𝕄 :=
  iprop((∃ R : Finset ℕ, ⌜R ⊆ Finset.range 176 ∧ 16 * b ≤ R.card⌝ ∗ (bigSep R fun n => bPay (bcell d c j) n) ∗ atPos EB (bcell d c j) 0 R (16 * b))
    ∗ atPos EB (lab d c j) b ∅ 0
    ∗ (bigSep (frm b) fun b' => cred (tallyAt (bcell d c j) (some b') 16))
    ∗ (bigSep (frm b) fun b' => bigSep Finset.univ fun k : TI => dutyTok EB (bcell d c k) 0 (16 * b'.val + j.val))
    ∗ (bigSep (frm b) fun b' => bigSep Finset.univ fun k : TI => dutyTok EB (lab d c k) b'.val j.val)
    ∗ bigSep Finset.univ fun k : TI => reached EB (lab d c k) b)

variable [FloatOps F]

/-- The arrival's units: one to every tile, each with the evidence. -/
theorem wp_arrive (d : Dev nD) (i : grid0.Coords) (b : Fin 11) (κ : TI → ℕ) (O : CellTallies nD τ sig (HIx 11)) (W : Waits sig (HIx 11))
    {α : Type} {K : TP F i α} {Q : α → sProp 𝕄} (l : List TI) (hl : l.Nodup) :
    iprop(((bigSep Finset.univ fun k : TI => cellInv EB (bRd (F := F)) (κ k) (bcell d (cV i) k))
          ∗ (bigSep Finset.univ fun k : TI => reached EB (bcell d (cV i) k) 0)
          ∗ reached EB (lab d (cV i) (i 1)) (b.val + 1)
          ∗ bigSep Finset.univ fun k : TI => reached EB (lab d (cV i) k) b.val)
        ∗ owes (thr d i) (O + ∑ k ∈ l.toFinset, tallyAt (bcell d (cV i) k) (some b) 1) W
        ∗ (bigSep l.toFinset fun k : TI => dutyTok EB (bcell d (cV i) k) 0 (16 * b.val + (i 1).val))
        ∗ (owes (thr d i) O W -∗ WP d i K Q))
      ⊢ WP d i (l.foldr (fun j r => .op (TpuEff.semSignal (d, .scVector (cV i) (j.castLE hsub0)) sc_bar0 1) fun _ => r) K) Q := by
  have hj16 : (i 1).val < 16 := (i 1).isLt
  have hb : b.val < 11 := b.isLt
  have hp : ∀ j : TI, iprop(reached EB (lab d (cV i) (i 1)) (b.val + 1) ∗ bigSep Finset.univ fun k : TI => reached EB (lab d (cV i) k) b.val)
      ⊢ (bRd (F := F)).payload (bcell d (cV i) j) 0 (16 * b.val + (i 1).val) := by
    intro j
    show _ ⊢ iprop(reached EB (lab d (cV i) (tileOf (16 * b.val + (i 1).val))) ((16 * b.val + (i 1).val) / 16 + 1)
      ∗ bigSep Finset.univ fun k : TI => reached EB (lab d (cV i) k) ((16 * b.val + (i 1).val) / 16))
    have e1 : tileOf (16 * b.val + (i 1).val) = i 1 := Fin.ext (by show (16 * b.val + (i 1).val) % 16 = (i 1).val; omega)
    have e2 : (16 * b.val + (i 1).val) / 16 = b.val := by omega
    rw [e1, e2]
  induction l with
  | nil =>
    rw [List.toFinset_nil, List.foldr_nil, Finset.sum_empty, add_zero]
    iintro ⟨-, HO, -, Hk⟩; iapply Hk; iexact HO
  | cons j l ih =>
    rw [List.toFinset_cons, List.foldr_cons]
    have hj : j ∉ l.toFinset := fun h => (List.nodup_cons.mp hl).1 (List.mem_toFinset.mp h)
    rw [SparseCore.bigSep_insert' hj, Finset.sum_insert hj]
    iintro ⟨#Hinv, HO, ⟨Htok, Htoks⟩, Hk⟩
    iapply (Rounds.wp_signal 𝒱₀ EB (bRd (F := F)) (thr d i) none (dst := V d (cV i) (j.castLE hsub0)) (sem := sc_bar0) (r := 0)
        (d := 16 * b.val + (i 1).val) (k' := 1) (κ := κ j)
        (by rw [bRd_duties₀, Finset.mem_range]; omega) rfl (some b)
        (O₀ := O + (tallyAt (bcell d (cV i) j) (some b) 1 + ∑ k ∈ l.toFinset, tallyAt (bcell d (cV i) k) (some b) 1))
        (O := O + ∑ k ∈ l.toFinset, tallyAt (bcell d (cV i) k) (some b) 1)
        (by rw [add_comm (tallyAt _ _ _) _, ← add_assoc]) (W := W)) $$ [HO Htok]
    · icases Hinv with ⟨#H1, #H2, #H3, #H4⟩
      isplitr; · iapply (SparseCore.ent (bigSep_elim (Finset.mem_univ j))) $$ H1
      isplitl [HO]; · iexact HO
      isplitl [Htok]; · iexact Htok
      isplitr
      · iapply hp
        isplitr; · iexact H3
        iexact H4
      · iapply (SparseCore.ent (bigSep_elim (Finset.mem_univ j))) $$ H2
    iintro HO
    iapply (ih (List.nodup_cons.mp hl).2)
    isplitr; · iexact Hinv
    isplitl [HO]; · iexact HO
    isplitl [Htoks] <;> iassumption

/-- Everything laid down for a tile, picked up. -/
theorem pick_all (pay : ℕ → TI → TI → sProp 𝕄) (d : Dev nD) (c : Fin τ.nSC) (j : TI) (ν : TI → ℕ) (b : ℕ) (s : Finset TI) :
    iprop(((bigSep Finset.univ fun k : TI => inv (ν k) (esc pay d c k)) ∗ bigSep Finset.univ fun k : TI => reached EB (lab d c k) (b + 1))
        ∗ bigSep s fun k : TI => dutyTok EB (lab d c k) b j.val)
      ⊢ iprop(|={Set.univ}=> bigSep s fun k : TI => pay b k j) := by
  induction s using Finset.induction_on with
  | empty => rw [bigSep_empty, bigSep_empty]; iintro -; imodintro; iempintro
  | insert k s hk ih =>
    rw [SparseCore.bigSep_insert' hk, SparseCore.bigSep_insert' hk]
    iintro ⟨#H, Ht, Hts⟩
    imod ih $$ [Hts] with Hs
    · isplitr; · iexact H
      iexact Hts
    icases H with ⟨#H1, #H2⟩
    imod (pick pay d c k j (ν k) b) $$ [Ht] with Hp
    · isplitr; · iapply (SparseCore.ent (bigSep_elim (Φ := fun k : TI => inv (ν k) (esc pay d c k)) (Finset.mem_univ k))) $$ H1
      isplitr; · iapply (SparseCore.ent (bigSep_elim (Φ := fun k : TI => (reached EB (lab d c k) (b + 1) : sProp 𝕄)) (Finset.mem_univ k))) $$ H2
      iexact Ht
    imodintro
    isplitl [Hp]; · iexact Hp
    iexact Hs

/-- One meeting: what a tile lays down for the others, and what it picks up. -/
theorem wp_barr (pay : ℕ → TI → TI → sProp 𝕄) (d : Dev nD) (i : grid0.Coords) (b : ℕ) (hb : b < 11) (κ ν : TI → ℕ)
    (O : CellTallies nD τ sig (HIx 11)) (W : Waits sig (HIx 11)) (hO : ∀ g ι, 0 < O g ι → 8 * 10 + 6 ≤ (Cf (F := F)).lev g ι)
    {α : Type} {K : PUnit → TP F i α} {Q : α → sProp 𝕄} :
    iprop((binv pay d (cV i) κ ν ∗ levAts (Cf (F := F)).L (Cf (F := F)).lev)
        ∗ bst d (cV i) (i 1) b ∗ (bigSep Finset.univ fun j : TI => pay b (i 1) j) ∗ owes (thr d i) (O + oxF d (cV i) b) W)
      ⊢ iprop((iprop(bst d (cV i) (i 1) (b + 1) ∗ (bigSep Finset.univ fun k : TI => pay b k (i 1))
            ∗ owes (thr d i) (O + oxF d (cV i) (b + 1)) (insert (SemLoc.reg sc_bar0, some ⟨b, hb⟩) W)) -∗ WP d i (K ⟨⟩) Q)
          -∗ WP d i (barr >>= K) Q) := by
  rw [barr, SparseCore.subcoreBarrier_bind]
  unfold WP
  rw [show (wp frame (wpE (defs₀ (F := F)) 𝒱₀ (V d (cV i) (jV i)) none) Set.univ (.op .deviceId _) Q : sProp 𝕄) = _ from
    wp_deviceId 𝒱₀ (V d (cV i) (jV i)) none Set.univ]
  rw [oxF_eq d (cV i) hb, show O + ((∑ k : TI, tallyAt (bcell d (cV i) k) (some ⟨b, hb⟩) 1) + oxF d (cV i) (b + 1))
      = (O + oxF d (cV i) (b + 1)) + ∑ k ∈ (List.finRange (grid0.bound 1)).toFinset, tallyAt (bcell d (cV i) k) (some ⟨b, hb⟩) 1 by
    rw [List.toFinset_finRange, add_assoc, add_comm (oxF _ _ _)]]
  unfold bst binv
  rw [frm_split hb, frm_split hb, frm_split hb]
  iintro ⟨⟨⟨#Hci, #Hr0, #Hes⟩, #Hlv⟩, ⟨⟨%R, %hR, #HR, Hat⟩, Hlab, ⟨Hc, Hcs⟩, ⟨Ht, Hts⟩, ⟨Hp, Hps⟩, #Hrb⟩, Hpay, HO⟩ Hk
  -- what this tile hands over, laid down
  imod (deposit pay d (cV i) (i 1) (ν (i 1)) b) $$ [Hlab Hpay] with ⟨Hlab, #Hmine⟩
  · isplitr; · iapply (SparseCore.ent (bigSep_elim (Φ := fun k : TI => inv (ν k) (esc pay d (cV i) k)) (Finset.mem_univ (i 1)))) $$ Hes
    isplitl [Hlab]; · iexact Hlab
    iexact Hpay
  -- its units
  iapply (wp_arrive d i ⟨b, hb⟩ κ (O + oxF d (cV i) (b + 1)) W (List.finRange (grid0.bound 1)) (List.nodup_finRange _))
  isplitr
  · isplitr; · iexact Hci
    isplitr; · iexact Hr0
    isplitr; · iexact Hmine
    iexact Hrb
  isplitl [HO]; · iexact HO
  isplitl [Ht]; · rw [List.toFinset_finRange]; iexact Ht
  iintro HO
  -- the wait for its own
  iapply (Rounds.wp_wait 𝒱₀ EB (bRd (F := F)) (thr d i) none (sm := .reg sc_bar0) (k' := 16) (κ := κ (i 1))
      (wpE_semWait_eq 𝒱₀ (V d (cV i) (jV i)) none Set.univ) (Set.mem_univ _) (cr := Finsupp.single (some ⟨b, hb⟩) 16)
      (O := O + oxF d (cV i) (b + 1)) (W := W) {(SemLoc.reg sc_bar0, some ⟨b, hb⟩)} (R := 0) (m := 16 * b) (T := R)
      (by simp) (by
        refine (Finset.image_subset_image Finsupp.support_single_subset).trans ?_
        rw [Finset.image_singleton])) $$ [Hc HO Hat]
  · isplitr; · iapply (SparseCore.ent (bigSep_elim (Φ := fun k : TI => cellInv EB (bRd (F := F)) (κ k) (bcell d (cV i) k)) (Finset.mem_univ (i 1)))) $$ Hci
    isplitl [Hc]; · iexact Hc
    isplitl [HO]; · iexact HO
    isplitr
    · iapply ((Cf (F := F)).mayOwe_of_bound (thr := thr d i) (8 * b + 3) (fun p hp => by
          rw [Finset.mem_singleton] at hp; subst hp
          show (Cf (F := F)).lev (bcell d (cV i) (i 1)) (some ⟨b, hb⟩) ≤ 8 * b + 3
          rw [(Cf (F := F)).lev_V_reg d _ _ (show (sc_bar0 : Sem sig) ≠ (Cf (F := F)).go from sc_bar0_ne_go)])
        (fun g ι hg => by
          rw [Pi.add_apply, Finsupp.add_apply] at hg
          rcases Nat.eq_zero_or_pos (O g ι) with h0 | h0
          · obtain ⟨k, b', rfl, rfl, hb'⟩ := oxF_apply_pos (show 0 < oxF d (cV i) (b + 1) g ι by omega)
            rw [(Cf (F := F)).lev_V_reg d _ _ (show (sc_bar0 : Sem sig) ≠ (Cf (F := F)).go from sc_bar0_ne_go)]
            omega
          · have := hO g ι h0
            omega))
      iexact Hlv
    iexact Hat
  iintro %S ⟨%hS, HO, Hat, Hnew⟩
  obtain ⟨hRS, hSd, hcard⟩ := hS
  rw [bRd_duties₀ d (cV i) (i 1)] at hSd hcard
  have hcardS : 16 * (b + 1) ≤ S.card := by
    rw [bRd_expect d (cV i) (i 1), Finset.card_sdiff_of_subset hSd, Finset.card_range] at hcard
    have := Finset.card_le_card hSd
    rw [Finset.card_range] at this
    omega
  ihave #HS := (show iprop((bigSep R fun n => bPay (F := F) (bcell d (cV i) (i 1)) n) ∗ bigSep (S \ R) fun n => bPay (bcell d (cV i) (i 1)) n)
      ⊢ bigSep S fun n => bPay (bcell d (cV i) (i 1)) n by
    have e : S = R ∪ (S \ R) := (Finset.union_sdiff_of_subset hRS).symm
    conv_rhs => rw [e]
    rw [SparseCore.bigSep_union' Finset.disjoint_sdiff]) $$ [Hnew]
  · isplitr; · iexact HR
    iexact Hnew
  ihave #Hev := (evidence d (cV i) (i 1) hcardS) $$ HS
  -- what is laid down for it
  imod (pick_all pay d (cV i) (i 1) ν b Finset.univ) $$ [Hp] with Hgot
  · isplitr
    · isplitr; · iexact Hes
      iexact Hev
    iexact Hp
  iapply Hk
  isplitr [Hgot HO]
  · isplitl [Hat]
    · iexists S
      isplitr; · ipureintro; exact ⟨hSd, hcardS⟩
      isplitr; · iexact HS
      iexact Hat
    isplitl [Hlab]; · iexact Hlab
    isplitl [Hcs]; · iexact Hcs
    isplitl [Hts]; · iexact Hts
    isplitl [Hps]; · iexact Hps
    iexact Hev
  isplitl [Hgot]; · iexact Hgot
  rw [Finset.insert_eq, Finset.union_comm]
  iexact HO

/-- After the last meeting a tile takes its semaphore's counter, at zero. -/
theorem bst_close (pay : ℕ → TI → TI → sProp 𝕄) (d : Dev nD) (c : Fin τ.nSC) (j : TI) (κ ν : TI → ℕ) :
    iprop(binv pay d c κ ν ∗ bst d c j 11) ⊢ iprop(|={Set.univ}=> semVal (bcell d c j) 0) := by
  unfold binv bst
  iintro ⟨⟨#Hci, -, -⟩, ⟨%R, %hR, -, Hat⟩, -⟩
  have hfull : (bRd (F := F)).duties (bcell d c j) 0 ⊆ R := by
    rw [bRd_duties₀, Finset.eq_of_subset_of_card_le hR.1 (by rw [Finset.card_range]; exact hR.2)]
  ihave #Hc := (SparseCore.ent (bigSep_elim (Φ := fun k : TI => cellInv EB (bRd (F := F)) (κ k) (bcell d c k)) (Finset.mem_univ j))) $$ Hci
  imod (Rounds.fupd_skip EB (bRd (F := F)) hfull (by rw [bRd_expect]) (Set.mem_univ (κ j))) $$ [Hat] with ⟨Hat, -⟩
  · isplitr; · iexact Hc
    iexact Hat
  iapply (Rounds.cell_close EB (bRd (F := F)) (g := bcell d c j) (κ := κ j) (Set.mem_univ (κ j)) (fun h => h) (bRd_duties_succ _))
  isplitr; · iexact Hc
  iexact Hat

end Cert.Proof.K

end
-- ==== Proof.K.Off.lean ====
/- Where a tile's copies lie: the offsets the program computes, in closed form. -/
module

public import proofs.«01_k».proof.Proof.K.Prog

@[expose] public section

namespace Cert.Proof.K

open Cert.KernelIdeal Cert.KernelIdeal.Gen
open Idealize.ShloMosaic

/-- A tile's place in its group, and the image its group works on. -/
abbrev plc (i : grid0.Coords) : ℕ := (i 1).val % 4
abbrev img (i : grid0.Coords) : ℕ := 4 * (i 0).val + (i 1).val / 4

set_option maxRecDepth 100000

theorem off1_eq : ∀ (i : grid0.Coords) (c : Fin 4), k0_off1 i (BitVec.ofNat 32 (16000 * c.val)) = ![16000 * c.val + 4000 * plc i] := by decide +kernel
theorem off2_eq : ∀ (i : grid0.Coords) (c : Fin 2), k0_off2 i (BitVec.ofNat 32 (16000 * c.val)) = ![32000 * img i + 16000 * c.val + 4000 * plc i] := by decide +kernel
theorem off3_eq : ∀ (i : grid0.Coords) (c : Fin 4), k0_off3 i (BitVec.ofNat 32 (16000 * c.val)) = ![64000 * img i + 16000 * c.val + 4000 * plc i] := by decide +kernel
theorem off4_eq : ∀ (i : grid0.Coords) (c : Fin 10), k0_off4 i (BitVec.ofNat 32 (16000 * c.val)) = ![160000 * img i + 16000 * c.val + 4000 * plc i] := by decide +kernel
theorem off5_eq : ∀ i : grid0.Coords, k0_off5 i = ![2048 * img i] := by decide +kernel
theorem off6_eq : ∀ i : grid0.Coords, k0_off6 i = ![448 * img i] := by decide +kernel
theorem off9_eq : ∀ i : grid0.Coords, k0_off9 i = ![64 * (i 1).val] := by decide +kernel
theorem off10_eq : ∀ i : grid0.Coords, k0_off10 i = ![256 * ((i 1).val / 4)] := by decide +kernel
theorem off13_eq : ∀ i : grid0.Coords, k0_off13 i = ![96 * (i 1).val] := by decide +kernel
theorem off14_eq : ∀ i : grid0.Coords, k0_off14 i = ![384 * ((i 1).val / 4)] := by decide +kernel
theorem off16_eq : ∀ (i : grid0.Coords) (b : Fin 2), k0_off16 i (BitVec.ofNat 32 (4 * b.val)) = ![256 * (16 * b.val + (i 1).val)] := by decide +kernel
theorem off17_eq : ∀ (i : grid0.Coords) (b : Fin 2), k0_off17 i (BitVec.ofNat 32 (4 * b.val)) = ![1024 * (4 * b.val + (i 1).val / 4)] := by decide +kernel
theorem off26_eq : ∀ i : grid0.Coords, k0_off26 i = ![32 * (i 1).val] := by decide +kernel
theorem off27_eq : ∀ i : grid0.Coords, k0_off27 i = ![128 * ((i 1).val / 4)] := by decide +kernel
theorem off28_eq : ∀ i : grid0.Coords, k0_off28 i = ![16 * img i] := by decide +kernel
theorem cond1_iff : ∀ i : grid0.Coords, k0_cond1 i = 1#1 ↔ (i 1).val % 4 = 0 := by decide +kernel

end Cert.Proof.K
-- ==== Proof.K.Xfer.lean ====
/- One copy and its wait, and what a tile owes while it waits. -/
module

public import proofs.«01_k».proof.Proof.K.Barrier
public import proofs.«01_k».proof.Proof.K.Off

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F] (d : Dev nD) (i : grid0.Coords)

/-- What a tile owes, whatever it has waited for. -/
def Ow (O : CellTallies nD τ sig (HIx 11)) : sProp 𝕄 := iprop(∃ W : Waits sig (HIx 11), owes (thr d i) O W)

/-- A tile's memref holds the contents `g`, at the share `q`. -/
def AtQ {sp : Space} {s : Shape} {e : EltTy} (m : Memref sig .scVector sp s e) (q : PosShare TreeShare) (g : s.Idx → Elt F e) : sProp 𝕄 :=
  iprop(∃ f : Buf (Elt F) (m.view.loc (thr d i)), ⌜m.view.read (Elt F) f = g⌝ ∗ (m.view.loc (thr d i) ↦[m.view.set]{q} f))

theorem lev_evid {O : CellTallies nD τ sig (HIx 11)} (hO : ∀ g, O g none = 0) :
    (levAts (Cf (F := F)).L (Cf (F := F)).lev : sProp 𝕄) ⊢ Transfers.MayWaits (thr d i) (default : HIx 11) O :=
  (Cf (F := F)).mayWaits_none (thr := thr d i) hO

/-- A copy on a semaphore at zero, and the wait for it. -/
theorem wp_xfer {sp sp' : Space} {s : Shape} {e : EltTy} {src : Memref sig .scVector sp s e} {dst : Memref sig .scVector sp' s e}
    {sem : DmaSem sig} {ws : src.view.WordExact} {wd : dst.view.WordExact} {ty : DmaTarget.Typed (nD := nD) (p := (thr d i).2) sp (.dma sem) (.here dst)}
    {q : PosShare TreeShare} {fs : Buf (Elt F) (src.view.loc (thr d i))} {fd : Buf (Elt F) (dst.view.loc (thr d i))}
    {O : CellTallies nD τ sig (HIx 11)} (hO : ∀ g, O g none = 0) (hN : 0 < dst.view.amount (.dma sem))
    {α : Type} {K : PUnit → TP F i α} {Q : α → sProp 𝕄} :
    iprop(levAts (Cf (F := F)).L (Cf (F := F)).lev ∗ (src.view.loc (thr d i) ↦[src.view.set]{q} fs)
        ∗ (dst.view.loc (thr d i) ↦[dst.view.set]{fullShare} fd) ∗ semVal (thr d i, .dma sem) 0 ∗ Ow d i O)
      ⊢ iprop((iprop((src.view.loc (thr d i) ↦[src.view.set]{q} fs) ∗ At d i dst (src.view.read (Elt F) fs)
            ∗ semVal (thr d i, .dma sem) 0 ∗ Ow d i O) -∗ WP d i (K ⟨⟩) Q)
          -∗ WP d i (Prog.lift (.enqueueDma src (.here dst) (.dma sem) ws wd ty) >>= fun _ => Prog.lift (.waitDma2 sem src dst ws wd) >>= K) Q) := by
  unfold Ow
  iintro ⟨#Hlv, Hs, Hd, Hv, %W, HO⟩ Hk
  unfold WP
  iapply (Transfers.wp_dmaLocal (countersEmb (Lvl := ℕ)) 𝒱₀ (thr d i) none (src := src) (dst := dst) (sm := .dma sem) (Sd := dst.view.set)
    (default : HIx 11) _ rfl hN (Finset.Subset.refl _)) $$ [Hs Hd Hv]
  · isplitl [Hs]; · iexact Hs
    isplitl [Hd]; · iexact Hd
    iexact Hv
  iintro Hf
  ihave HM := (lev_evid (F := F) d i hO) $$ Hlv
  iapply (Transfers.wp_waitLocalO (countersEmb (Lvl := ℕ)) 𝒱₀ (thr d i) none (srcw := src) (dstw := dst) (default : HIx 11) rfl) $$ [Hf HO HM]
  · isplitl [Hf]; · iexact Hf
    isplitl [HO]; · iexact HO
    iapply (Transfers.MayWaits.elim (.dma sem)) $$ HM
  iintro ⟨⟨Hd, Hs⟩, Hv, HO⟩
  iapply Hk
  isplitl [Hs]; · iexact Hs
  isplitl [Hd]
  · unfold At
    iexists _; isplitr; swap; · iexact Hd
    ipureintro
    exact View.read_write_univ _ _
  isplitl [Hv]; · iexact Hv
  iexists _; iexact HO

end Cert.Proof.K

end
-- ==== Proof.K.Copy.lean ====
/- The copies of a tile's share of the arrays into its buffers. -/
module

public import proofs.«01_k».proof.Proof.K.Xfer

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F] (d : Dev nD) (i : grid0.Coords)

/-- The arrays in the device's memory. -/
abbrev lAnc (d : Dev nD) : Loc nD τ sig := (SparseCore.T d).loc main_v1
abbrev lCls (d : Dev nD) : Loc nD τ sig := (SparseCore.T d).loc main_v3
abbrev lReg (d : Dev nD) : Loc nD τ sig := (SparseCore.T d).loc main_v5
abbrev lLdm (d : Dev nD) : Loc nD τ sig := (SparseCore.T d).loc main_v7
abbrev lBox (d : Dev nD) : Loc nD τ sig := (SparseCore.T d).loc main_v12
abbrev lTab (d : Dev nD) : Loc nD τ sig := (SparseCore.T d).loc main_v14
abbrev lOut (d : Dev nD) : Loc nD τ sig := (SparseCore.T d).loc main_v15

/-- The arrays' contents. -/
structure HB (F : FTy → Type) where
  anc : (L1 64000).Idx → F .f32
  cls : (L1 256000).Idx → BitVec 32
  reg : (L1 512000).Idx → F .f32
  ldm : (L1 1280000).Idx → F .f32
  box : (L1 16384).Idx → F .f32
  tab : (L1 3584).Idx → F .f32

/-- The arrays, each held at the share `q`. -/
def arrs (d : Dev nD) (q : PosShare TreeShare) (b : HB F) : sProp 𝕄 :=
  iprop(pointsTo (Val := Elt F) (lAnc d) Finset.univ q b.anc
    ∗ pointsTo (Val := Elt F) (lCls d) Finset.univ q b.cls
    ∗ pointsTo (Val := Elt F) (lReg d) Finset.univ q b.reg
    ∗ pointsTo (Val := Elt F) (lLdm d) Finset.univ q b.ldm
    ∗ pointsTo (Val := Elt F) (lBox d) Finset.univ q b.box
    ∗ pointsTo (Val := Elt F) (lTab d) Finset.univ q b.tab)

/-- One copy: from where, into what, and at what share and contents the source is held. -/
structure Cp (F : FTy → Type) (d : Dev nD) (i : grid0.Coords) where
  e : EltTy
  src : Memref sig .scVector .hbm S4000 e
  dst : Memref sig .scVector .vmem S4000 e
  ws : src.view.WordExact
  wd : dst.view.WordExact
  ty : DmaTarget.Typed (nD := nD) (p := (thr d i).2) .hbm (.dma cc0_scratch37.sem) (.here dst)
  q : PosShare TreeShare
  fs : Buf (Elt F) (src.view.loc (thr d i))
  hN : dst.view.dmaCredit = ax0.view.dmaCredit

/-- The twenty copies that share a semaphore. -/
def cps (d : Dev nD) (i : grid0.Coords) (q : PosShare TreeShare) (b : HB F) : Fin 20 → Cp F d i := ![
  ⟨.f32, hAnc.slice (Rect.unit (s := S64000) (k0_off1 i 0#32) S4000.size (k0_off1_inb i 0)) (fun _ => rfl), ax0, View.wordExact_bits rfl, (Memref.isWhole_whole _).wordExact, ⟨Or.inl rfl, trivial⟩, pieceOf q 4 (by decide) 0, b.anc, rfl⟩,
  ⟨.f32, hAnc.slice (Rect.unit (s := S64000) (k0_off1 i 16000#32) S4000.size (k0_off1_inb i 1)) (fun _ => rfl), ay0, View.wordExact_bits rfl, (Memref.isWhole_whole _).wordExact, ⟨Or.inl rfl, trivial⟩, pieceOf q 4 (by decide) 1, b.anc, rfl⟩,
  ⟨.f32, hAnc.slice (Rect.unit (s := S64000) (k0_off1 i 32000#32) S4000.size (k0_off1_inb i 2)) (fun _ => rfl), ax1, View.wordExact_bits rfl, (Memref.isWhole_whole _).wordExact, ⟨Or.inl rfl, trivial⟩, pieceOf q 4 (by decide) 2, b.anc, rfl⟩,
  ⟨.f32, hAnc.slice (Rect.unit (s := S64000) (k0_off1 i 48000#32) S4000.size (k0_off1_inb i 3)) (fun _ => rfl), ay1, View.wordExact_bits rfl, (Memref.isWhole_whole _).wordExact, ⟨Or.inl rfl, trivial⟩, pieceOf q 4 (by decide) 3, b.anc, rfl⟩,
  ⟨.i32, hCls.slice (Rect.unit (s := S256000) (k0_off2 i 0#32) S4000.size (k0_off2_inb i 0)) (fun _ => rfl), c0v, View.wordExact_bits rfl, (Memref.isWhole_whole _).wordExact, ⟨Or.inl rfl, trivial⟩, pieceOf q 2 (by decide) 0, b.cls, rfl⟩,
  ⟨.i32, hCls.slice (Rect.unit (s := S256000) (k0_off2 i 16000#32) S4000.size (k0_off2_inb i 1)) (fun _ => rfl), c1v, View.wordExact_bits rfl, (Memref.isWhole_whole _).wordExact, ⟨Or.inl rfl, trivial⟩, pieceOf q 2 (by decide) 1, b.cls, rfl⟩,
  ⟨.f32, hReg.slice (Rect.unit (s := S512000) (k0_off3 i 0#32) S4000.size (k0_off3_inb i 0)) (fun _ => rfl), br0, View.wordExact_bits rfl, (Memref.isWhole_whole _).wordExact, ⟨Or.inl rfl, trivial⟩, pieceOf q 4 (by decide) 0, b.reg, rfl⟩,
  ⟨.f32, hReg.slice (Rect.unit (s := S512000) (k0_off3 i 16000#32) S4000.size (k0_off3_inb i 1)) (fun _ => rfl), br1, View.wordExact_bits rfl, (Memref.isWhole_whole _).wordExact, ⟨Or.inl rfl, trivial⟩, pieceOf q 4 (by decide) 1, b.reg, rfl⟩,
  ⟨.f32, hReg.slice (Rect.unit (s := S512000) (k0_off3 i 32000#32) S4000.size (k0_off3_inb i 2)) (fun _ => rfl), br2, View.wordExact_bits rfl, (Memref.isWhole_whole _).wordExact, ⟨Or.inl rfl, trivial⟩, pieceOf q 4 (by decide) 2, b.reg, rfl⟩,
  ⟨.f32, hReg.slice (Rect.unit (s := S512000) (k0_off3 i 48000#32) S4000.size (k0_off3_inb i 3)) (fun _ => rfl), br3, View.wordExact_bits rfl, (Memref.isWhole_whole _).wordExact, ⟨Or.inl rfl, trivial⟩, pieceOf q 4 (by decide) 3, b.reg, rfl⟩,
  ⟨.f32, hLdm.slice (Rect.unit (s := S1280000) (k0_off4 i 0#32) S4000.size (k0_off4_inb i 0)) (fun _ => rfl), lm0, View.wordExact_bits rfl, (Memref.isWhole_whole _).wordExact, ⟨Or.inl rfl, trivial⟩, pieceOf q 10 (by decide) 0, b.ldm, rfl⟩,
  ⟨.f32, hLdm.slice (Rect.unit (s := S1280000) (k0_off4 i 16000#32) S4000.size (k0_off4_inb i 1)) (fun _ => rfl), lm1, View.wordExact_bits rfl, (Memref.isWhole_whole _).wordExact, ⟨Or.inl rfl, trivial⟩, pieceOf q 10 (by decide) 1, b.ldm, rfl⟩,
  ⟨.f32, hLdm.slice (Rect.unit (s := S1280000) (k0_off4 i 32000#32) S4000.size (k0_off4_inb i 2)) (fun _ => rfl), lm2, View.wordExact_bits rfl, (Memref.isWhole_whole _).wordExact, ⟨Or.inl rfl, trivial⟩, pieceOf q 10 (by decide) 2, b.ldm, rfl⟩,
  ⟨.f32, hLdm.slice (Rect.unit (s := S1280000) (k0_off4 i 48000#32) S4000.size (k0_off4_inb i 3)) (fun _ => rfl), lm3, View.wordExact_bits rfl, (Memref.isWhole_whole _).wordExact, ⟨Or.inl rfl, trivial⟩, pieceOf q 10 (by decide) 3, b.ldm, rfl⟩,
  ⟨.f32, hLdm.slice (Rect.unit (s := S1280000) (k0_off4 i 64000#32) S4000.size (k0_off4_inb i 4)) (fun _ => rfl), lm4, View.wordExact_bits rfl, (Memref.isWhole_whole _).wordExact, ⟨Or.inl rfl, trivial⟩, pieceOf q 10 (by decide) 4, b.ldm, rfl⟩,
  ⟨.f32, hLdm.slice (Rect.unit (s := S1280000) (k0_off4 i 80000#32) S4000.size (k0_off4_inb i 5)) (fun _ => rfl), lm5, View.wordExact_bits rfl, (Memref.isWhole_whole _).wordExact, ⟨Or.inl rfl, trivial⟩, pieceOf q 10 (by decide) 5, b.ldm, rfl⟩,
  ⟨.f32, hLdm.slice (Rect.unit (s := S1280000) (k0_off4 i 96000#32) S4000.size (k0_off4_inb i 6)) (fun _ => rfl), lm6, View.wordExact_bits rfl, (Memref.isWhole_whole _).wordExact, ⟨Or.inl rfl, trivial⟩, pieceOf q 10 (by decide) 6, b.ldm, rfl⟩,
  ⟨.f32, hLdm.slice (Rect.unit (s := S1280000) (k0_off4 i 112000#32) S4000.size (k0_off4_inb i 7)) (fun _ => rfl), lm7, View.wordExact_bits rfl, (Memref.isWhole_whole _).wordExact, ⟨Or.inl rfl, trivial⟩, pieceOf q 10 (by decide) 7, b.ldm, rfl⟩,
  ⟨.f32, hLdm.slice (Rect.unit (s := S1280000) (k0_off4 i 128000#32) S4000.size (k0_off4_inb i 8)) (fun _ => rfl), lm8, View.wordExact_bits rfl, (Memref.isWhole_whole _).wordExact, ⟨Or.inl rfl, trivial⟩, pieceOf q 10 (by decide) 8, b.ldm, rfl⟩,
  ⟨.f32, hLdm.slice (Rect.unit (s := S1280000) (k0_off4 i 144000#32) S4000.size (k0_off4_inb i 9)) (fun _ => rfl), lm9, View.wordExact_bits rfl, (Memref.isWhole_whole _).wordExact, ⟨Or.inl rfl, trivial⟩, pieceOf q 10 (by decide) 9, b.ldm, rfl⟩]

namespace Cp
variable {d i} (c : Cp F d i)
def issue : TP F i PUnit := Prog.lift (.enqueueDma c.src (.here c.dst) (.dma cc0_scratch37.sem) c.ws c.wd c.ty)
def await : TP F i PUnit := Prog.lift (.waitDma2 cc0_scratch37.sem c.src c.dst c.ws c.wd)
/-- The source whole. -/
def whole : sProp 𝕄 := c.src.view.loc (thr d i) ↦[Finset.univ]{c.q} c.fs
/-- What of the source the copy reads. -/
def part : sProp 𝕄 := c.src.view.loc (thr d i) ↦[c.src.view.set]{c.q} c.fs
/-- The rest of the source. -/
def rest : sProp 𝕄 := c.src.view.loc (thr d i) ↦[Finset.univ \ c.src.view.set]{c.q} c.fs
theorem whole_split : (c.whole : sProp 𝕄) ⊣⊢ iprop(c.part ∗ c.rest) := pointsTo_split_subset (Finset.subset_univ _)
/-- The target at some contents. -/
def free : sProp 𝕄 := iprop(∃ g, At d i c.dst g)
/-- The target at what the source holds. -/
def got : sProp 𝕄 := At d i c.dst (c.src.view.read (Elt F) c.fs)
/-- What a copy leaves. -/
def done : sProp 𝕄 := iprop(c.got ∗ c.part)
instance : BI.Storable (upEmb : UEmb _ 𝕄) c.done := by
  unfold done got part At; infer_instance
end Cp

section Run
variable {d i} (cs : Fin 20 → Cp F d i)

theorem nc_pos : 0 < ax0.view.dmaCredit := View.dmaCredit_pos _ (by decide)

abbrev Bt (j u : ℕ) : sProp 𝕄 :=
  Transfers.Batch (countersEmb (Lvl := ℕ)) (thr d i) (.dma cc0_scratch37.sem) (default : HIx 11) ax0.view.dmaCredit (fun t => (cs t).done) j u

/-- The copies from the `k`-th on. -/
abbrev todo (k : ℕ) : Finset (Fin 20) := Finset.univ.filter fun t => k ≤ t.val

theorem todo_eq (k : Fin 20) : todo k.val = insert k (todo (k.val + 1)) := by
  ext x; simp only [Finset.mem_filter, Finset.mem_univ, true_and, Finset.mem_insert, Fin.ext_iff]; omega
theorem not_mem_todo (k : Fin 20) : k ∉ todo (k.val + 1) := by simp

theorem done_intro (c : Cp F d i) (fd : Buf (Elt F) (c.dst.view.loc (thr d i))) :
    iprop((c.dst.view.loc (thr d i) ↦[c.dst.view.set]{fullShare} (c.dst.view.write (Elt F) fd ((ReadAs.same : ReadAs (Elt F) S4000 c.e S4000 c.e).apply (c.src.view.read (Elt F) c.fs)) Finset.univ))
      ∗ (c.src.view.loc (thr d i) ↦[c.src.view.set]{c.q} c.fs)) ⊢ (c.done : sProp 𝕄) := by
  unfold Cp.done Cp.got Cp.part At
  iintro ⟨Hd, Hs⟩
  isplitl [Hd]
  · iexists _; isplitr; swap; · iexact Hd
    ipureintro; exact View.read_write_univ _ _
  iexact Hs

theorem issue_step (k : Fin 20) :
    iprop(Bt cs k.val 0 ∗ bigSep (todo k.val) fun t => iprop((cs t).part ∗ (cs t).free))
      ⊢ WP d i (cs k).issue fun _ => iprop(Bt cs (k.val + 1) 0 ∗ bigSep (todo (k.val + 1)) fun t => iprop((cs t).part ∗ (cs t).free)) := by
  rw [todo_eq k, SparseCore.bigSep_insert' (not_mem_todo k)]
  unfold Cp.free At
  have hN : (cs k).dst.view.amount (.dma cc0_scratch37.sem) = ax0.view.dmaCredit := (cs k).hN
  iintro ⟨HB, ⟨Hp, %g, %f, -, Hf⟩, Hr⟩
  have hD := done_intro (cs k) f
  unfold Cp.issue WP
  iapply (Transfers.wp_dmaBatch (countersEmb (Lvl := ℕ)) 𝒱₀ (thr d i) none (src := (cs k).src) (dst := (cs k).dst) (q := (cs k).q) (fs := (cs k).fs) (fd := f)
    (D := fun t => (cs t).done) (Sd := (cs k).dst.view.set) (j := k.val) (u := 0)
    (default : HIx 11) ax0.view.dmaCredit hN (Finset.Subset.refl _) k.isLt (Nat.zero_le _) hD) $$ [Hp Hf HB]
  · isplitl [Hp]; · unfold Cp.part; iexact Hp
    isplitl [Hf]; · iexact Hf
    iexact HB
  iintro HB
  iapply wp_done
  isplitl [HB]; · iexact HB
  iexact Hr

theorem await_step {O : CellTallies nD τ sig (HIx 11)} (hO : ∀ g, O g none = 0) (k : Fin 20) :
    iprop((levAts (Cf (F := F)).L (Cf (F := F)).lev) ∗ Bt cs 20 (k.val * ax0.view.dmaCredit) ∗ Ow d i O)
      ⊢ WP d i (cs k).await fun _ => iprop((levAts (Cf (F := F)).L (Cf (F := F)).lev) ∗ Bt cs 20 ((k.val + 1) * ax0.view.dmaCredit) ∗ Ow d i O) := by
  unfold Ow
  iintro ⟨#Hlv, HB, %W, HO⟩
  ihave HM := (lev_evid (F := F) d i hO) $$ Hlv
  unfold Cp.await WP
  have hk := k.isLt
  iapply (Transfers.wp_waitBatchMulO (countersEmb (Lvl := ℕ)) 𝒱₀ (thr d i) none (srcw := (cs k).src) (dstw := (cs k).dst)
    (D := fun t => (cs t).done) (N := ax0.view.dmaCredit) (j := 20) (u := k.val * ax0.view.dmaCredit)
    (default : HIx 11) 1 (by rw [one_mul]; exact (cs k).hN) (by
      rw [← Nat.add_mul, Nat.mul_comm _ 20]; exact Nat.mul_le_mul_right _ (by omega))) $$ [HB HO HM]
  · isplitl [HB]; · iexact HB
    isplitl [HO]; · iexact HO
    iapply (Transfers.MayWaits.elim (.dma cc0_scratch37.sem)) $$ HM
  iintro ⟨HB, HO⟩
  iapply wp_done
  isplitr; · iexact Hlv
  isplitl [HB]
  · rw [Nat.add_mul]; iexact HB
  iexists _; iexact HO

end Run

theorem copies_eq (q : PosShare TreeShare) (b : HB F) {α : Type} (K : PUnit → TP F i α) :
    (copies >>= K) = (rep (fun k _ => (cps d i q b k).issue) 20 0 rfl ⟨⟩ >>= fun _ =>
      Prog.lift (.enqueueDma (hBox.slice (Rect.unit (s := S16384) (k0_off5 i) S2048.size (k0_off5_inb i)) (fun _ => rfl)) (.here annb) (.dma cc0_scratch38.sem) (View.wordExact_bits rfl) (Memref.isWhole_whole _).wordExact ⟨Or.inl rfl, trivial⟩) >>= fun _ =>
      Prog.lift (.enqueueDma (hTab.slice (Rect.unit (s := S3584) (k0_off6 i) S448.size (k0_off6_inb i)) (fun _ => rfl)) (.here tab) (.dma cc0_scratch39.sem) (View.wordExact_bits rfl) (Memref.isWhole_whole _).wordExact ⟨Or.inl rfl, trivial⟩) >>= fun _ =>
      rep (fun k _ => (cps d i q b k).await) 20 0 rfl ⟨⟩ >>= fun _ =>
      Prog.lift (.waitDma2 cc0_scratch38.sem (hBox.slice (Rect.unit (s := S16384) (k0_off5 i) S2048.size (k0_off5_inb i)) (fun _ => rfl)) annb (View.wordExact_bits rfl) (Memref.isWhole_whole _).wordExact) >>= fun _ =>
      Prog.lift (.waitDma2 cc0_scratch39.sem (hTab.slice (Rect.unit (s := S3584) (k0_off6 i) S448.size (k0_off6_inb i)) (fun _ => rfl)) tab (View.wordExact_bits rfl) (Memref.isWhole_whole _).wordExact) >>= K) := by
  unfold copies
  simp only [rep, bind_assoc, pure_bind]
  rfl

end Cert.Proof.K

end
-- ==== Proof.K.Load.lean ====
/- The copies in, whole: the arrays' shares in and out, and the buffers at what the tile reads. -/
module

public import proofs.«01_k».proof.Proof.K.Copy

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F] (d : Dev nD) (i : grid0.Coords)

/-- What the tile at `i` copies in. -/
def tin (i : grid0.Coords) (b : HB F) : TileIn F where
  x0 := fun x => b.anc ((Rect.unit (s := S64000) (k0_off1 i 0#32) S4000.size (k0_off1_inb i 0)).emb x)
  y0 := fun x => b.anc ((Rect.unit (s := S64000) (k0_off1 i 16000#32) S4000.size (k0_off1_inb i 1)).emb x)
  x1 := fun x => b.anc ((Rect.unit (s := S64000) (k0_off1 i 32000#32) S4000.size (k0_off1_inb i 2)).emb x)
  y1 := fun x => b.anc ((Rect.unit (s := S64000) (k0_off1 i 48000#32) S4000.size (k0_off1_inb i 3)).emb x)
  c0 := fun x => b.cls ((Rect.unit (s := S256000) (k0_off2 i 0#32) S4000.size (k0_off2_inb i 0)).emb x)
  c1 := fun x => b.cls ((Rect.unit (s := S256000) (k0_off2 i 16000#32) S4000.size (k0_off2_inb i 1)).emb x)
  b0 := fun x => b.reg ((Rect.unit (s := S512000) (k0_off3 i 0#32) S4000.size (k0_off3_inb i 0)).emb x)
  b1 := fun x => b.reg ((Rect.unit (s := S512000) (k0_off3 i 16000#32) S4000.size (k0_off3_inb i 1)).emb x)
  b2 := fun x => b.reg ((Rect.unit (s := S512000) (k0_off3 i 32000#32) S4000.size (k0_off3_inb i 2)).emb x)
  b3 := fun x => b.reg ((Rect.unit (s := S512000) (k0_off3 i 48000#32) S4000.size (k0_off3_inb i 3)).emb x)
  l0 := fun x => b.ldm ((Rect.unit (s := S1280000) (k0_off4 i 0#32) S4000.size (k0_off4_inb i 0)).emb x)
  l1 := fun x => b.ldm ((Rect.unit (s := S1280000) (k0_off4 i 16000#32) S4000.size (k0_off4_inb i 1)).emb x)
  l2 := fun x => b.ldm ((Rect.unit (s := S1280000) (k0_off4 i 32000#32) S4000.size (k0_off4_inb i 2)).emb x)
  l3 := fun x => b.ldm ((Rect.unit (s := S1280000) (k0_off4 i 48000#32) S4000.size (k0_off4_inb i 3)).emb x)
  l4 := fun x => b.ldm ((Rect.unit (s := S1280000) (k0_off4 i 64000#32) S4000.size (k0_off4_inb i 4)).emb x)
  l5 := fun x => b.ldm ((Rect.unit (s := S1280000) (k0_off4 i 80000#32) S4000.size (k0_off4_inb i 5)).emb x)
  l6 := fun x => b.ldm ((Rect.unit (s := S1280000) (k0_off4 i 96000#32) S4000.size (k0_off4_inb i 6)).emb x)
  l7 := fun x => b.ldm ((Rect.unit (s := S1280000) (k0_off4 i 112000#32) S4000.size (k0_off4_inb i 7)).emb x)
  l8 := fun x => b.ldm ((Rect.unit (s := S1280000) (k0_off4 i 128000#32) S4000.size (k0_off4_inb i 8)).emb x)
  l9 := fun x => b.ldm ((Rect.unit (s := S1280000) (k0_off4 i 144000#32) S4000.size (k0_off4_inb i 9)).emb x)
  box := fun x => b.box ((Rect.unit (s := S16384) (k0_off5 i) S2048.size (k0_off5_inb i)).emb x)
  tb := fun x => b.tab ((Rect.unit (s := S3584) (k0_off6 i) S448.size (k0_off6_inb i)).emb x)

/-- The buffers the copies fill, at some contents. -/
def frees : sProp 𝕄 := iprop((∃ g, At d i ax0 g) ∗ (∃ g, At d i ay0 g) ∗ (∃ g, At d i ax1 g) ∗ (∃ g, At d i ay1 g) ∗ (∃ g, At d i c0v g) ∗ (∃ g, At d i c1v g) ∗ (∃ g, At d i br0 g) ∗ (∃ g, At d i br1 g) ∗ (∃ g, At d i br2 g) ∗ (∃ g, At d i br3 g) ∗ (∃ g, At d i lm0 g) ∗ (∃ g, At d i lm1 g) ∗ (∃ g, At d i lm2 g) ∗ (∃ g, At d i lm3 g) ∗ (∃ g, At d i lm4 g) ∗ (∃ g, At d i lm5 g) ∗ (∃ g, At d i lm6 g) ∗ (∃ g, At d i lm7 g) ∗ (∃ g, At d i lm8 g) ∗ (∃ g, At d i lm9 g))
/-- The buffers the copies fill, at what the tile reads. -/
def loads (A : TileIn F) : sProp 𝕄 := iprop(At d i ax0 A.x0 ∗ At d i ay0 A.y0 ∗ At d i ax1 A.x1 ∗ At d i ay1 A.y1 ∗ At d i c0v A.c0 ∗ At d i c1v A.c1 ∗ At d i br0 A.b0 ∗ At d i br1 A.b1 ∗ At d i br2 A.b2 ∗ At d i br3 A.b3 ∗ At d i lm0 A.l0 ∗ At d i lm1 A.l1 ∗ At d i lm2 A.l2 ∗ At d i lm3 A.l3 ∗ At d i lm4 A.l4 ∗ At d i lm5 A.l5 ∗ At d i lm6 A.l6 ∗ At d i lm7 A.l7 ∗ At d i lm8 A.l8 ∗ At d i lm9 A.l9)

theorem sepA (P Q R : sProp 𝕄) : iprop((P ∗ Q) ∗ R) = iprop(P ∗ (Q ∗ R)) := by
  exact equiv_iff.mp ⟨BI.sep_assoc, BI.sep_assoc'⟩

theorem big20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) := by
  iterate 19 rw [bigSep_univ_succ]
  rw [bigSep_univ_of_subsingleton (0 : Fin 1)]
  rfl
theorem big10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  iterate 9 rw [bigSep_univ_succ]
  rw [bigSep_univ_of_subsingleton (0 : Fin 1)]
  rfl
theorem big4 (Φ : Fin 4 → sProp 𝕄) : bigSep Finset.univ Φ = iprop(Φ 0 ∗ Φ 1 ∗ Φ 2 ∗ Φ 3) := by
  iterate 3 rw [bigSep_univ_succ]
  rw [bigSep_univ_of_subsingleton (0 : Fin 1)]
  rfl
theorem big2 (Φ : Fin 2 → sProp 𝕄) : bigSep Finset.univ Φ = iprop(Φ 0 ∗ Φ 1) := by
  rw [bigSep_univ_succ]
  rw [bigSep_univ_of_subsingleton (0 : Fin 1)]
  rfl

theorem arrs_eq (q : PosShare TreeShare) (b : HB F) :
    arrs d q b = iprop((bigSep Finset.univ fun t => (cps d i q b t).whole) ∗ pointsTo (Val := Elt F) (lBox d) Finset.univ q b.box
      ∗ pointsTo (Val := Elt F) (lTab d) Finset.univ q b.tab) := by
  unfold arrs
  rw [pointsTo_piecesOf (o := 4) (ℓ := lAnc d) (Val := Elt F) Finset.univ b.anc (by decide) q, pointsTo_piecesOf (o := 2) (ℓ := lCls d) (Val := Elt F) Finset.univ b.cls (by decide) q,
    pointsTo_piecesOf (o := 4) (ℓ := lReg d) (Val := Elt F) Finset.univ b.reg (by decide) q, pointsTo_piecesOf (o := 10) (ℓ := lLdm d) (Val := Elt F) Finset.univ b.ldm (by decide) q,
    big4, big4, big2, big10, big20]
  simp only [sepA]
  rfl

theorem frees_eq (q : PosShare TreeShare) (b : HB F) : frees d i = bigSep Finset.univ fun t => (cps d i q b t).free := by
  rw [big20]; rfl
theorem loads_eq (q : PosShare TreeShare) (b : HB F) : loads d i (tin i b) = bigSep Finset.univ fun t => (cps d i q b t).got := by
  rw [big20]; rfl

theorem copies_step {q : PosShare TreeShare} {b : HB F} {O : CellTallies nD τ sig (HIx 11)} (hO : ∀ g, O g none = 0)
    {α : Type} {K : PUnit → TP F i α} {Q : α → sProp 𝕄} :
    iprop(levAts (Cf (F := F)).L (Cf (F := F)).lev ∗ arrs d q b ∗ frees d i ∗ (∃ g, At d i annb g) ∗ (∃ g, At d i tab g)
        ∗ semVal (thr d i, .dma cc0_scratch37.sem) 0 ∗ semVal (thr d i, .dma cc0_scratch38.sem) 0 ∗ semVal (thr d i, .dma cc0_scratch39.sem) 0 ∗ Ow d i O)
      ⊢ iprop((iprop(arrs d q b ∗ loads d i (tin i b) ∗ At d i annb (tin i b).box ∗ At d i tab (tin i b).tb
            ∗ semVal (thr d i, .dma cc0_scratch37.sem) 0 ∗ semVal (thr d i, .dma cc0_scratch38.sem) 0 ∗ semVal (thr d i, .dma cc0_scratch39.sem) 0 ∗ Ow d i O)
              -∗ WP d i (K ⟨⟩) Q) -∗ WP d i (copies >>= K) Q) := by
  rw [copies_eq d i q b, arrs_eq d i q b, frees_eq d i q b, loads_eq d i q b]
  have hsplit : (bigSep Finset.univ fun t => (cps d i q b t).whole) ⊢ iprop((bigSep Finset.univ fun t => (cps d i q b t).part) ∗ bigSep Finset.univ fun t => (cps d i q b t).rest) := by
    rw [← bigSep_sep']; exact bigSep_mono fun t _ => (cps d i q b t).whole_split.1
  have hjoin : iprop((bigSep Finset.univ fun t => (cps d i q b t).part) ∗ bigSep Finset.univ fun t => (cps d i q b t).rest) ⊢ (bigSep Finset.univ fun t => (cps d i q b t).whole) := by
    rw [← bigSep_sep']; exact bigSep_mono fun t _ => (cps d i q b t).whole_split.2
  have htodo : todo 0 = Finset.univ := by simp
  have hbox : (pointsTo (Val := Elt F) (lBox d) Finset.univ q b.box : sProp 𝕄) ⊣⊢ iprop(
      ((hBox.slice (Rect.unit (s := S16384) (k0_off5 i) S2048.size (k0_off5_inb i)) (fun _ => rfl)).view.loc (thr d i)
        ↦[(hBox.slice (Rect.unit (s := S16384) (k0_off5 i) S2048.size (k0_off5_inb i)) (fun _ => rfl)).view.set]{q} b.box)
      ∗ pointsTo (Val := Elt F) (lBox d) (Finset.univ \ (hBox.slice (Rect.unit (s := S16384) (k0_off5 i) S2048.size (k0_off5_inb i)) (fun _ => rfl)).view.set) q b.box) :=
    pointsTo_split_subset (Finset.subset_univ _)
  have htab : (pointsTo (Val := Elt F) (lTab d) Finset.univ q b.tab : sProp 𝕄) ⊣⊢ iprop(
      ((hTab.slice (Rect.unit (s := S3584) (k0_off6 i) S448.size (k0_off6_inb i)) (fun _ => rfl)).view.loc (thr d i)
        ↦[(hTab.slice (Rect.unit (s := S3584) (k0_off6 i) S448.size (k0_off6_inb i)) (fun _ => rfl)).view.set]{q} b.tab)
      ∗ pointsTo (Val := Elt F) (lTab d) (Finset.univ \ (hTab.slice (Rect.unit (s := S3584) (k0_off6 i) S448.size (k0_off6_inb i)) (fun _ => rfl)).view.set) q b.tab) :=
    pointsTo_split_subset (Finset.subset_univ _)
  have hN1 : 0 < annb.view.amount (.dma cc0_scratch38.sem) := View.amount_pos _ _ (by decide)
  have hN2 : 0 < tab.view.amount (.dma cc0_scratch39.sem) := View.amount_pos _ _ (by decide)
  unfold Ow
  iintro ⟨#Hlv, ⟨Hw, Hbox, Htab⟩, Hfr, ⟨%ga, Hann⟩, ⟨%gt, Htb⟩, Hs1, Hs2, Hs3, %W0, HO⟩ Hk
  ihave Hw' := hsplit $$ Hw
  icases Hw' with ⟨Hp, Hr⟩
  ihave Hbox' := hbox.1 $$ Hbox
  icases Hbox' with ⟨Hbox, Hboxr⟩
  ihave Htab' := htab.1 $$ Htab
  icases Htab' with ⟨Htab, Htabr⟩
  imod (Transfers.batch_alloc' (countersEmb (Lvl := ℕ)) (c := thr d i) (sm := .dma cc0_scratch37.sem) (default : HIx 11) ax0.view.dmaCredit
    (fun t => (cps d i q b t).done) (E := Set.univ)) $$ Hs1 with HB
  iapply (wp_rep_bind d i (fun k _ => (cps d i q b k).issue)
    (fun k _ => iprop(Bt (cps d i q b) k 0 ∗ bigSep (todo k) fun t => iprop((cps d i q b t).part ∗ (cps d i q b t).free)))
    (fun k _ => issue_step (cps d i q b) k) ⟨⟩ rfl) $$ [HB Hp Hfr]
  · isplitl [HB]; · iexact HB
    rw [htodo, bigSep_sep']
    isplitl [Hp] <;> iassumption
  iintro %u ⟨HB, -⟩
  unfold At
  icases Hann with ⟨%fa, -, Hann⟩
  icases Htb with ⟨%ft, -, Htb⟩
  unfold WP
  iapply (Transfers.wp_dmaLocal (countersEmb (Lvl := ℕ)) 𝒱₀ (thr d i) none (dst := annb) (sm := .dma cc0_scratch38.sem) (Sd := annb.view.set)
    (default : HIx 11) _ rfl hN1 (Finset.Subset.refl _)) $$ [Hbox Hann Hs2]
  · isplitl [Hbox]; · iexact Hbox
    isplitl [Hann]; · iexact Hann
    iexact Hs2
  iintro Hf1
  iapply (Transfers.wp_dmaLocal (countersEmb (Lvl := ℕ)) 𝒱₀ (thr d i) none (dst := tab) (sm := .dma cc0_scratch39.sem) (Sd := tab.view.set)
    (default : HIx 11) _ rfl hN2 (Finset.Subset.refl _)) $$ [Htab Htb Hs3]
  · isplitl [Htab]; · iexact Htab
    isplitl [Htb]; · iexact Htb
    iexact Hs3
  iintro Hf2
  iapply (wp_rep_bind d i (fun k _ => (cps d i q b k).await)
    (fun k _ => iprop((levAts (Cf (F := F)).L (Cf (F := F)).lev) ∗ Bt (cps d i q b) 20 (k * ax0.view.dmaCredit) ∗ Ow d i O))
    (fun k _ => await_step (cps d i q b) hO k) ⟨⟩ rfl) $$ [HB HO]
  · isplitr; · iexact Hlv
    isplitl [HB]; · rw [Nat.zero_mul]; iexact HB
    unfold Ow
    iexists W0; iexact HO
  unfold Ow
  iintro %u' ⟨-, HB, %W, HO⟩
  have ec : (Bt (cps d i q b) 20 (20 * ax0.view.dmaCredit) : sProp 𝕄) = Bt (cps d i q b) 20 (ax0.view.dmaCredit * 20) := by rw [Nat.mul_comm]
  ihave HB' := (Entails.of_eq ec) $$ HB
  imod (Transfers.batch_collect' (countersEmb (Lvl := ℕ)) (thr d i) nc_pos) $$ HB' with ⟨HD, Hs1⟩
  ihave HM := (lev_evid (F := F) d i hO) $$ Hlv
  iapply (Transfers.wp_waitLocalO (countersEmb (Lvl := ℕ)) 𝒱₀ (thr d i) none (dstw := annb) (default : HIx 11) rfl) $$ [Hf1 HO HM]
  · isplitl [Hf1]; · iexact Hf1
    isplitl [HO]; · iexact HO
    iapply (Transfers.MayWaits.elim (.dma cc0_scratch38.sem)) $$ HM
  iintro ⟨⟨Hann, Hbox⟩, Hs2, HO⟩
  ihave HM := (lev_evid (F := F) d i hO) $$ Hlv
  iapply (Transfers.wp_waitLocalO (countersEmb (Lvl := ℕ)) 𝒱₀ (thr d i) none (dstw := tab) (default : HIx 11) rfl) $$ [Hf2 HO HM]
  · isplitl [Hf2]; · iexact Hf2
    isplitl [HO]; · iexact HO
    iapply (Transfers.MayWaits.elim (.dma cc0_scratch39.sem)) $$ HM
  iintro ⟨⟨Htb, Htab⟩, Hs3, HO⟩
  have hdone : (bigSep Finset.univ fun t => (cps d i q b t).done) ⊢ iprop((bigSep Finset.univ fun t => (cps d i q b t).got) ∗ bigSep Finset.univ fun t => (cps d i q b t).part) := by
    rw [← bigSep_sep']; rfl
  ihave HD' := hdone $$ HD
  icases HD' with ⟨Hg, Hp⟩
  iapply Hk
  isplitl [Hp Hr Hbox Hboxr Htab Htabr]
  · isplitl [Hp Hr]
    · iapply hjoin
      isplitl [Hp] <;> iassumption
    isplitl [Hbox Hboxr]
    · iapply hbox.2
      isplitl [Hbox] <;> iassumption
    iapply htab.2
    isplitl [Htab] <;> iassumption
  isplitl [Hg]; · iexact Hg
  isplitl [Hann]
  · iexists _; isplitr; swap; · iexact Hann
    ipureintro
    exact View.read_write_univ _ _
  isplitl [Htb]
  · iexists _; isplitr; swap; · iexact Htb
    ipureintro
    exact View.read_write_univ _ _
  isplitl [Hs1]; · iexact Hs1
  isplitl [Hs2]; · iexact Hs2
  isplitl [Hs3]; · iexact Hs3
  iexists _; iexact HO

end Cert.Proof.K

end
-- ==== Proof.K.Exch.lean ====
/- What the tiles of a SparseCore exchange: the slots of the shared buffers, and who holds which share of them when. -/
module

public import proofs.«01_k».proof.Proof.K.Xfer

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

/-! ## Slots -/

/-- The `t`-th piece of `w` elements. -/
def blk (w n t : ℕ) : Finset (L1 n).Idx := Finset.univ.filter fun j => (j 0).val / w = t

theorem mem_blk {w n t : ℕ} {j : (L1 n).Idx} : j ∈ blk w n t ↔ (j 0).val / w = t := by simp [blk]

theorem rect_blk {w n t : ℕ} (hw : 0 < w) {o : Fin 1 → ℕ} (ho : o = ![w * t]) (h : ∀ a, o a + (L1 w).size a ≤ (L1 n).size a) :
    (Rect.unit (s := L1 n) o (L1 w).size h).set = blk w n t := by
  subst ho
  ext j
  rw [Rect.mem_set_unit, mem_blk, Nat.div_eq_iff hw]
  constructor
  · intro H
    have := H 0
    change w * t ≤ (j 0).val ∧ (j 0).val < w * t + w at this
    rw [Nat.mul_comm t w]; omega
  · rintro ⟨h1, h2⟩ a
    match a with
    | 0 =>
      show w * t ≤ (j 0).val ∧ (j 0).val < w * t + w
      rw [Nat.mul_comm w t]; omega

theorem blk_grp {w n q : ℕ} (hw : 0 < w) :
    blk (4 * w) n q = Finset.univ.biUnion fun r : Fin 4 => blk w n (4 * q + r.val) := by
  ext j
  simp only [Finset.mem_biUnion, Finset.mem_univ, true_and, mem_blk]
  rw [Nat.mul_comm 4 w, ← Nat.div_div_eq_div_mul]
  constructor
  · intro H; exact ⟨⟨(j 0).val / w % 4, Nat.mod_lt _ (by decide)⟩, by show _ = 4 * q + (j 0).val / w % 4; omega⟩
  · rintro ⟨r, H⟩; have := r.isLt; omega

theorem blk_disj {w n : ℕ} {T : Type} (K : T → ℕ) (hK : Function.Injective K) (s : Finset T) :
    (s : Set T).PairwiseDisjoint fun r => blk w n (K r) := by
  intro a _ b _ hab
  rw [Function.onFun, Finset.disjoint_left]
  intro j h1 h2
  rw [mem_blk] at h1 h2
  exact hab (hK (h1.symm.trans h2))

theorem rect_emb {w n k : ℕ} [NeZero n] {o : Fin 1 → ℕ} (ho : o = ![k]) (h : ∀ a, o a + (L1 w).size a ≤ (L1 n).size a)
    (x : (L1 w).Idx) : (Rect.unit (s := L1 n) o (L1 w).size h).emb x = ixm n (k + (x 0).val) := by
  subst ho
  have hx := lt_of_idx x
  have hk : k + w ≤ n := h 0
  refine idx_ext ?_
  rw [ixm_val_of_lt n (by omega), Rect.emb_apply]
  show k + 1 * (x 0).val = _
  omega

theorem cat_slot {α : Type} {w n t : ℕ} [NeZero w] [NeZero n] (v : ℕ → (L1 w).Idx → α) {o : Fin 1 → ℕ} (ho : o = ![w * t])
    (h : ∀ a, o a + (L1 w).size a ≤ (L1 n).size a) (x : (L1 w).Idx) :
    catN w n v ((Rect.unit (s := L1 n) o (L1 w).size h).emb x) = v t x := by
  have hx := lt_of_idx x
  have hk : w * t + w ≤ n := by subst ho; exact h 0
  rw [rect_emb ho h, catN_ixm v hx (by omega), ixm_self]

theorem cat_grp {α : Type} {w m n q : ℕ} [NeZero w] [NeZero n] [NeZero m] (hm : m = 4 * w) (v : ℕ → (L1 w).Idx → α) {o : Fin 1 → ℕ} (ho : o = ![m * q])
    (h : ∀ a, o a + (L1 m).size a ≤ (L1 n).size a) (x : (L1 m).Idx) :
    catN w n v ((Rect.unit (s := L1 n) o (L1 m).size h).emb x) = catN w m (fun r => v (4 * q + r)) x := by
  have hw : 0 < w := Nat.pos_of_ne_zero (NeZero.ne w)
  have hx := lt_of_idx x
  have hk : m * q + m ≤ n := by subst ho; exact h 0
  have e : m * q + (x 0).val = w * (4 * q + (x 0).val / w) + (x 0).val % w := by
    have := Nat.div_add_mod (x 0).val w
    rw [Nat.mul_add, Nat.add_assoc, this]
    have h4 : m * q = w * (4 * q) := by rw [hm, Nat.mul_comm 4 w, Nat.mul_assoc]
    rw [h4]
  rw [rect_emb ho h, e, catN_ixm v (Nat.mod_lt _ hw) (by rw [← e]; omega)]
  rfl

/-- A share's four quarters. -/
def qt (r : ℕ) : PosShare TreeShare :=
  match r with
  | 0 => fullShare.left.left | 1 => fullShare.left.right | 2 => fullShare.right.left | _ => fullShare.right.right

theorem pts_quarters (ℓ : Loc nD τ sig) (I : Finset (Idx ℓ)) (f : Buf (Elt F) ℓ) :
    (ℓ ↦[I]{fullShare} f : sProp 𝕄) ⊣⊢ bigSep Finset.univ fun r : Fin 4 => ℓ ↦[I]{qt r.val} f := by
  have e : (bigSep Finset.univ fun r : Fin 4 => (ℓ ↦[I]{qt r.val} f : sProp 𝕄))
      = iprop((ℓ ↦[I]{fullShare.left.left} f) ∗ (ℓ ↦[I]{fullShare.left.right} f) ∗ (ℓ ↦[I]{fullShare.right.left} f) ∗ (ℓ ↦[I]{fullShare.right.right} f)) := by
    rw [show (Finset.univ : Finset (Fin 4)) = {0, 1, 2, 3} by decide]
    rw [SparseCore.bigSep_insert' (by decide), SparseCore.bigSep_insert' (by decide), SparseCore.bigSep_insert' (by decide), bigSep_singleton]
    rfl
  rw [e]
  constructor
  · iintro H
    ihave H := (pointsTo_share (PosShare.mem_left_op_right fullShare)).1 $$ H
    icases H with ⟨H1, H2⟩
    ihave H1 := (pointsTo_share (PosShare.mem_left_op_right fullShare.left)).1 $$ H1
    ihave H2 := (pointsTo_share (PosShare.mem_left_op_right fullShare.right)).1 $$ H2
    icases H1 with ⟨H1, H3⟩
    icases H2 with ⟨H2, H4⟩
    isplitl [H1]; · iexact H1
    isplitl [H3]; · iexact H3
    isplitl [H2]; · iexact H2
    iexact H4
  · iintro ⟨H1, H3, H2, H4⟩
    iapply (pointsTo_share (PosShare.mem_left_op_right fullShare)).2
    isplitl [H1 H3]
    · iapply (pointsTo_share (PosShare.mem_left_op_right fullShare.left)).2
      isplitl [H1]; · iexact H1
      iexact H3
    · iapply (pointsTo_share (PosShare.mem_left_op_right fullShare.right)).2
      isplitl [H2]; · iexact H2
      iexact H4

/-! ## The shared buffers -/

abbrev lA (d : Dev nD) (c : Fin τ.nSC) : Loc nD τ sig := (d, ⟨.shared, ⟨0, by decide⟩, c⟩)
abbrev lB (d : Dev nD) (c : Fin τ.nSC) : Loc nD τ sig := (d, ⟨.shared, ⟨1, by decide⟩, c⟩)
abbrev lH (d : Dev nD) (c : Fin τ.nSC) : Loc nD τ sig := (d, ⟨.shared, ⟨2, by decide⟩, c⟩)
abbrev lC (d : Dev nD) (c : Fin τ.nSC) : Loc nD τ sig := (d, ⟨.shared, ⟨3, by decide⟩, c⟩)

abbrev pA (d : Dev nD) (c : Fin τ.nSC) (I : Finset (L1 1024).Idx) (q : PosShare TreeShare) (f : (L1 1024).Idx → F .f32) : sProp 𝕄 :=
  pointsTo (Val := Elt F) (lA d c) I q f
abbrev pB (d : Dev nD) (c : Fin τ.nSC) (I : Finset (L1 1536).Idx) (q : PosShare TreeShare) (f : (L1 1536).Idx → F .f32) : sProp 𝕄 :=
  pointsTo (Val := Elt F) (lB d c) I q f
abbrev pH (d : Dev nD) (c : Fin τ.nSC) (I : Finset (L1 8192).Idx) (q : PosShare TreeShare) (f : (L1 8192).Idx → F .f32) : sProp 𝕄 :=
  pointsTo (Val := Elt F) (lH d c) I q f
abbrev pC (d : Dev nD) (c : Fin τ.nSC) (I : Finset (L1 512).Idx) (q : PosShare TreeShare) (f : (L1 512).Idx → F .f32) : sProp 𝕄 :=
  pointsTo (Val := Elt F) (lC d c) I q f

variable [FloatOps F] (A : ℕ → TileIn F) (d : Dev nD) (c : Fin τ.nSC)

/-- What tile `t` puts for meeting `b`, at a share. -/
def slotP (b t : ℕ) (q : PosShare TreeShare) : sProp 𝕄 :=
  match b with
  | 0 => pA d c (blk 64 1024 t) q (GA A)
  | 1 => pB d c (blk 96 1536 t) q (GB A)
  | 10 => pC d c (blk 32 512 t) q (GC A)
  | b + 2 => pH d c (blk 256 8192 (16 * (b % 2) + t)) q (GH A b)

instance slotP_storable (b t : ℕ) (q : PosShare TreeShare) : BI.Storable (upEmb : UEmb _ 𝕄) (slotP A d c b t q) := by
  unfold slotP; split <;> infer_instance

theorem slot_quarters (b t : ℕ) : (slotP A d c b t fullShare) ⊣⊢ bigSep Finset.univ fun r : Fin 4 => slotP A d c b t (qt r.val) := by
  unfold slotP; split <;> exact pts_quarters _ _ _

/-- A quarter of the slot `t` of the meeting before. -/
def prv (b t r : ℕ) : sProp 𝕄 := match b with | 0 => BI.emp | b' + 1 => slotP A d c b' t (qt r)

instance prv_storable (b t r : ℕ) : BI.Storable (upEmb : UEmb _ 𝕄) (prv A d c b t r) := by
  unfold prv; cases b
  · exact (inferInstance : BI.Storable (upEmb : UEmb _ 𝕄) iprop(emp))
  · dsimp only; infer_instance

/-- What tile `k` hands tile `j` at meeting `b`: to a tile of its group a quarter of its own slot, and the quarter it held of the
    other's slot of the meeting before. -/
def pay (b : ℕ) (k j : TI) : sProp 𝕄 :=
  if k.val / 4 = j.val / 4 then iprop(slotP A d c b k.val (qt (j.val % 4)) ∗ prv A d c b j.val (k.val % 4)) else BI.emp

instance pay_storable (b : ℕ) (k j : TI) : BI.Storable (upEmb : UEmb _ 𝕄) (pay A d c b k j) := by
  unfold pay
  split
  · infer_instance
  · exact (inferInstance : BI.Storable (upEmb : UEmb _ 𝕄) iprop(emp))

/-- The `r`-th tile of a tile's group. -/
def mem4 (j : TI) (r : Fin 4) : TI := ⟨4 * (j.val / 4) + r.val, by have h : j.val < 16 := j.isLt; have := r.isLt; show _ < 16; omega⟩

theorem grp_sum (j : TI) (Φ : TI → sProp 𝕄) :
    (bigSep Finset.univ fun k : TI => if j.val / 4 = k.val / 4 then Φ k else BI.emp) = bigSep Finset.univ fun r : Fin 4 => Φ (mem4 j r) := by
  rw [← bigSep_filter]
  have e : (Finset.univ.filter fun k : TI => j.val / 4 = k.val / 4) = Finset.univ.image (mem4 j) := by
    ext k
    simp only [Finset.mem_filter, Finset.mem_univ, true_and, Finset.mem_image]
    constructor
    · intro h
      exact ⟨⟨k.val % 4, Nat.mod_lt _ (by decide)⟩, Fin.ext (by show 4 * (j.val / 4) + k.val % 4 = k.val; omega)⟩
    · rintro ⟨r, rfl⟩
      have := r.isLt
      show _ = (4 * (j.val / 4) + r.val) / 4
      omega
  rw [e, SparseCore.bigSep_image_of_injOn]
  intro a _ b _ h
  have h' : 4 * (j.val / 4) + a.val = 4 * (j.val / 4) + b.val := congrArg Fin.val h
  exact Fin.ext (by omega)

/-- A quarter of every slot of a tile's group. -/
def grp (b : ℕ) (j : TI) : sProp 𝕄 := bigSep Finset.univ fun r : Fin 4 => slotP A d c b (4 * (j.val / 4) + r.val) (qt (j.val % 4))

/-- What a tile brings from the meeting before, and what it takes back. -/
def bring (b : ℕ) (j : TI) : sProp 𝕄 := match b with | 0 => BI.emp | b' + 1 => grp A d c b' j
def back (b : ℕ) (j : TI) : sProp 𝕄 := match b with | 0 => BI.emp | b' + 1 => slotP A d c b' j.val fullShare

theorem pay_out (b : ℕ) (j : TI) :
    iprop(slotP A d c b j.val fullShare ∗ bring A d c b j) ⊢ bigSep Finset.univ fun k : TI => pay A d c b j k := by
  unfold pay
  rw [grp_sum]
  have e : (fun r : Fin 4 => iprop(slotP A d c b j.val (qt ((mem4 j r).val % 4)) ∗ prv A d c b (mem4 j r).val (j.val % 4)))
      = fun r : Fin 4 => iprop(slotP A d c b j.val (qt r.val) ∗ prv A d c b (4 * (j.val / 4) + r.val) (j.val % 4)) := by
    funext r
    have hr := r.isLt
    rw [show (mem4 j r).val % 4 = r.val by show (4 * (j.val / 4) + r.val) % 4 = _; omega]
    rfl
  rw [e, bigSep_sep']
  iintro ⟨H, G⟩
  isplitl [H]
  · iapply (slot_quarters A d c b j.val).1 $$ H
  · cases b with
    | zero =>
      have e' : (bigSep Finset.univ fun r : Fin 4 => prv A d c 0 (4 * (j.val / 4) + r.val) (j.val % 4)) = (BI.emp : sProp 𝕄) :=
        bigSep_emp_const _
      iapply (Entails.of_eq e'.symm)
      iempintro
    | succ b' => unfold bring grp; iexact G

theorem pay_in (b : ℕ) (j : TI) :
    (bigSep Finset.univ fun k : TI => pay A d c b k j) ⊢ iprop(grp A d c b j ∗ back A d c b j) := by
  unfold pay
  have e0 : (fun k : TI => if k.val / 4 = j.val / 4 then iprop(slotP A d c b k.val (qt (j.val % 4)) ∗ prv A d c b j.val (k.val % 4)) else BI.emp)
     = (fun k : TI => if j.val / 4 = k.val / 4 then iprop(slotP A d c b k.val (qt (j.val % 4)) ∗ prv A d c b j.val (k.val % 4)) else BI.emp) := by
    funext k; simp only [eq_comm]
  rw [e0, grp_sum]
  have e : (fun r : Fin 4 => iprop(slotP A d c b (mem4 j r).val (qt (j.val % 4)) ∗ prv A d c b j.val ((mem4 j r).val % 4)))
      = fun r : Fin 4 => iprop(slotP A d c b (4 * (j.val / 4) + r.val) (qt (j.val % 4)) ∗ prv A d c b j.val r.val) := by
    funext r
    have hr := r.isLt
    rw [show (mem4 j r).val % 4 = r.val by show (4 * (j.val / 4) + r.val) % 4 = _; omega]
    rfl
  rw [e, bigSep_sep']
  iintro ⟨H, G⟩
  isplitl [H]
  · unfold grp; iexact H
  · cases b with
    | zero => unfold back; iempintro
    | succ b' =>
      have e' : (bigSep Finset.univ fun r : Fin 4 => prv A d c (b' + 1) j.val r.val) ⊢ back A d c (b' + 1) j := (slot_quarters A d c b' j.val).2
      iapply e' $$ G

/-- A quarter of every slot of the group is a quarter of the group's piece. -/
theorem pts_grp (ℓ : Loc nD τ sig) {w n q : ℕ} (hw : 0 < w) (I : ℕ → Finset (Idx ℓ)) (J : Finset (Idx ℓ))
    (hJ : J = Finset.univ.biUnion fun r : Fin 4 => I (4 * q + r.val))
    (hd : ((Finset.univ : Finset (Fin 4)) : Set (Fin 4)).PairwiseDisjoint fun r => I (4 * q + r.val)) (x : PosShare TreeShare) (f : Buf (Elt F) ℓ) :
    (bigSep Finset.univ fun r : Fin 4 => (ℓ ↦[I (4 * q + r.val)]{x} f : sProp 𝕄)) = (ℓ ↦[J]{x} f) := by
  subst hJ
  exact (pointsTo_biUnion _ _ hd).symm

theorem inj4 (q : ℕ) : Function.Injective fun r : Fin 4 => 4 * q + r.val := fun a b h => Fin.ext (by
  have h' : 4 * q + a.val = 4 * q + b.val := h
  omega)

theorem grp_A (j : TI) : grp A d c 0 j = pA d c (blk 256 1024 (j.val / 4)) (qt (j.val % 4)) (GA A) :=
  pts_grp (lA d c) (w := 64) (n := 1024) (by decide) (blk 64 1024) _ (blk_grp (by decide)) (blk_disj _ (inj4 _) _) _ _
theorem grp_B (j : TI) : grp A d c 1 j = pB d c (blk 384 1536 (j.val / 4)) (qt (j.val % 4)) (GB A) :=
  pts_grp (lB d c) (w := 96) (n := 1536) (by decide) (blk 96 1536) _ (blk_grp (by decide)) (blk_disj _ (inj4 _) _) _ _
theorem grp_C (j : TI) : grp A d c 10 j = pC d c (blk 128 512 (j.val / 4)) (qt (j.val % 4)) (GC A) :=
  pts_grp (lC d c) (w := 32) (n := 512) (by decide) (blk 32 512) _ (blk_grp (by decide)) (blk_disj _ (inj4 _) _) _ _
theorem grp_H (r : ℕ) (hr : r < 8) (j : TI) :
    grp A d c (r + 2) j = pH d c (blk 1024 8192 (4 * (r % 2) + j.val / 4)) (qt (j.val % 4)) (GH A r) := by
  have e : ∀ s : Fin 4, slotP A d c (r + 2) (4 * (j.val / 4) + s.val) (qt (j.val % 4))
      = pH d c (blk 256 8192 (4 * (4 * (r % 2) + j.val / 4) + s.val)) (qt (j.val % 4)) (GH A r) := by
    intro s
    have : 16 * (r % 2) + (4 * (j.val / 4) + s.val) = 4 * (4 * (r % 2) + j.val / 4) + s.val := by omega
    rw [← this]
    unfold slotP
    split
    · omega
    · omega
    · omega
    · next b' _ h => obtain rfl : r = b' := by omega
                     rfl
  unfold grp
  simp only [e]
  exact pts_grp (lH d c) (w := 256) (n := 8192) (by decide) (blk 256 8192) _ (blk_grp (by decide)) (blk_disj _ (inj4 _) _) _ _

end Cert.Proof.K

end
-- ==== Proof.K.Swap.lean ====
/- A meeting of the tiles with its copies: a tile puts its piece, meets the others, and reads its group's. -/
module

public import proofs.«01_k».proof.Proof.K.Exch

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F] (A : ℕ → TileIn F) (d : Dev nD) (i : grid0.Coords)

/-- Contents known on a memref's elements. -/
theorem at_pts {sp : Space} {s : Shape} {e : EltTy} {m : Memref sig .scVector sp s e} {g : s.Idx → Elt F e}
    (G : Buf (Elt F) (m.view.loc (thr d i))) (h : m.view.read (Elt F) G = g) :
    At d i m g ⊢ (m.view.loc (thr d i) ↦[m.view.set]{fullShare} G : sProp 𝕄) := by
  unfold At
  iintro ⟨%f, %hf, H⟩
  have e : (m.view.loc (thr d i) ↦[m.view.set]{fullShare} f : sProp 𝕄) = (m.view.loc (thr d i) ↦[m.view.set]{fullShare} G) := by
    refine pointsTo_congr fun j hj => ?_
    obtain ⟨x, -, rfl⟩ := Finset.mem_map.mp hj
    have hx := congrFun (hf.trans h.symm) x
    rw [View.read_apply, View.read_apply] at hx
    exact (cast_inj _).mp hx
  iapply (Entails.of_eq e) $$ H

/-- What the tiles of the SparseCore know: the stores, and the levels. -/
def Env (κ ν : TI → ℕ) : sProp 𝕄 := iprop(binv (pay A d (cV i)) d (cV i) κ ν ∗ levAts (Cf (F := F)).L (Cf (F := F)).lev)

instance Env_persistent (κ ν : TI → ℕ) : BI.Persistent (Env A d i κ ν) := by unfold Env; infer_instance

/-- What a tile owes at meeting `b`: what the launch has it owe, and its units of the meetings to come. -/
def Owb (O : CellTallies nD τ sig (HIx 11)) (b : ℕ) : sProp 𝕄 := Ow d i (O + oxF d (cV i) b)

theorem owb_none {O : CellTallies nD τ sig (HIx 11)} (hO : ∀ g, O g none = 0) (b : ℕ) (g : GSem nD τ sig) :
    (O + oxF d (cV i) b) g none = 0 := by
  show O g none + oxF d (cV i) b g none = 0
  rw [hO, oxF_none]

/-- A tile meets the others: it hands over its slot, and gets a quarter of each of its group's slots and its slot of the meeting before. -/
theorem wp_meet {b : ℕ} (hb : b < 11) {κ ν : TI → ℕ} {O : CellTallies nD τ sig (HIx 11)}
    (hL : ∀ g ι, 0 < O g ι → 8 * 10 + 6 ≤ (Cf (F := F)).lev g ι) {α : Type} {K : PUnit → TP F i α} {Q : α → sProp 𝕄} :
    iprop(Env A d i κ ν ∗ slotP A d (cV i) b (i 1).val fullShare ∗ bring A d (cV i) b (i 1) ∗ bst d (cV i) (i 1) b ∗ Owb d i O b)
      ⊢ iprop((iprop(grp A d (cV i) b (i 1) ∗ back A d (cV i) b (i 1) ∗ bst d (cV i) (i 1) (b + 1) ∗ Owb d i O (b + 1)) -∗ WP d i (K ⟨⟩) Q)
          -∗ WP d i (barr >>= K) Q) := by
  unfold Owb Ow Env
  iintro ⟨#He, Hs, Hb, Hst, %W, HO⟩ Hk
  ihave Hp := (pay_out A d (cV i) b (i 1)) $$ [Hs Hb]
  · isplitl [Hs]; · iexact Hs
    iexact Hb
  iapply (wp_barr (pay A d (cV i)) d i b hb κ ν O W hL) $$ [He Hst Hp HO]
  · isplitr; · iexact He
    isplitl [Hst]; · iexact Hst
    isplitl [Hp]; · iexact Hp
    iexact HO
  iintro ⟨Hst, Hp, HO⟩
  ihave Hp := (pay_in A d (cV i) b (i 1)) $$ Hp
  icases Hp with ⟨Hg, Hb⟩
  iapply Hk
  isplitl [Hg]; · iexact Hg
  isplitl [Hb]; · iexact Hb
  isplitl [Hst]; · iexact Hst
  iexists _; iexact HO

/-- A tile puts its piece, meets the others and reads its group's. -/
theorem wp_swap {sp : Space} {s s' : Shape} {src : Memref sig .scVector sp s .f32} {ds : Memref sig .scVector .shared s .f32}
    {gs : Memref sig .scVector .shared s' .f32} {rd : Memref sig .scVector .vmem s' .f32} {s1 s2 : DmaSem sig}
    {w1 : src.view.WordExact} {w2 : ds.view.WordExact} {w3 : gs.view.WordExact} {w4 : rd.view.WordExact}
    {t1 : DmaTarget.Typed (nD := nD) (p := (thr d i).2) sp (.dma s1) (.here ds)} {t2 : DmaTarget.Typed (nD := nD) (p := (thr d i).2) .shared (.dma s2) (.here rd)}
    {b : ℕ} (hb : b < 11) {κ ν : TI → ℕ} {O : CellTallies nD τ sig (HIx 11)}
    (hL : ∀ g ι, 0 < O g ι → 8 * 10 + 6 ≤ (Cf (F := F)).lev g ι) (hO : ∀ g, O g none = 0)
    {fs : Buf (Elt F) (src.view.loc (thr d i))} {fd : Buf (Elt F) (ds.view.loc (thr d i))} {g0 : s'.Idx → F .f32}
    {q : PosShare TreeShare} {G : Buf (Elt F) (gs.view.loc (thr d i))}
    (hput : At d i ds (src.view.read (Elt F) fs) ⊢ slotP A d (cV i) b (i 1).val fullShare)
    (hget : grp A d (cV i) b (i 1) = (gs.view.loc (thr d i) ↦[gs.view.set]{q} G))
    (hn1 : 0 < ds.view.amount (.dma s1)) (hn2 : 0 < rd.view.amount (.dma s2)) {α : Type} {K : PUnit → TP F i α} {Q : α → sProp 𝕄} :
    iprop(Env A d i κ ν ∗ (src.view.loc (thr d i) ↦[src.view.set]{fullShare} fs) ∗ (ds.view.loc (thr d i) ↦[ds.view.set]{fullShare} fd)
        ∗ At d i rd g0 ∗ semVal (thr d i, .dma s1) 0 ∗ semVal (thr d i, .dma s2) 0
        ∗ bring A d (cV i) b (i 1) ∗ bst d (cV i) (i 1) b ∗ Owb d i O b)
      ⊢ iprop((iprop((src.view.loc (thr d i) ↦[src.view.set]{fullShare} fs) ∗ At d i rd (gs.view.read (Elt F) G)
            ∗ semVal (thr d i, .dma s1) 0 ∗ semVal (thr d i, .dma s2) 0
            ∗ grp A d (cV i) b (i 1) ∗ back A d (cV i) b (i 1) ∗ bst d (cV i) (i 1) (b + 1) ∗ Owb d i O (b + 1)) -∗ WP d i (K ⟨⟩) Q)
          -∗ WP d i (Prog.lift (.enqueueDma src (.here ds) (.dma s1) w1 w2 t1) >>= fun _ => Prog.lift (.waitDma2 s1 src ds w1 w2) >>= fun _ => barr
            >>= fun _ => Prog.lift (.enqueueDma gs (.here rd) (.dma s2) w3 w4 t2) >>= fun _ => Prog.lift (.waitDma2 s2 gs rd w3 w4) >>= K) Q) := by
  iintro ⟨#He, Hs, Hd, Hr, Hv1, Hv2, Hbr, Hst, HO⟩ Hk
  have eL : Env A d i κ ν ⊢ levAts (Cf (F := F)).L (Cf (F := F)).lev := by unfold Env; iintro ⟨-, H⟩; iexact H
  ihave Hlv := eL $$ He
  have eO (b : ℕ) : (Owb d i O b : sProp 𝕄) = Ow d i (O + oxF d (cV i) b) := rfl
  ihave HO := (Entails.of_eq (eO b)) $$ HO
  iapply (wp_xfer d i (owb_none d i hO b) hn1 (fs := fs) (fd := fd)) $$ [Hs Hd Hv1 HO]
  · isplitr; · iexact Hlv
    isplitl [Hs]; · iexact Hs
    isplitl [Hd]; · iexact Hd
    isplitl [Hv1]; · iexact Hv1
    iexact HO
  iintro ⟨Hs, Hd, Hv1, HO⟩
  ihave Hd := hput $$ Hd
  ihave HO := (Entails.of_eq (eO b).symm) $$ HO
  iapply (wp_meet A d i hb hL) $$ [He Hd Hbr Hst HO]
  · isplitr; · iexact He
    isplitl [Hd]; · iexact Hd
    isplitl [Hbr]; · iexact Hbr
    isplitl [Hst]; · iexact Hst
    iexact HO
  iintro ⟨Hg, Hb, Hst, HO⟩
  ihave Hg := (Entails.of_eq hget) $$ Hg
  ihave HO := (Entails.of_eq (eO (b + 1))) $$ HO
  have eR : At d i rd g0 ⊢ ∃ f, (rd.view.loc (thr d i) ↦[rd.view.set]{fullShare} f : sProp 𝕄) := by
    unfold At; iintro ⟨%f, -, H⟩; iexists f; iexact H
  ihave Hr := eR $$ Hr
  icases Hr with ⟨%fr, Hr⟩
  iapply (wp_xfer d i (owb_none d i hO (b + 1)) hn2 (fs := G) (fd := fr)) $$ [Hg Hr Hv2 HO]
  · isplitr; · iexact Hlv
    isplitl [Hg]; · iexact Hg
    isplitl [Hr]; · iexact Hr
    isplitl [Hv2]; · iexact Hv2
    iexact HO
  iintro ⟨Hg, Hr, Hv2, HO⟩
  ihave Hg := (Entails.of_eq hget.symm) $$ Hg
  ihave HO := (Entails.of_eq (eO (b + 1)).symm) $$ HO
  iapply Hk
  isplitl [Hs]; · iexact Hs
  isplitl [Hr]; · iexact Hr
  isplitl [Hv1]; · iexact Hv1
  isplitl [Hv2]; · iexact Hv2
  isplitl [Hg]; · iexact Hg
  isplitl [Hb]; · iexact Hb
  isplitl [Hst]; · iexact Hst
  iexact HO

end Cert.Proof.K

end
-- ==== Proof.K.Rnd.lean ====
/- The three exchanges and the rounds of the selection. -/
module

public import proofs.«01_k».proof.Proof.K.Swap

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F] (A : ℕ → TileIn F) (d : Dev nD) (i : grid0.Coords)

abbrev vA : Memref sig .scVector .shared S64 .f32 := sA.slice (Rect.unit (s := S1024) (k0_off9 i) S64.size (k0_off9_inb i)) (fun _ => rfl)
abbrev vB : Memref sig .scVector .shared S96 .f32 := sB.slice (Rect.unit (s := S1536) (k0_off13 i) S96.size (k0_off13_inb i)) (fun _ => rfl)
abbrev vH (b : Fin 2) : Memref sig .scVector .shared S256 .f32 :=
  sH.slice (Rect.unit (s := S8192) (k0_off16 i (BitVec.ofNat 32 (4 * b.val))) S256.size (k0_off16_inb i b)) (fun _ => rfl)
abbrev vC : Memref sig .scVector .shared S32 .f32 := sC.slice (Rect.unit (s := S512) (k0_off26 i) S32.size (k0_off26_inb i)) (fun _ => rfl)
abbrev gA : Memref sig .scVector .shared S256 .f32 := sA.slice (Rect.unit (s := S1024) (k0_off10 i) S256.size (k0_off10_inb i)) (fun _ => rfl)
abbrev gB : Memref sig .scVector .shared S384 .f32 := sB.slice (Rect.unit (s := S1536) (k0_off14 i) S384.size (k0_off14_inb i)) (fun _ => rfl)
abbrev gH (b : Fin 2) : Memref sig .scVector .shared S1024 .f32 :=
  sH.slice (Rect.unit (s := S8192) (k0_off17 i (BitVec.ofNat 32 (4 * b.val))) S1024.size (k0_off17_inb i b)) (fun _ => rfl)
abbrev gC : Memref sig .scVector .shared S128 .f32 := sC.slice (Rect.unit (s := S512) (k0_off27 i) S128.size (k0_off27_inb i)) (fun _ => rfl)

section Sets

theorem set_vA : (vA i).view.set = blk 64 1024 (i 1).val := (View.set_slice_whole _ _).trans (rect_blk (w := 64) (n := 1024) (by decide) (off9_eq i) _)
theorem set_vB : (vB i).view.set = blk 96 1536 (i 1).val := (View.set_slice_whole _ _).trans (rect_blk (w := 96) (n := 1536) (by decide) (off13_eq i) _)
theorem set_vH (b : Fin 2) : (vH i b).view.set = blk 256 8192 (16 * b.val + (i 1).val) :=
  (View.set_slice_whole _ _).trans (rect_blk (w := 256) (n := 8192) (by decide) (off16_eq i b) _)
theorem set_vC : (vC i).view.set = blk 32 512 (i 1).val := (View.set_slice_whole _ _).trans (rect_blk (w := 32) (n := 512) (by decide) (off26_eq i) _)
theorem set_gA : (gA i).view.set = blk 256 1024 ((i 1).val / 4) := (View.set_slice_whole _ _).trans (rect_blk (w := 256) (n := 1024) (by decide) (off10_eq i) _)
theorem set_gB : (gB i).view.set = blk 384 1536 ((i 1).val / 4) := (View.set_slice_whole _ _).trans (rect_blk (w := 384) (n := 1536) (by decide) (off14_eq i) _)
theorem set_gH (b : Fin 2) : (gH i b).view.set = blk 1024 8192 (4 * b.val + (i 1).val / 4) :=
  (View.set_slice_whole _ _).trans (rect_blk (w := 1024) (n := 8192) (by decide) (off17_eq i b) _)
theorem set_gC : (gC i).view.set = blk 128 512 ((i 1).val / 4) := (View.set_slice_whole _ _).trans (rect_blk (w := 128) (n := 512) (by decide) (off27_eq i) _)

theorem pts_vA (q : PosShare TreeShare) (f : (L1 1024).Idx → F .f32) :
    ((vA i).view.loc (thr d i) ↦[(vA i).view.set]{q} f : sProp 𝕄) = pA d (cV i) (blk 64 1024 (i 1).val) q f := by rw [set_vA]; rfl
theorem pts_vB (q : PosShare TreeShare) (f : (L1 1536).Idx → F .f32) :
    ((vB i).view.loc (thr d i) ↦[(vB i).view.set]{q} f : sProp 𝕄) = pB d (cV i) (blk 96 1536 (i 1).val) q f := by rw [set_vB]; rfl
theorem pts_vH (b : Fin 2) (q : PosShare TreeShare) (f : (L1 8192).Idx → F .f32) :
    ((vH i b).view.loc (thr d i) ↦[(vH i b).view.set]{q} f : sProp 𝕄) = pH d (cV i) (blk 256 8192 (16 * b.val + (i 1).val)) q f := by rw [set_vH]; rfl
theorem pts_vC (q : PosShare TreeShare) (f : (L1 512).Idx → F .f32) :
    ((vC i).view.loc (thr d i) ↦[(vC i).view.set]{q} f : sProp 𝕄) = pC d (cV i) (blk 32 512 (i 1).val) q f := by rw [set_vC]; rfl
theorem pts_gA (q : PosShare TreeShare) (f : (L1 1024).Idx → F .f32) :
    ((gA i).view.loc (thr d i) ↦[(gA i).view.set]{q} f : sProp 𝕄) = pA d (cV i) (blk 256 1024 ((i 1).val / 4)) q f := by rw [set_gA]; rfl
theorem pts_gB (q : PosShare TreeShare) (f : (L1 1536).Idx → F .f32) :
    ((gB i).view.loc (thr d i) ↦[(gB i).view.set]{q} f : sProp 𝕄) = pB d (cV i) (blk 384 1536 ((i 1).val / 4)) q f := by rw [set_gB]; rfl
theorem pts_gH (b : Fin 2) (q : PosShare TreeShare) (f : (L1 8192).Idx → F .f32) :
    ((gH i b).view.loc (thr d i) ↦[(gH i b).view.set]{q} f : sProp 𝕄) = pH d (cV i) (blk 1024 8192 (4 * b.val + (i 1).val / 4)) q f := by rw [set_gH]; rfl
theorem pts_gC (q : PosShare TreeShare) (f : (L1 512).Idx → F .f32) :
    ((gC i).view.loc (thr d i) ↦[(gC i).view.set]{q} f : sProp 𝕄) = pC d (cV i) (blk 128 512 ((i 1).val / 4)) q f := by rw [set_gC]; rfl

end Sets

/-! ## What the pieces hold -/

theorem put_A : At d i (vA i) (stgA ((A (i 1).val).car1 250)) ⊢ slotP A d (cV i) 0 (i 1).val fullShare :=
  (at_pts d i (m := vA i) (GA A) (funext fun x => cat_slot (w := 64) (n := 1024) (fun t => stgA ((A t).car1 250)) (off9_eq i) _ x)).trans
    (Entails.of_eq (pts_vA d i fullShare (GA A)))
theorem put_B : At d i (vB i) (stgB (out2 A (i 1).val)) ⊢ slotP A d (cV i) 1 (i 1).val fullShare :=
  (at_pts d i (m := vB i) (GB A) (funext fun x => cat_slot (w := 96) (n := 1536) (fun t => stgB (out2 A t)) (off13_eq i) _ x)).trans
    (Entails.of_eq (pts_vB d i fullShare (GB A)))
theorem put_C : At d i (vC i) (stgC (out3 A (i 1).val)) ⊢ slotP A d (cV i) 10 (i 1).val fullShare :=
  (at_pts d i (m := vC i) (GC A) (funext fun x => cat_slot (w := 32) (n := 512) (fun t => stgC (out3 A t)) (off26_eq i) _ x)).trans
    (Entails.of_eq (pts_vC d i fullShare (GC A)))

theorem slot_H {r : ℕ} (hr : r < 8) (t : ℕ) (q : PosShare TreeShare) (c : Fin τ.nSC) :
    slotP A d c (r + 2) t q = pH d c (blk 256 8192 (16 * (r % 2) + t)) q (GH A r) := by
  unfold slotP
  split
  · omega
  · omega
  · omega
  · next b' _ h => obtain rfl : r = b' := by omega
                   rfl

/-- A tile's piece of the counters in the round `r`, by its place in the buffer. -/
def hv (r t : ℕ) : (L1 256).Idx → F .f32 := histN A r (rnd A (t % 16 / 4) r).1 (t % 16)

theorem GH_eq (r : ℕ) : GH A r = catN 256 8192 (hv A r) := rfl

theorem hv_at (r : ℕ) (b : Fin 2) : hv A r (16 * b.val + (i 1).val) = histN A r (rnd A ((i 1).val / 4) r).1 (i 1).val := by
  have h16 : (i 1).val < 16 := (i 1).isLt
  unfold hv
  rw [Nat.mul_add_mod, Nat.mod_eq_of_lt h16]

theorem hv_grp (r q : ℕ) (hq : q < 4) (b : Fin 2) (k : ℕ) (hk : k < 4) : hv A r (4 * (4 * b.val + q) + k) = histN A r (rnd A q r).1 (4 * q + k) := by
  unfold hv
  rw [show (4 * (4 * b.val + q) + k) % 16 = 4 * q + k by omega, show (4 * q + k) / 4 = q by omega]

theorem put_gen (v : ℕ → (L1 256).Idx → F .f32) (b : Fin 2) :
    At d i (vH i b) (v (16 * b.val + (i 1).val)) ⊢ pH d (cV i) (blk 256 8192 (16 * b.val + (i 1).val)) fullShare (catN 256 8192 v) :=
  (at_pts d i (m := vH i b) (catN 256 8192 v) (funext fun x => cat_slot (w := 256) (n := 8192) v (off16_eq i b) _ x)).trans
    (Entails.of_eq (pts_vH d i b fullShare (catN 256 8192 v)))

theorem put_H {r : ℕ} (hr : r < 8) (b : Fin 2) (hb : b.val = r % 2) :
    At d i (vH i b) (histN A r (rnd A ((i 1).val / 4) r).1 (i 1).val) ⊢ slotP A d (cV i) (r + 2) (i 1).val fullShare := by
  rw [slot_H A d hr, GH_eq, ← hb, ← hv_at A i r b]
  exact put_gen d i (hv A r) b

theorem get_A : grp A d (cV i) 0 (i 1) = ((gA i).view.loc (thr d i) ↦[(gA i).view.set]{qt ((i 1).val % 4)} (GA A) : sProp 𝕄) :=
  (grp_A A d (cV i) (i 1)).trans (pts_gA d i _ (GA A)).symm
theorem get_B : grp A d (cV i) 1 (i 1) = ((gB i).view.loc (thr d i) ↦[(gB i).view.set]{qt ((i 1).val % 4)} (GB A) : sProp 𝕄) :=
  (grp_B A d (cV i) (i 1)).trans (pts_gB d i _ (GB A)).symm
theorem get_C : grp A d (cV i) 10 (i 1) = ((gC i).view.loc (thr d i) ↦[(gC i).view.set]{qt ((i 1).val % 4)} (GC A) : sProp 𝕄) :=
  (grp_C A d (cV i) (i 1)).trans (pts_gC d i _ (GC A)).symm
theorem get_H {r : ℕ} (hr : r < 8) (b : Fin 2) (hb : b.val = r % 2) :
    grp A d (cV i) (r + 2) (i 1) = ((gH i b).view.loc (thr d i) ↦[(gH i b).view.set]{qt ((i 1).val % 4)} (GH A r) : sProp 𝕄) :=
  (grp_H A d (cV i) r hr (i 1)).trans (by rw [pts_gH, hb])

theorem read_gA : (gA i).view.read (Elt F) (GA A) = catN 64 256 fun r => stgA ((A (4 * ((i 1).val / 4) + r)).car1 250) :=
  funext fun x => cat_grp (w := 64) (m := 256) (n := 1024) rfl (fun t => stgA ((A t).car1 250)) (off10_eq i) (k0_off10_inb i) x
theorem read_gB : (gB i).view.read (Elt F) (GB A) = catN 96 384 fun r => stgB (out2 A (4 * ((i 1).val / 4) + r)) :=
  funext fun x => cat_grp (w := 96) (m := 384) (n := 1536) rfl (fun t => stgB (out2 A t)) (off14_eq i) (k0_off14_inb i) x
theorem read_gC : (gC i).view.read (Elt F) (GC A) = catN 32 128 fun r => stgC (out3 A (4 * ((i 1).val / 4) + r)) :=
  funext fun x => cat_grp (w := 32) (m := 128) (n := 512) rfl (fun t => stgC (out3 A t)) (off27_eq i) (k0_off27_inb i) x
theorem read_gen (v : ℕ → (L1 256).Idx → F .f32) (b : Fin 2) :
    (gH i b).view.read (Elt F) (catN 256 8192 v) = catN 256 1024 fun r => v (4 * (4 * b.val + (i 1).val / 4) + r) :=
  funext fun x => cat_grp (w := 256) (m := 1024) (n := 8192) rfl v (off17_eq i b) (k0_off17_inb i b) x

theorem read_gH (r : ℕ) (b : Fin 2) :
    (gH i b).view.read (Elt F) (GH A r) = grpH A r (rnd A ((i 1).val / 4) r).1 ((i 1).val / 4) := by
  have h16 : (i 1).val < 16 := (i 1).isLt
  rw [GH_eq, read_gen i (hv A r) b]
  funext x
  have hx := lt_of_idx (n := 1024) x
  show hv A r (4 * (4 * b.val + (i 1).val / 4) + (x 0).val / 256) _ = histN A r (rnd A ((i 1).val / 4) r).1 (4 * ((i 1).val / 4) + (x 0).val / 256) _
  rw [hv_grp A r ((i 1).val / 4) (by omega) b _ (by omega)]

/-! ## The exchanges -/

/-- A piece of the staging buffer. -/
theorem stg_read {w : ℕ} [NeZero w] (f : Buf (Elt F) (stg.view.loc (thr d i))) {n : ℕ} (v : ℕ → S16.Idx → F .f32)
    (hf : Agr (stg.view.read (Elt F) f) (catN 16 96 v) (16 * n)) (hw : w = 16 * n)
    (h : ∀ a, (![0] : Fin 1 → ℕ) a + (L1 w).size a ≤ S96.size a) :
    (stg.slice (Rect.unit (s := S96) ![0] (L1 w).size h) (fun _ => rfl)).view.read (Elt F) f = catN 16 w v := by
  funext x
  have hx := lt_of_idx x
  have hk : 0 + w ≤ 96 := h 0
  show stg.view.read (Elt F) f ((Rect.unit (s := S96) ![0] (L1 w).size h).emb x) = _
  rw [show (Rect.unit (s := S96) ![0] (L1 w).size h).emb x = ixm 96 (0 + (x 0).val) from rect_emb (w := w) (n := 96) rfl h x]
  have hv : (ixm 96 (0 + (x 0).val) 0).val = (x 0).val := by rw [Nat.zero_add, ixm_val_of_lt 96 (by omega)]
  rw [hf _ (by rw [hv]; omega)]
  unfold catN
  rw [hv]

theorem stg_take {w : ℕ} (h : ∀ a, (![0] : Fin 1 → ℕ) a + (L1 w).size a ≤ S96.size a) (f : Buf (Elt F) (stg.view.loc (thr d i))) :
    (stg.view.loc (thr d i) ↦[stg.view.set]{fullShare} f : sProp 𝕄)
      ⊣⊢ iprop(((stg.slice (Rect.unit (s := S96) ![0] (L1 w).size h) (fun _ => rfl)).view.loc (thr d i)
          ↦[(stg.slice (Rect.unit (s := S96) ![0] (L1 w).size h) (fun _ => rfl)).view.set]{fullShare} f)
        ∗ (stg.view.loc (thr d i) ↦[stg.view.set \ (stg.slice (Rect.unit (s := S96) ![0] (L1 w).size h) (fun _ => rfl)).view.set]{fullShare} f)) :=
  pointsTo_split_subset (View.set_slice_subset stg.view _)

theorem exch1_eq (s : Car1 F) {α : Type} (K : PUnit → TP F i α) : (exch1 s >>= K) = (stf stg ![0] inb_S96_S16_0 s.1 >>= fun _ => stf stg ![16] inb_S96_S16_16 s.2.1 >>= fun _ => stf stg ![32] inb_S96_S16_32 s.2.2.1 >>= fun _ => stf stg ![48] inb_S96_S16_48 s.2.2.2 >>= fun _ => Prog.lift (.enqueueDma (stg.slice (Rect.unit (s := S96) ![0] S64.size inb_S96_S64_0) (fun _ => rfl)) (.here (vA i)) (.dma cc0_scoped0.sem) (View.wordExact_bits rfl) (View.wordExact_bits rfl) ⟨Or.inl rfl, trivial⟩)
      >>= fun _ => Prog.lift (.waitDma2 cc0_scoped0.sem (stg.slice (Rect.unit (s := S96) ![0] S64.size inb_S96_S64_0) (fun _ => rfl)) (vA i) (View.wordExact_bits rfl) (View.wordExact_bits rfl))
      >>= fun _ => barr >>= fun _ => Prog.lift (.enqueueDma (gA i) (.here rdA) (.dma cc0_scoped1.sem) (View.wordExact_bits rfl) (Memref.isWhole_whole _).wordExact ⟨Or.inl rfl, trivial⟩)
      >>= fun _ => Prog.lift (.waitDma2 cc0_scoped1.sem (gA i) rdA (View.wordExact_bits rfl) (Memref.isWhole_whole _).wordExact) >>= K) := rfl

/-- The first exchange. -/
theorem exch1_step {κ ν : TI → ℕ} {O : CellTallies nD τ sig (HIx 11)} (hL : ∀ g ι, 0 < O g ι → 8 * 10 + 6 ≤ (Cf (F := F)).lev g ι)
    (hO : ∀ g, O g none = 0) {g : (L1 96).Idx → F .f32} {g0 : (L1 256).Idx → F .f32} {f0 : (L1 1024).Idx → F .f32} {α : Type} {K : PUnit → TP F i α} {Q : α → sProp 𝕄} :
    iprop(Env A d i κ ν ∗ At d i stg g ∗ pA d (cV i) (blk 64 1024 (i 1).val) fullShare f0 ∗ At d i rdA g0
        ∗ semVal (thr d i, .dma cc0_scoped0.sem) 0 ∗ semVal (thr d i, .dma cc0_scoped1.sem) 0
        ∗ bring A d (cV i) 0 (i 1) ∗ bst d (cV i) (i 1) 0 ∗ Owb d i O 0)
      ⊢ iprop((iprop((∃ g, At d i stg g) ∗ At d i rdA (catN 64 256 fun r => stgA ((A (4 * ((i 1).val / 4) + r)).car1 250))
            ∗ semVal (thr d i, .dma cc0_scoped0.sem) 0 ∗ semVal (thr d i, .dma cc0_scoped1.sem) 0
            ∗ grp A d (cV i) 0 (i 1) ∗ back A d (cV i) 0 (i 1) ∗ bst d (cV i) (i 1) 1 ∗ Owb d i O 1) -∗ WP d i (K ⟨⟩) Q)
          -∗ WP d i (exch1 ((A (i 1).val).car1 250) >>= K) Q) := by
  iintro ⟨#He, Hs, Hd, Hr, Hv1, Hv2, Hbr, Hst, HO⟩ Hk
  rw [exch1_eq]
  iapply (wp_stf d i (0) rfl) $$ Hs
  iintro Hs
  iapply (wp_stf d i (16) rfl) $$ Hs
  iintro Hs
  iapply (wp_stf d i (32) rfl) $$ Hs
  iintro Hs
  iapply (wp_stf d i (48) rfl) $$ Hs
  iintro Hs
  have es (s : Car1 F) : At d i stg (wrN (wrN (wrN (wrN (g) 0 (s.1)) 16 (s.2.1)) 32 (s.2.2.1)) 48 (s.2.2.2)) ⊢ ∃ f, ⌜(stg.slice (Rect.unit (s := S96) ![0] S64.size inb_S96_S64_0) (fun _ => rfl)).view.read (Elt F) f = stgA s⌝
      ∗ (stg.view.loc (thr d i) ↦[stg.view.set]{fullShare} f : sProp 𝕄) := by
    unfold At
    iintro ⟨%f, %hf, H⟩
    iexists f
    isplitr; swap; · iexact H
    ipureintro
    refine stg_read d i (w := 64) f (n := 4) _ ?_ rfl inb_S96_S64_0
    rw [hf]
    exact (Agr.wr (v := fun g => match g with | 0 => s.1 | 1 => s.2.1 | 2 => s.2.2.1 | _ => s.2.2.2) (g := 3) ((Agr.wr (v := fun g => match g with | 0 => s.1 | 1 => s.2.1 | 2 => s.2.2.1 | _ => s.2.2.2) (g := 2) ((Agr.wr (v := fun g => match g with | 0 => s.1 | 1 => s.2.1 | 2 => s.2.2.1 | _ => s.2.2.2) (g := 1) ((Agr.wr (v := fun g => match g with | 0 => s.1 | 1 => s.2.1 | 2 => s.2.2.1 | _ => s.2.2.2) (g := 0) (Agr.zero g _))))))))
  ihave Hs := (es ((A (i 1).val).car1 250)) $$ Hs
  icases Hs with ⟨%f, %hf, Hs⟩
  ihave Hs := (stg_take d i (w := 64) inb_S96_S64_0 f).1 $$ Hs
  icases Hs with ⟨Hs, Hs'⟩
  ihave Hd := (Entails.of_eq (pts_vA d i fullShare f0).symm) $$ Hd
  iapply (wp_swap A d i (b := 0) (by decide) hL hO (fs := f) (fd := f0) (g0 := g0) (by rw [hf]; exact put_A A d i) (get_A A d i) (View.amount_pos _ _ (by decide)) (View.amount_pos _ _ (by decide))) $$ [Hs Hd Hr Hv1 Hv2 Hbr Hst HO]
  · isplitr; · iexact He
    isplitl [Hs]; · iexact Hs
    isplitl [Hd]; · iexact Hd
    isplitl [Hr]; · iexact Hr
    isplitl [Hv1]; · iexact Hv1
    isplitl [Hv2]; · iexact Hv2
    isplitl [Hbr]; · iexact Hbr
    isplitl [Hst]; · iexact Hst
    iexact HO
  iintro ⟨Hs, Hr, Hv1, Hv2, Hg, Hb, Hst, HO⟩
  iapply Hk
  ihave Hs := (stg_take d i (w := 64) inb_S96_S64_0 f).2 $$ [Hs Hs']
  · isplitl [Hs]; · iexact Hs
    iexact Hs'
  isplitl [Hs]
  · iexists _; iapply (at_intro d i stg f) $$ Hs
  isplitl [Hr]
  · ihave Hr := (Entails.of_eq (congrArg (At d i rdA) (read_gA A i))) $$ Hr
    iexact Hr
  isplitl [Hv1]; · iexact Hv1
  isplitl [Hv2]; · iexact Hv2
  isplitl [Hg]; · iexact Hg
  isplitl [Hb]; · iexact Hb
  isplitl [Hst]; · iexact Hst
  iexact HO

theorem exch2_eq (s : Car2 F) {α : Type} (K : PUnit → TP F i α) : (exch2 s >>= K) = (stf stg ![0] inb_S96_S16_0 s.1 >>= fun _ => stf stg ![16] inb_S96_S16_16 s.2.1 >>= fun _ => stf stg ![32] inb_S96_S16_32 s.2.2.1 >>= fun _ => stf stg ![48] inb_S96_S16_48 s.2.2.2.1 >>= fun _ => stf stg ![64] inb_S96_S16_64 s.2.2.2.2.1 >>= fun _ => stf stg ![80] inb_S96_S16_80 s.2.2.2.2.2 >>= fun _ => Prog.lift (.enqueueDma (stg.slice (Rect.unit (s := S96) ![0] S96.size inb_S96_S96_0) (fun _ => rfl)) (.here (vB i)) (.dma cc0_scoped2.sem) (View.wordExact_bits rfl) (View.wordExact_bits rfl) ⟨Or.inl rfl, trivial⟩)
      >>= fun _ => Prog.lift (.waitDma2 cc0_scoped2.sem (stg.slice (Rect.unit (s := S96) ![0] S96.size inb_S96_S96_0) (fun _ => rfl)) (vB i) (View.wordExact_bits rfl) (View.wordExact_bits rfl))
      >>= fun _ => barr >>= fun _ => Prog.lift (.enqueueDma (gB i) (.here rdB) (.dma cc0_scoped3.sem) (View.wordExact_bits rfl) (Memref.isWhole_whole _).wordExact ⟨Or.inl rfl, trivial⟩)
      >>= fun _ => Prog.lift (.waitDma2 cc0_scoped3.sem (gB i) rdB (View.wordExact_bits rfl) (Memref.isWhole_whole _).wordExact) >>= K) := rfl

/-- The second exchange. -/
theorem exch2_step {κ ν : TI → ℕ} {O : CellTallies nD τ sig (HIx 11)} (hL : ∀ g ι, 0 < O g ι → 8 * 10 + 6 ≤ (Cf (F := F)).lev g ι)
    (hO : ∀ g, O g none = 0) {g : (L1 96).Idx → F .f32} {g0 : (L1 384).Idx → F .f32} {f0 : (L1 1536).Idx → F .f32} {α : Type} {K : PUnit → TP F i α} {Q : α → sProp 𝕄} :
    iprop(Env A d i κ ν ∗ At d i stg g ∗ pB d (cV i) (blk 96 1536 (i 1).val) fullShare f0 ∗ At d i rdB g0
        ∗ semVal (thr d i, .dma cc0_scoped2.sem) 0 ∗ semVal (thr d i, .dma cc0_scoped3.sem) 0
        ∗ bring A d (cV i) 1 (i 1) ∗ bst d (cV i) (i 1) 1 ∗ Owb d i O 1)
      ⊢ iprop((iprop((∃ g, At d i stg g) ∗ At d i rdB (catN 96 384 fun r => stgB (out2 A (4 * ((i 1).val / 4) + r)))
            ∗ semVal (thr d i, .dma cc0_scoped2.sem) 0 ∗ semVal (thr d i, .dma cc0_scoped3.sem) 0
            ∗ grp A d (cV i) 1 (i 1) ∗ back A d (cV i) 1 (i 1) ∗ bst d (cV i) (i 1) 2 ∗ Owb d i O 2) -∗ WP d i (K ⟨⟩) Q)
          -∗ WP d i (exch2 (out2 A (i 1).val) >>= K) Q) := by
  iintro ⟨#He, Hs, Hd, Hr, Hv1, Hv2, Hbr, Hst, HO⟩ Hk
  rw [exch2_eq]
  iapply (wp_stf d i (0) rfl) $$ Hs
  iintro Hs
  iapply (wp_stf d i (16) rfl) $$ Hs
  iintro Hs
  iapply (wp_stf d i (32) rfl) $$ Hs
  iintro Hs
  iapply (wp_stf d i (48) rfl) $$ Hs
  iintro Hs
  iapply (wp_stf d i (64) rfl) $$ Hs
  iintro Hs
  iapply (wp_stf d i (80) rfl) $$ Hs
  iintro Hs
  have es (s : Car2 F) : At d i stg (wrN (wrN (wrN (wrN (wrN (wrN (g) 0 (s.1)) 16 (s.2.1)) 32 (s.2.2.1)) 48 (s.2.2.2.1)) 64 (s.2.2.2.2.1)) 80 (s.2.2.2.2.2)) ⊢ ∃ f, ⌜(stg.slice (Rect.unit (s := S96) ![0] S96.size inb_S96_S96_0) (fun _ => rfl)).view.read (Elt F) f = stgB s⌝
      ∗ (stg.view.loc (thr d i) ↦[stg.view.set]{fullShare} f : sProp 𝕄) := by
    unfold At
    iintro ⟨%f, %hf, H⟩
    iexists f
    isplitr; swap; · iexact H
    ipureintro
    refine stg_read d i (w := 96) f (n := 6) _ ?_ rfl inb_S96_S96_0
    rw [hf]
    exact (Agr.wr (v := fun g => match g with | 0 => s.1 | 1 => s.2.1 | 2 => s.2.2.1 | 3 => s.2.2.2.1 | 4 => s.2.2.2.2.1 | _ => s.2.2.2.2.2) (g := 5) ((Agr.wr (v := fun g => match g with | 0 => s.1 | 1 => s.2.1 | 2 => s.2.2.1 | 3 => s.2.2.2.1 | 4 => s.2.2.2.2.1 | _ => s.2.2.2.2.2) (g := 4) ((Agr.wr (v := fun g => match g with | 0 => s.1 | 1 => s.2.1 | 2 => s.2.2.1 | 3 => s.2.2.2.1 | 4 => s.2.2.2.2.1 | _ => s.2.2.2.2.2) (g := 3) ((Agr.wr (v := fun g => match g with | 0 => s.1 | 1 => s.2.1 | 2 => s.2.2.1 | 3 => s.2.2.2.1 | 4 => s.2.2.2.2.1 | _ => s.2.2.2.2.2) (g := 2) ((Agr.wr (v := fun g => match g with | 0 => s.1 | 1 => s.2.1 | 2 => s.2.2.1 | 3 => s.2.2.2.1 | 4 => s.2.2.2.2.1 | _ => s.2.2.2.2.2) (g := 1) ((Agr.wr (v := fun g => match g with | 0 => s.1 | 1 => s.2.1 | 2 => s.2.2.1 | 3 => s.2.2.2.1 | 4 => s.2.2.2.2.1 | _ => s.2.2.2.2.2) (g := 0) (Agr.zero g _))))))))))))
  ihave Hs := (es (out2 A (i 1).val)) $$ Hs
  icases Hs with ⟨%f, %hf, Hs⟩
  ihave Hs := (stg_take d i (w := 96) inb_S96_S96_0 f).1 $$ Hs
  icases Hs with ⟨Hs, Hs'⟩
  ihave Hd := (Entails.of_eq (pts_vB d i fullShare f0).symm) $$ Hd
  iapply (wp_swap A d i (b := 1) (by decide) hL hO (fs := f) (fd := f0) (g0 := g0) (by rw [hf]; exact put_B A d i) (get_B A d i) (View.amount_pos _ _ (by decide)) (View.amount_pos _ _ (by decide))) $$ [Hs Hd Hr Hv1 Hv2 Hbr Hst HO]
  · isplitr; · iexact He
    isplitl [Hs]; · iexact Hs
    isplitl [Hd]; · iexact Hd
    isplitl [Hr]; · iexact Hr
    isplitl [Hv1]; · iexact Hv1
    isplitl [Hv2]; · iexact Hv2
    isplitl [Hbr]; · iexact Hbr
    isplitl [Hst]; · iexact Hst
    iexact HO
  iintro ⟨Hs, Hr, Hv1, Hv2, Hg, Hb, Hst, HO⟩
  iapply Hk
  ihave Hs := (stg_take d i (w := 96) inb_S96_S96_0 f).2 $$ [Hs Hs']
  · isplitl [Hs]; · iexact Hs
    iexact Hs'
  isplitl [Hs]
  · iexists _; iapply (at_intro d i stg f) $$ Hs
  isplitl [Hr]
  · ihave Hr := (Entails.of_eq (congrArg (At d i rdB) (read_gB A i))) $$ Hr
    iexact Hr
  isplitl [Hv1]; · iexact Hv1
  isplitl [Hv2]; · iexact Hv2
  isplitl [Hg]; · iexact Hg
  isplitl [Hb]; · iexact Hb
  isplitl [Hst]; · iexact Hst
  iexact HO

theorem exch3_eq (s : FVec F S16 .f32 × FVec F S16 .f32) {α : Type} (K : PUnit → TP F i α) : (exch3 s >>= K) = (stf stg ![0] inb_S96_S16_0 s.1 >>= fun _ => stf stg ![16] inb_S96_S16_16 s.2 >>= fun _ => Prog.lift (.enqueueDma (stg.slice (Rect.unit (s := S96) ![0] S32.size inb_S96_S32_0) (fun _ => rfl)) (.here (vC i)) (.dma cc0_scoped20.sem) (View.wordExact_bits rfl) (View.wordExact_bits rfl) ⟨Or.inl rfl, trivial⟩)
      >>= fun _ => Prog.lift (.waitDma2 cc0_scoped20.sem (stg.slice (Rect.unit (s := S96) ![0] S32.size inb_S96_S32_0) (fun _ => rfl)) (vC i) (View.wordExact_bits rfl) (View.wordExact_bits rfl))
      >>= fun _ => barr >>= fun _ => Prog.lift (.enqueueDma (gC i) (.here rdC) (.dma cc0_scoped21.sem) (View.wordExact_bits rfl) (Memref.isWhole_whole _).wordExact ⟨Or.inl rfl, trivial⟩)
      >>= fun _ => Prog.lift (.waitDma2 cc0_scoped21.sem (gC i) rdC (View.wordExact_bits rfl) (Memref.isWhole_whole _).wordExact) >>= K) := rfl

/-- The third exchange. -/
theorem exch3_step {κ ν : TI → ℕ} {O : CellTallies nD τ sig (HIx 11)} (hL : ∀ g ι, 0 < O g ι → 8 * 10 + 6 ≤ (Cf (F := F)).lev g ι)
    (hO : ∀ g, O g none = 0) {g : (L1 96).Idx → F .f32} {g0 : (L1 128).Idx → F .f32} {f0 : (L1 512).Idx → F .f32} {α : Type} {K : PUnit → TP F i α} {Q : α → sProp 𝕄} :
    iprop(Env A d i κ ν ∗ At d i stg g ∗ pC d (cV i) (blk 32 512 (i 1).val) fullShare f0 ∗ At d i rdC g0
        ∗ semVal (thr d i, .dma cc0_scoped20.sem) 0 ∗ semVal (thr d i, .dma cc0_scoped21.sem) 0
        ∗ bring A d (cV i) 10 (i 1) ∗ bst d (cV i) (i 1) 10 ∗ Owb d i O 10)
      ⊢ iprop((iprop((∃ g, At d i stg g) ∗ At d i rdC (catN 32 128 fun r => stgC (out3 A (4 * ((i 1).val / 4) + r)))
            ∗ semVal (thr d i, .dma cc0_scoped20.sem) 0 ∗ semVal (thr d i, .dma cc0_scoped21.sem) 0
            ∗ grp A d (cV i) 10 (i 1) ∗ back A d (cV i) 10 (i 1) ∗ bst d (cV i) (i 1) 11 ∗ Owb d i O 11) -∗ WP d i (K ⟨⟩) Q)
          -∗ WP d i (exch3 (out3 A (i 1).val) >>= K) Q) := by
  iintro ⟨#He, Hs, Hd, Hr, Hv1, Hv2, Hbr, Hst, HO⟩ Hk
  rw [exch3_eq]
  iapply (wp_stf d i (0) rfl) $$ Hs
  iintro Hs
  iapply (wp_stf d i (16) rfl) $$ Hs
  iintro Hs
  have es (s : FVec F S16 .f32 × FVec F S16 .f32) : At d i stg (wrN (wrN (g) 0 (s.1)) 16 (s.2)) ⊢ ∃ f, ⌜(stg.slice (Rect.unit (s := S96) ![0] S32.size inb_S96_S32_0) (fun _ => rfl)).view.read (Elt F) f = stgC s⌝
      ∗ (stg.view.loc (thr d i) ↦[stg.view.set]{fullShare} f : sProp 𝕄) := by
    unfold At
    iintro ⟨%f, %hf, H⟩
    iexists f
    isplitr; swap; · iexact H
    ipureintro
    refine stg_read d i (w := 32) f (n := 2) _ ?_ rfl inb_S96_S32_0
    rw [hf]
    exact (Agr.wr (v := fun g => match g with | 0 => s.1 | _ => s.2) (g := 1) ((Agr.wr (v := fun g => match g with | 0 => s.1 | _ => s.2) (g := 0) (Agr.zero g _))))
  ihave Hs := (es (out3 A (i 1).val)) $$ Hs
  icases Hs with ⟨%f, %hf, Hs⟩
  ihave Hs := (stg_take d i (w := 32) inb_S96_S32_0 f).1 $$ Hs
  icases Hs with ⟨Hs, Hs'⟩
  ihave Hd := (Entails.of_eq (pts_vC d i fullShare f0).symm) $$ Hd
  iapply (wp_swap A d i (b := 10) (by decide) hL hO (fs := f) (fd := f0) (g0 := g0) (by rw [hf]; exact put_C A d i) (get_C A d i) (View.amount_pos _ _ (by decide)) (View.amount_pos _ _ (by decide))) $$ [Hs Hd Hr Hv1 Hv2 Hbr Hst HO]
  · isplitr; · iexact He
    isplitl [Hs]; · iexact Hs
    isplitl [Hd]; · iexact Hd
    isplitl [Hr]; · iexact Hr
    isplitl [Hv1]; · iexact Hv1
    isplitl [Hv2]; · iexact Hv2
    isplitl [Hbr]; · iexact Hbr
    isplitl [Hst]; · iexact Hst
    iexact HO
  iintro ⟨Hs, Hr, Hv1, Hv2, Hg, Hb, Hst, HO⟩
  iapply Hk
  ihave Hs := (stg_take d i (w := 32) inb_S96_S32_0 f).2 $$ [Hs Hs']
  · isplitl [Hs]; · iexact Hs
    iexact Hs'
  isplitl [Hs]
  · iexists _; iapply (at_intro d i stg f) $$ Hs
  isplitl [Hr]
  · ihave Hr := (Entails.of_eq (congrArg (At d i rdC) (read_gC A i))) $$ Hr
    iexact Hr
  isplitl [Hv1]; · iexact Hv1
  isplitl [Hv2]; · iexact Hv2
  isplitl [Hg]; · iexact Hg
  isplitl [Hb]; · iexact Hb
  isplitl [Hst]; · iexact Hst
  iexact HO

/-! ## A round of the selection -/

theorem round_eq (b : Fin 2) (mk sh : BitVec 32) (s1 s2 : DmaSems sig S_) (s : IVec S16 32 × FVec F S16 .f32) {α : Type}
    (K : IVec S16 32 × FVec F S16 .f32 → TP F i α) : (round b mk sh s1 s2 s >>= K)
    = (rep zeroStep 16 0 rfl ⟨⟩ >>= fun _ => Scf.Loop.for k0_t3_loop k0_t3_ok 0#32 (cntTrip mk sh s.1) >>= fun _ =>
      Prog.lift (.enqueueDma hist (.here (vH i b)) (.dma s1.sem) (Memref.isWhole_whole _).wordExact (View.wordExact_bits rfl) ⟨Or.inl rfl, trivial⟩)
      >>= fun _ => Prog.lift (.waitDma2 s1.sem hist (vH i b) (Memref.isWhole_whole _).wordExact (View.wordExact_bits rfl))
      >>= fun _ => barr >>= fun _ => Prog.lift (.enqueueDma (gH i b) (.here rdH) (.dma s2.sem) (View.wordExact_bits rfl) (Memref.isWhole_whole _).wordExact ⟨Or.inl rfl, trivial⟩)
      >>= fun _ => Prog.lift (.waitDma2 s2.sem (gH i b) rdH (View.wordExact_bits rfl) (Memref.isWhole_whole _).wordExact)
      >>= fun _ => rep gatH 64 0 rfl (bf 0x00000000#32) >>= fun cnts => K (rndStep sh cnts s)) := by
  unfold round
  simp only [bind_assoc, pure_bind]
  rfl

theorem round_step (r : ℕ) (hr : r < 8) (b : Fin 2) (hb : b.val = r % 2) (s1 s2 : DmaSems sig S_) {κ ν : TI → ℕ} {O : CellTallies nD τ sig (HIx 11)}
    (hL : ∀ g ι, 0 < O g ι → 8 * 10 + 6 ≤ (Cf (F := F)).lev g ι) (hO : ∀ g, O g none = 0) {α : Type}
    {K : IVec S16 32 × FVec F S16 .f32 → TP F i α} {Q : α → sProp 𝕄} :
    iprop(Env A d i κ ν ∗ At d i keyv (A (i 1).val).KEY ∗ (∃ g, At d i hist g) ∗ (∃ g, At d i rdH g)
        ∗ (∃ f, pH d (cV i) (blk 256 8192 (16 * (r % 2) + (i 1).val)) fullShare f)
        ∗ semVal (thr d i, .dma s1.sem) 0 ∗ semVal (thr d i, .dma s2.sem) 0
        ∗ bring A d (cV i) (r + 2) (i 1) ∗ bst d (cV i) (i 1) (r + 2) ∗ Owb d i O (r + 2))
      ⊢ iprop((iprop(At d i keyv (A (i 1).val).KEY ∗ (∃ g, At d i hist g) ∗ (∃ g, At d i rdH g)
            ∗ semVal (thr d i, .dma s1.sem) 0 ∗ semVal (thr d i, .dma s2.sem) 0
            ∗ grp A d (cV i) (r + 2) (i 1) ∗ back A d (cV i) (r + 2) (i 1) ∗ bst d (cV i) (i 1) (r + 3) ∗ Owb d i O (r + 3))
            -∗ WP d i (K (rnd A ((i 1).val / 4) (r + 1))) Q)
          -∗ WP d i (round b (mkN r) (shN r) s1 s2 (rnd A ((i 1).val / 4) r) >>= K) Q) := by
  iintro ⟨#He, Hky, Hh, Hr, ⟨%fd, Hd⟩, Hv1, Hv2, Hbr, Hst, HO⟩ Hk
  rw [round_eq]
  icases Hh with ⟨%g, Hh⟩
  iapply (wp_rep_bind d i zeroStep (fun k _ => iprop(∃ f, ⌜Agr f (fun _ => Scalar.ofBits (F := F) .f32 0x00000000#32) (16 * k)⌝ ∗ At d i hist f))
    (zero_step d i) ⟨⟩ rfl) $$ [Hh]
  · iexists g
    isplitr; · ipureintro; exact Agr.zero _ _
    iexact Hh
  iintro %u ⟨%f, %hf, Hh⟩
  obtain rfl := hf.eq (by decide)
  iapply (wp_loop_bind d i k0_t3_loop k0_t3_ok 0#32 (cntTrip (mkN r) (shN r) (rnd A ((i 1).val / 4) r).1)
    (fun k _ => iprop(At d i keyv (A (i 1).val).KEY ∗ At d i hist ((A (i 1).val).hist (mkN r) (shN r) (rnd A ((i 1).val / 4) r).1 k)))
    (cnt_step d i (A (i 1).val) (mkN r) (shN r) (rnd A ((i 1).val / 4) r).1)) $$ [Hky Hh]
  · isplitl [Hky]; · iexact Hky
    iexact Hh
  iintro %u' ⟨Hky, Hh⟩
  have eh : At d i hist ((A (i 1).val).hist (mkN r) (shN r) (rnd A ((i 1).val / 4) r).1 k0_t3_loop.trips)
      ⊢ ∃ f, ⌜hist.view.read (Elt F) f = histN A r (rnd A ((i 1).val / 4) r).1 (i 1).val⌝ ∗ (hist.view.loc (thr d i) ↦[hist.view.set]{fullShare} f : sProp 𝕄) := by
    unfold At; exact .rfl
  ihave Hh := eh $$ Hh
  icases Hh with ⟨%fh, %hfh, Hh⟩
  ihave Hd := (Entails.of_eq ((pts_vH d i b fullShare fd).trans (by rw [hb])).symm) $$ Hd
  icases Hr with ⟨%g0, Hr⟩
  iapply (wp_swap A d i (b := r + 2) (by omega) hL hO (fs := fh) (fd := fd) (g0 := g0) (by rw [hfh]; exact put_H A d i hr b hb) (get_H A d i hr b hb)
    (View.amount_pos _ _ (by decide)) (View.amount_pos _ _ (by decide))) $$ [Hh Hd Hr Hv1 Hv2 Hbr Hst HO]
  · isplitr; · iexact He
    isplitl [Hh]; · iexact Hh
    isplitl [Hd]; · iexact Hd
    isplitl [Hr]; · iexact Hr
    isplitl [Hv1]; · iexact Hv1
    isplitl [Hv2]; · iexact Hv2
    isplitl [Hbr]; · iexact Hbr
    isplitl [Hst]; · iexact Hst
    iexact HO
  iintro ⟨Hh, Hr, Hv1, Hv2, Hg, Hb, Hst, HO⟩
  ihave Hr := (Entails.of_eq (congrArg (At d i rdH) (read_gH A i r b))) $$ Hr
  iapply (wp_rep_bind d i gatH (fun k s => iprop(⌜s = iter (fun k c => addf c (rdN (grpH A r (rnd A ((i 1).val / 4) r).1 ((i 1).val / 4)) (16 * k))) (bf 0x00000000#32) k⌝
      ∗ At d i rdH (grpH A r (rnd A ((i 1).val / 4) r).1 ((i 1).val / 4))))
    (gatH_step d i (grpH A r (rnd A ((i 1).val / 4) r).1 ((i 1).val / 4))) (bf 0x00000000#32) rfl) $$ [Hr]
  · isplitr; · ipureintro; rfl
    iexact Hr
  iintro %cnts ⟨%hc, Hr⟩
  rw [hc]
  iapply Hk
  isplitl [Hky]; · iexact Hky
  isplitl [Hh]; · iexists _; iapply (at_intro d i hist fh) $$ Hh
  isplitl [Hr]; · iexists _; iexact Hr
  isplitl [Hv1]; · iexact Hv1
  isplitl [Hv2]; · iexact Hv2
  isplitl [Hg]; · iexact Hg
  isplitl [Hb]; · iexact Hb
  isplitl [Hst]; · iexact Hst
  iexact HO

end Cert.Proof.K

end
-- ==== Proof.K.Tile1.lean ====
/- One tile's run, up to the selection. -/
module

public import proofs.«01_k».proof.Proof.K.Load
public import proofs.«01_k».proof.Proof.K.Rnd

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F] (A : ℕ → TileIn F) (d : Dev nD) (i : grid0.Coords)

theorem grp_bring (b : ℕ) : grp A d (cV i) b (i 1) ⊢ bring A d (cV i) (b + 1) (i 1) := by
  unfold bring
  exact .rfl

theorem owb_out (O : CellTallies nD τ sig (HIx 11)) (b : ℕ) : (Owb d i O b : sProp 𝕄) ⊢ Ow d i (O + oxF d (cV i) b) := by
  unfold Owb
  iintro H
  iexact H
theorem owb_in (O : CellTallies nD τ sig (HIx 11)) (b : ℕ) : (Ow d i (O + oxF d (cV i) b) : sProp 𝕄) ⊢ Owb d i O b := by
  unfold Owb
  iintro H
  iexact H

/-- The first sweep, after k trips. -/
def I1 (B : TileIn F) (k : ℕ) (s : Car1 F) : sProp 𝕄 := iprop(⌜s = B.car1 (2 * k)⌝ ∗ In1 d i B ∗ Out1 d i B (2 * k))

theorem sweep1 (B : TileIn F) {β : Type} {K : Car1 F → TP F i β} {Q : β → sProp 𝕄} :
    iprop(In1 d i B ∗ Out1 d i B 0) ⊢ iprop((∀ s', iprop(⌜s' = B.car1 250⌝ ∗ In1 d i B ∗ Out1 d i B 250) -∗ WP d i (K s') Q)
      -∗ WP d i (Scf.Loop.for k0_t1_loop k0_t1_ok (bf 0x00000000#32, bf 0x00000000#32, bf 0xFF61B1E6#32, bf 0xFF61B1E6#32) trip1 >>= K) Q) := by
  have hs : ∀ (k : Fin k0_t1_loop.trips) (s : Car1 F), I1 d i B k.val s ⊢ WP d i (trip1 k s) (I1 d i B (k.val + 1)) := by
    intro k s
    have h := trip1_step d i B k s
    unfold I1
    exact h
  have h0 : iprop(In1 d i B ∗ Out1 d i B 0) ⊢ I1 d i B 0 (bf 0x00000000#32, bf 0x00000000#32, bf 0xFF61B1E6#32, bf 0xFF61B1E6#32) := by
    unfold I1
    iintro H
    isplitr
    · ipureintro; rfl
    iexact H
  exact h0.trans (wp_loop_bind d i k0_t1_loop k0_t1_ok TileIn.zero1 trip1 (I1 d i B) hs)

/-- The second sweep, after k trips. -/
def I2 (B : TileIn F) (m0 m1 : FVec F S16 .f32) (k : ℕ) (s : Car2 F) : sProp 𝕄 := iprop(⌜s = B.car2 m0 m1 k⌝ ∗ In2 d i B)

theorem sweep2 (B : TileIn F) (m0 m1 : FVec F S16 .f32) {β : Type} {K : Car2 F → TP F i β} {Q : β → sProp 𝕄} :
    In2 d i B ⊢ iprop((∀ s', iprop(⌜s' = B.car2 m0 m1 250⌝ ∗ In2 d i B) -∗ WP d i (K s') Q)
      -∗ WP d i (Scf.Loop.for k0_t2_loop k0_t2_ok
        (bf 0x00000000#32, bf 0x00000000#32, bf 0x00000000#32, bf 0x00000000#32, bf 0x00000000#32, bf 0x00000000#32) (trip2 m0 m1) >>= K) Q) := by
  have hs : ∀ (k : Fin k0_t2_loop.trips) (s : Car2 F), I2 d i B m0 m1 k.val s ⊢ WP d i (trip2 m0 m1 k s) (I2 d i B m0 m1 (k.val + 1)) := by
    intro k s
    have h := trip2_step d i B m0 m1 k s
    unfold I2
    exact h
  have h0 : In2 d i B ⊢ I2 d i B m0 m1 0 (bf 0x00000000#32, bf 0x00000000#32, bf 0x00000000#32, bf 0x00000000#32, bf 0x00000000#32, bf 0x00000000#32) := by
    unfold I2
    iintro H
    isplitr
    · ipureintro; rfl
    iexact H
  exact h0.trans (wp_loop_bind d i k0_t2_loop k0_t2_ok TileIn.zero2 (trip2 m0 m1) (I2 d i B m0 m1) hs)

/-- What a tile has before the selection. -/
def pre1 (q : PosShare TreeShare) (b : HB F) (O : CellTallies nD τ sig (HIx 11)) : sProp 𝕄 :=
  iprop(arrs d q b ∗ frees d i ∗ (∃ g, At d i annb g) ∗ (∃ g, At d i tab g) ∗ (∃ g, At d i area g) ∗ (∃ g, At d i iouv g) ∗ (∃ g, At d i argv g)
    ∗ (∃ g, At d i keyv g) ∗ (∃ g, At d i stg g) ∗ (∃ g, At d i rdA g) ∗ (∃ g, At d i rdB g)
    ∗ (∃ f, pA d (cV i) (blk 64 1024 (i 1).val) fullShare f) ∗ (∃ f, pB d (cV i) (blk 96 1536 (i 1).val) fullShare f)
    ∗ semVal (thr d i, .dma cc0_scratch37.sem) 0 ∗ semVal (thr d i, .dma cc0_scratch38.sem) 0 ∗ semVal (thr d i, .dma cc0_scratch39.sem) 0 ∗ semVal (thr d i, .dma cc0_scoped0.sem) 0 ∗ semVal (thr d i, .dma cc0_scoped1.sem) 0 ∗ semVal (thr d i, .dma cc0_scoped2.sem) 0 ∗ semVal (thr d i, .dma cc0_scoped3.sem) 0
    ∗ bst d (cV i) (i 1) 0 ∗ Owb d i O 0)

/-- What it has at the selection. -/
def post1 (q : PosShare TreeShare) (b : HB F) (O : CellTallies nD τ sig (HIx 11)) : sProp 𝕄 :=
  iprop(arrs d q b ∗ loads d i (tin i b) ∗ (∃ g, At d i annb g) ∗ (∃ g, At d i tab g) ∗ (∃ g, At d i area g) ∗ (∃ g, At d i iouv g) ∗ (∃ g, At d i argv g)
    ∗ At d i keyv (tin i b).KEY ∗ (∃ g, At d i stg g) ∗ (∃ g, At d i rdA g) ∗ (∃ g, At d i rdB g)
    ∗ semVal (thr d i, .dma cc0_scratch37.sem) 0 ∗ semVal (thr d i, .dma cc0_scratch38.sem) 0 ∗ semVal (thr d i, .dma cc0_scratch39.sem) 0 ∗ semVal (thr d i, .dma cc0_scoped0.sem) 0 ∗ semVal (thr d i, .dma cc0_scoped1.sem) 0 ∗ semVal (thr d i, .dma cc0_scoped2.sem) 0 ∗ semVal (thr d i, .dma cc0_scoped3.sem) 0
    ∗ back A d (cV i) 1 (i 1) ∗ bring A d (cV i) 2 (i 1) ∗ bst d (cV i) (i 1) 2 ∗ Owb d i O 2)

set_option maxHeartbeats 1000000 in
theorem part1_step {q : PosShare TreeShare} {b : HB F} (hA : A (i 1).val = tin i b) {κ ν : TI → ℕ} {O : CellTallies nD τ sig (HIx 11)}
    (hL : ∀ g ι, 0 < O g ι → 8 * 10 + 6 ≤ (Cf (F := F)).lev g ι) (hO : ∀ g, O g none = 0) :
    iprop(Env A d i κ ν ∗ pre1 d i q b O)
      ⊢ WP d i part1 (fun ab => iprop(⌜ab = (tot1 A ((i 1).val / 4) 4, tot2 A ((i 1).val / 4) 4)⌝ ∗ post1 A d i q b O)) := by
  unfold pre1 post1
  have hcp := fun (K : PUnit → TP F i (Car1 F × Car2 F)) Q => copies_step d i (q := q) (b := b) (owb_none d i hO 0) (K := K) (Q := Q)
  generalize tin i b = B at hA hcp ⊢
  iintro ⟨#He, Har, Hfr, Hann, Htab, ⟨%f1, Harea⟩, ⟨%f2, Hiou⟩, ⟨%f3, Harg⟩, ⟨%f4, Hkey⟩, ⟨%f5, Hstg⟩, ⟨%f6, HrA⟩, ⟨%f7, HrB⟩, ⟨%f8, HsA⟩, ⟨%f9, HsB⟩,
    Hv37, Hv38, Hv39, Hw0, Hw1, Hw2, Hw3, Hst, HO⟩
  ihave #He' := (show Env A d i κ ν ⊢ levAts (Cf (F := F)).L (Cf (F := F)).lev by unfold Env; iintro ⟨-, H⟩; iexact H) $$ He
  unfold part1
  ihave HO := (owb_out d i O 0) $$ HO
  iapply (hcp _ _) $$ [Har Hfr Hann Htab Hv37 Hv38 Hv39 HO]
  · isplitr; · iexact He'
    isplitl [Har]; · iexact Har
    isplitl [Hfr]; · iexact Hfr
    isplitl [Hann]; · iexact Hann
    isplitl [Htab]; · iexact Htab
    isplitl [Hv37]; · iexact Hv37
    isplitl [Hv38]; · iexact Hv38
    isplitl [Hv39]; · iexact Hv39
    iexact HO
  iintro ⟨Har, Hld, Hann, Htab, Hv37, Hv38, Hv39, HO⟩
  ihave HO := (owb_in d i O 0) $$ HO
  iapply (wp_rep_bind d i areaStep (fun k _ => iprop(At d i annb B.box ∗ ∃ f, ⌜Agr f B.AREA (16 * k)⌝ ∗ At d i area f))
    (area_step d i B) ⟨⟩ rfl) $$ [Hann Harea]
  · isplitl [Hann]; · iexact Hann
    iexists f1; isplitr; · ipureintro; exact Agr.zero _ _
    iexact Harea
  iintro %u ⟨Hann, %fa, %hfa, Harea⟩
  obtain rfl := hfa.eq (by decide)
  unfold loads
  icases Hld with ⟨Hx0, Hy0, Hx1, Hy1, Hc0, Hc1, Hb0, Hb1, Hb2, Hb3, Hl0, Hl1, Hl2, Hl3, Hl4, Hl5, Hl6, Hl7, Hl8, Hl9⟩
  iapply (sweep1 d i B) $$ [Hx0 Hy0 Hx1 Hy1 Hc0 Hc1 Hann Harea Hiou Harg Hkey]
  · unfold In1 Out1
    isplitl [Hx0 Hy0 Hx1 Hy1 Hc0 Hc1 Hann Harea]
    · isplitl [Hx0]; · iexact Hx0
      isplitl [Hy0]; · iexact Hy0
      isplitl [Hx1]; · iexact Hx1
      isplitl [Hy1]; · iexact Hy1
      isplitl [Hc0]; · iexact Hc0
      isplitl [Hc1]; · iexact Hc1
      isplitl [Hann]; · iexact Hann
      iexact Harea
    isplitl [Hiou]
    · iexists f2; isplitr; · ipureintro; exact Agr.zero _ _
      iexact Hiou
    isplitl [Harg]
    · iexists f3; isplitr; · ipureintro; exact Agr.zero _ _
      iexact Harg
    iexists f4; isplitr; · ipureintro; exact Agr.zero _ _
    iexact Hkey
  unfold In1 Out1
  iintro %s1 ⟨%hs1, ⟨Hx0, Hy0, Hx1, Hy1, Hc0, Hc1, Hann, Harea⟩, ⟨%fi, %hfi, Hiou⟩, ⟨%fg, %hfg, Harg⟩, ⟨%fk, %hfk, Hkey⟩⟩
  obtain rfl := hfi.eq (by decide)
  obtain rfl := hfg.eq (by decide)
  obtain rfl := hfk.eq (by decide)
  have hs1' : s1 = (A (i 1).val).car1 250 := by rw [hs1, hA]
  rw [hs1']
  iapply (exch1_step A d i hL hO) $$ [Hstg HsA HrA Hw0 Hw1 Hst HO]
  · isplitr; · iexact He
    isplitl [Hstg]; · iexact Hstg
    isplitl [HsA]; · iexact HsA
    isplitl [HrA]; · iexact HrA
    isplitl [Hw0]; · iexact Hw0
    isplitl [Hw1]; · iexact Hw1
    isplitr; · unfold bring; iempintro
    isplitl [Hst]; · iexact Hst
    iexact HO
  iintro ⟨⟨%f5', Hstg⟩, HrA, Hw0, Hw1, Hgr, -, Hst, HO⟩
  iapply (wp_rep_bind d i gat1 (fun k s => iprop(⌜s = tot1 A ((i 1).val / 4) k⌝ ∗ At d i rdA (catN 64 256 fun r => stgA ((A (4 * ((i 1).val / 4) + r)).car1 250))))
    (gat1_step d i A ((i 1).val / 4) _ rfl) (bf 0x00000000#32, bf 0x00000000#32, bf 0xFF61B1E6#32, bf 0xFF61B1E6#32) rfl) $$ [HrA]
  · isplitr; · ipureintro; rfl
    iexact HrA
  iintro %a ⟨%ha, HrA⟩
  rw [ha]
  iapply (sweep2 d i B (lmax (tot1 A ((i 1).val / 4) 4).2.2.1) (lmax (tot1 A ((i 1).val / 4) 4).2.2.2)) $$ [Hiou Harg Htab Hx0 Hy0 Hx1 Hy1 Hc0 Hc1 Hb0 Hb1 Hb2 Hb3 Hl0 Hl1 Hl2 Hl3 Hl4 Hl5 Hl6 Hl7 Hl8 Hl9]
  · unfold In2
    isplitl [Hiou]; · iexact Hiou
    isplitl [Harg]; · iexact Harg
    isplitl [Hx0]; · iexact Hx0
    isplitl [Hy0]; · iexact Hy0
    isplitl [Hx1]; · iexact Hx1
    isplitl [Hy1]; · iexact Hy1
    isplitl [Htab]; · iexact Htab
    isplitl [Hb0]; · iexact Hb0
    isplitl [Hb1]; · iexact Hb1
    isplitl [Hb2]; · iexact Hb2
    isplitl [Hb3]; · iexact Hb3
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    isplitl [Hl9]; · iexact Hl9
    isplitl [Hc0]; · iexact Hc0
    iexact Hc1
  unfold In2
  iintro %s2 ⟨%hs2, Hiou, Harg, Hx0, Hy0, Hx1, Hy1, Htab, Hb0, Hb1, Hb2, Hb3, Hl0, Hl1, Hl2, Hl3, Hl4, Hl5, Hl6, Hl7, Hl8, Hl9, Hc0, Hc1⟩
  have hs2' : s2 = out2 A (i 1).val := by unfold out2; rw [hs2, hA]
  rw [hs2']
  ihave Hgr := (grp_bring A d i 0) $$ Hgr
  iapply (exch2_step A d i hL hO) $$ [Hstg HsB HrB Hw2 Hw3 Hgr Hst HO]
  · isplitr; · iexact He
    isplitl [Hstg]; · iexact Hstg
    isplitl [HsB]; · iexact HsB
    isplitl [HrB]; · iexact HrB
    isplitl [Hw2]; · iexact Hw2
    isplitl [Hw3]; · iexact Hw3
    isplitl [Hgr]; · iexact Hgr
    isplitl [Hst]; · iexact Hst
    iexact HO
  iintro ⟨Hstg, HrB, Hw2, Hw3, Hgr, Hbk, Hst, HO⟩
  ihave Hgr := (grp_bring A d i 1) $$ Hgr
  rw [← bind_pure (rep gat2 4 0 rfl _ >>= _)]
  rw [bind_assoc]
  iapply (wp_rep_bind d i gat2 (fun k s => iprop(⌜s = tot2 A ((i 1).val / 4) k⌝ ∗ At d i rdB (catN 96 384 fun r => stgB (out2 A (4 * ((i 1).val / 4) + r)))))
    (gat2_step d i A ((i 1).val / 4) _ rfl) (bf 0x00000000#32, bf 0x00000000#32, bf 0x00000000#32, bf 0x00000000#32, bf 0x00000000#32, bf 0x00000000#32) rfl) $$ [HrB]
  · isplitr; · ipureintro; rfl
    iexact HrB
  iintro %c ⟨%hc, HrB⟩
  rw [hc, pure_bind]
  iapply (wp_done d i)
  isplitr; · ipureintro; rfl
  isplitl [Har]; · iexact Har
  isplitl [Hx0 Hy0 Hx1 Hy1 Hc0 Hc1 Hb0 Hb1 Hb2 Hb3 Hl0 Hl1 Hl2 Hl3 Hl4 Hl5 Hl6 Hl7 Hl8 Hl9]
  · isplitl [Hx0]; · iexact Hx0
    isplitl [Hy0]; · iexact Hy0
    isplitl [Hx1]; · iexact Hx1
    isplitl [Hy1]; · iexact Hy1
    isplitl [Hc0]; · iexact Hc0
    isplitl [Hc1]; · iexact Hc1
    isplitl [Hb0]; · iexact Hb0
    isplitl [Hb1]; · iexact Hb1
    isplitl [Hb2]; · iexact Hb2
    isplitl [Hb3]; · iexact Hb3
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    iexact Hl9
  isplitl [Hann]; · iexists _; iexact Hann
  isplitl [Htab]; · iexists _; iexact Htab
  isplitl [Harea]; · iexists _; iexact Harea
  isplitl [Hiou]; · iexists _; iexact Hiou
  isplitl [Harg]; · iexists _; iexact Harg
  isplitl [Hkey]; · iexact Hkey
  isplitl [Hstg]; · iexact Hstg
  isplitl [HrA]; · iexists _; iexact HrA
  isplitl [HrB]; · iexists _; iexact HrB
  isplitl [Hv37]; · iexact Hv37
  isplitl [Hv38]; · iexact Hv38
  isplitl [Hv39]; · iexact Hv39
  isplitl [Hw0]; · iexact Hw0
  isplitl [Hw1]; · iexact Hw1
  isplitl [Hw2]; · iexact Hw2
  isplitl [Hw3]; · iexact Hw3
  isplitl [Hbk]; · iexact Hbk
  isplitl [Hgr]; · iexact Hgr
  isplitl [Hst]; · iexact Hst
  iexact HO

end Cert.Proof.K

end
-- ==== Proof.K.Tile2.lean ====
/- One tile's run: the rounds of the selection. -/
module

public import proofs.«01_k».proof.Proof.K.Tile1

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F] (A : ℕ → TileIn F) (d : Dev nD) (i : grid0.Coords)

/-- A slot of a half, at some contents. -/
theorem back_H {r : ℕ} (hr : r < 8) : back A d (cV i) (r + 3) (i 1) ⊢ iprop(∃ f, pH d (cV i) (blk 256 8192 (16 * (r % 2) + (i 1).val)) fullShare f) := by
  show slotP A d (cV i) (r + 2) (i 1).val fullShare ⊢ _
  rw [slot_H A d hr]
  iintro H; iexists _; iexact H

def pre2 (b : HB F) (O : CellTallies nD τ sig (HIx 11)) : sProp 𝕄 :=
  iprop(At d i keyv (tin i b).KEY ∗ (∃ g, At d i hist g) ∗ (∃ g, At d i rdH g)
    ∗ (∃ f, pH d (cV i) (blk 256 8192 (16 * 0 + (i 1).val)) fullShare f) ∗ (∃ f, pH d (cV i) (blk 256 8192 (16 * 1 + (i 1).val)) fullShare f)
    ∗ semVal (thr d i, .dma cc0_scoped4.sem) 0 ∗ semVal (thr d i, .dma cc0_scoped5.sem) 0 ∗ semVal (thr d i, .dma cc0_scoped6.sem) 0 ∗ semVal (thr d i, .dma cc0_scoped7.sem) 0 ∗ semVal (thr d i, .dma cc0_scoped8.sem) 0 ∗ semVal (thr d i, .dma cc0_scoped9.sem) 0 ∗ semVal (thr d i, .dma cc0_scoped10.sem) 0 ∗ semVal (thr d i, .dma cc0_scoped11.sem) 0 ∗ semVal (thr d i, .dma cc0_scoped12.sem) 0 ∗ semVal (thr d i, .dma cc0_scoped13.sem) 0 ∗ semVal (thr d i, .dma cc0_scoped14.sem) 0 ∗ semVal (thr d i, .dma cc0_scoped15.sem) 0 ∗ semVal (thr d i, .dma cc0_scoped16.sem) 0 ∗ semVal (thr d i, .dma cc0_scoped17.sem) 0 ∗ semVal (thr d i, .dma cc0_scoped18.sem) 0 ∗ semVal (thr d i, .dma cc0_scoped19.sem) 0 ∗ bring A d (cV i) 2 (i 1) ∗ bst d (cV i) (i 1) 2 ∗ Owb d i O 2)
def post2 (b : HB F) (O : CellTallies nD τ sig (HIx 11)) : sProp 𝕄 :=
  iprop(At d i keyv (tin i b).KEY ∗ (∃ g, At d i hist g) ∗ (∃ g, At d i rdH g)
    ∗ back A d (cV i) 2 (i 1) ∗ back A d (cV i) 9 (i 1)
    ∗ semVal (thr d i, .dma cc0_scoped4.sem) 0 ∗ semVal (thr d i, .dma cc0_scoped5.sem) 0 ∗ semVal (thr d i, .dma cc0_scoped6.sem) 0 ∗ semVal (thr d i, .dma cc0_scoped7.sem) 0 ∗ semVal (thr d i, .dma cc0_scoped8.sem) 0 ∗ semVal (thr d i, .dma cc0_scoped9.sem) 0 ∗ semVal (thr d i, .dma cc0_scoped10.sem) 0 ∗ semVal (thr d i, .dma cc0_scoped11.sem) 0 ∗ semVal (thr d i, .dma cc0_scoped12.sem) 0 ∗ semVal (thr d i, .dma cc0_scoped13.sem) 0 ∗ semVal (thr d i, .dma cc0_scoped14.sem) 0 ∗ semVal (thr d i, .dma cc0_scoped15.sem) 0 ∗ semVal (thr d i, .dma cc0_scoped16.sem) 0 ∗ semVal (thr d i, .dma cc0_scoped17.sem) 0 ∗ semVal (thr d i, .dma cc0_scoped18.sem) 0 ∗ semVal (thr d i, .dma cc0_scoped19.sem) 0 ∗ bring A d (cV i) 10 (i 1) ∗ bst d (cV i) (i 1) 10 ∗ Owb d i O 10)

theorem rounds_eq (s : IVec S16 32 × FVec F S16 .f32) {i : grid0.Coords} : rounds (i := i) s =
    (round 0 (mkN 0) (shN 0) cc0_scoped4 cc0_scoped5 s >>= fun s => round 1 (mkN 1) (shN 1) cc0_scoped6 cc0_scoped7 s >>= fun s =>
      round 0 (mkN 2) (shN 2) cc0_scoped8 cc0_scoped9 s >>= fun s => round 1 (mkN 3) (shN 3) cc0_scoped10 cc0_scoped11 s >>= fun s =>
      round 0 (mkN 4) (shN 4) cc0_scoped12 cc0_scoped13 s >>= fun s => round 1 (mkN 5) (shN 5) cc0_scoped14 cc0_scoped15 s >>= fun s =>
      round 0 (mkN 6) (shN 6) cc0_scoped16 cc0_scoped17 s >>= fun s => round 1 (mkN 7) (shN 7) cc0_scoped18 cc0_scoped19 s >>= fun s => pure s) := by
  unfold rounds
  simp only [mkN, shN, bind_pure]

set_option maxHeartbeats 1000000 in
theorem rounds_step {b : HB F} (hA : A (i 1).val = tin i b) {κ ν : TI → ℕ} {O : CellTallies nD τ sig (HIx 11)}
    (hL : ∀ g ι, 0 < O g ι → 8 * 10 + 6 ≤ (Cf (F := F)).lev g ι) (hO : ∀ g, O g none = 0) :
    iprop(Env A d i κ ν ∗ pre2 A d i b O)
      ⊢ WP d i (rounds (rnd A ((i 1).val / 4) 0)) (fun s => iprop(⌜s = rnd A ((i 1).val / 4) 8⌝ ∗ post2 A d i b O)) := by
  unfold pre2 post2
  rw [← hA]
  iintro ⟨#He, Hky, Hh, HrH, HH0, HH1, Hw4, Hw5, Hw6, Hw7, Hw8, Hw9, Hw10, Hw11, Hw12, Hw13, Hw14, Hw15, Hw16, Hw17, Hw18, Hw19, Hbr, Hst, HO⟩
  rw [rounds_eq]
  iapply (round_step A d i 0 (by decide) 0 rfl cc0_scoped4 cc0_scoped5 hL hO) $$ [Hky Hh HrH HH0 Hw4 Hw5 Hbr Hst HO]
  · isplitr; · iexact He
    isplitl [Hky]; · iexact Hky
    isplitl [Hh]; · iexact Hh
    isplitl [HrH]; · iexact HrH
    isplitl [HH0]; · iexact HH0
    isplitl [Hw4]; · iexact Hw4
    isplitl [Hw5]; · iexact Hw5
    isplitl [Hbr]; · iexact Hbr
    isplitl [Hst]; · iexact Hst
    iexact HO
  iintro ⟨Hky, Hh, HrH, Hw4, Hw5, Hbr, Hbk, Hst, HO⟩
  ihave Hbr := (grp_bring A d i 2) $$ Hbr
  iapply (round_step A d i 1 (by decide) 1 rfl cc0_scoped6 cc0_scoped7 hL hO) $$ [Hky Hh HrH HH1 Hw6 Hw7 Hbr Hst HO]
  · isplitr; · iexact He
    isplitl [Hky]; · iexact Hky
    isplitl [Hh]; · iexact Hh
    isplitl [HrH]; · iexact HrH
    isplitl [HH1]; · iexact HH1
    isplitl [Hw6]; · iexact Hw6
    isplitl [Hw7]; · iexact Hw7
    isplitl [Hbr]; · iexact Hbr
    isplitl [Hst]; · iexact Hst
    iexact HO
  iintro ⟨Hky, Hh, HrH, Hw6, Hw7, Hbr, HH, Hst, HO⟩
  ihave Hbr := (grp_bring A d i 3) $$ Hbr
  ihave HH := (back_H A d i (r := 0) (by decide)) $$ HH
  iapply (round_step A d i 2 (by decide) 0 rfl cc0_scoped8 cc0_scoped9 hL hO) $$ [Hky Hh HrH HH Hw8 Hw9 Hbr Hst HO]
  · isplitr; · iexact He
    isplitl [Hky]; · iexact Hky
    isplitl [Hh]; · iexact Hh
    isplitl [HrH]; · iexact HrH
    isplitl [HH]; · iexact HH
    isplitl [Hw8]; · iexact Hw8
    isplitl [Hw9]; · iexact Hw9
    isplitl [Hbr]; · iexact Hbr
    isplitl [Hst]; · iexact Hst
    iexact HO
  iintro ⟨Hky, Hh, HrH, Hw8, Hw9, Hbr, HH, Hst, HO⟩
  ihave Hbr := (grp_bring A d i 4) $$ Hbr
  ihave HH := (back_H A d i (r := 1) (by decide)) $$ HH
  iapply (round_step A d i 3 (by decide) 1 rfl cc0_scoped10 cc0_scoped11 hL hO) $$ [Hky Hh HrH HH Hw10 Hw11 Hbr Hst HO]
  · isplitr; · iexact He
    isplitl [Hky]; · iexact Hky
    isplitl [Hh]; · iexact Hh
    isplitl [HrH]; · iexact HrH
    isplitl [HH]; · iexact HH
    isplitl [Hw10]; · iexact Hw10
    isplitl [Hw11]; · iexact Hw11
    isplitl [Hbr]; · iexact Hbr
    isplitl [Hst]; · iexact Hst
    iexact HO
  iintro ⟨Hky, Hh, HrH, Hw10, Hw11, Hbr, HH, Hst, HO⟩
  ihave Hbr := (grp_bring A d i 5) $$ Hbr
  ihave HH := (back_H A d i (r := 2) (by decide)) $$ HH
  iapply (round_step A d i 4 (by decide) 0 rfl cc0_scoped12 cc0_scoped13 hL hO) $$ [Hky Hh HrH HH Hw12 Hw13 Hbr Hst HO]
  · isplitr; · iexact He
    isplitl [Hky]; · iexact Hky
    isplitl [Hh]; · iexact Hh
    isplitl [HrH]; · iexact HrH
    isplitl [HH]; · iexact HH
    isplitl [Hw12]; · iexact Hw12
    isplitl [Hw13]; · iexact Hw13
    isplitl [Hbr]; · iexact Hbr
    isplitl [Hst]; · iexact Hst
    iexact HO
  iintro ⟨Hky, Hh, HrH, Hw12, Hw13, Hbr, HH, Hst, HO⟩
  ihave Hbr := (grp_bring A d i 6) $$ Hbr
  ihave HH := (back_H A d i (r := 3) (by decide)) $$ HH
  iapply (round_step A d i 5 (by decide) 1 rfl cc0_scoped14 cc0_scoped15 hL hO) $$ [Hky Hh HrH HH Hw14 Hw15 Hbr Hst HO]
  · isplitr; · iexact He
    isplitl [Hky]; · iexact Hky
    isplitl [Hh]; · iexact Hh
    isplitl [HrH]; · iexact HrH
    isplitl [HH]; · iexact HH
    isplitl [Hw14]; · iexact Hw14
    isplitl [Hw15]; · iexact Hw15
    isplitl [Hbr]; · iexact Hbr
    isplitl [Hst]; · iexact Hst
    iexact HO
  iintro ⟨Hky, Hh, HrH, Hw14, Hw15, Hbr, HH, Hst, HO⟩
  ihave Hbr := (grp_bring A d i 7) $$ Hbr
  ihave HH := (back_H A d i (r := 4) (by decide)) $$ HH
  iapply (round_step A d i 6 (by decide) 0 rfl cc0_scoped16 cc0_scoped17 hL hO) $$ [Hky Hh HrH HH Hw16 Hw17 Hbr Hst HO]
  · isplitr; · iexact He
    isplitl [Hky]; · iexact Hky
    isplitl [Hh]; · iexact Hh
    isplitl [HrH]; · iexact HrH
    isplitl [HH]; · iexact HH
    isplitl [Hw16]; · iexact Hw16
    isplitl [Hw17]; · iexact Hw17
    isplitl [Hbr]; · iexact Hbr
    isplitl [Hst]; · iexact Hst
    iexact HO
  iintro ⟨Hky, Hh, HrH, Hw16, Hw17, Hbr, HH, Hst, HO⟩
  ihave Hbr := (grp_bring A d i 8) $$ Hbr
  ihave HH := (back_H A d i (r := 5) (by decide)) $$ HH
  iapply (round_step A d i 7 (by decide) 1 rfl cc0_scoped18 cc0_scoped19 hL hO) $$ [Hky Hh HrH HH Hw18 Hw19 Hbr Hst HO]
  · isplitr; · iexact He
    isplitl [Hky]; · iexact Hky
    isplitl [Hh]; · iexact Hh
    isplitl [HrH]; · iexact HrH
    isplitl [HH]; · iexact HH
    isplitl [Hw18]; · iexact Hw18
    isplitl [Hw19]; · iexact Hw19
    isplitl [Hbr]; · iexact Hbr
    isplitl [Hst]; · iexact Hst
    iexact HO
  iintro ⟨Hky, Hh, HrH, Hw18, Hw19, Hbr, HH, Hst, HO⟩
  ihave Hbr := (grp_bring A d i 9) $$ Hbr
  iapply (wp_done d i)
  isplitr; · ipureintro; rfl
  isplitl [Hky]; · iexact Hky
  isplitl [Hh]; · iexact Hh
  isplitl [HrH]; · iexact HrH
  isplitl [Hbk]; · iexact Hbk
  isplitl [HH]; · iexact HH
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hw10]; · iexact Hw10
  isplitl [Hw11]; · iexact Hw11
  isplitl [Hw12]; · iexact Hw12
  isplitl [Hw13]; · iexact Hw13
  isplitl [Hw14]; · iexact Hw14
  isplitl [Hw15]; · iexact Hw15
  isplitl [Hw16]; · iexact Hw16
  isplitl [Hw17]; · iexact Hw17
  isplitl [Hw18]; · iexact Hw18
  isplitl [Hw19]; · iexact Hw19
  isplitl [Hbr]; · iexact Hbr
  isplitl [Hst]; · iexact Hst
  iexact HO

end Cert.Proof.K

end
-- ==== Proof.K.Tile3.lean ====
/- One tile's run: the copy of the losses. -/
module

public import proofs.«01_k».proof.Proof.K.Tile2

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F] (A : ℕ → TileIn F) (d : Dev nD) (i : grid0.Coords)

/-- The last sweep, after k trips. -/
def I3 (B : TileIn F) (p : IVec S16 32) (k : ℕ) (s : FVec F S16 .f32 × FVec F S16 .f32) : sProp 𝕄 :=
  iprop(⌜s = B.car3 p k⌝ ∗ At d i keyv B.KEY ∗ At d i c1v B.c1)

theorem sweep3 (B : TileIn F) (p : IVec S16 32) {β : Type} {K : FVec F S16 .f32 × FVec F S16 .f32 → TP F i β} {Q : β → sProp 𝕄} :
    iprop(At d i keyv B.KEY ∗ At d i c1v B.c1) ⊢ iprop((∀ s', iprop(⌜s' = B.car3 p 250⌝ ∗ At d i keyv B.KEY ∗ At d i c1v B.c1) -∗ WP d i (K s') Q)
      -∗ WP d i (Scf.Loop.for k0_t11_loop k0_t11_ok (bf 0x00000000#32, bf 0x00000000#32) (trip3 p) >>= K) Q) := by
  have hs : ∀ (k : Fin k0_t11_loop.trips) (s : FVec F S16 .f32 × FVec F S16 .f32), I3 d i B p k.val s ⊢ WP d i (trip3 p k s) (I3 d i B p (k.val + 1)) := by
    intro k s
    have h := trip3_step d i B p k s
    unfold I3
    exact h
  have h0 : iprop(At d i keyv B.KEY ∗ At d i c1v B.c1) ⊢ I3 d i B p 0 (bf 0x00000000#32, bf 0x00000000#32) := by
    unfold I3
    iintro H
    isplitr
    · ipureintro; rfl
    iexact H
  exact h0.trans (wp_loop_bind d i k0_t11_loop k0_t11_ok (bf 0x00000000#32, bf 0x00000000#32) (trip3 p) (I3 d i B p) hs)

/-- The place of the image's losses in the result, held by the first tile of the group. -/
def outP (f : (L1 128).Idx → F .f32) : sProp 𝕄 :=
  if (i 1).val % 4 = 0 then pointsTo (Val := Elt F) (lOut d) (blk 16 128 (img i)) fullShare f else BI.emp

abbrev vO (h : k0_cond1 i = 1#1) : Memref sig .scVector .hbm S16 .f32 :=
  hOut.slice (Rect.unit (s := S128) (k0_off28 i) S16.size (k0_off28_inb i h)) (fun _ => rfl)
theorem set_vO (h : k0_cond1 i = 1#1) : (vO i h).view.set = blk 16 128 (img i) :=
  (View.set_slice_whole _ _).trans (rect_blk (w := 16) (n := 128) (by decide) (off28_eq i) _)
theorem pts_vO (h : k0_cond1 i = 1#1) (q : PosShare TreeShare) (f : (L1 128).Idx → F .f32) :
    ((vO i h).view.loc (thr d i) ↦[(vO i h).view.set]{q} f : sProp 𝕄) = pointsTo (Val := Elt F) (lOut d) (blk 16 128 (img i)) q f := by
  rw [set_vO]
theorem put_O (h : k0_cond1 i = 1#1) (v : ℕ → S16.Idx → F .f32) :
    At d i (vO i h) (v (img i)) ⊢ (pointsTo (Val := Elt F) (lOut d) (blk 16 128 (img i)) fullShare (catN 16 128 v) : sProp 𝕄) :=
  (at_pts d i (m := vO i h) (catN 16 128 v) (funext fun x => cat_slot (w := 16) (n := 128) v (off28_eq i) _ x)).trans
    (Entails.of_eq (pts_vO d i h fullShare (catN 16 128 v)))

theorem wr_all (g v : S16.Idx → F .f32) : wrN (n := 16) g 0 v = v := by
  funext j
  unfold wrN
  rw [if_pos ⟨Nat.zero_le _, by have := lt_of_idx j; omega⟩, Nat.sub_zero, ixm_self]

theorem outCopy_eq (h : k0_cond1 i = 1#1) : (outCopy : TP F i PUnit) =
    (Prog.lift (.enqueueDma outv (.here (vO i h)) (.dma cc0_scoped22.sem) (Memref.isWhole_whole _).wordExact (View.wordExact_bits rfl) ⟨Or.inl rfl, trivial⟩)
      >>= fun _ => Prog.lift (.waitDma2 cc0_scoped22.sem outv (vO i h) (Memref.isWhole_whole _).wordExact (View.wordExact_bits rfl)) >>= pure) := by
  unfold outCopy
  rw [dif_pos h]
  simp only [bind_pure]
  rfl

theorem out_step {O : CellTallies nD τ sig (HIx 11)} (hO : ∀ g, O g none = 0) (v : ℕ → S16.Idx → F .f32) {g : S16.Idx → F .f32} (hg : g = v (img i))
    {f : (L1 128).Idx → F .f32} :
    iprop(levAts (Cf (F := F)).L (Cf (F := F)).lev ∗ At d i outv g ∗ outP d i f ∗ semVal (thr d i, .dma cc0_scoped22.sem) 0 ∗ Ow d i O)
      ⊢ WP d i outCopy (fun _ => iprop((∃ g, At d i outv g) ∗ outP d i (catN 16 128 v) ∗ semVal (thr d i, .dma cc0_scoped22.sem) 0 ∗ Ow d i O)) := by
  unfold outP
  by_cases h : k0_cond1 i = 1#1
  · rw [outCopy_eq i h, if_pos ((cond1_iff i).mp h), if_pos ((cond1_iff i).mp h)]
    unfold At
    iintro ⟨#Hlv, ⟨%fo, %hfo, Ho⟩, Hd, Hv, HO⟩
    ihave Hd := (Entails.of_eq (pts_vO d i h fullShare f).symm) $$ Hd
    iapply (wp_xfer d i (src := outv) (dst := vO i h) (fs := fo) (fd := f) hO (View.amount_pos _ _ (by decide))) $$ [Ho Hd Hv HO]
    · isplitr; · iexact Hlv
      isplitl [Ho]; · iexact Ho
      isplitl [Hd]; · iexact Hd
      isplitl [Hv]; · iexact Hv
      iexact HO
    iintro ⟨Ho, Hd, Hv, HO⟩
    iapply (wp_done d i)
    isplitl [Ho]
    · iexists _; iexists fo; isplitr; · ipureintro; rfl
      iexact Ho
    isplitl [Hd]
    · ihave Hd := (Entails.of_eq (congrArg (At d i (vO i h)) (hfo.trans hg))) $$ Hd
      iapply (put_O d i h v) $$ Hd
    isplitl [Hv]; · iexact Hv
    iexact HO
  · unfold outCopy
    rw [dif_neg h, if_neg (fun h' => h ((cond1_iff i).mpr h')), if_neg (fun h' => h ((cond1_iff i).mpr h'))]
    iintro ⟨#Hlv, Ho, Hd, Hv, HO⟩
    iapply (wp_done d i)
    isplitl [Ho]; · iexists _; iexact Ho
    isplitl [Hd]; · iexact Hd
    isplitl [Hv]; · iexact Hv
    iexact HO

end Cert.Proof.K

end
-- ==== Proof.K.Tile.lean ====
/- One tile's run, whole. -/
module

public import proofs.«01_k».proof.Proof.K.Tile3

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F] (A : ℕ → TileIn F) (d : Dev nD) (i : grid0.Coords)

/-- A tile's own buffers, at whatever they hold. -/
def bufs : sProp 𝕄 :=
  iprop(frees d i ∗ (∃ g, At d i annb g) ∗ (∃ g, At d i tab g) ∗ (∃ g, At d i area g) ∗ (∃ g, At d i iouv g) ∗ (∃ g, At d i argv g)
    ∗ (∃ g, At d i keyv g) ∗ (∃ g, At d i stg g) ∗ (∃ g, At d i rdA g) ∗ (∃ g, At d i rdB g) ∗ (∃ g, At d i hist g) ∗ (∃ g, At d i rdH g)
    ∗ (∃ g, At d i rdC g) ∗ (∃ g, At d i outv g))

/-- Its semaphores. -/
def sems : sProp 𝕄 :=
  iprop(semVal (thr d i, .dma cc0_scratch37.sem) 0 ∗ semVal (thr d i, .dma cc0_scratch38.sem) 0 ∗ semVal (thr d i, .dma cc0_scratch39.sem) 0 ∗ semVal (thr d i, .dma cc0_scoped0.sem) 0 ∗ semVal (thr d i, .dma cc0_scoped1.sem) 0 ∗ semVal (thr d i, .dma cc0_scoped2.sem) 0 ∗ semVal (thr d i, .dma cc0_scoped3.sem) 0 ∗ semVal (thr d i, .dma cc0_scoped4.sem) 0 ∗ semVal (thr d i, .dma cc0_scoped5.sem) 0 ∗ semVal (thr d i, .dma cc0_scoped6.sem) 0 ∗ semVal (thr d i, .dma cc0_scoped7.sem) 0 ∗ semVal (thr d i, .dma cc0_scoped8.sem) 0 ∗ semVal (thr d i, .dma cc0_scoped9.sem) 0 ∗ semVal (thr d i, .dma cc0_scoped10.sem) 0 ∗ semVal (thr d i, .dma cc0_scoped11.sem) 0 ∗ semVal (thr d i, .dma cc0_scoped12.sem) 0 ∗ semVal (thr d i, .dma cc0_scoped13.sem) 0 ∗ semVal (thr d i, .dma cc0_scoped14.sem) 0 ∗ semVal (thr d i, .dma cc0_scoped15.sem) 0 ∗ semVal (thr d i, .dma cc0_scoped16.sem) 0 ∗ semVal (thr d i, .dma cc0_scoped17.sem) 0 ∗ semVal (thr d i, .dma cc0_scoped18.sem) 0 ∗ semVal (thr d i, .dma cc0_scoped19.sem) 0 ∗ semVal (thr d i, .dma cc0_scoped20.sem) 0 ∗ semVal (thr d i, .dma cc0_scoped21.sem) 0 ∗ semVal (thr d i, .dma cc0_scoped22.sem) 0)

/-- Its slots of the shared buffers. -/
def slots : sProp 𝕄 :=
  iprop((∃ f, pA d (cV i) (blk 64 1024 (i 1).val) fullShare f) ∗ (∃ f, pB d (cV i) (blk 96 1536 (i 1).val) fullShare f)
    ∗ (∃ f, pH d (cV i) (blk 256 8192 (16 * 0 + (i 1).val)) fullShare f) ∗ (∃ f, pH d (cV i) (blk 256 8192 (16 * 1 + (i 1).val)) fullShare f)
    ∗ (∃ f, pC d (cV i) (blk 32 512 (i 1).val) fullShare f))

/-- What the launch gives it, beside its buffers and its semaphores. -/
def tin0 (q : PosShare TreeShare) (b : HB F) : sProp 𝕄 :=
  iprop(arrs d q b ∗ slots d i ∗ (∃ f, outP d i f))

/-- What it gives back: of the last slots, a quarter of each of its group's. -/
def tout (q : PosShare TreeShare) (b : HB F) (v : ℕ → S16.Idx → F .f32) : sProp 𝕄 :=
  iprop(arrs d q b ∗ (∃ f, pA d (cV i) (blk 64 1024 (i 1).val) fullShare f) ∗ (∃ f, pB d (cV i) (blk 96 1536 (i 1).val) fullShare f)
    ∗ (∃ f, pH d (cV i) (blk 256 8192 (16 * 0 + (i 1).val)) fullShare f) ∗ (∃ f, pH d (cV i) (blk 256 8192 (16 * 1 + (i 1).val)) fullShare f)
    ∗ grp A d (cV i) 10 (i 1) ∗ outP d i (catN 16 128 v) ∗ semVal (bcell d (cV i) (i 1)) 0)

theorem back_A : back A d (cV i) 1 (i 1) ⊢ iprop(∃ f, pA d (cV i) (blk 64 1024 (i 1).val) fullShare f) := by
  show slotP A d (cV i) 0 (i 1).val fullShare ⊢ _
  unfold slotP
  iintro H; iexists _; iexact H
theorem back_B : back A d (cV i) 2 (i 1) ⊢ iprop(∃ f, pB d (cV i) (blk 96 1536 (i 1).val) fullShare f) := by
  show slotP A d (cV i) 1 (i 1).val fullShare ⊢ _
  unfold slotP
  iintro H; iexists _; iexact H

theorem owb_end (O : CellTallies nD τ sig (HIx 11)) : (Owb d i O 11 : sProp 𝕄) ⊢ Ow d i O := by
  unfold Owb
  rw [oxF_last, add_zero]

/-- An update before a program. -/
theorem wp_fupd' {α : Type} {p : TP F i α} {P R : sProp 𝕄} {Q : α → sProp 𝕄} (h : P ⊢ iprop(|={Set.univ}=> R)) : P ⊢ iprop((R -∗ WP d i p Q) -∗ WP d i p Q) := by
  unfold WP
  iintro HP HK
  imod h $$ HP with HR
  iapply HK $$ HR

theorem env_lev (κ ν : TI → ℕ) : Env A d i κ ν ⊢ levAts (Cf (F := F)).L (Cf (F := F)).lev := by unfold Env; iintro ⟨-, H⟩; iexact H
theorem env_inv (κ ν : TI → ℕ) : Env A d i κ ν ⊢ binv (pay A d (cV i)) d (cV i) κ ν := by unfold Env; iintro ⟨H, -⟩; iexact H

set_option maxHeartbeats 1000000 in
/-- One tile's run. -/
theorem tile_run {q : PosShare TreeShare} {b : HB F} (hA : A (i 1).val = tin i b) (v : ℕ → S16.Idx → F .f32) (hv : loss A ((i 1).val / 4) = v (img i))
    {κ ν : TI → ℕ} {O : CellTallies nD τ sig (HIx 11)}
    (hL : ∀ g ι, 0 < O g ι → 8 * 10 + 6 ≤ (Cf (F := F)).lev g ι) (hO : ∀ g, O g none = 0) :
    iprop(Env A d i κ ν ∗ tin0 d i q b ∗ bufs d i ∗ sems d i ∗ bst d (cV i) (i 1) 0 ∗ Owb d i O 0)
      ⊢ WP d i (tile F i) (fun _ => iprop(tout A d i q b v ∗ bufs d i ∗ sems d i ∗ Ow d i O)) := by
  unfold tin0 slots bufs sems tout
  iintro ⟨#He, ⟨Har, ⟨HsA, HsB, HH0, HH1, ⟨%fC, HsC⟩⟩, ⟨%fO, Hout⟩⟩, ⟨Hfr, Hann, Htab, Harea, Hiou, Harg, Hkey, Hstg, HrA, HrB, Hhist, HrH, ⟨%gC, HrC⟩, ⟨%gO, Houtv⟩⟩,
    ⟨Hv37, Hv38, Hv39, Hw0, Hw1, Hw2, Hw3, Hw4, Hw5, Hw6, Hw7, Hw8, Hw9, Hw10, Hw11, Hw12, Hw13, Hw14, Hw15, Hw16, Hw17, Hw18, Hw19, Hw20, Hw21, Hw22⟩, Hst, HO⟩
  ihave #Hlv := (env_lev A d i κ ν) $$ He
  ihave #Hin := (env_inv A d i κ ν) $$ He
  unfold tile
  iapply (wp_cut d i (part1_step A d i (q := q) (b := b) hA hL hO)) $$ [Har Hfr Hann Htab Harea Hiou Harg Hkey Hstg HrA HrB HsA HsB Hv37 Hv38 Hv39 Hw0 Hw1 Hw2 Hw3 Hst HO]
  · isplitr; · iexact He
    unfold pre1
    isplitl [Har]; · iexact Har
    isplitl [Hfr]; · iexact Hfr
    isplitl [Hann]; · iexact Hann
    isplitl [Htab]; · iexact Htab
    isplitl [Harea]; · iexact Harea
    isplitl [Hiou]; · iexact Hiou
    isplitl [Harg]; · iexact Harg
    isplitl [Hkey]; · iexact Hkey
    isplitl [Hstg]; · iexact Hstg
    isplitl [HrA]; · iexact HrA
    isplitl [HrB]; · iexact HrB
    isplitl [HsA]; · iexact HsA
    isplitl [HsB]; · iexact HsB
    isplitl [Hv37]; · iexact Hv37
    isplitl [Hv38]; · iexact Hv38
    isplitl [Hv39]; · iexact Hv39
    isplitl [Hw0]; · iexact Hw0
    isplitl [Hw1]; · iexact Hw1
    isplitl [Hw2]; · iexact Hw2
    isplitl [Hw3]; · iexact Hw3
    isplitl [Hst]; · iexact Hst
    iexact HO
  iintro %ab ⟨%hab, H⟩
  unfold post1
  icases H with ⟨Har, Hld, Hann, Htab, Harea, Hiou, Harg, Hkey, Hstg, HrA, HrB, Hv37, Hv38, Hv39, Hw0, Hw1, Hw2, Hw3, HsA, Hbr, Hst, HO⟩
  rw [hab]
  iapply (wp_cut d i (rounds_step A d i (b := b) hA hL hO)) $$ [Hkey Hhist HrH HH0 HH1 Hw4 Hw5 Hw6 Hw7 Hw8 Hw9 Hw10 Hw11 Hw12 Hw13 Hw14 Hw15 Hw16 Hw17 Hw18 Hw19 Hbr Hst HO]
  · isplitr; · iexact He
    unfold pre2
    isplitl [Hkey]; · iexact Hkey
    isplitl [Hhist]; · iexact Hhist
    isplitl [HrH]; · iexact HrH
    isplitl [HH0]; · iexact HH0
    isplitl [HH1]; · iexact HH1
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hbr]; · iexact Hbr
    isplitl [Hst]; · iexact Hst
    iexact HO
  iintro %s ⟨%hs, H⟩
  unfold post2
  icases H with ⟨Hkey, Hhist, HrH, HsB, HH0, Hw4, Hw5, Hw6, Hw7, Hw8, Hw9, Hw10, Hw11, Hw12, Hw13, Hw14, Hw15, Hw16, Hw17, Hw18, Hw19, Hbr, Hst, HO⟩
  rw [hs]
  unfold part3 loads
  icases Hld with ⟨Hx0, Hy0, Hx1, Hy1, Hc0, Hc1, Hb0, Hb1, Hb2, Hb3, Hl0, Hl1, Hl2, Hl3, Hl4, Hl5, Hl6, Hl7, Hl8, Hl9⟩
  iapply (sweep3 d i (tin i b) (rnd A ((i 1).val / 4) 8).1) $$ [Hkey Hc1]
  · isplitl [Hkey]; · iexact Hkey
    iexact Hc1
  iintro %s3 ⟨%hs3, Hkey, Hc1⟩
  have hs3' : s3 = out3 A (i 1).val := by unfold out3; rw [hs3, hA]
  rw [hs3']
  icases Hstg with ⟨%gS, Hstg⟩
  iapply (exch3_step A d i hL hO) $$ [Hstg HsC HrC Hw20 Hw21 Hbr Hst HO]
  · isplitr; · iexact He
    isplitl [Hstg]; · iexact Hstg
    isplitl [HsC]; · iexact HsC
    isplitl [HrC]; · iexact HrC
    isplitl [Hw20]; · iexact Hw20
    isplitl [Hw21]; · iexact Hw21
    isplitl [Hbr]; · iexact Hbr
    isplitl [Hst]; · iexact Hst
    iexact HO
  iintro ⟨Hstg, HrC, Hw20, Hw21, Hgr, HH1, Hst, HO⟩
  iapply (wp_rep_bind d i gat3 (fun k s => iprop(⌜s = tot3 A ((i 1).val / 4) k⌝ ∗ At d i rdC (catN 32 128 fun r => stgC (out3 A (4 * ((i 1).val / 4) + r)))))
    (gat3_step d i A ((i 1).val / 4) _ rfl) (bf 0x00000000#32, bf 0x00000000#32) rfl) $$ [HrC]
  · isplitr; · ipureintro; rfl
    iexact HrC
  iintro %c ⟨%hc, HrC⟩
  rw [hc]
  iapply (wp_stf d i 0 rfl) $$ Houtv
  iintro Houtv
  ihave HO := (owb_end d i O) $$ HO
  iapply (wp_fupd' d i (bst_close (pay A d (cV i)) d (cV i) (i 1) κ ν)) $$ [Hst]
  · isplitr; · iexact Hin
    iexact Hst
  iintro Hbs
  rw [← bind_pure outCopy]
  iapply (wp_cut d i (out_step d i hO v (f := fO) ((wr_all _ _).trans hv))) $$ [Houtv Hout Hw22 HO]
  · isplitr; · iexact Hlv
    isplitl [Houtv]; · iexact Houtv
    isplitl [Hout]; · iexact Hout
    isplitl [Hw22]; · iexact Hw22
    iexact HO
  iintro %u ⟨Houtv, Hout, Hw22, HO⟩
  iapply (wp_done d i)
  ihave HsA := (back_A A d i) $$ HsA
  ihave HsB := (back_B A d i) $$ HsB
  ihave HH0 := (back_H A d i (r := 6) (by decide)) $$ HH0
  ihave HH1 := (back_H A d i (r := 7) (by decide)) $$ HH1
  isplitl [Har HsA HsB HH0 HH1 Hgr Hout Hbs]
  · isplitl [Har]; · iexact Har
    isplitl [HsA]; · iexact HsA
    isplitl [HsB]; · iexact HsB
    isplitl [HH0]; · iexact HH0
    isplitl [HH1]; · iexact HH1
    isplitl [Hgr]; · iexact Hgr
    isplitl [Hout]; · iexact Hout
    iexact Hbs
  isplitl [Hx0 Hy0 Hx1 Hy1 Hc0 Hc1 Hb0 Hb1 Hb2 Hb3 Hl0 Hl1 Hl2 Hl3 Hl4 Hl5 Hl6 Hl7 Hl8 Hl9 Hann Htab Harea Hiou Harg Hkey Hstg HrA HrB Hhist HrH HrC Houtv]
  · isplitl [Hx0 Hy0 Hx1 Hy1 Hc0 Hc1 Hb0 Hb1 Hb2 Hb3 Hl0 Hl1 Hl2 Hl3 Hl4 Hl5 Hl6 Hl7 Hl8 Hl9]
    · unfold frees
      isplitl [Hx0]; · iexists _; iexact Hx0
      isplitl [Hy0]; · iexists _; iexact Hy0
      isplitl [Hx1]; · iexists _; iexact Hx1
      isplitl [Hy1]; · iexists _; iexact Hy1
      isplitl [Hc0]; · iexists _; iexact Hc0
      isplitl [Hc1]; · iexists _; iexact Hc1
      isplitl [Hb0]; · iexists _; iexact Hb0
      isplitl [Hb1]; · iexists _; iexact Hb1
      isplitl [Hb2]; · iexists _; iexact Hb2
      isplitl [Hb3]; · iexists _; iexact Hb3
      isplitl [Hl0]; · iexists _; iexact Hl0
      isplitl [Hl1]; · iexists _; iexact Hl1
      isplitl [Hl2]; · iexists _; iexact Hl2
      isplitl [Hl3]; · iexists _; iexact Hl3
      isplitl [Hl4]; · iexists _; iexact Hl4
      isplitl [Hl5]; · iexists _; iexact Hl5
      isplitl [Hl6]; · iexists _; iexact Hl6
      isplitl [Hl7]; · iexists _; iexact Hl7
      isplitl [Hl8]; · iexists _; iexact Hl8
      iexists _; iexact Hl9
    isplitl [Hann]; · iexact Hann
    isplitl [Htab]; · iexact Htab
    isplitl [Harea]; · iexact Harea
    isplitl [Hiou]; · iexact Hiou
    isplitl [Harg]; · iexact Harg
    isplitl [Hkey]; · iexists _; iexact Hkey
    isplitl [Hstg]; · iexact Hstg
    isplitl [HrA]; · iexact HrA
    isplitl [HrB]; · iexact HrB
    isplitl [Hhist]; · iexact Hhist
    isplitl [HrH]; · iexact HrH
    isplitl [HrC]; · iexists _; iexact HrC
    iexact Houtv
  isplitl [Hv37 Hv38 Hv39 Hw0 Hw1 Hw2 Hw3 Hw4 Hw5 Hw6 Hw7 Hw8 Hw9 Hw10 Hw11 Hw12 Hw13 Hw14 Hw15 Hw16 Hw17 Hw18 Hw19 Hw20 Hw21 Hw22]
  · isplitl [Hv37]; · iexact Hv37
    isplitl [Hv38]; · iexact Hv38
    isplitl [Hv39]; · iexact Hv39
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    iexact Hw22
  iexact HO

end Cert.Proof.K

end
-- ==== Proof.K.LaunchA.lean ====
/- What the launch hands the tiles and the sequencers, and a tile's task. -/
module

public import proofs.«01_k».proof.Proof.K.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F]

/-! ## Some of many, named one by one -/

/-- The resources of a list, one beside the other. -/
def sl {I : Type} (Φ : I → sProp 𝕄) : List I → sProp 𝕄
  | [] => BI.emp
  | a :: l => match l with
    | [] => Φ a
    | _ :: _ => iprop(Φ a ∗ sl Φ l)

theorem sl_cons {I : Type} (Φ : I → sProp 𝕄) (a b : I) (l : List I) : sl Φ (a :: b :: l) = iprop(Φ a ∗ sl Φ (b :: l)) := rfl

theorem sl_append {I : Type} (Φ : I → sProp 𝕄) {k : List I} (hk : k ≠ []) : ∀ {l : List I}, l ≠ [] → sl Φ (l ++ k) = iprop(sl Φ l ∗ sl Φ k)
  | [], h => absurd rfl h
  | [a], _ => by
    obtain ⟨b, k, rfl⟩ := List.exists_cons_of_ne_nil hk
    rfl
  | a :: b :: l, _ => by
    have ih := sl_append Φ hk (l := b :: l) (by simp)
    rw [List.cons_append, List.cons_append, sl_cons, ← List.cons_append, ih, sl_cons, sepA]

theorem sl_congr {I : Type} {Φ Ψ : I → sProp 𝕄} (h : ∀ a, Φ a = Ψ a) (l : List I) : sl Φ l = sl Ψ l := by
  rw [show Φ = Ψ from funext h]

theorem sl_map {I J : Type} (Φ : J → sProp 𝕄) (f : I → J) : ∀ l : List I, sl Φ (l.map f) = sl (fun a => Φ (f a)) l
  | [] => rfl
  | [a] => rfl
  | a :: b :: l => by
    have ih := sl_map Φ f (b :: l)
    rw [sl_cons, ← ih]; rfl

/-- Members of a set, and what is left. -/
theorem take_list {I : Type} [DecidableEq I] (Φ : I → sProp 𝕄) : ∀ (l : List I) (s : Finset I), l ≠ [] → l.Nodup → (∀ a ∈ l, a ∈ s) →
    ∃ R : sProp 𝕄, bigSep s Φ = iprop(sl Φ l ∗ R)
  | [], _, h, _, _ => absurd rfl h
  | [a], s, _, _, hs => ⟨_, SparseCore.bigSep_erase' (hs a (by simp))⟩
  | a :: b :: l, s, _, hn, hs => by
    obtain ⟨ha, hn'⟩ := List.nodup_cons.mp hn
    obtain ⟨R, hR⟩ := take_list Φ (b :: l) (s.erase a) (by simp) hn' fun x hx =>
      Finset.mem_erase.mpr ⟨fun e => ha (e ▸ hx), hs x (List.mem_cons_of_mem _ hx)⟩
    exact ⟨R, by rw [SparseCore.bigSep_erase' (hs a (by simp)), hR, sl_cons, sepA]⟩

/-! ## A tile's own semaphores and buffers -/

/-- The semaphores a tile's program names. -/
def semL : List (SemLoc sig) := [.dma cc0_scratch37.sem, .dma cc0_scratch38.sem, .dma cc0_scratch39.sem, .dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem, .dma cc0_scoped12.sem, .dma cc0_scoped13.sem, .dma cc0_scoped14.sem, .dma cc0_scoped15.sem, .dma cc0_scoped16.sem, .dma cc0_scoped17.sem, .dma cc0_scoped18.sem, .dma cc0_scoped19.sem, .dma cc0_scoped20.sem, .dma cc0_scoped21.sem, .dma cc0_scoped22.sem]
theorem semL_nodup : semL.Nodup := by decide
theorem semL_scoped : ∀ s ∈ semL, s.isScoped .scVector = true := by decide

/-- The buffers it copies into, and the others it names. -/
def refL1 : List (Ref sig .scVector) := [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18, cc0_scratch19]
def refL2 : List (Ref sig .scVector) := [cc0_scratch23, cc0_scratch24, cc0_scratch25, cc0_scratch20, cc0_scratch21, cc0_scratch22, cc0_scratch27, cc0_scratch28, cc0_scratch29, cc0_scratch26, cc0_scratch30, cc0_scratch31, cc0_scratch32]
theorem refL_nodup : (refL1 ++ refL2).Nodup := by decide

section Own

variable (d : Dev nD) (i : grid0.Coords)

theorem own_sems : ∃ R : sProp 𝕄, (SparseCore.Cfg.ownSems0 (thr d i) : sProp 𝕄) = iprop(sems d i ∗ R) := by
  unfold SparseCore.Cfg.ownSems0
  obtain ⟨R, hR⟩ := take_list (fun g => (semVal g 0 : sProp 𝕄)) (semL.map fun s => ((thr d i, s) : GSem nD τ sig)) (SparseCore.Cfg.ownCells (thr d i)) (by simp [semL])
    (List.Nodup.map (fun _ _ e => (Prod.mk.inj e).2) semL_nodup) (by
      intro g hg
      obtain ⟨s, hs, rfl⟩ := List.mem_map.mp hg
      exact SparseCore.Cfg.mem_ownCells.mpr ⟨rfl, semL_scoped s hs⟩)
  refine ⟨R, hR.trans ?_⟩
  rw [sl_map]
  rfl

theorem at_whole1 (r : Ref sig .scVector) :
    (iprop(∃ g, At (F := F) d i (Memref.whole r) g) : sProp 𝕄) ⊢ iprop(∃ f, ((d, (Proc.scVector (cV i) (jV i)).devRef r) : Loc nD τ sig) ↦{fullShare} f) := by
  unfold At
  iintro ⟨%g, %f, -, H⟩
  iexists f
  ihave H := (Entails.of_eq (congrArg (fun I => (((d, (Proc.scVector (cV i) (jV i)).devRef r) : Loc nD τ sig) ↦[I]{fullShare} f : sProp 𝕄)) (View.set_whole r))) $$ H
  iexact H
theorem at_whole2 (r : Ref sig .scVector) :
    (iprop(∃ f, ((d, (Proc.scVector (cV i) (jV i)).devRef r) : Loc nD τ sig) ↦{fullShare} f) : sProp 𝕄) ⊢ iprop(∃ g, At (F := F) d i (Memref.whole r) g) := by
  iintro ⟨%f, H⟩
  ihave H := (Entails.of_eq (congrArg (fun I => (((d, (Proc.scVector (cV i) (jV i)).devRef r) : Loc nD τ sig) ↦[I]{fullShare} f : sProp 𝕄)) (View.set_whole r).symm)) $$ H
  iexists _
  iapply (at_intro d i (Memref.whole r) f)
  iexact H
theorem at_whole (r : Ref sig .scVector) :
    (iprop(∃ g, At (F := F) d i (Memref.whole r) g) : sProp 𝕄) = iprop(∃ f, ((d, (Proc.scVector (cV i) (jV i)).devRef r) : Loc nD τ sig) ↦{fullShare} f) :=
  equiv_iff.mp ⟨at_whole1 d i r, at_whole2 d i r⟩

theorem refL_owner : ∀ r ∈ refL1 ++ refL2, ((Proc.scVector (cV i) (jV i)).devRef r : DevRef τ sig).owner = .proc (.scVector (cV i) (jV i)) := by
  simp only [refL1, refL2, List.cons_append, List.nil_append, List.forall_mem_cons]
  repeat (first | exact fun _ h => absurd h List.not_mem_nil | refine ⟨rfl, ?_⟩)

theorem own_bufs : ∃ R : sProp 𝕄, (SparseCore.Cfg.ownBufs (thr d i) : sProp 𝕄) = iprop(bufs d i ∗ R) := by
  unfold SparseCore.Cfg.ownBufs
  obtain ⟨R, hR⟩ := take_list (fun b => (iprop(∃ f, ((d, b) : Loc nD τ sig) ↦{fullShare} f) : sProp 𝕄))
    ((refL1 ++ refL2).map fun r => (Proc.scVector (cV i) (jV i)).devRef r) (SparseCore.Cfg.ownRefs (.scVector (cV i) (jV i))) (by simp [refL1])
    (List.Nodup.map (fun _ _ e => Proc.devRef_injective _ e) refL_nodup) (by
      intro g hg
      obtain ⟨s, hs, rfl⟩ := List.mem_map.mp hg
      refine SparseCore.Cfg.mem_ownRefs_of_owner ?_
      exact refL_owner i s hs)
  refine ⟨R, hR.trans ?_⟩
  rw [sl_map, ← sl_congr (fun r => at_whole d i r), sl_append _ (by simp [refL2]) (by simp [refL1])]
  rfl

end Own

/-! ## What the handshakes carry -/

/-- The tile `j` of the SparseCore `c`. -/
def tl (c : Fin 2) (j : Fin 16) : grid0.Coords :=
  fun | 0 => c | 1 => j | ⟨_ + 2, h⟩ => absurd h (Nat.not_lt.2 (Nat.le_add_left _ _))

/-- Its share of the arrays. -/
def shr (c : Fin 2) (j : Fin 16) : PosShare TreeShare := pieceOf (pieceOf fullShare 2 (by decide) c) 16 (by decide) j

/-- What the tiles of the SparseCore `c` load. -/
def AA (b : HB F) (c : Fin 2) (t : ℕ) : TileIn F := tin (tl c ⟨t % 16, Nat.mod_lt _ (by decide)⟩) b
/-- The images' losses. -/
def vv (b : HB F) (g : ℕ) : S16.Idx → F .f32 := loss (AA b ⟨g / 4 % 2, Nat.mod_lt _ (by decide)⟩) (g % 4)

theorem AA_tile (b : HB F) (c : Fin 2) (j : Fin 16) : AA b c (tl c j 1).val = tin (tl c j) b := by
  unfold AA
  rw [show (⟨(tl c j 1).val % 16, Nat.mod_lt _ (by decide)⟩ : Fin 16) = j from Fin.ext (Nat.mod_eq_of_lt j.isLt)]
theorem vv_tile (b : HB F) (c : Fin 2) (j : Fin 16) : loss (AA b c) ((tl c j 1).val / 4) = vv b (img (tl c j)) := by
  have hj := j.isLt
  have hc := c.isLt
  have e : img (tl c j) = 4 * c.val + j.val / 4 := rfl
  unfold vv
  rw [e, show (⟨(4 * c.val + j.val / 4) / 4 % 2, Nat.mod_lt _ (by decide)⟩ : Fin 2) = c from Fin.ext (by show (4 * c.val + j.val / 4) / 4 % 2 = c.val; omega),
    show (4 * c.val + j.val / 4) % 4 = j.val / 4 by omega]
  rfl

/-- A tile's kit: the invariants, and its tokens, credits and positions. -/
def kit (b : HB F) (d : Dev nD) (c : Fin 2) (j : Fin 16) : sProp 𝕄 :=
  iprop(∃ κ ν : TI → ℕ, binv (pay (AA b c) d c) d c κ ν ∗ bst d c j 0)

variable (H : Dev nD → HB F)

/-- What a SparseCore is handed at the call. -/
def stP (d : Dev nD) (c : Fin 2) : sProp 𝕄 :=
  bigSep Finset.univ fun j : Fin 16 => iprop(arrs d (shr c j) (H d) ∗ ∃ f, outP d (tl c j) f)
/-- What it hands back. -/
def dnP (d : Dev nD) (c : Fin 2) : sProp 𝕄 :=
  bigSep Finset.univ fun j : Fin 16 => iprop(arrs d (shr c j) (H d) ∗ outP d (tl c j) (catN 16 128 (vv (H d))) ∗ semVal (bcell d c j) 0)
def goP (d : Dev nD) (c : Fin 2) (j : Fin 16) : sProp 𝕄 := tin0 d (tl c j) (shr c j) (H d)
def tdP (d : Dev nD) (c : Fin 2) (j : Fin 16) : sProp 𝕄 := tout (AA (H d) c) d (tl c j) (shr c j) (H d) (vv (H d))

instance arrs_storable (d : Dev nD) (q : PosShare TreeShare) (b : HB F) : BI.Storable (upEmb : UEmb _ 𝕄) (arrs d q b) := by
  unfold arrs; infer_instance
instance outP_storable (d : Dev nD) (i : grid0.Coords) (f : (L1 128).Idx → F .f32) : BI.Storable (upEmb : UEmb _ 𝕄) (outP d i f) := by
  unfold outP
  split
  · infer_instance
  · exact (inferInstance : BI.Storable (upEmb : UEmb _ 𝕄) iprop(emp))
instance grp_storable (A : ℕ → TileIn F) (d : Dev nD) (c : Fin τ.nSC) (b : ℕ) (j : TI) : BI.Storable (upEmb : UEmb _ 𝕄) (grp A d c b j) := by
  unfold grp; infer_instance
instance stP_storable (d : Dev nD) (c : Fin 2) : BI.Storable (upEmb : UEmb _ 𝕄) (stP H d c) := by unfold stP; infer_instance
instance dnP_storable (d : Dev nD) (c : Fin 2) : BI.Storable (upEmb : UEmb _ 𝕄) (dnP H d c) := by unfold dnP; infer_instance
instance goP_storable (d : Dev nD) (c : Fin 2) (j : Fin 16) : BI.Storable (upEmb : UEmb _ 𝕄) (goP H d c j) := by
  unfold goP tin0 slots; infer_instance
instance tdP_storable (d : Dev nD) (c : Fin 2) (j : Fin 16) : BI.Storable (upEmb : UEmb _ 𝕄) (tdP H d c j) := by
  unfold tdP tout; infer_instance

set_option backward.proofsInPublic true in
def P : (Cf (F := F)).Pay (N := 11) (nD := nD) (Val := Elt F) (Name := ℕ) (U := UU) where
  st := fun q d c => match q with | 0 => stP H d c
  dn := fun q d c => match q with | 0 => dnP H d c
  go := fun q d c j => match q with | 0 => goP H d c j
  td := fun q d c j => match q with | 0 => tdP H d c j
  x := fun _ t => match t with
    | (d, .scVector c j) => kit (H d) d c j
    | _ => iprop(emp)
  ox := fun _ t => match t with
    | (d, .scVector c _) => oxF d c 0
    | _ => 0
  ox_band := by
    intro q t g ι h
    obtain rfl : q = 0 := Subsingleton.elim _ _
    rcases t with ⟨d, _ | c | ⟨c, j⟩⟩
    · exact absurd h (lt_irrefl 0)
    · exact absurd h (lt_irrefl 0)
    · obtain ⟨k, b', rfl, rfl, -⟩ := oxF_apply_pos (show 0 < oxF d c 0 g ι from h)
      rw [(Cf (F := F)).lev_V_reg d c (k.castLE hsub0) (show (sc_bar0 : Sem sig) ≠ (Cf (F := F)).go from sc_bar0_ne_go)]
      have hb := b'.isLt
      show 8 * 0 + 3 ≤ _ ∧ _ ≤ 8 * 10 + 5
      omega
  ox_tc := fun _ _ => rfl
  ox_sc := fun _ _ _ h => absurd rfl h
  ox_vc := by
    intro q d c j _
    obtain rfl : q = 0 := Subsingleton.elim _ _
    exact ⟨rfl, c.isLt, j.isLt⟩

instance P_storable : (P H).IsStorable where
  st q d c := match q with | 0 => (inferInstance : BI.Storable (upEmb : UEmb _ 𝕄) (stP H d c))
  dn q d c := match q with | 0 => (inferInstance : BI.Storable (upEmb : UEmb _ 𝕄) (dnP H d c))
  go q d c j := match q with | 0 => (inferInstance : BI.Storable (upEmb : UEmb _ 𝕄) (goP H d c j))
  td q d c j := match q with | 0 => (inferInstance : BI.Storable (upEmb : UEmb _ 𝕄) (tdP H d c j))

/-! ## A tile's task -/

abbrev Df : Defs nD τ sig (Elt F) (ΛP (F := F)) := Pipeline.defs pcfgs defs₀

/-- A run with something set aside. -/
theorem wp_keep (d : Dev nD) (i : grid0.Coords) {α : Type} {p : TP F i α} {X : sProp 𝕄} {R : α → sProp 𝕄} (h : X ⊢ WP d i p R) (Y : sProp 𝕄) {Q : α → sProp 𝕄} :
    iprop(X ∗ Y) ⊢ iprop((∀ a, iprop(R a ∗ Y) -∗ Q a) -∗ WP d i p Q) := by
  unfold WP
  iintro ⟨HX, HY⟩ HQ
  ihave HX := h $$ HX
  unfold WP
  iapply (wp_wand _ _ _) $$ HX
  iintro %a HR
  iapply HQ
  isplitl [HR]; · iexact HR
  iexact HY

theorem wp_mono' (d : Dev nD) (i : grid0.Coords) {α : Type} {p : TP F i α} {R Q : α → sProp 𝕄} (h : ∀ a, R a ⊢ Q a) : WP d i p R ⊢ WP d i p Q := by
  unfold WP
  iintro HX
  iapply (wp_wand _ _ _) $$ HX
  iintro %a HR
  iapply (h a) $$ HR

/-- A tile's task, from what the launch hands it. -/
theorem task_run (d : Dev nD) (c : Fin 2) (j : Fin 16) (O : CellTallies nD τ sig (HIx 11)) (W : Waits sig (HIx 11)) (hO : ∀ g, O g none = 0)
    (hL : ∀ g ι, 0 < O g ι → 8 * 10 + 6 ≤ (Cf (F := F)).lev g ι) :
    iprop(levAts (Cf (F := F)).L (Cf (F := F)).lev ∗ kit (H d) d c j ∗ goP H d c j ∗ SparseCore.Cfg.ownBufs (thr d (tl c j)) ∗ SparseCore.Cfg.ownSems0 (thr d (tl c j))
        ∗ owes (thr d (tl c j)) (O + oxF d c 0) W)
      ⊢ WP d (tl c j) (tile F (tl c j)) (fun _ => iprop(tdP H d c j ∗ SparseCore.Cfg.ownBufs (thr d (tl c j)) ∗ SparseCore.Cfg.ownSems0 (thr d (tl c j))
        ∗ ∃ W' : Waits sig (HIx 11), owes (thr d (tl c j)) O W')) := by
  obtain ⟨RB, hB⟩ := own_bufs (F := F) d (tl c j)
  obtain ⟨RS, hS⟩ := own_sems (F := F) d (tl c j)
  rw [hB, hS]
  unfold kit
  iintro ⟨#Hlv, ⟨%κ, %ν, #Hin, Hst⟩, Hgo, ⟨Hb, HRB⟩, ⟨Hs, HRS⟩, HO⟩
  have h := tile_run (AA (H d) c) d (tl c j) (q := shr c j) (b := H d) (AA_tile (H d) c j) (vv (H d)) (vv_tile (H d) c j) (κ := κ) (ν := ν) hL hO
  iapply (wp_keep d (tl c j) h (iprop(RB ∗ RS))) $$ [Hst Hgo Hb Hs HO HRB HRS]
  · isplitr [HRB HRS]
    · isplitr
      · unfold Env; isplitr; · iexact Hin
        iexact Hlv
      isplitl [Hgo]; · unfold goP; iexact Hgo
      isplitl [Hb]; · iexact Hb
      isplitl [Hs]; · iexact Hs
      isplitl [Hst]; · iexact Hst
      unfold Owb Ow; iexists W; iexact HO
    isplitl [HRB] <;> iassumption
  iintro %x ⟨⟨Htd, Hb, Hs, HO⟩, HRB, HRS⟩
  isplitl [Htd]; · unfold tdP; iexact Htd
  isplitl [Hb HRB]
  · isplitl [Hb] <;> iassumption
  isplitl [Hs HRS]
  · isplitl [Hs] <;> iassumption
  unfold Ow
  iexact HO

set_option maxRecDepth 16384 in
theorem tileObl (heq : ∀ i : grid0.Coords, cc0__sc_loss i hAnc (Memref.isWhole_whole _) hCls (Memref.isWhole_whole _) hReg (Memref.isWhole_whole _) hLdm (Memref.isWhole_whole _) hBox (Memref.isWhole_whole _) hTab (Memref.isWhole_whole _) hOut (Memref.isWhole_whole _) ax0 (Memref.isWhole_whole _) ay0 (Memref.isWhole_whole _) ax1 (Memref.isWhole_whole _) ay1 (Memref.isWhole_whole _) c0v (Memref.isWhole_whole _) c1v (Memref.isWhole_whole _) br0 (Memref.isWhole_whole _) br1 (Memref.isWhole_whole _) br2 (Memref.isWhole_whole _) br3 (Memref.isWhole_whole _) lm0 (Memref.isWhole_whole _) lm1 (Memref.isWhole_whole _) lm2 (Memref.isWhole_whole _) lm3 (Memref.isWhole_whole _) lm4 (Memref.isWhole_whole _) lm5 (Memref.isWhole_whole _) lm6 (Memref.isWhole_whole _) lm7 (Memref.isWhole_whole _) lm8 (Memref.isWhole_whole _) lm9 (Memref.isWhole_whole _) iouv (Memref.isWhole_whole _) argv (Memref.isWhole_whole _) keyv (Memref.isWhole_whole _) annb (Memref.isWhole_whole _) tab (Memref.isWhole_whole _) area (Memref.isWhole_whole _) hist (Memref.isWhole_whole _) stg (Memref.isWhole_whole _) rdA (Memref.isWhole_whole _) rdB (Memref.isWhole_whole _) rdH (Memref.isWhole_whole _) rdC (Memref.isWhole_whole _) outv (Memref.isWhole_whole _) sA (Memref.isWhole_whole _) sB (Memref.isWhole_whole _) sH (Memref.isWhole_whole _) sC (Memref.isWhole_whole _) cc0_scratch37 cc0_scratch38 cc0_scratch39 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 = tile F i)
    (hF : (Cf (F := F)).Facts) : (Cf (F := F)).TileObl (Df (F := F)) 𝒱 (P H) v₀ 0 := by
  intro d c j O W hO hL _
  change _ ⊢ wp _ _ _ (Pipeline.liftProg (defs₀ (F := F) (.scVector ((Cf (F := F)).core 0 c) ((Cf (F := F)).sub 0 j)) 0 ())) _
  refine BI.Entails.trans ?_ (Pipeline.wp_liftProg (Df (F := F)) (Pipeline.defs_kernel pcfgs defs₀) 𝒱₀ _ Set.univ none _ _)
  have hp : defs₀ (F := F) (.scVector ((Cf (F := F)).core 0 c) ((Cf (F := F)).sub 0 j)) 0 () = tile F (tl c j) := by
    rw [← heq]
    unfold defs₀
    exact dif_pos ⟨c.isLt, j.isLt⟩
  rw [hp, (Cf (F := F)).scopedBufs_V hF, SparseCore.Cfg.scopedSems0_V]
  refine BI.Entails.trans ?_ ((task_run H d c j O W hO hL).trans (wp_mono' d (tl c j) ?_))
  · exact BI.Entails.refl _
  intro _
  rw [show (P H).td 0 d c j = tdP H d c j from rfl]
  iintro ⟨Htd, Hb, Hs, %W', HO⟩
  isplitl [Htd]; · iexact Htd
  isplitl [Hb]; · iexact Hb
  isplitl [Hs]; · iexact Hs
  iexists W'
  isplitr
  · ipureintro
    intro p _
    rcases h : p.2 with _ | k
    · exact .inr (.inl rfl)
    · exact .inr (.inr ⟨k, rfl⟩)
  iexact HO

end Cert.Proof.K

end
-- ==== Proof.K.LaunchB.lean ====
/- How a SparseCore's shared buffers go to its tiles and come back. -/
module

public import proofs.«01_k».proof.Proof.K.LaunchA

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F]

/-! ## A buffer in pieces -/

theorem buf_split (ℓ : Loc nD τ sig) {K : Type} [Fintype K] [DecidableEq K] (I : K → Finset (Idx ℓ))
    (hd : ∀ a ∈ (Finset.univ : Finset K), ∀ b ∈ (Finset.univ : Finset K), a ≠ b → Disjoint (I a) (I b)) (hc : (Finset.univ : Finset K).biUnion I = Finset.univ) :
    (iprop(∃ f, ℓ ↦{fullShare} f) : sProp 𝕄) ⊢ bigSep Finset.univ fun k : K => iprop(∃ f, ℓ ↦[I k]{fullShare} f) := by
  iintro ⟨%f, H⟩
  have e : (ℓ ↦{fullShare} f : sProp 𝕄) = bigSep Finset.univ fun k : K => ℓ ↦[I k]{fullShare} f := by
    rw [← pointsTo_biUnion Finset.univ (ℓ := ℓ) I hd, hc]
  ihave H := (Entails.of_eq e) $$ H
  iapply (SparseCore.ent (bigSep_mono (Φ := fun k : K => (ℓ ↦[I k]{fullShare} f : sProp 𝕄)) (Ψ := fun k : K => iprop(∃ f, ℓ ↦[I k]{fullShare} f))
    fun k _ => BI.BIClass.exists_intro (Φ := fun f => (ℓ ↦[I k]{fullShare} f : sProp 𝕄)) f)) $$ H

theorem buf_join (ℓ : Loc nD τ sig) {K : Type} [Fintype K] [DecidableEq K] (k₀ : K) (I : K → Finset (Idx ℓ))
    (hd : ∀ a ∈ (Finset.univ : Finset K), ∀ b ∈ (Finset.univ : Finset K), a ≠ b → Disjoint (I a) (I b)) (hc : (Finset.univ : Finset K).biUnion I = Finset.univ) :
    (bigSep Finset.univ fun k : K => iprop(∃ f, ℓ ↦[I k]{fullShare} f)) ⊢ (iprop(∃ f, ℓ ↦{fullShare} f) : sProp 𝕄) := by
  refine (bigSep_exists_pi Finset.univ (fun k (f : Buf (Elt F) ℓ) => (ℓ ↦[I k]{fullShare} f : sProp 𝕄))).trans ?_
  iintro ⟨%fs, H⟩
  ihave H' := (pointsTo_biUnion_join Finset.univ I fs (fs k₀) hd) $$ H
  icases H' with ⟨%g, -, Hg⟩
  rw [hc]
  iexists g; iexact Hg

/-- A buffer's blocks, one for each key. -/
theorem blk_apart {w n : ℕ} {K : Type} (t : K → ℕ) (ht : Function.Injective t) :
    ∀ a b : K, a ≠ b → Disjoint (blk w n (t a)) (blk w n (t b)) := fun a b h => by
  rw [Finset.disjoint_left]
  intro j h1 h2
  exact h (ht ((mem_blk.mp h1).symm.trans (mem_blk.mp h2)))

theorem blk_cover {w n N : ℕ} [NeZero n] (hn : n = w * N) {K : Type} [Fintype K] [DecidableEq K] (t : K → ℕ) (ht : ∀ m < N, ∃ k, t k = m) :
    (Finset.univ : Finset K).biUnion (fun k => blk w n (t k)) = Finset.univ := by
  ext j
  simp only [Finset.mem_biUnion, Finset.mem_univ, true_and, iff_true]
  have hj : (j 0).val < w * N := hn ▸ lt_of_idx j
  obtain ⟨k, hk⟩ := ht ((j 0).val / w) (Nat.div_lt_of_lt_mul hj)
  exact ⟨k, mem_blk.mpr hk.symm⟩

/-! ## The shared buffers -/

abbrev shl (c : Fin 2) : List (DevRef τ sig) :=
  [⟨.shared, ⟨0, by decide⟩, c⟩, ⟨.shared, ⟨1, by decide⟩, c⟩, ⟨.shared, ⟨2, by decide⟩, c⟩, ⟨.shared, ⟨3, by decide⟩, c⟩]

theorem own_shared (d : Dev nD) (c : Fin 2) : ∃ R : sProp 𝕄, (SparseCore.Cfg.ownBufs (S d c) : sProp 𝕄)
    = iprop(((∃ f, lA d c ↦{fullShare} f) ∗ (∃ f, lB d c ↦{fullShare} f) ∗ (∃ f, lH d c ↦{fullShare} f) ∗ (∃ f, lC d c ↦{fullShare} f)) ∗ R) := by
  unfold SparseCore.Cfg.ownBufs
  obtain ⟨R, hR⟩ := take_list (fun b => (iprop(∃ f, ((d, b) : Loc nD τ sig) ↦{fullShare} f) : sProp 𝕄)) (shl c) (SparseCore.Cfg.ownRefs (.scScalar c)) (by simp)
    (by revert c; decide) (by
      simp only [List.forall_mem_cons, SparseCore.Cfg.mem_ownRefs]
      exact ⟨rfl, rfl, rfl, rfl, fun _ h => absurd h List.not_mem_nil⟩)
  exact ⟨R, hR⟩

section Pieces

variable (d : Dev nD) (c : Fin 2)

theorem inj16 : Function.Injective (fun j : Fin 16 => j.val) := Fin.val_injective
theorem cov16 : ∀ m < 16, ∃ k : Fin 16, k.val = m := fun m h => ⟨⟨m, h⟩, rfl⟩
theorem inj32 : Function.Injective (fun j : Fin 2 × Fin 16 => 16 * j.1.val + j.2.val) := by
  rintro ⟨a, b⟩ ⟨a', b'⟩ h
  have h' : 16 * a.val + b.val = 16 * a'.val + b'.val := h
  have := b.isLt; have := b'.isLt
  exact Prod.ext (Fin.ext (by show a.val = a'.val; omega)) (Fin.ext (by show b.val = b'.val; omega))
theorem cov32 : ∀ m < 32, ∃ k : Fin 2 × Fin 16, 16 * k.1.val + k.2.val = m := fun m h =>
  ⟨(⟨m / 16, by omega⟩, ⟨m % 16, Nat.mod_lt _ (by decide)⟩), by show 16 * (m / 16) + m % 16 = m; omega⟩
theorem inj4' : Function.Injective (fun j : Fin 4 => j.val) := Fin.val_injective
theorem cov4 : ∀ m < 4, ∃ k : Fin 4, k.val = m := fun m h => ⟨⟨m, h⟩, rfl⟩

theorem splitA : (iprop(∃ f, lA d c ↦{fullShare} f) : sProp 𝕄) ⊢ bigSep Finset.univ fun j : Fin 16 => iprop(∃ f, pA d c (blk 64 1024 j.val) fullShare f) :=
  buf_split (lA d c) (fun j : Fin 16 => blk 64 1024 j.val) (fun a _ b _ h => blk_apart _ inj16 a b h) (blk_cover (N := 16) (by decide) _ cov16)
theorem joinA : (bigSep Finset.univ fun j : Fin 16 => iprop(∃ f, pA d c (blk 64 1024 j.val) fullShare f)) ⊢ (iprop(∃ f, lA d c ↦{fullShare} f) : sProp 𝕄) :=
  buf_join (lA d c) 0 (fun j : Fin 16 => blk 64 1024 j.val) (fun a _ b _ h => blk_apart _ inj16 a b h) (blk_cover (N := 16) (by decide) _ cov16)
theorem splitB : (iprop(∃ f, lB d c ↦{fullShare} f) : sProp 𝕄) ⊢ bigSep Finset.univ fun j : Fin 16 => iprop(∃ f, pB d c (blk 96 1536 j.val) fullShare f) :=
  buf_split (lB d c) (fun j : Fin 16 => blk 96 1536 j.val) (fun a _ b _ h => blk_apart _ inj16 a b h) (blk_cover (N := 16) (by decide) _ cov16)
theorem joinB : (bigSep Finset.univ fun j : Fin 16 => iprop(∃ f, pB d c (blk 96 1536 j.val) fullShare f)) ⊢ (iprop(∃ f, lB d c ↦{fullShare} f) : sProp 𝕄) :=
  buf_join (lB d c) 0 (fun j : Fin 16 => blk 96 1536 j.val) (fun a _ b _ h => blk_apart _ inj16 a b h) (blk_cover (N := 16) (by decide) _ cov16)
theorem splitC : (iprop(∃ f, lC d c ↦{fullShare} f) : sProp 𝕄) ⊢ bigSep Finset.univ fun j : Fin 16 => iprop(∃ f, pC d c (blk 32 512 j.val) fullShare f) :=
  buf_split (lC d c) (fun j : Fin 16 => blk 32 512 j.val) (fun a _ b _ h => blk_apart _ inj16 a b h) (blk_cover (N := 16) (by decide) _ cov16)

theorem big32 (Φ : Fin 2 × Fin 16 → sProp 𝕄) : bigSep Finset.univ Φ
    = iprop((bigSep Finset.univ fun j : Fin 16 => Φ (0, j)) ∗ bigSep Finset.univ fun j : Fin 16 => Φ (1, j)) := by
  rw [bigSep_univ_prod, bigSep_univ_two]
theorem splitH : (iprop(∃ f, lH d c ↦{fullShare} f) : sProp 𝕄)
    ⊢ iprop((bigSep Finset.univ fun j : Fin 16 => iprop(∃ f, pH d c (blk 256 8192 (16 * 0 + j.val)) fullShare f))
      ∗ bigSep Finset.univ fun j : Fin 16 => iprop(∃ f, pH d c (blk 256 8192 (16 * 1 + j.val)) fullShare f)) :=
  (buf_split (lH d c) (fun j : Fin 2 × Fin 16 => blk 256 8192 (16 * j.1.val + j.2.val)) (fun a _ b _ h => blk_apart _ inj32 a b h)
    (blk_cover (N := 32) (by decide) _ cov32)).trans (Entails.of_eq (big32 _))
theorem joinH : iprop((bigSep Finset.univ fun j : Fin 16 => iprop(∃ f, pH d c (blk 256 8192 (16 * 0 + j.val)) fullShare f))
      ∗ bigSep Finset.univ fun j : Fin 16 => iprop(∃ f, pH d c (blk 256 8192 (16 * 1 + j.val)) fullShare f))
    ⊢ (iprop(∃ f, lH d c ↦{fullShare} f) : sProp 𝕄) :=
  (Entails.of_eq (big32 fun j : Fin 2 × Fin 16 => (iprop(∃ f, pH d c (blk 256 8192 (16 * j.1.val + j.2.val)) fullShare f) : sProp 𝕄)).symm).trans
    (buf_join (lH d c) (0, 0) (fun j : Fin 2 × Fin 16 => blk 256 8192 (16 * j.1.val + j.2.val)) (fun a _ b _ h => blk_apart _ inj32 a b h)
      (blk_cover (N := 32) (by decide) _ cov32))

/-- The groups' quarters are the buffer whole. -/
theorem joinC (A : ℕ → TileIn F) : (bigSep Finset.univ fun j : Fin 16 => grp A d c 10 j) ⊢ (iprop(∃ f, lC d c ↦{fullShare} f) : sProp 𝕄) := by
  have e1 : (bigSep Finset.univ fun j : Fin 16 => grp A d c 10 j)
      = bigSep Finset.univ fun g : Fin 4 => bigSep Finset.univ fun r : Fin 4 => (pC d c (blk 128 512 g.val) (qt r.val) (GC A) : sProp 𝕄) := by
    rw [bigSep_univ_equiv (finProdFinEquiv (m := 4) (n := 4)) (fun j : Fin 16 => grp A d c 10 j), bigSep_univ_prod]
    refine bigSep_congr fun g _ => bigSep_congr fun r _ => ?_
    have hr := r.isLt
    refine (grp_C A d c (finProdFinEquiv (m := 4) (n := 4) (g, r))).trans ?_
    show pC d c (blk 128 512 ((r.val + 4 * g.val) / 4)) (qt ((r.val + 4 * g.val) % 4)) (GC A) = _
    rw [show (r.val + 4 * g.val) / 4 = g.val by omega, show (r.val + 4 * g.val) % 4 = r.val by omega]
  have e2 : ∀ g : Fin 4, (bigSep Finset.univ fun r : Fin 4 => (pC d c (blk 128 512 g.val) (qt r.val) (GC A) : sProp 𝕄)) = pC d c (blk 128 512 g.val) fullShare (GC A) :=
    fun g =>
      (equiv_iff.mp ⟨(pts_quarters (lC d c) (blk 128 512 g.val) (GC A)).1, (pts_quarters (lC d c) (blk 128 512 g.val) (GC A)).2⟩).symm
  refine (Entails.of_eq (e1.trans (bigSep_congr fun g _ => e2 g))).trans ?_
  refine BI.Entails.trans ?_ (buf_join (lC d c) 0 (fun g : Fin 4 => blk 128 512 g.val) (fun a _ b _ h => blk_apart _ inj4' a b h) (blk_cover (N := 4) (by decide) _ cov4))
  exact bigSep_mono fun g _ => BI.BIClass.exists_intro (Φ := fun f => (lC d c ↦[blk 128 512 g.val]{fullShare} f : sProp 𝕄)) (GC A)

end Pieces

/-! ## The split -/

variable (H : Dev nD → HB F) (d : Dev nD) (c : Fin 2)

theorem stP_eq : stP H d c = iprop((bigSep Finset.univ fun j : Fin 16 => arrs d (shr c j) (H d)) ∗ bigSep Finset.univ fun j : Fin 16 => iprop(∃ f, outP d (tl c j) f)) := by
  unfold stP; rw [bigSep_sep']
theorem dnP_eq : dnP H d c = iprop((bigSep Finset.univ fun j : Fin 16 => arrs d (shr c j) (H d))
    ∗ (bigSep Finset.univ fun j : Fin 16 => outP d (tl c j) (catN 16 128 (vv (H d)))) ∗ bigSep Finset.univ fun j : Fin 16 => (semVal (bcell d c j) 0 : sProp 𝕄)) := by
  unfold dnP; rw [bigSep_sep', bigSep_sep']
theorem goP_eq : (bigSep Finset.univ fun j : Fin 16 => goP H d c j) = iprop((bigSep Finset.univ fun j : Fin 16 => arrs d (shr c j) (H d))
    ∗ ((bigSep Finset.univ fun j : Fin 16 => iprop(∃ f, pA d c (blk 64 1024 j.val) fullShare f))
      ∗ (bigSep Finset.univ fun j : Fin 16 => iprop(∃ f, pB d c (blk 96 1536 j.val) fullShare f))
      ∗ (bigSep Finset.univ fun j : Fin 16 => iprop(∃ f, pH d c (blk 256 8192 (16 * 0 + j.val)) fullShare f))
      ∗ (bigSep Finset.univ fun j : Fin 16 => iprop(∃ f, pH d c (blk 256 8192 (16 * 1 + j.val)) fullShare f))
      ∗ bigSep Finset.univ fun j : Fin 16 => iprop(∃ f, pC d c (blk 32 512 j.val) fullShare f))
    ∗ bigSep Finset.univ fun j : Fin 16 => iprop(∃ f, outP d (tl c j) f)) := by
  unfold goP tin0 slots
  rw [bigSep_sep', bigSep_sep', bigSep_sep', bigSep_sep', bigSep_sep', bigSep_sep']
  rfl
theorem tdP_eq : (bigSep Finset.univ fun j : Fin 16 => tdP H d c j) = iprop((bigSep Finset.univ fun j : Fin 16 => arrs d (shr c j) (H d))
    ∗ (bigSep Finset.univ fun j : Fin 16 => iprop(∃ f, pA d c (blk 64 1024 j.val) fullShare f))
    ∗ (bigSep Finset.univ fun j : Fin 16 => iprop(∃ f, pB d c (blk 96 1536 j.val) fullShare f))
    ∗ (bigSep Finset.univ fun j : Fin 16 => iprop(∃ f, pH d c (blk 256 8192 (16 * 0 + j.val)) fullShare f))
    ∗ (bigSep Finset.univ fun j : Fin 16 => iprop(∃ f, pH d c (blk 256 8192 (16 * 1 + j.val)) fullShare f))
    ∗ (bigSep Finset.univ fun j : Fin 16 => grp (AA (H d) c) d c 10 j)
    ∗ (bigSep Finset.univ fun j : Fin 16 => outP d (tl c j) (catN 16 128 (vv (H d))))
    ∗ bigSep Finset.univ fun j : Fin 16 => (semVal (bcell d c j) 0 : sProp 𝕄)) := by
  unfold tdP tout
  rw [bigSep_sep', bigSep_sep', bigSep_sep', bigSep_sep', bigSep_sep', bigSep_sep', bigSep_sep']
  rfl

theorem core_split : iprop(stP H d c ∗ SparseCore.Cfg.ownBufs (S d c))
    ⊢ (iprop((bigSep Finset.univ fun j : Fin 16 => goP H d c j)
      ∗ ((bigSep Finset.univ fun j : Fin 16 => tdP H d c j) -∗ iprop(dnP H d c ∗ SparseCore.Cfg.ownBufs (S d c)))) : sProp 𝕄) := by
  obtain ⟨R, hR⟩ := own_shared (F := F) d c
  rw [hR, stP_eq, dnP_eq, goP_eq, tdP_eq]
  iintro ⟨⟨Har, Hout⟩, ⟨HA, HB, HH, HC⟩, HR⟩
  ihave HA := (splitA d c) $$ HA
  ihave HB := (splitB d c) $$ HB
  ihave HH := (splitH d c) $$ HH
  ihave HC := (splitC d c) $$ HC
  icases HH with ⟨HH0, HH1⟩
  isplitr [HR]
  · isplitl [Har]; · iexact Har
    isplitr [Hout]; swap; · iexact Hout
    isplitl [HA]; · iexact HA
    isplitl [HB]; · iexact HB
    isplitl [HH0]; · iexact HH0
    isplitl [HH1]; · iexact HH1
    iexact HC
  iintro ⟨Har, HA, HB, HH0, HH1, HC, Hout, Hs⟩
  isplitl [Har Hout Hs]
  · isplitl [Har]; · iexact Har
    isplitl [Hout]; · iexact Hout
    iexact Hs
  isplitr [HR]; swap; · iexact HR
  isplitl [HA]; · iapply (joinA d c) $$ HA
  isplitl [HB]; · iapply (joinB d c) $$ HB
  isplitl [HH0 HH1]
  · iapply (joinH d c)
    isplitl [HH0] <;> iassumption
  iapply (joinC d c (AA (H d) c)) $$ HC

theorem vecSplit : (Cf (F := F)).VecSplit (P H) 0 := by
  intro d c
  change iprop(stP H d c ∗ SparseCore.Cfg.ownBufs (S d c)) ⊢ iprop(|={Set.univ}=> ((bigSep Finset.univ fun j : Fin 16 => goP H d c j)
      ∗ ((bigSep Finset.univ fun j : Fin 16 => tdP H d c j) -∗ iprop(dnP H d c ∗ SparseCore.Cfg.ownBufs (S d c)))))
  iintro HX
  ihave HX := (core_split H d c) $$ HX
  imodintro
  iexact HX

end Cert.Proof.K

end
-- ==== Proof.K.LaunchC.lean ====
/- The ghost state the launch begins with, and what each tile is dealt of it. -/
module

public import proofs.«01_k».proof.Proof.K.LaunchB

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F]

/-! ## The cells and the tokens -/

abbrev DCI : Type := Dev nD × Fin 2 × Fin 16
/-- The semaphore on which the tiles of a SparseCore meet, one for each tile. -/
abbrev bc (x : DCI) : GSem nD τ sig := bcell x.1 x.2.1 x.2.2
/-- The cell that marks the meetings a tile has laid down for. -/
abbrev lb (x : DCI) : GSem nD τ sig := lab x.1 x.2.1 x.2.2

theorem bc_inj : Function.Injective (bc : DCI → GSem nD τ sig) := fun a b e => by
  obtain ⟨h1, h2⟩ := Prod.mk.inj (Prod.mk.inj e).1
  obtain ⟨h3, h4⟩ := Proc.scVector.inj h2
  exact Prod.ext h1 (Prod.ext h3 h4)
theorem lb_inj : Function.Injective (lb : DCI → GSem nD τ sig) := fun a b e => by
  obtain ⟨h1, h2⟩ := Prod.mk.inj (Prod.mk.inj e).1
  obtain ⟨h3, h4⟩ := Proc.scVector.inj h2
  exact Prod.ext h1 (Prod.ext h3 h4)
theorem bc_ne_lb (x y : DCI) : bc x ≠ lb y := fun e => by
  have := (Prod.mk.inj e).2
  exact absurd this (by simp)

def bCells : Finset (GSem nD τ sig) := Finset.univ.image bc
def lCells : Finset (GSem nD τ sig) := Finset.univ.image lb
theorem cells_apart : Disjoint bCells lCells := by
  rw [Finset.disjoint_left]
  intro g h1 h2
  obtain ⟨x, -, rfl⟩ := Finset.mem_image.mp h1
  obtain ⟨y, -, h⟩ := Finset.mem_image.mp h2
  exact bc_ne_lb x y h.symm

/-- The tile `x`'s token in the cell of the tile `k`, for the meeting `b`. -/
def bTok (y : DCI × Fin 11 × Fin 16) : GSem nD τ sig × ℕ × ℕ := (bc (y.1.1, y.1.2.1, y.2.2), 0, 16 * y.2.1.val + y.1.2.2.val)
def lTok (y : DCI × Fin 11 × Fin 16) : GSem nD τ sig × ℕ × ℕ := (lb (y.1.1, y.1.2.1, y.2.2), y.2.1.val, y.1.2.2.val)

theorem bTok_inj : Function.Injective bTok := by
  rintro ⟨⟨d, c, j⟩, b, k⟩ ⟨⟨d', c', j'⟩, b', k'⟩ e
  have e1 := bc_inj (Prod.mk.inj e).1
  have e2 : 16 * b.val + j.val = 16 * b'.val + j'.val := (Prod.mk.inj (Prod.mk.inj e).2).2
  obtain ⟨rfl, e3⟩ := Prod.mk.inj e1
  obtain ⟨rfl, rfl⟩ := Prod.mk.inj e3
  have := j.isLt; have := j'.isLt
  obtain rfl : b = b' := Fin.ext (by omega)
  obtain rfl : j = j' := Fin.ext (by omega)
  rfl
theorem lTok_inj : Function.Injective lTok := by
  rintro ⟨⟨d, c, j⟩, b, k⟩ ⟨⟨d', c', j'⟩, b', k'⟩ e
  have e1 := lb_inj (Prod.mk.inj e).1
  obtain ⟨e4, e5⟩ := Prod.mk.inj (Prod.mk.inj e).2
  obtain ⟨rfl, e3⟩ := Prod.mk.inj e1
  obtain ⟨rfl, rfl⟩ := Prod.mk.inj e3
  obtain rfl : b = b' := Fin.ext e4
  obtain rfl : j = j' := Fin.ext e5
  rfl

def bToks : Finset (GSem nD τ sig × ℕ × ℕ) := Finset.univ.image bTok
def lToks : Finset (GSem nD τ sig × ℕ × ℕ) := Finset.univ.image lTok
theorem toks_apart : Disjoint bToks lToks := by
  rw [Finset.disjoint_left]
  intro g h1 h2
  obtain ⟨x, -, rfl⟩ := Finset.mem_image.mp h1
  obtain ⟨y, -, h⟩ := Finset.mem_image.mp h2
  exact bc_ne_lb _ _ (Prod.mk.inj h).1.symm

def u₀ : UU := (initOf (Cf (F := F)).hsCells (Cf (F := F)).hsToks, (initOf (bCells ∪ lCells) (bToks ∪ lToks), 1))

theorem ghost_split (a : UH) (b : UB) : (ownU ((a, (b, 1)) : UU) : sProp 𝕄) ⊢ iprop(BI.own (EH a) ∗ BI.own (EB b)) :=
  BI.own_op_elim ((uEmb (nD := nD) (sig := sig) (Ix := HIx 11) (Val := Elt F) (Name := ℕ) (U := UU) (Lvl := ℕ)).toEmb.op_of_mem
    (Prod.mk_mem_op (URA.mem_op_one a) (URA.mem_one_op (b, (1 : Counters)))))

theorem over_cells (Φ : GSem nD τ sig → sProp 𝕄) : bigSep (bCells ∪ lCells) Φ
    = iprop((bigSep Finset.univ fun x : DCI => Φ (bc x)) ∗ bigSep Finset.univ fun x : DCI => Φ (lb x)) := by
  rw [SparseCore.bigSep_union' cells_apart]
  unfold bCells lCells
  rw [SparseCore.bigSep_image_of_injOn (fun a _ b _ e => bc_inj e), SparseCore.bigSep_image_of_injOn (fun a _ b _ e => lb_inj e)]

theorem over_toks (Φ : GSem nD τ sig × ℕ × ℕ → sProp 𝕄) : bigSep (bToks ∪ lToks) Φ
    = iprop((bigSep Finset.univ fun x : DCI => bigSep Finset.univ fun b : Fin 11 => bigSep Finset.univ fun k : Fin 16 => Φ (bTok (x, b, k)))
      ∗ bigSep Finset.univ fun x : DCI => bigSep Finset.univ fun b : Fin 11 => bigSep Finset.univ fun k : Fin 16 => Φ (lTok (x, b, k))) := by
  rw [SparseCore.bigSep_union' toks_apart]
  unfold bToks lToks
  rw [SparseCore.bigSep_image_of_injOn (fun a _ b _ e => bTok_inj e), SparseCore.bigSep_image_of_injOn (fun a _ b _ e => lTok_inj e),
    bigSep_univ_prod, bigSep_univ_prod (fun y : DCI × Fin 11 × Fin 16 => Φ (lTok y))]
  congr 1
  · exact bigSep_congr fun x _ => bigSep_univ_prod _
  · exact bigSep_congr fun x _ => bigSep_univ_prod _

/-! ## Semaphores, invariants, credits -/

/-- The meetings' semaphores at zero, of the free ones. -/
theorem sems_free : ((Cf (F := F)).freeOn (· ∈ bCells) : sProp 𝕄) ⊢ bigSep Finset.univ fun x : DCI => (semVal (bc x) 0 : sProp 𝕄) := by
  unfold SparseCore.Cfg.freeOn
  refine sep_elim_right.trans (bigSep_mono fun x _ => ?_)
  refine bigSep_elim (Φ := fun sm : SemLoc sig => (semVal (V x.1 x.2.1 x.2.2, sm) 0 : sProp 𝕄)) (i := .reg sc_bar0) ?_
  exact (Finset.mem_filter.mpr
    ⟨Finset.mem_erase.mpr ⟨fun h => sc_bar0_ne_go (SemLoc.reg.inj h), Finset.mem_filter.mpr ⟨Finset.mem_univ _, show ¬((SemLoc.reg sc_bar0 : SemLoc sig).isScoped .scVector = true) by decide⟩⟩,
      Finset.mem_image_of_mem bc (Finset.mem_univ x)⟩)

theorem cell_invs : iprop((bigSep Finset.univ fun x : DCI => (semVal (bc x) 0 : sProp 𝕄)) ∗ bigSep Finset.univ fun x : DCI => initState EB (bc x))
    ⊢ |={Set.univ}=> iprop(∃ κ : DCI → ℕ, bigSep Finset.univ fun x : DCI => cellInv EB (bRd (F := F)) (κ x) (bc x)) := by
  have e : iprop((bigSep Finset.univ fun x : DCI => (semVal (bc x) 0 : sProp 𝕄)) ∗ bigSep Finset.univ fun x : DCI => initState EB (bc x))
      ⊢ bigSep Finset.univ fun x : DCI => Rounds.body EB (bRd (F := F)) (bc x) := by
    rw [← bigSep_sep']
    exact bigSep_mono fun x _ => (sep_mono_right (roundState_init EB (bRd (F := F)))).trans (Rounds.body_intro EB (bRd (F := F)) (bc x))
  refine e.trans ((inv_alloc_family Finset.univ (fun x : DCI => Rounds.body EB (bRd (F := F)) (bc x)) ∅ (E := Set.univ)).trans ?_)
  iintro H
  imod H with ⟨%κ, -, Hinv⟩
  imodintro; iexists κ; iexact Hinv

/-- A store with nothing in it. -/
theorem esc_empty (p : ℕ → TI → TI → sProp 𝕄) (d : Dev nD) (c : Fin τ.nSC) (k : TI) : initState EB (lab d c k) ⊢ esc p d c k := by
  unfold esc initState
  iintro ⟨H, -⟩
  iexists 0
  isplitl [H]; · iexact H
  rw [Finset.range_zero, bigSep_empty]
  iempintro

variable (H : Dev nD → HB F)

def escs (x : DCI) : sProp 𝕄 := esc (pay (AA (H x.1) x.2.1) x.1 x.2.1) x.1 x.2.1 x.2.2
instance escs_storable (x : DCI) : Storable upEmb (escs H x) := by unfold escs; exact esc_storable ..

theorem esc_invs : (bigSep Finset.univ fun x : DCI => (initState EB (lb x) : sProp 𝕄))
    ⊢ |={Set.univ}=> iprop(∃ ν : DCI → ℕ, bigSep Finset.univ fun x : DCI => inv (ν x) (escs H x)) := by
  refine (bigSep_mono fun x _ => esc_empty (pay (AA (H x.1) x.2.1) x.1 x.2.1) x.1 x.2.1 x.2.2).trans
    ((inv_alloc_family Finset.univ (escs H) ∅ (E := Set.univ)).trans ?_)
  iintro H
  imod H with ⟨%ν, -, Hinv⟩
  imodintro; iexists ν; iexact Hinv

theorem sum_ones (g : GSem nD τ sig) (ι : HIx 11) : ∀ n : ℕ, ∑ _ : Fin n, tallyAt g ι 1 = (tallyAt g ι n : CellTallies nD τ sig (HIx 11))
  | 0 => by simp [tallyAt_zero]
  | n + 1 => by rw [Fin.sum_univ_castSucc, sum_ones g ι n, tallyAt_add]

theorem oxFrom_tile (d : Dev nD) (c : Fin 2) (j : Fin 16) : (P H).oxFrom 0 (V d c j) = oxF d c 0 := by
  rw [show (0 : ℕ) = (0 : Fin 1).val from rfl, (P H).oxFrom_step, (P H).oxFrom_end _ (n := (0 : Fin 1).val + 1) le_rfl, add_zero]
  rfl

/-- The sixteen tiles' units, regrouped by the cell they go to. -/
theorem units_swap (d : Dev nD) (c : Fin 2) : (bigSep Finset.univ fun _ : Fin 16 => (cred (oxF d c 0) : sProp 𝕄))
    = bigSep Finset.univ fun k : Fin 16 => bigSep Finset.univ fun b : Fin 11 => cred (tallyAt (bcell d c k) (some b) 16) := by
  have e1 : ∀ _ : Fin 16, (cred (oxF d c 0) : sProp 𝕄) = bigSep Finset.univ fun b : Fin 11 => bigSep Finset.univ fun k : Fin 16 => cred (tallyAt (bcell d c k) (some b) 1) := by
    intro _
    unfold oxF
    rw [frm_zero, SparseCore.Cfg.cred_finsum]
    exact bigSep_congr fun b _ => SparseCore.Cfg.cred_finsum _ _
  have e2 : ∀ (k : Fin 16) (b : Fin 11), (bigSep Finset.univ fun _ : Fin 16 => (cred (tallyAt (bcell d c k) (some b) 1) : sProp 𝕄)) = cred (tallyAt (bcell d c k) (some b) 16) := by
    intro k b
    rw [← SparseCore.Cfg.cred_finsum, sum_ones]
  rw [bigSep_congr fun j _ => e1 j, bigSep_univ_comm, bigSep_congr fun b _ => bigSep_univ_comm _, bigSep_univ_comm]
  exact bigSep_congr fun k _ => bigSep_congr fun b _ => e2 k b

theorem creds : ((P H).oxCred : sProp 𝕄) ⊢ bigSep Finset.univ fun x : DCI => bigSep Finset.univ fun b : Fin 11 => cred (tallyAt (bc x) (some b) 16) := by
  unfold SparseCore.Cfg.Pay.oxCred
  rw [SparseCore.Cfg.bigSep_threads (fun t : Thread nD τ => (cred ((P H).oxFrom 0 t) : sProp 𝕄))]
  refine sep_elim_right.trans (sep_elim_right.trans (Entails.of_eq ?_))
  refine (bigSep_univ_prod (fun x : DCI => (cred ((P H).oxFrom 0 (V x.1 x.2.1 x.2.2)) : sProp 𝕄))).trans ((bigSep_congr fun d _ => ?_).trans
    (bigSep_univ_prod (fun x : DCI => bigSep Finset.univ fun b : Fin 11 => (cred (tallyAt (bc x) (some b) 16) : sProp 𝕄))).symm)
  refine (bigSep_univ_prod (fun y : Fin 2 × Fin 16 => (cred ((P H).oxFrom 0 (V d y.1 y.2)) : sProp 𝕄))).trans ((bigSep_congr fun c _ => ?_).trans
    (bigSep_univ_prod (fun y : Fin 2 × Fin 16 => bigSep Finset.univ fun b : Fin 11 => (cred (tallyAt (bc (d, y)) (some b) 16) : sProp 𝕄))).symm)
  refine (bigSep_congr fun j _ => congrArg cred (oxFrom_tile H d c j)).trans (units_swap d c)

/-! ## A tile's kit -/

/-- What every tile is told. -/
def told (κ ν : DCI → ℕ) : sProp 𝕄 :=
  iprop((bigSep Finset.univ fun x : DCI => cellInv EB (bRd (F := F)) (κ x) (bc x)) ∗ (bigSep Finset.univ fun x : DCI => reached EB (bc x) 0)
    ∗ (bigSep Finset.univ fun x : DCI => inv (ν x) (escs H x)) ∗ bigSep Finset.univ fun x : DCI => reached EB (lb x) 0)
instance told_persistent (κ ν : DCI → ℕ) : BI.Persistent (told H κ ν) := by unfold told; infer_instance
/-- What it alone is given. -/
def own1 (x : DCI) : sProp 𝕄 :=
  iprop(atPos EB (bc x) 0 ∅ 0 ∗ atPos EB (lb x) 0 ∅ 0
    ∗ (bigSep Finset.univ fun b : Fin 11 => cred (tallyAt (bc x) (some b) 16))
    ∗ (bigSep Finset.univ fun b : Fin 11 => bigSep Finset.univ fun k : Fin 16 => dutyTok EB (bTok (x, b, k)).1 (bTok (x, b, k)).2.1 (bTok (x, b, k)).2.2)
    ∗ bigSep Finset.univ fun b : Fin 11 => bigSep Finset.univ fun k : Fin 16 => dutyTok EB (lTok (x, b, k)).1 (lTok (x, b, k)).2.1 (lTok (x, b, k)).2.2)

theorem to_tiles {Φ : DCI → sProp 𝕄} [∀ x, BI.Persistent (Φ x)] (d : Dev nD) (c : Fin 2) :
    bigSep Finset.univ Φ ⊢ bigSep Finset.univ fun k : TI => Φ (d, c, k) :=
  bigSep_intro_persistent fun k _ => bigSep_elim (Φ := Φ) (i := (d, c, k)) (Finset.mem_univ _)

theorem kit_intro (κ ν : DCI → ℕ) (x : DCI) : iprop(told H κ ν ∗ own1 x) ⊢ kit (H x.1) x.1 x.2.1 x.2.2 := by
  obtain ⟨d, c, j⟩ := x
  unfold told own1 kit binv bst
  iintro ⟨⟨#Hi, #Hr, #He, #Hl⟩, Hat, Hla, Hcr, Hbt, Hlt⟩
  iexists (fun k => κ (d, c, k)), (fun k => ν (d, c, k))
  isplitr
  · isplitr; · iapply (to_tiles (Φ := fun x : DCI => cellInv EB (bRd (F := F)) (κ x) (bc x)) d c) $$ Hi
    isplitr; · iapply (to_tiles (Φ := fun x : DCI => (reached EB (bc x) 0 : sProp 𝕄)) d c) $$ Hr
    iapply (to_tiles (Φ := fun x : DCI => inv (ν x) (escs H x)) d c) $$ He
  rw [frm_zero]
  isplitl [Hat]
  · iexists ∅
    isplitr; · ipureintro; exact ⟨Finset.empty_subset _, le_rfl⟩
    isplitr; · rw [bigSep_empty]; iempintro
    iexact Hat
  isplitl [Hla]; · iexact Hla
  isplitl [Hcr]; · iexact Hcr
  isplitl [Hbt]; · iexact Hbt
  isplitl [Hlt]; · iexact Hlt
  iapply (to_tiles (Φ := fun x : DCI => (reached EB (lb x) 0 : sProp 𝕄)) d c) $$ Hl

theorem kits (κ ν : DCI → ℕ) : iprop(told H κ ν ∗ bigSep Finset.univ fun x : DCI => own1 x)
    ⊢ bigSep Finset.univ fun x : DCI => kit (H x.1) x.1 x.2.1 x.2.2 := by
  iintro ⟨#Ht, Hx⟩
  ihave Ht' := (bigSep_intro_persistent (R := told H κ ν) (S := (Finset.univ : Finset DCI)) fun _ _ => .rfl) $$ Ht
  icombine Ht' Hx as Hy
  ihave Hy := (Entails.of_eq (bigSep_sep' (Finset.univ : Finset DCI) (fun _ => told H κ ν) (fun x => own1 x)).symm) $$ Hy
  iapply (SparseCore.ent (bigSep_mono (Φ := fun x : DCI => iprop(told H κ ν ∗ own1 x)) (Ψ := fun x : DCI => kit (H x.1) x.1 x.2.1 x.2.2)
    fun x _ => kit_intro H κ ν x)) $$ Hy

theorem kits_threads : (bigSep Finset.univ fun x : DCI => kit (H x.1) x.1 x.2.1 x.2.2)
    ⊢ (bigSep Finset.univ fun t : Thread nD τ => bigSep Finset.univ fun q : Fin 1 => (P H).x q t : sProp 𝕄) := by
  rw [SparseCore.Cfg.bigSep_threads (fun t : Thread nD τ => bigSep Finset.univ fun q : Fin 1 => (P H).x q t)]
  have eT : ∀ d : Dev nD, (bigSep Finset.univ fun q : Fin 1 => (P H).x q (SparseCore.T d)) = (BI.emp : sProp 𝕄) := fun d => bigSep_univ_of_subsingleton (0 : Fin 1)
  have eS : ∀ y : Dev nD × Fin τ.nSC, (bigSep Finset.univ fun q : Fin 1 => (P H).x q (S y.1 y.2)) = (BI.emp : sProp 𝕄) := fun d => bigSep_univ_of_subsingleton (0 : Fin 1)
  have eV : ∀ y : Dev nD × Fin τ.nSC × Fin τ.nSub, (bigSep Finset.univ fun q : Fin 1 => (P H).x q (V y.1 y.2.1 y.2.2)) = kit (H y.1) y.1 y.2.1 y.2.2 :=
    fun d => bigSep_univ_of_subsingleton (0 : Fin 1)
  rw [bigSep_congr fun d _ => eT d, bigSep_congr fun d _ => eS d, bigSep_congr fun d _ => eV d, bigSep_emp_const, bigSep_emp_const]
  iintro Hx
  isplitr; · iempintro
  isplitr; · iempintro
  iexact Hx

theorem hu₀ : iprop(ownU (u₀ (F := F)) ∗ (P H).oxCred ∗ (Cf (F := F)).freeOn (· ∈ bCells))
    ⊢ |={Set.univ}=> iprop(BI.own (EH (initOf (Cf (F := F)).hsCells (Cf (F := F)).hsToks)) ∗ (bigSep Finset.univ fun _ : Dev nD => iprop(emp))
        ∗ (bigSep Finset.univ fun t : Thread nD τ => bigSep Finset.univ fun q : Fin 1 => (P H).x q t) : sProp 𝕄) := by
  unfold u₀
  iintro ⟨Hu, Hcred, Hfree⟩
  ihave Hu := (ghost_split _ _) $$ Hu
  icases Hu with ⟨HH, HB⟩
  imod (Rounds.fund_init EB (bCells ∪ lCells) (bToks ∪ lToks)) $$ HB with ⟨Hst, Hr, Hat, Htok⟩
  ihave Hst := (Entails.of_eq (over_cells (F := F) fun g => initState EB g)) $$ Hst
  ihave Hr := (Entails.of_eq (over_cells (F := F) fun g => reached EB g 0)) $$ Hr
  ihave Hat := (Entails.of_eq (over_cells (F := F) fun g => atPos EB g 0 ∅ 0)) $$ Hat
  ihave Htok := (Entails.of_eq (over_toks (F := F) fun x => dutyTok EB x.1 x.2.1 x.2.2)) $$ Htok
  icases Hst with ⟨Hsb, Hsl⟩
  icases Hr with ⟨#Hrb, #Hrl⟩
  icases Hat with ⟨Hab, Hal⟩
  icases Htok with ⟨Htb, Htl⟩
  ihave Hsem := (sems_free (F := F)) $$ Hfree
  imod (cell_invs (F := F)) $$ [Hsem Hsb] with ⟨%κ, #Hinv⟩
  · isplitl [Hsem] <;> iassumption
  imod (esc_invs H) $$ Hsl with ⟨%ν, #Hesc⟩
  ihave Hcred := (creds H) $$ Hcred
  imodintro
  isplitl [HH]; · iexact HH
  isplitr; · iapply (Entails.of_eq (bigSep_emp_const (Finset.univ : Finset (Dev nD))).symm); iempintro
  iapply (kits_threads H)
  iapply (kits H κ ν)
  isplitr
  · unfold told
    isplitr; · iexact Hinv
    isplitr; · iexact Hrb
    isplitr; · iexact Hesc
    iexact Hrl
  unfold own1
  rw [bigSep_sep', bigSep_sep', bigSep_sep', bigSep_sep']
  isplitl [Hab]; · iexact Hab
  isplitl [Hal]; · iexact Hal
  isplitl [Hcred]; · iexact Hcred
  isplitl [Htb]; · iexact Htb
  iexact Htl

end Cert.Proof.K

end
-- ==== Proof.K.LaunchD.lean ====
/- The whole launch: the host's lines, the call between them, and what a run ends with. -/
module

public import proofs.«01_k».proof.Proof.K.LaunchC
public import Idealize.ShloMosaic.Lib.Pipeline.Frame

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 11) (Elt F) ℕ UU ℕ

attribute [local instance] stages

variable [FloatOps F]

open Idealize.ShloMosaic.StableHlo (after seq seqK held tcRefs)
open Idealize.ShloMosaic.Pipeline (ucRefs)

/-! ## The arrays in shares, the result in blocks -/

theorem by_shares (ℓ : Loc nD τ sig) (f : Buf (Elt F) ℓ) : (ℓ ↦{fullShare} f : sProp 𝕄)
    = bigSep Finset.univ fun c : Fin 2 => bigSep Finset.univ fun j : Fin 16 => ℓ ↦{shr c j} f :=
  (pointsTo_piecesOf (ℓ := ℓ) (Val := Elt F) Finset.univ f (o := 2) (by decide) fullShare).trans
    (bigSep_congr fun c _ => pointsTo_piecesOf (ℓ := ℓ) (Val := Elt F) Finset.univ f (o := 16) (by decide) (pieceOf fullShare 2 (by decide) c))

theorem arrs_shares (d : Dev nD) (b : HB F) : arrs d fullShare b
    = bigSep Finset.univ fun c : Fin 2 => bigSep Finset.univ fun j : Fin 16 => arrs d (shr c j) b := by
  unfold arrs
  rw [bigSep_congr fun c _ => (bigSep_sep' (Finset.univ : Finset (Fin 16)) _ _).trans (congrArg _ ((bigSep_sep' (Finset.univ : Finset (Fin 16)) _ _).trans
      (congrArg _ ((bigSep_sep' (Finset.univ : Finset (Fin 16)) _ _).trans (congrArg _ ((bigSep_sep' (Finset.univ : Finset (Fin 16)) _ _).trans
        (congrArg _ (bigSep_sep' (Finset.univ : Finset (Fin 16)) _ _)))))))),
    bigSep_sep', bigSep_sep', bigSep_sep', bigSep_sep', bigSep_sep',
    ← by_shares (lAnc d), ← by_shares (lCls d), ← by_shares (lReg d), ← by_shares (lLdm d), ← by_shares (lBox d), ← by_shares (lTab d)]

/-- Of four conjuncts, all but the first empty. -/
theorem only_first (Y : Fin 4 → sProp 𝕄) (h : ∀ r, r ≠ 0 → Y r = BI.emp) : bigSep Finset.univ Y = Y 0 := by
  rw [SparseCore.bigSep_erase' (Finset.mem_univ (0 : Fin 4)), bigSep_congr fun r hr => h r (Finset.ne_of_mem_erase hr), bigSep_emp_const]
  exact equiv_iff.mp ⟨(BI.sep_emp (P := Y 0)).1, (BI.sep_emp (P := Y 0)).2⟩

theorem inj8 : Function.Injective (fun j : Fin 8 => j.val) := Fin.val_injective
theorem cov8 : ∀ m < 8, ∃ k : Fin 8, k.val = m := fun m h => ⟨⟨m, h⟩, rfl⟩

theorem out_at (d : Dev nD) (f : (L1 128).Idx → F .f32) (c : Fin 2) (g r : Fin 4) : outP d (tl c (finProdFinEquiv (m := 4) (n := 4) (g, r))) f
    = if r = 0 then (pointsTo (Val := Elt F) (lOut d) (blk 16 128 (g.val + 4 * c.val)) fullShare f : sProp 𝕄) else BI.emp := by
  have hr := r.isLt
  have hg := g.isLt
  show (if (r.val + 4 * g.val) % 4 = 0 then (pointsTo (Val := Elt F) (lOut d) (blk 16 128 (4 * c.val + (r.val + 4 * g.val) / 4)) fullShare f : sProp 𝕄) else BI.emp) = _
  by_cases h : r = 0
  · subst h
    rw [if_pos (by show (0 + 4 * g.val) % 4 = 0; omega), if_pos rfl, show 4 * c.val + ((0 : Fin 4).val + 4 * g.val) / 4 = g.val + 4 * c.val from by
      show 4 * c.val + (0 + 4 * g.val) / 4 = _; omega]
  · have : r.val ≠ 0 := fun e => h (Fin.ext e)
    rw [if_neg (by omega), if_neg h]

theorem out_blocks (d : Dev nD) (f : (L1 128).Idx → F .f32) : (pointsTo (Val := Elt F) (lOut d) Finset.univ fullShare f : sProp 𝕄)
    = bigSep Finset.univ fun c : Fin 2 => bigSep Finset.univ fun j : Fin 16 => outP d (tl c j) f := by
  have e1 : (pointsTo (Val := Elt F) (lOut d) Finset.univ fullShare f : sProp 𝕄)
      = bigSep Finset.univ fun k : Fin 8 => pointsTo (Val := Elt F) (lOut d) (blk 16 128 k.val) fullShare f := by
    rw [← pointsTo_biUnion Finset.univ (ℓ := lOut d) (fun k : Fin 8 => blk 16 128 k.val) (fun a _ b _ h => blk_apart _ inj8 a b h),
      blk_cover (N := 8) (by decide) _ cov8]
  rw [e1, bigSep_univ_equiv (finProdFinEquiv (m := 2) (n := 4)) (fun k : Fin 8 => (pointsTo (Val := Elt F) (lOut d) (blk 16 128 k.val) fullShare f : sProp 𝕄)),
    bigSep_univ_prod]
  refine bigSep_congr fun c _ => ?_
  rw [bigSep_univ_equiv (finProdFinEquiv (m := 4) (n := 4)) (fun j : Fin 16 => outP d (tl c j) f), bigSep_univ_prod]
  refine bigSep_congr fun g _ => ?_
  rw [bigSep_congr fun r _ => out_at d f c g r, only_first _ fun r h => if_neg h, if_pos rfl]
  rfl

/-! ## The host's lines -/

noncomputable def pre : List (HloOp τ sig (Elt F)) :=
  [StableHlo.unary main_arg3 main_v0 ((transpose S4x16000 [1, 0] · transposes_S16000x4_S4x16000_1_0) : (⟨S16000x4, .f32⟩ : BufTy).Contents (Elt F) → (⟨S4x16000, .f32⟩ : BufTy).Contents (Elt F)),
   StableHlo.reshape main_v0 main_v1 (rfl : (.f32 : EltTy) = .f32) shapeCasts_S4x16000_S64000,
   StableHlo.unary main_arg0 main_v2 ((transpose S8x2x16000 [0, 2, 1] · transposes_S8x16000x2_S8x2x16000_0_2_1) : (⟨S8x16000x2, .i32⟩ : BufTy).Contents (Elt F) → (⟨S8x2x16000, .i32⟩ : BufTy).Contents (Elt F)),
   StableHlo.reshape main_v2 main_v3 (rfl : (.i32 : EltTy) = .i32) shapeCasts_S8x2x16000_S256000,
   StableHlo.unary main_arg1 main_v4 ((transpose S8x4x16000 [0, 2, 1] · transposes_S8x16000x4_S8x4x16000_0_2_1) : (⟨S8x16000x4, .f32⟩ : BufTy).Contents (Elt F) → (⟨S8x4x16000, .f32⟩ : BufTy).Contents (Elt F)),
   StableHlo.reshape main_v4 main_v5 (rfl : (.f32 : EltTy) = .f32) shapeCasts_S8x4x16000_S512000,
   StableHlo.unary main_arg2 main_v6 ((transpose S8x10x16000 [0, 2, 1] · transposes_S8x16000x10_S8x10x16000_0_2_1) : (⟨S8x16000x10, .f32⟩ : BufTy).Contents (Elt F) → (⟨S8x10x16000, .f32⟩ : BufTy).Contents (Elt F)),
   StableHlo.reshape main_v6 main_v7 (rfl : (.f32 : EltTy) = .f32) shapeCasts_S8x10x16000_S1280000,
   StableHlo.unary main_arg4 main_v8 ((extractStridedSlice S8x32x4 ![0, 0, 0] · slices_S8x32x14_S8x32x4_0_0_0) : (⟨S8x32x14, .f32⟩ : BufTy).Contents (Elt F) → (⟨S8x32x4, .f32⟩ : BufTy).Contents (Elt F)),
   StableHlo.unary main_v8 main_v9 ((transpose S8x4x32 [0, 2, 1] · transposes_S8x32x4_S8x4x32_0_2_1) : (⟨S8x32x4, .f32⟩ : BufTy).Contents (Elt F) → (⟨S8x4x32, .f32⟩ : BufTy).Contents (Elt F)),
   StableHlo.unary main_v9 main_v10 (broadcastInDim S8x4x32x1 ![0, 1, 2] bcast_S8x4x32_S8x4x32x1_0_1_2 : (⟨S8x4x32, .f32⟩ : BufTy).Contents (Elt F) → (⟨S8x4x32x1, .f32⟩ : BufTy).Contents (Elt F)),
   StableHlo.unary main_v10 main_v11 (broadcastInDim S8x4x32x16 ![0, 1, 2, 3] bcast_S8x4x32x1_S8x4x32x16_0_1_2_3 : (⟨S8x4x32x1, .f32⟩ : BufTy).Contents (Elt F) → (⟨S8x4x32x16, .f32⟩ : BufTy).Contents (Elt F)),
   StableHlo.reshape main_v11 main_v12 (rfl : (.f32 : EltTy) = .f32) shapeCasts_S8x4x32x16_S16384,
   StableHlo.unary main_arg4 main_v13 ((transpose S8x14x32 [0, 2, 1] · transposes_S8x32x14_S8x14x32_0_2_1) : (⟨S8x32x14, .f32⟩ : BufTy).Contents (Elt F) → (⟨S8x14x32, .f32⟩ : BufTy).Contents (Elt F)),
   StableHlo.reshape main_v13 main_v14 (rfl : (.f32 : EltTy) = .f32) shapeCasts_S8x14x32_S3584]

noncomputable def post : List (HloOp τ sig (Elt F)) :=
  [StableHlo.reshape main_v15 main_v16 (rfl : (.f32 : EltTy) = .f32) shapeCasts_S128_S8x16,
   StableHlo.unary main_v16 main_v17 ((extractStridedSlice S8x1 ![0, 0] · slices_S8x16_S8x1_0_0) : (⟨S8x16, .f32⟩ : BufTy).Contents (Elt F) → (⟨S8x1, .f32⟩ : BufTy).Contents (Elt F)),
   StableHlo.reshape main_v17 main_v18 (rfl : (.f32 : EltTy) = .f32) shapeCasts_S8x1_S8,
   StableHlo.nullary main_cst (constant S_ .f32 0x00000000#32),
   StableHlo.binary main_v18 main_cst main_v19 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
   StableHlo.nullary main_cst_0 (constant S_ .f32 0x41000000#32),
   StableHlo.binary main_v19 main_cst_0 main_v20 (Host.divf : (⟨S_, .f32⟩ : BufTy).Contents (Elt F) → (⟨S_, .f32⟩ : BufTy).Contents (Elt F) → (⟨S_, .f32⟩ : BufTy).Contents (Elt F)),
   StableHlo.unary main_v16 main_v21 ((extractStridedSlice S8x1 ![0, 1] · slices_S8x16_S8x1_0_1) : (⟨S8x16, .f32⟩ : BufTy).Contents (Elt F) → (⟨S8x1, .f32⟩ : BufTy).Contents (Elt F)),
   StableHlo.reshape main_v21 main_v22 (rfl : (.f32 : EltTy) = .f32) shapeCasts_S8x1_S8,
   StableHlo.nullary main_cst_1 (constant S_ .f32 0x00000000#32),
   StableHlo.binary main_v22 main_cst_1 main_v23 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
   StableHlo.nullary main_cst_2 (constant S_ .f32 0x41000000#32),
   StableHlo.binary main_v23 main_cst_2 main_v24 (Host.divf : (⟨S_, .f32⟩ : BufTy).Contents (Elt F) → (⟨S_, .f32⟩ : BufTy).Contents (Elt F) → (⟨S_, .f32⟩ : BufTy).Contents (Elt F)),
   StableHlo.unary main_v16 main_v25 ((extractStridedSlice S8x1 ![0, 2] · slices_S8x16_S8x1_0_2) : (⟨S8x16, .f32⟩ : BufTy).Contents (Elt F) → (⟨S8x1, .f32⟩ : BufTy).Contents (Elt F)),
   StableHlo.reshape main_v25 main_v26 (rfl : (.f32 : EltTy) = .f32) shapeCasts_S8x1_S8,
   StableHlo.nullary main_cst_3 (constant S_ .f32 0x00000000#32),
   StableHlo.binary main_v26 main_cst_3 main_v27 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
   StableHlo.nullary main_cst_4 (constant S_ .f32 0x41000000#32),
   StableHlo.binary main_v27 main_cst_4 main_v28 (Host.divf : (⟨S_, .f32⟩ : BufTy).Contents (Elt F) → (⟨S_, .f32⟩ : BufTy).Contents (Elt F) → (⟨S_, .f32⟩ : BufTy).Contents (Elt F))]

abbrev preW : List (Ref sig .tc) := [main_v0, main_v1, main_v2, main_v3, main_v4, main_v5, main_v6, main_v7, main_v8, main_v9, main_v10, main_v11, main_v12, main_v13, main_v14]
abbrev postW : List (Ref sig .tc) := [main_v16, main_v17, main_v18, main_cst, main_v19, main_cst_0, main_v20, main_v21, main_v22, main_cst_1, main_v23, main_cst_2, main_v24, main_v25, main_v26, main_cst_3, main_v27, main_cst_4, main_v28]

theorem pre_writes : (pre (F := F)).Forall fun op => op.writes ⊆ (preW.map (Proc.devRef (τ := τ) .tc)).toFinset := StableHlo.forall_writes_sub_of_map rfl
theorem post_writes : (post (F := F)).Forall fun op => op.writes ⊆ (postW.map (Proc.devRef (τ := τ) .tc)).toFinset := StableHlo.forall_writes_sub_of_map rfl
theorem pre_fresh : ∀ op ∈ pre (F := F), op.fresh = ∅ := List.forall_iff_forall_mem.mp (StableHlo.forall_fresh_of_map rfl)
theorem post_fresh : ∀ op ∈ post (F := F), op.fresh = ∅ := List.forall_iff_forall_mem.mp (StableHlo.forall_fresh_of_map rfl)
theorem pre_bufs : ∀ op ∈ pre (F := F), op.bufs ⊆ ucRefs τ sig := fun op h => Pipeline.sub_ucRefs op (List.forall_iff_forall_mem.mp
  (show (pre (F := F)).Forall fun op => op.bufs ⊆ tcRefs τ sig from
    ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub ..⟩) op h)
theorem post_bufs : ∀ op ∈ post (F := F), op.bufs ⊆ ucRefs τ sig := fun op h => Pipeline.sub_ucRefs op (List.forall_iff_forall_mem.mp
  (show (post (F := F)).Forall fun op => op.bufs ⊆ tcRefs τ sig from
    ⟨StableHlo.reshape_bufs_sub .., StableHlo.unary_bufs_sub .., StableHlo.reshape_bufs_sub .., StableHlo.nullary_bufs_sub .., StableHlo.binary_bufs_sub .., StableHlo.nullary_bufs_sub .., StableHlo.binary_bufs_sub .., StableHlo.unary_bufs_sub .., StableHlo.reshape_bufs_sub .., StableHlo.nullary_bufs_sub .., StableHlo.binary_bufs_sub .., StableHlo.nullary_bufs_sub .., StableHlo.binary_bufs_sub .., StableHlo.unary_bufs_sub .., StableHlo.reshape_bufs_sub .., StableHlo.nullary_bufs_sub .., StableHlo.binary_bufs_sub .., StableHlo.nullary_bufs_sub .., StableHlo.binary_bufs_sub ..⟩) op h)

theorem main_lines (d : Dev nD) : main (F := F) d = (seq (pre (F := F)) >>= fun _ => (sc (F := F)).run d 0 >>= fun _ => seq (post (F := F)) >>= fun _ => pure ⟨⟩) := by
  rw [StableHlo.seq_bind_seqK, StableHlo.seq_bind_seqK]
  rfl

variable (m : (ℓ : Loc nD τ sig) → Buf (Elt F) ℓ)

/-- A buffer of the host's. -/
abbrev hr (r : Ref sig .tc) : DevRef τ sig := Proc.devRef .tc r

/-- The buffers at the launch, at the call, after it, and at the end. -/
def V0 (d : Dev nD) : Valuation τ sig (Elt F) := fun b => m (d, b)
def VP (d : Dev nD) : Valuation τ sig (Elt F) := after (pre (F := F)) (V0 m d)
def HH (d : Dev nD) : HB F := ⟨VP m d (hr main_v1), VP m d (hr main_v3), VP m d (hr main_v5), VP m d (hr main_v7), VP m d (hr main_v12), VP m d (hr main_v14)⟩
def VC (d : Dev nD) : Valuation τ sig (Elt F) := Function.update (VP m d) (hr main_v15) (catN 16 128 (vv (HH m d)))
def VF (d : Dev nD) : Valuation τ sig (Elt F) := after (post (F := F)) (VC m d)

/-- The call's arrays. -/
def T7 : Finset (DevRef τ sig) := {hr main_v1, hr main_v3, hr main_v5, hr main_v7, hr main_v12, hr main_v14, hr main_v15}
theorem hr_uc (r : Ref sig .tc) (h : (hr r).isScoped = false) : hr r ∈ ucRefs τ sig :=
  Finset.mem_filter.mpr ⟨StableHlo.devRef_mem_tcRefs r, by rw [h]; exact Bool.false_ne_true⟩
theorem T7_uc : T7 ⊆ ucRefs τ sig := by
  intro b hb
  unfold T7 at hb
  simp only [Finset.mem_insert, Finset.mem_singleton] at hb
  rcases hb with rfl | rfl | rfl | rfl | rfl | rfl | rfl <;> exact hr_uc _ rfl

theorem held_T7 (d : Dev nD) (V : Valuation τ sig (Elt F)) (b : HB F) (o : (L1 128).Idx → F .f32)
    (h1 : V (hr main_v1) = b.anc) (h3 : V (hr main_v3) = b.cls) (h5 : V (hr main_v5) = b.reg) (h7 : V (hr main_v7) = b.ldm) (h12 : V (hr main_v12) = b.box)
    (h14 : V (hr main_v14) = b.tab) (h15 : V (hr main_v15) = o) :
    (held (SparseCore.T d) T7 V : sProp 𝕄) = iprop(arrs d fullShare b ∗ pointsTo (Val := Elt F) (lOut d) Finset.univ fullShare o) := by
  unfold held T7 arrs
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton, h1, h3, h5, h7, h12, h14, h15]
  simp only [sepA]

theorem held_call (d : Dev nD) : (held (SparseCore.T d) (ucRefs τ sig) (VP m d) : sProp 𝕄)
    = iprop((arrs d fullShare (HH m d) ∗ pointsTo (Val := Elt F) (lOut d) Finset.univ fullShare (VP m d (hr main_v15))) ∗ held (SparseCore.T d) (ucRefs τ sig \ T7) (VP m d)) := by
  rw [StableHlo.held_sub_split (SparseCore.T d) T7_uc, held_T7 d (VP m d) (HH m d) (VP m d (hr main_v15)) rfl rfl rfl rfl rfl rfl rfl]
theorem held_rest (d : Dev nD) : (held (SparseCore.T d) (ucRefs τ sig \ T7) (VC m d) : sProp 𝕄) = held (SparseCore.T d) (ucRefs τ sig \ T7) (VP m d) := by
  refine StableHlo.held_congr _ fun b hb => Function.update_of_ne (fun e => (Finset.mem_sdiff.mp hb).2 ?_) _ _
  subst e
  unfold T7
  simp only [Finset.mem_insert, Finset.mem_singleton, or_true]
theorem held_back (d : Dev nD) : (held (SparseCore.T d) (ucRefs τ sig) (VC m d) : sProp 𝕄)
    = iprop((arrs d fullShare (HH m d) ∗ pointsTo (Val := Elt F) (lOut d) Finset.univ fullShare (catN 16 128 (vv (HH m d)))) ∗ held (SparseCore.T d) (ucRefs τ sig \ T7) (VP m d)) := by
  rw [StableHlo.held_sub_split (SparseCore.T d) T7_uc, held_T7 d (VC m d) (HH m d) (catN 16 128 (vv (HH m d)))
    (Function.update_of_ne (by decide) _ _) (Function.update_of_ne (by decide) _ _) (Function.update_of_ne (by decide) _ _) (Function.update_of_ne (by decide) _ _)
    (Function.update_of_ne (by decide) _ _) (Function.update_of_ne (by decide) _ _) (Function.update_self _ _ _)]
  rw [held_rest]

/-- The meetings' semaphores, all at zero. -/
def bars (d : Dev nD) : sProp 𝕄 := bigSep Finset.univ fun c : Fin 2 => bigSep Finset.univ fun j : Fin 16 => (semVal (bcell d c j) 0 : sProp 𝕄)

variable (H : Dev nD → HB F)

theorem st0 (d : Dev nD) (f : (L1 128).Idx → F .f32) : iprop(arrs d fullShare (H d) ∗ pointsTo (Val := Elt F) (lOut d) Finset.univ fullShare f)
    ⊢ bigSep Finset.univ fun c : Fin ((Cf (F := F)).nCore 0) => (P H).st 0 d c := by
  change _ ⊢ bigSep Finset.univ fun c : Fin 2 => stP H d c
  rw [bigSep_congr fun c _ => stP_eq H d c, bigSep_sep', arrs_shares, out_blocks]
  exact sep_mono_right (bigSep_mono fun c _ => bigSep_mono fun j _ => BI.BIClass.exists_intro (Φ := fun f => outP d (tl c j) f) f)

theorem dn0 (d : Dev nD) : (bigSep Finset.univ fun c : Fin ((Cf (F := F)).nCore 0) => (P H).dn 0 d c)
    = iprop(arrs d fullShare (H d) ∗ pointsTo (Val := Elt F) (lOut d) Finset.univ fullShare (catN 16 128 (vv (H d))) ∗ bars d) := by
  change (bigSep Finset.univ fun c : Fin 2 => dnP H d c) = _
  rw [bigSep_congr fun c _ => dnP_eq H d c, bigSep_sep', bigSep_sep', arrs_shares, out_blocks]
  rfl

/-! ## The run of the host's program -/

abbrev FIN (d : Dev nD) : sProp 𝕄 := iprop(held (SparseCore.T d) (ucRefs τ sig) (VF m d) ∗ bars d)

variable (ρ : Dev nD → PrngReg)

set_option backward.isDefEq.respectTransparency.types false in
theorem run_post (d : Dev nD) : iprop((Cf (F := F)).tcSt EH d 1 ∗ bars d ∗ (boundary (SparseCore.T d) ∗ held (SparseCore.T d) (ucRefs τ sig) (VC m d)) ∗ (Cf (F := F)).tcSems0 d)
    ⊢ wp frame (wpE ((Cf (F := F)).defs (Df (F := F))) 𝒱 (SparseCore.T d) none) Set.univ (seq (post (F := F)) >>= fun _ => pure (⟨⟩ : PUnit.{1})) (fun _ => iprop((Cf (F := F)).tcSt EH d 1 ∗ FIN m d ∗ (Cf (F := F)).tcEnd d)) := by
  iintro ⟨Hst, Hbars, Hh, Hts⟩
  iapply (StableHlo.wp_seq 𝒱 none Set.univ d (ucRefs τ sig) (fun _ => pure (⟨⟩ : PUnit.{1})) (post (F := F)) post_bufs post_fresh (VC m d)) $$ Hh
  iintro ⟨Hb, Hheld⟩
  rw [wp_pure]; imodintro
  isplitl [Hst]; · iexact Hst
  isplitl [Hheld Hbars]
  · isplitl [Hheld]; · iexact Hheld
    iexact Hbars
  unfold SparseCore.Cfg.tcEnd
  isplitl [Hb] <;> iassumption

set_option backward.isDefEq.respectTransparency.types false in
theorem run_call (κ : GSem nD τ sig → ℕ) (d : Dev nD) : iprop((Cf (F := F)).ctx EH (P (HH m)) κ ∗ (Cf (F := F)).tcSt EH d 0
      ∗ (boundary (SparseCore.T d) ∗ held (SparseCore.T d) (ucRefs τ sig) (VP m d)) ∗ (Cf (F := F)).tcSems0 d)
    ⊢ wp frame (wpE ((Cf (F := F)).defs (Df (F := F))) 𝒱 (SparseCore.T d) none) Set.univ
        ((sc (F := F)).run d 0 >>= fun _ => seq (post (F := F)) >>= fun _ => pure (⟨⟩ : PUnit.{1}))
        (fun _ => iprop((Cf (F := F)).tcSt EH d 1 ∗ FIN m d ∗ (Cf (F := F)).tcEnd d)) := by
  rw [wp_bind, held_call]
  iintro ⟨#Hctx, Hst, ⟨Hb, ⟨Har, Hout⟩, Hrest⟩, Hts⟩
  iapply ((Cf (F := F)).wp_run (Df (F := F)) 𝒱 (EH := EH) (P := P (HH m)) κ d 0)
  isplitr; · iexact Hctx
  isplitl [Hst]; · iexact Hst
  isplitl [Har Hout]
  · iapply (st0 (HH m) d (VP m d (hr main_v15)))
    isplitl [Har] <;> iassumption
  iintro ⟨Hst, Hdn⟩
  ihave Hdn := (Entails.of_eq (dn0 (HH m) d)) $$ Hdn
  icases Hdn with ⟨Har, Hout, Hbars⟩
  iapply (run_post m d)
  isplitl [Hst]; · iexact Hst
  isplitl [Hbars]; · iexact Hbars
  isplitr [Hts]; swap; · iexact Hts
  isplitl [Hb]; · iexact Hb
  iapply (Entails.of_eq (held_back m d).symm)
  isplitr [Hrest]; swap; · iexact Hrest
  isplitl [Har] <;> iassumption

theorem held_launch (d : Dev nD) : (unscopedBufs d (fun b => m ((SparseCore.T d).loc b)) : sProp 𝕄) = held (SparseCore.T d) (ucRefs τ sig) (V0 m d) :=
  Pipeline.unscopedBufs_held d (V0 m d)

set_option backward.isDefEq.respectTransparency.types false in
theorem hmain (κ : GSem nD τ sig → ℕ) (d : Dev nD) :
    iprop((Cf (F := F)).ctx EH (P (HH m)) κ ∗ (Cf (F := F)).tcSt EH d 0 ∗ (Cf (F := F)).tcRes m ρ d ∗ emp)
      ⊢ wp frame (wpE ((Cf (F := F)).defs (Df (F := F))) 𝒱 (SparseCore.T d) none) Set.univ (main d)
          fun _ => iprop((Cf (F := F)).tcSt EH d 1 ∗ FIN m d ∗ (Cf (F := F)).tcEnd d) := by
  unfold SparseCore.Cfg.tcRes
  rw [held_launch, main_lines]
  iintro ⟨#Hctx, Hst, ⟨Hb, Hheld, Hts, -⟩, -⟩
  icombine Hb Hheld as Hh
  iapply (StableHlo.wp_seq 𝒱 none Set.univ d (ucRefs τ sig) (fun _ => (sc (F := F)).run d 0 >>= fun _ => seq (post (F := F)) >>= fun _ => pure (⟨⟩ : PUnit.{1}))
    (pre (F := F)) pre_bufs pre_fresh (V0 m d)) $$ Hh
  iintro Hh
  iapply (run_call m κ d)
  isplitr; · iexact Hctx
  isplitl [Hst]; · iexact Hst
  isplitl [Hh]; · iexact Hh
  iexact Hts

/-! ## What a run ends with -/

def fq (d : Dev nD) (s' : Phys nD τ sig (Elt F)) : Prop :=
  (∀ b ∈ ucRefs τ sig, s'.mem.mem (d, b) = VF m d b) ∧ ∀ (c : Fin 2) (j : Fin 16), s'.mem.sem (bcell d c j) = 0

theorem hfin_bars (d : Dev nD) (s' : Phys nD τ sig (Elt F)) (c : Fin 2) (j : Fin 16) : iprop(bars d ∗ SI s') ⊢ (⌜s'.mem.sem (bcell d c j) = 0⌝ : sProp 𝕄) :=
  (sep_mono_left ((bigSep_elim (Φ := fun c : Fin 2 => bigSep Finset.univ fun j : Fin 16 => (semVal (bcell d c j) 0 : sProp 𝕄)) (Finset.mem_univ c)).trans
    (bigSep_elim (Φ := fun j : Fin 16 => (semVal (bcell d c j) 0 : sProp 𝕄)) (Finset.mem_univ j)))).trans (SparseCore.Cfg.semVal_zero_read _ s')
theorem hfin_bufs (d : Dev nD) (s' : Phys nD τ sig (Elt F)) : iprop(held (SparseCore.T d) (ucRefs τ sig) (VF m d) ∗ SI s')
    ⊢ (⌜∀ b ∈ ucRefs τ sig, s'.mem.mem (d, b) = VF m d b⌝ : sProp 𝕄) :=
  sep_comm.1.trans (SI_pointsTo_bufs_agree (qs := fun _ => fullShare) (ucRefs τ sig))

theorem hfin (d : Dev nD) (s' : Phys nD τ sig (Elt F)) : iprop(FIN m d ∗ SI s') ⊢ (⌜fq m d s'⌝ : sProp 𝕄) :=
  fun x hx => ⟨((sep_mono_left sep_elim_left).trans (hfin_bufs m d s')) x hx,
    fun c j => ((sep_mono_left sep_elim_right).trans (hfin_bars d s' c j)) x hx⟩

theorem hA (s' : Phys nD τ sig (Elt F)) (h : ∀ d, fq m d s') (g : GSem nD τ sig) (hg : g ∈ bCells) : s'.mem.sem g = 0 := by
  obtain ⟨⟨d, c, j⟩, -, rfl⟩ := Finset.mem_image.mp hg
  exact (h d).2 c j

theorem facts : (Cf (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c), b.owner = .sc c → sig.taskShared b.table b.idx = false by decide,
   fun _ => rfl⟩

/-- The buffers at their final contents, and every semaphore back at zero. -/
def QC : PUnit × MemSt nD τ sig (Elt F) → Prop := fun r =>
  (∀ (d : Dev nD), ∀ b ∈ ucRefs τ sig, r.2.mem (d, b) = VF m d b) ∧ r.2.sem = fun _ => 0

theorem kept (d : Dev nD) (r : Ref sig .tc) (h1 : r ∉ preW) (h2 : r ∉ postW) (h3 : r ≠ main_v15) : VF m d (hr r) = m (d, hr r) := by
  unfold VF VC VP
  rw [StableHlo.after_of_writes_sub post _ post_writes h2, Function.update_of_ne (StableHlo.devRef_ne_of_ne h3),
    StableHlo.after_of_writes_sub pre _ pre_writes h1]
  rfl

/-- The program's run, from a tile's. -/
theorem run_of_tile [∀ e, Nonempty (Elt F e)] (hT : (Cf (F := F)).TileObl (Df (F := F)) 𝒱 (P (HH m)) v₀ 0) :
    θ_run (Cert.KernelIdeal.defs (F := F)) (Cert.KernelIdeal.threads (F := F)) ⟨m, fun _ => 0, ρ⟩ (QC m) :=
  SparseCore.Cfg.θ_run_sc_quiescent (K := Cf (F := F)) (D := Df (F := F)) (𝒱 := 𝒱) (EH := EH) (P := P (HH m)) (hA := hA m) facts v₀
    (fun q hq => match q with | 0 => nomatch hq)
    (fun q _ => match q with | 0 => hT)
    (fun q _ => match q with | 0 => vecSplit (HH m))
    m ρ main (fun _ => iprop(emp)) (FIN m) (u₀ (F := F)) (hu₀ (HH m)) (hmain m ρ) (fq m) (hfin m) (QC m) (fun _ h hz => ⟨fun d => (h d).1, hz⟩)

theorem QC_args (r : PUnit × MemSt nD τ sig (Elt F)) (h : QC m r) : (∀ c : Dev nD,
      r.2.mem (c.tc.loc main_arg0) = m (c.tc.loc main_arg0) ∧ r.2.mem (c.tc.loc main_arg1) = m (c.tc.loc main_arg1) ∧ r.2.mem (c.tc.loc main_arg2) = m (c.tc.loc main_arg2)
        ∧ r.2.mem (c.tc.loc main_arg3) = m (c.tc.loc main_arg3) ∧ r.2.mem (c.tc.loc main_arg4) = m (c.tc.loc main_arg4)) ∧ r.2.sem = fun _ => 0 :=
  ⟨fun c => ⟨(h.1 c (hr main_arg0) (hr_uc _ rfl)).trans (kept m c _ (by decide) (by decide) (by decide)), (h.1 c (hr main_arg1) (hr_uc _ rfl)).trans (kept m c _ (by decide) (by decide) (by decide)),
    (h.1 c (hr main_arg2) (hr_uc _ rfl)).trans (kept m c _ (by decide) (by decide) (by decide)), (h.1 c (hr main_arg3) (hr_uc _ rfl)).trans (kept m c _ (by decide) (by decide) (by decide)),
    (h.1 c (hr main_arg4) (hr_uc _ rfl)).trans (kept m c _ (by decide) (by decide) (by decide))⟩, h.2⟩

end Cert.Proof.K

end
-- ==== Proof.K.EqA.lean ====
module

public import proofs.«01_k».proof.Proof.K.Prog

@[expose] public section

noncomputable section

namespace Cert.Proof.K

open Cert.KernelIdeal Cert.KernelIdeal.Gen
open Idealize.ShloMosaic Idealize.SL.Sem

variable {F : FTy → Type} [FloatOps F]

set_option maxHeartbeats 0 in
set_option maxRecDepth 100000 in
/-- A trip of the first loop, as printed. -/
theorem t1_eq (i : grid0.Coords) (t : Fin k0_t1_loop.trips) (s : Car1 F) (u v : BitVec 32) (p q r : Vec F S16 .f32) :
    k0_t1_body i hAnc (Memref.isWhole_whole _) hCls (Memref.isWhole_whole _) hReg (Memref.isWhole_whole _) hLdm (Memref.isWhole_whole _) hBox (Memref.isWhole_whole _) hTab (Memref.isWhole_whole _) hOut (Memref.isWhole_whole _) ax0 (Memref.isWhole_whole _) ay0 (Memref.isWhole_whole _) ax1 (Memref.isWhole_whole _) ay1 (Memref.isWhole_whole _) c0v (Memref.isWhole_whole _) c1v (Memref.isWhole_whole _) br0 (Memref.isWhole_whole _) br1 (Memref.isWhole_whole _) br2 (Memref.isWhole_whole _) br3 (Memref.isWhole_whole _) lm0 (Memref.isWhole_whole _) lm1 (Memref.isWhole_whole _) lm2 (Memref.isWhole_whole _) lm3 (Memref.isWhole_whole _) lm4 (Memref.isWhole_whole _) lm5 (Memref.isWhole_whole _) lm6 (Memref.isWhole_whole _) lm7 (Memref.isWhole_whole _) lm8 (Memref.isWhole_whole _) lm9 (Memref.isWhole_whole _) iouv (Memref.isWhole_whole _) argv (Memref.isWhole_whole _) keyv (Memref.isWhole_whole _) annb (Memref.isWhole_whole _) tab (Memref.isWhole_whole _) area (Memref.isWhole_whole _) hist (Memref.isWhole_whole _) stg (Memref.isWhole_whole _) rdA (Memref.isWhole_whole _) rdB (Memref.isWhole_whole _) rdH (Memref.isWhole_whole _) rdC (Memref.isWhole_whole _) outv (Memref.isWhole_whole _) sA (Memref.isWhole_whole _) sB (Memref.isWhole_whole _) sH (Memref.isWhole_whole _) sC (Memref.isWhole_whole _) cc0_scratch37 cc0_scratch38 cc0_scratch39 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 u v (bf 0x00000000#32) (bf 0x3F800000#32) p q r t s = trip1 t s := rfl

end Cert.Proof.K

end
-- ==== Proof.K.EqC.lean ====
module

public import proofs.«01_k».proof.Proof.K.Prog

@[expose] public section

noncomputable section

namespace Cert.Proof.K

open Cert.KernelIdeal Cert.KernelIdeal.Gen
open Idealize.ShloMosaic Idealize.SL.Sem

variable {F : FTy → Type} [FloatOps F]

/-- A trip of the third loop, as printed. -/
theorem t11_eq (i : grid0.Coords) (v2841 : IVec S16 32) (k0_t11 : Fin k0_t11_loop.trips) (s : FVec F S16 .f32 × FVec F S16 .f32) :
    ((fun k0_t11 (x : FVec F S16 .f32 × FVec F S16 .f32) => match x with
      | (arg50, arg51) => (do
        let v3029 : Vec F S16 .i32 ← Prog.lift (.load keyv (Rect.unit (s := S4000) (k0_off25 k0_t11) S16.size (k0_off25_inb k0_t11)).toLoadRect (View.loadsAt_vmem h_S16))
        let v3031 : Vec F S16 .i32 ← Prog.lift (.load c1v (Rect.unit (s := S4000) (k0_off25 k0_t11) S16.size (k0_off25_inb k0_t11)).toLoadRect (View.loadsAt_vmem h_S16))
        have v3032 : FVec F S16 .f32 := bitcastToFloat .f32 v3031
        have v3033 : IVec S16 32 := broadcast S16 2147483648#32
        have v3034 : IVec S16 32 := xori v3029 v3033
        have v3035 : IVec S16 32 := broadcast S16 2147483648#32
        have v3036 : IVec S16 32 := xori v2841 v3035
        have v3037 : IVec S16 1 := cmpi .slt v3034 v3036
        have cst_996 : F .f32 := Scalar.ofBits .f32 0x3F800000#32
        have cst_997 : F .f32 := Scalar.ofBits .f32 0x00000000#32
        have v3038 : FVec F S16 .f32 := broadcast S16 cst_996
        have v3039 : FVec F S16 .f32 := broadcast S16 cst_997
        have v3040 : FVec F S16 .f32 := select v3037 v3038 v3039
        have v3041 : FVec F S16 .f32 := addf arg50 v3040
        have cst_998 : F .f32 := Scalar.ofBits .f32 0x00000000#32
        have v3042 : FVec F S16 .f32 := broadcast S16 cst_998
        have v3043 : FVec F S16 .f32 := select v3037 v3032 v3042
        have v3044 : FVec F S16 .f32 := addf arg51 v3043
        pure (v3041, v3044) : TP F i (FVec F S16 .f32 × FVec F S16 .f32))) : Fin k0_t11_loop.trips → _ → TP F i (FVec F S16 .f32 × FVec F S16 .f32)) k0_t11 s = trip3 v2841 k0_t11 s := by
  rcases s with ⟨a, b⟩
  rfl

end Cert.Proof.K

end
-- ==== Proof.K.EqB.lean ====
module

public import proofs.«01_k».proof.Proof.K.Prog

@[expose] public section

noncomputable section

namespace Cert.Proof.K

open Cert.KernelIdeal Cert.KernelIdeal.Gen
open Idealize.ShloMosaic Idealize.SL.Sem

variable {F : FTy → Type} [FloatOps F]

set_option maxHeartbeats 0 in
set_option maxRecDepth 100000 in
/-- A trip of the second loop, as printed. -/
theorem t2_eq (i : grid0.Coords) (t : Fin k0_t2_loop.trips) (s : Car2 F) (u v : BitVec 32) (p q m : Vec F S16 .f32) (w x : F .f32) :
    k0_t2_body i hAnc (Memref.isWhole_whole _) hCls (Memref.isWhole_whole _) hReg (Memref.isWhole_whole _) hLdm (Memref.isWhole_whole _) hBox (Memref.isWhole_whole _) hTab (Memref.isWhole_whole _) hOut (Memref.isWhole_whole _) ax0 (Memref.isWhole_whole _) ay0 (Memref.isWhole_whole _) ax1 (Memref.isWhole_whole _) ay1 (Memref.isWhole_whole _) c0v (Memref.isWhole_whole _) c1v (Memref.isWhole_whole _) br0 (Memref.isWhole_whole _) br1 (Memref.isWhole_whole _) br2 (Memref.isWhole_whole _) br3 (Memref.isWhole_whole _) lm0 (Memref.isWhole_whole _) lm1 (Memref.isWhole_whole _) lm2 (Memref.isWhole_whole _) lm3 (Memref.isWhole_whole _) lm4 (Memref.isWhole_whole _) lm5 (Memref.isWhole_whole _) lm6 (Memref.isWhole_whole _) lm7 (Memref.isWhole_whole _) lm8 (Memref.isWhole_whole _) lm9 (Memref.isWhole_whole _) iouv (Memref.isWhole_whole _) argv (Memref.isWhole_whole _) keyv (Memref.isWhole_whole _) annb (Memref.isWhole_whole _) tab (Memref.isWhole_whole _) area (Memref.isWhole_whole _) hist (Memref.isWhole_whole _) stg (Memref.isWhole_whole _) rdA (Memref.isWhole_whole _) rdB (Memref.isWhole_whole _) rdH (Memref.isWhole_whole _) rdC (Memref.isWhole_whole _) outv (Memref.isWhole_whole _) sA (Memref.isWhole_whole _) sB (Memref.isWhole_whole _) sH (Memref.isWhole_whole _) sC (Memref.isWhole_whole _) cc0_scratch37 cc0_scratch38 cc0_scratch39 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 u v (bf 0x00000000#32) p q m w x t s = trip2 m (broadcast S16 (Scalar.maximumf w x)) t s := rfl

end Cert.Proof.K

end
-- ==== Proof.K.EqG.lean ====
module

public import proofs.«01_k».proof.Proof.K.EqA
public import proofs.«01_k».proof.Proof.K.EqC
public import proofs.«01_k».proof.Proof.K.EqB

@[expose] public section

noncomputable section

namespace Cert.Proof.K

open Cert.KernelIdeal Cert.KernelIdeal.Gen
open Idealize.ShloMosaic Idealize.SL.Sem

variable {F : FTy → Type} [FloatOps F]

universe u

/-- The same piece at the head of two programs, one nested deeper. -/
theorem step2 {E : Type → Type u} {α β γ : Type} {X : Prog E α} {f : α → Prog E β} {g : β → Prog E γ} {w : α → Prog E γ}
    (h : ∀ x, ((f x >>= g) : Prog E γ) = w x) : ((X >>= f) >>= g) = (X >>= w) := by
  rw [bind_assoc]; exact congrArg _ (funext h)

/-- The same loop at the head of two programs, one nested deeper. -/
theorem loop2 {E : Type → Type u} {l : Scf.Loop 32} {hl : l.OK} {α β γ : Type} {s s' : α} {p p' : Fin l.trips → α → Prog E α} {f : α → Prog E β}
    {g : β → Prog E γ} {w : α → Prog E γ} (hs : s = s') (hp : ∀ t a, p t a = p' t a) (h : ∀ x, ((f x >>= g) : Prog E γ) = w x) :
    ((Scf.Loop.for l hl s p >>= f) >>= g) = (Scf.Loop.for l hl s' p' >>= w) := by
  subst hs; rw [show p = p' from funext fun t => funext (hp t), bind_assoc]; exact congrArg _ (funext h)

theorem assocL {E : Type → Type u} {α β γ : Type} {X : Prog E α} {f : α → Prog E β} {g : β → Prog E γ} {R : Prog E γ}
    (h : (X >>= fun x => f x >>= g) = R) : ((X >>= f) >>= g) = R := by
  rw [bind_assoc]; exact h
theorem retL {E : Type → Type u} {α γ : Type} {x : α} {g : α → Prog E γ} {R : Prog E γ} (h : g x = R) : ((pure x : Prog E α) >>= g) = R := by
  rw [pure_bind]; exact h
theorem assocR {E : Type → Type u} {α β γ : Type} {X : Prog E α} {f : α → Prog E β} {g : β → Prog E γ} {L : Prog E γ}
    (h : L = (X >>= fun x => f x >>= g)) : L = ((X >>= f) >>= g) := by
  rw [bind_assoc]; exact h
theorem retR {E : Type → Type u} {α γ : Type} {x : α} {g : α → Prog E γ} {L : Prog E γ} (h : L = g x) : L = ((pure x : Prog E α) >>= g) := by
  rw [pure_bind]; exact h
/-- A round's outcome, held under a name. -/
@[irreducible] def named {E : Type → Type u} {γ : Type} (x : IVec S16 32 × FVec F S16 .f32) (g : IVec S16 32 × FVec F S16 .f32 → Prog E γ) : Prog E γ :=
  pure x >>= g
theorem namedR {E : Type → Type u} {γ : Type} {x : IVec S16 32 × FVec F S16 .f32} {g : IVec S16 32 × FVec F S16 .f32 → Prog E γ} {L : Prog E γ}
    (h : ∀ s, s = x → L = g s) : L = named x g := by
  unfold named; rw [pure_bind]; exact h _ rfl
theorem retLE {E : Type → Type u} {α γ : Type} {x y : α} {g : α → Prog E γ} {R : Prog E γ} (e : x = y) (h : g y = R) :
    ((pure x : Prog E α) >>= g) = R := by
  rw [pure_bind, e]; exact h
theorem repR {i : grid0.Coords} {N : Nat} {σ γ : Type} {f : Fin N → σ → TP F i σ} {n k : Nat} {hk : k + (n + 1) = N} {s : σ} {g : σ → TP F i γ}
    {L : TP F i γ} (h : L = (f ⟨k, by omega⟩ s >>= fun s => rep f n (k + 1) (by omega) s >>= g)) : L = (rep f (n + 1) k hk s >>= g) := by
  rw [h]; exact (bind_assoc _ _ _).symm
theorem rep0R {i : grid0.Coords} {N : Nat} {σ γ : Type} {f : Fin N → σ → TP F i σ} {k : Nat} {hk : k + 0 = N} {s : σ} {g : σ → TP F i γ}
    {L : TP F i γ} (h : L = g s) : L = (rep f 0 k hk s >>= g) := by
  rw [h]; exact (pure_bind _ _).symm

/-- A round of the selection before what follows it. -/
def roundK {i : grid0.Coords} (b : Fin 2) (mk sh : BitVec 32) (s1 s2 : DmaSems sig S_) (s : IVec S16 32 × FVec F S16 .f32)
    (K : IVec S16 32 × FVec F S16 .f32 → TP F i PUnit) : TP F i PUnit :=
  rep zeroStep 16 0 rfl ⟨⟩ >>= fun _ => Scf.Loop.for k0_t3_loop k0_t3_ok 0#32 (cntTrip mk sh s.1) >>= fun _ =>
    put hist (sH.slice (Rect.unit (s := S8192) (k0_off16 i (BitVec.ofNat 32 (4 * b.val))) S256.size (k0_off16_inb i b)) (fun _ => rfl)) s1
      (Memref.isWhole_whole _).wordExact (View.wordExact_bits rfl)
    >>= fun _ => barr >>= fun _ =>
    get (sH.slice (Rect.unit (s := S8192) (k0_off17 i (BitVec.ofNat 32 (4 * b.val))) S1024.size (k0_off17_inb i b)) (fun _ => rfl)) rdH s2
      (View.wordExact_bits rfl) (Memref.isWhole_whole _).wordExact
    >>= fun _ => rep gatH 64 0 rfl (bf 0x00000000#32) >>= fun cnts => pure (rndStep sh cnts s) >>= K

theorem round_K {i : grid0.Coords} (b : Fin 2) (mk sh : BitVec 32) (s1 s2 : DmaSems sig S_) (s : IVec S16 32 × FVec F S16 .f32)
    (K : IVec S16 32 × FVec F S16 .f32 → TP F i PUnit) : (round b mk sh s1 s2 s >>= K) = roundK b mk sh s1 s2 s K := by
  unfold round roundK
  simp only [bind_assoc, pure_bind]

/-- One tile's run, every piece before what follows it. -/
def tileFlat (F : FTy → Type) [FloatOps F] (i : grid0.Coords) : TP F i PUnit :=
  copies >>= fun _ => rep areaStep 32 0 rfl ⟨⟩ >>= fun _ =>
  Scf.Loop.for k0_t1_loop k0_t1_ok (bf 0x00000000#32, bf 0x00000000#32, bf 0xFF61B1E6#32, bf 0xFF61B1E6#32) trip1 >>= fun s1 =>
  exch1 s1 >>= fun _ => rep gat1 4 0 rfl (bf 0x00000000#32, bf 0x00000000#32, bf 0xFF61B1E6#32, bf 0xFF61B1E6#32) >>= fun a =>
  Scf.Loop.for k0_t2_loop k0_t2_ok
    (bf 0x00000000#32, bf 0x00000000#32, bf 0x00000000#32, bf 0x00000000#32, bf 0x00000000#32, bf 0x00000000#32)
    (trip2 (lmax a.2.2.1) (lmax a.2.2.2)) >>= fun s2 =>
  exch2 s2 >>= fun _ => rep gat2 4 0 rfl
    (bf 0x00000000#32, bf 0x00000000#32, bf 0x00000000#32, bf 0x00000000#32, bf 0x00000000#32, bf 0x00000000#32) >>= fun b =>
  roundK 0 0#32 28#32 cc0_scoped4 cc0_scoped5 (bi 0#32, kOf (lsum a.1) (lsum a.2.1)) fun s =>
  roundK 1 4026531840#32 24#32 cc0_scoped6 cc0_scoped7 s fun s =>
  roundK 0 4278190080#32 20#32 cc0_scoped8 cc0_scoped9 s fun s =>
  roundK 1 4293918720#32 16#32 cc0_scoped10 cc0_scoped11 s fun s =>
  named s fun s => roundK 0 4294901760#32 12#32 cc0_scoped12 cc0_scoped13 s fun s =>
  named s fun s => roundK 1 4294963200#32 8#32 cc0_scoped14 cc0_scoped15 s fun s =>
  named s fun s => roundK 0 4294967040#32 4#32 cc0_scoped16 cc0_scoped17 s fun s =>
  named s fun s => roundK 1 4294967280#32 0#32 cc0_scoped18 cc0_scoped19 s fun s =>
  named s fun s => Scf.Loop.for k0_t11_loop k0_t11_ok (bf 0x00000000#32, bf 0x00000000#32) (trip3 s.1) >>= fun z =>
  exch3 z >>= fun _ => rep gat3 4 0 rfl (bf 0x00000000#32, bf 0x00000000#32) >>= fun c =>
  stf outv ![0] inb_S16_S16_0
    (res3 (clsOf (lsum a.1) (kOf (lsum a.1) (lsum a.2.1)) (lmax a.2.2.1) (lmax a.2.2.2) (lsum b.1) (lsum b.2.1) (lsum b.2.2.1) s.1 (lsum c.1) (lsum c.2))
      (bbxOf (lsum a.1) (lsum b.2.2.2.1)) (ldmOf (lsum b.2.2.2.2.2) (lsum b.2.2.2.2.1))) >>= fun _ =>
  outCopy

theorem tile_flat (i : grid0.Coords) : tile F i = tileFlat F i := by
  unfold tile part1 rounds part3 tileFlat named
  simp only [bind_assoc, pure_bind, round_K]

/-- A program with its first piece in sight. -/
theorem idL {E : Type → Type u} {α γ : Type} {X : Prog E α} {g : α → Prog E γ} {R : Prog E γ} (h : (X >>= g) = R) : (X >>= g) = R := h
/-- The end of a tile's run, with the totals as they come. -/
theorem endG (i : grid0.Coords) {v30 : IVec S16 32} {np kr bbs lds nlp np' kr' bbs' lds' nlp' mx0' mx1' se0' se1' spc' cl' sm' v2975 v2977 v2979 v2982 : FVec F S16 .f32} {p' : IVec S16 32} {v26 v28 : BitVec 32}
    (e30 : v30 = iota .scVector S16 32 [0] iota_S16_d0_w32_scVector)
    (e_np : np = np') (e_kr : kr = kr') (e_bbs : bbs = bbs') (e_lds : lds = lds') (e_nlp : nlp = nlp')
    (e75 : v2975 = addf mx1' (log se1')) (e77 : v2977 = maximumf np' (bf 0x3F800000#32))
    (e79 : v2979 = subf (addf mx0' (log se0')) (divf spc' (maximumf np' (bf 0x3F800000#32))))
    (e82 : v2982 = addf sm' (mulf (bitcastToFloat (F := F) .f32 (select (cmpi .slt p' (bi 0#32)) (xori p' (bi 2147483648#32)) (xori p' (constantI S16 32 4294967295#32)))) (subf kr' cl'))) : (do
  let c0_i32_991 : BitVec 32 ← k0_part117 i hAnc (Memref.isWhole_whole _) hCls (Memref.isWhole_whole _) hReg (Memref.isWhole_whole _) hLdm (Memref.isWhole_whole _) hBox (Memref.isWhole_whole _) hTab (Memref.isWhole_whole _) hOut (Memref.isWhole_whole _) ax0 (Memref.isWhole_whole _) ay0 (Memref.isWhole_whole _) ax1 (Memref.isWhole_whole _) ay1 (Memref.isWhole_whole _) c0v (Memref.isWhole_whole _) c1v (Memref.isWhole_whole _) br0 (Memref.isWhole_whole _) br1 (Memref.isWhole_whole _) br2 (Memref.isWhole_whole _) br3 (Memref.isWhole_whole _) lm0 (Memref.isWhole_whole _) lm1 (Memref.isWhole_whole _) lm2 (Memref.isWhole_whole _) lm3 (Memref.isWhole_whole _) lm4 (Memref.isWhole_whole _) lm5 (Memref.isWhole_whole _) lm6 (Memref.isWhole_whole _) lm7 (Memref.isWhole_whole _) lm8 (Memref.isWhole_whole _) lm9 (Memref.isWhole_whole _) iouv (Memref.isWhole_whole _) argv (Memref.isWhole_whole _) keyv (Memref.isWhole_whole _) annb (Memref.isWhole_whole _) tab (Memref.isWhole_whole _) area (Memref.isWhole_whole _) hist (Memref.isWhole_whole _) stg (Memref.isWhole_whole _) rdA (Memref.isWhole_whole _) rdB (Memref.isWhole_whole _) rdH (Memref.isWhole_whole _) rdC (Memref.isWhole_whole _) outv (Memref.isWhole_whole _) sA (Memref.isWhole_whole _) sB (Memref.isWhole_whole _) sH (Memref.isWhole_whole _) sC (Memref.isWhole_whole _) cc0_scratch37 cc0_scratch38 cc0_scratch39 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 v30 np kr bbs lds nlp v2975 v2977 v2979 v2982
  let v3024 : BitVec 1 := Scalar.cmpi .eq v26 c0_i32_991
  let v3025 : BitVec 32 := Scalar.extui v3024
  let c0_i32_992 : BitVec 32 := 0#32
  let v3026 : BitVec 1 := Scalar.cmpi .ne v3025 c0_i32_992
  if k0_h1 : k0_cond1 i = 1#1 then do
    let c16_i32_993 : BitVec 32 := 16#32
    let v3027 : BitVec 32 := Scalar.muli v28 c16_i32_993

    let v3029_r22 : Memref sig .scVector .hbm S16 .f32 := hOut.slice (Rect.unit (s := S128) (k0_off28 i) S16.size (k0_off28_inb i k0_h1)) (fun _ => rfl)
    let v3030_r22 : Memref sig .scVector .hbm S16 .f32 := hOut.slice (Rect.unit (s := S128) (k0_off28 i) S16.size (k0_off28_inb i k0_h1)) (fun _ => rfl)
    Prog.lift (.enqueueDma outv (.here v3030_r22) (.dma cc0_scoped22.sem) (Memref.isWhole_whole _).wordExact (View.wordExact_bits rfl) ⟨Or.inl rfl, trivial⟩)
    let v3031_r22 : Memref sig .scVector .hbm S16 .f32 := hOut.slice (Rect.unit (s := S128) (k0_off28 i) S16.size (k0_off28_inb i k0_h1)) (fun _ => rfl)
    let v3032_r22 : Memref sig .scVector .hbm S16 .f32 := hOut.slice (Rect.unit (s := S128) (k0_off28 i) S16.size (k0_off28_inb i k0_h1)) (fun _ => rfl)
    Prog.lift (.waitDma2 cc0_scoped22.sem outv v3032_r22 (Memref.isWhole_whole _).wordExact (View.wordExact_bits rfl))

    pure ⟨⟩
  else do
    pure ⟨⟩
  pure ⟨⟩ : TP F i PUnit) =
  (stf outv ![0] inb_S16_S16_0 (res3 (clsOf np' kr' mx0' mx1' se0' se1' spc' p' cl' sm') (bbxOf np' bbs') (ldmOf nlp' lds')) >>= fun _ => outCopy) := by
  subst e30 e_np e_kr e_bbs e_lds e_nlp e75 e77 e79 e82
  unfold k0_part117
  iterate 2 ((repeat (first | refine repR ?_ | refine rep0R ?_ | refine retR ?_ | refine assocR ?_)); refine step2 fun _ => ?_)
  refine retL ?_
  unfold outCopy
  by_cases h : k0_cond1 i = 1#1
  · refine (dif_pos h).trans (Eq.trans ?_ (dif_pos h).symm)
    rfl
  · refine (dif_neg h).trans (Eq.trans ?_ (dif_neg h).symm)
    rfl

set_option maxHeartbeats 0 in
set_option maxRecDepth 100000 in
theorem tile_eq (i : grid0.Coords) : cc0__sc_loss i hAnc (Memref.isWhole_whole _) hCls (Memref.isWhole_whole _) hReg (Memref.isWhole_whole _) hLdm (Memref.isWhole_whole _) hBox (Memref.isWhole_whole _) hTab (Memref.isWhole_whole _) hOut (Memref.isWhole_whole _) ax0 (Memref.isWhole_whole _) ay0 (Memref.isWhole_whole _) ax1 (Memref.isWhole_whole _) ay1 (Memref.isWhole_whole _) c0v (Memref.isWhole_whole _) c1v (Memref.isWhole_whole _) br0 (Memref.isWhole_whole _) br1 (Memref.isWhole_whole _) br2 (Memref.isWhole_whole _) br3 (Memref.isWhole_whole _) lm0 (Memref.isWhole_whole _) lm1 (Memref.isWhole_whole _) lm2 (Memref.isWhole_whole _) lm3 (Memref.isWhole_whole _) lm4 (Memref.isWhole_whole _) lm5 (Memref.isWhole_whole _) lm6 (Memref.isWhole_whole _) lm7 (Memref.isWhole_whole _) lm8 (Memref.isWhole_whole _) lm9 (Memref.isWhole_whole _) iouv (Memref.isWhole_whole _) argv (Memref.isWhole_whole _) keyv (Memref.isWhole_whole _) annb (Memref.isWhole_whole _) tab (Memref.isWhole_whole _) area (Memref.isWhole_whole _) hist (Memref.isWhole_whole _) stg (Memref.isWhole_whole _) rdA (Memref.isWhole_whole _) rdB (Memref.isWhole_whole _) rdH (Memref.isWhole_whole _) rdC (Memref.isWhole_whole _) outv (Memref.isWhole_whole _) sA (Memref.isWhole_whole _) sB (Memref.isWhole_whole _) sH (Memref.isWhole_whole _) sC (Memref.isWhole_whole _) cc0_scratch37 cc0_scratch38 cc0_scratch39 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22  = tile F i := by
  refine Eq.trans ?_ (tile_flat i).symm
  unfold cc0__sc_loss k0_part118 tileFlat roundK
  refine assocL ?_
  unfold k0_part42
  iterate 1 ((repeat (first | refine repR ?_ | refine rep0R ?_ | refine retR ?_ | refine assocR ?_)); refine step2 fun _ => ?_)
  refine retL ?_
  refine assocL ?_
  unfold k0_part43
  iterate 8 ((repeat (first | refine repR ?_ | refine rep0R ?_ | refine retR ?_ | refine assocR ?_)); refine step2 fun _ => ?_)
  refine retL ?_
  refine assocL ?_
  unfold k0_part44
  iterate 8 ((repeat (first | refine repR ?_ | refine rep0R ?_ | refine retR ?_ | refine assocR ?_)); refine step2 fun _ => ?_)
  refine retL ?_
  refine assocL ?_
  unfold k0_part45
  iterate 14 ((repeat (first | refine repR ?_ | refine rep0R ?_ | refine retR ?_ | refine assocR ?_)); refine step2 fun _ => ?_)
  refine retL ?_
  refine assocL ?_
  unfold k0_part46
  iterate 22 ((repeat (first | refine repR ?_ | refine rep0R ?_ | refine retR ?_ | refine assocR ?_)); refine step2 fun _ => ?_)
  refine retL ?_
  refine assocL ?_
  unfold k0_part47
  iterate 25 ((repeat (first | refine repR ?_ | refine rep0R ?_ | refine retR ?_ | refine assocR ?_)); refine step2 fun _ => ?_)
  refine retL ?_
  refine assocL ?_
  unfold k0_part48
  iterate 26 ((repeat (first | refine repR ?_ | refine rep0R ?_ | refine retR ?_ | refine assocR ?_)); refine step2 fun _ => ?_)
  refine retL ?_
  refine assocL ?_
  unfold k0_part49
  iterate 26 ((repeat (first | refine repR ?_ | refine rep0R ?_ | refine retR ?_ | refine assocR ?_)); refine step2 fun _ => ?_)
  refine retL ?_
  refine assocL ?_
  unfold k0_part50
  iterate 26 ((repeat (first | refine repR ?_ | refine rep0R ?_ | refine retR ?_ | refine assocR ?_)); refine step2 fun _ => ?_)
  refine retL ?_
  refine assocL ?_
  unfold k0_part51
  iterate 25 ((repeat (first | refine repR ?_ | refine rep0R ?_ | refine retR ?_ | refine assocR ?_)); refine step2 fun _ => ?_)
  refine retL ?_
  refine assocL ?_
  unfold k0_part52
  iterate 26 ((repeat (first | refine repR ?_ | refine rep0R ?_ | refine retR ?_ | refine assocR ?_)); refine step2 fun _ => ?_)
  refine retL ?_
  refine assocL ?_
  unfold k0_part53
  iterate 26 ((repeat (first | refine repR ?_ | refine rep0R ?_ | refine retR ?_ | refine assocR ?_)); refine step2 fun _ => ?_)
  refine retL ?_
  refine assocL ?_
  rw [k0_part54_eq_skeleton]; unfold k0_part54_skel
  iterate 3 ((repeat (first | refine repR ?_ | refine rep0R ?_ | refine retR ?_ | refine assocR ?_)); refine step2 fun _ => ?_)
  repeat (first | refine repR ?_ | refine rep0R ?_ | refine assocR ?_ | refine retR ?_)
  refine loop2 rfl (fun t s => t1_eq i t s _ _ _ _ _) ?_
  rintro ⟨_, _, _, _⟩
  iterate 10 ((repeat (first | refine repR ?_ | refine rep0R ?_ | refine retR ?_ | refine assocR ?_)); refine step2 fun _ => ?_)
  refine assocR ?_
  refine step2 fun _ => ?_
  iterate 1 ((repeat (first | refine repR ?_ | refine rep0R ?_ | refine retR ?_ | refine assocR ?_)); refine step2 fun _ => ?_)
  refine retL ?_
  refine assocL ?_
  unfold k0_part55
  iterate 17 ((repeat (first | refine repR ?_ | refine rep0R ?_ | refine retR ?_ | refine assocR ?_)); refine step2 fun _ => ?_)
  refine retL ?_
  refine assocL ?_
  unfold k0_part56
  refine retL ?_
  refine assocL ?_
  unfold k0_part57
  refine retL ?_
  refine assocL ?_
  unfold k0_part58
  refine retL ?_
  refine assocL ?_
  rw [k0_part59_eq_skeleton]; unfold k0_part59_skel
  repeat (first | refine repR ?_ | refine rep0R ?_ | refine assocR ?_ | refine retR ?_)
  refine loop2 rfl (fun t s => t2_eq i t s _ _ _ _ _ _ _) ?_
  rintro ⟨_, _, _, _, _, _⟩
  iterate 14 ((repeat (first | refine repR ?_ | refine rep0R ?_ | refine retR ?_ | refine assocR ?_)); refine step2 fun _ => ?_)
  refine assocR ?_
  refine step2 fun _ => ?_
  refine retL ?_
  refine assocL ?_
  unfold k0_part60
  iterate 20 ((repeat (first | refine repR ?_ | refine rep0R ?_ | refine retR ?_ | refine assocR ?_)); refine step2 fun _ => ?_)
  refine retL ?_
  refine assocL ?_
  unfold k0_part61
  iterate 6 ((repeat (first | refine repR ?_ | refine rep0R ?_ | refine retR ?_ | refine assocR ?_)); refine step2 fun _ => ?_)
  refine retL ?_
  refine assocL ?_
  unfold k0_part62
  refine retL ?_
  refine assocL ?_
  unfold k0_part63
  refine retL ?_
  refine assocL ?_
  unfold k0_part64
  refine retL ?_
  refine assocL ?_
  unfold k0_part65
  refine retL ?_
  refine assocL ?_
  unfold k0_part66
  iterate 32 ((repeat (first | refine repR ?_ | refine rep0R ?_ | refine retR ?_ | refine assocR ?_)); refine step2 fun _ => ?_)
  refine retL ?_
  refine assocL ?_
  unfold k0_part67
  repeat (first | refine repR ?_ | refine rep0R ?_ | refine assocR ?_ | refine retR ?_)
  refine loop2 rfl (fun t s => rfl) ?_
  rintro _
  iterate 2 ((repeat (first | refine repR ?_ | refine rep0R ?_ | refine retR ?_ | refine assocR ?_)); refine step2 fun _ => ?_)
  refine step2 fun _ => ?_
  iterate 12 ((repeat (first | refine repR ?_ | refine rep0R ?_ | refine retR ?_ | refine assocR ?_)); refine step2 fun _ => ?_)
  refine retL ?_
  refine assocL ?_
  unfold k0_part68
  iterate 20 ((repeat (first | refine repR ?_ | refine rep0R ?_ | refine retR ?_ | refine assocR ?_)); refine step2 fun _ => ?_)
  refine retL ?_
  refine assocL ?_
  unfold k0_part69
  iterate 20 ((repeat (first | refine repR ?_ | refine rep0R ?_ | refine retR ?_ | refine assocR ?_)); refine step2 fun _ => ?_)
  refine retL ?_
  refine assocL ?_
  unfold k0_part70
  iterate 14 ((repeat (first | refine repR ?_ | refine rep0R ?_ | refine retR ?_ | refine assocR ?_)); refine step2 fun _ => ?_)
  refine retL ?_
  refine assocL ?_
  unfold k0_part71
  refine retL ?_
  refine assocL ?_
  unfold k0_part72
  iterate 32 ((repeat (first | refine repR ?_ | refine rep0R ?_ | refine retR ?_ | refine assocR ?_)); refine step2 fun _ => ?_)
  repeat (first | refine repR ?_ | refine rep0R ?_ | refine assocR ?_ | refine retR ?_)
  refine loop2 rfl (fun t s => rfl) ?_
  rintro _
  refine retL ?_
  refine assocL ?_
  unfold k0_part73
  iterate 2 ((repeat (first | refine repR ?_ | refine rep0R ?_ | refine retR ?_ | refine assocR ?_)); refine step2 fun _ => ?_)
  refine step2 fun _ => ?_
  iterate 13 ((repeat (first | refine repR ?_ | refine rep0R ?_ | refine retR ?_ | refine assocR ?_)); refine step2 fun _ => ?_)
  refine retL ?_
  refine assocL ?_
  unfold k0_part74
  iterate 20 ((repeat (first | refine repR ?_ | refine rep0R ?_ | refine retR ?_ | refine assocR ?_)); refine step2 fun _ => ?_)
  refine retL ?_
  refine assocL ?_
  unfold k0_part75
  iterate 20 ((repeat (first | refine repR ?_ | refine rep0R ?_ | refine retR ?_ | refine assocR ?_)); refine step2 fun _ => ?_)
  refine retL ?_
  refine assocL ?_
  unfold k0_part76
  iterate 13 ((repeat (first | refine repR ?_ | refine rep0R ?_ | refine retR ?_ | refine assocR ?_)); refine step2 fun _ => ?_)
  refine retL ?_
  refine assocL ?_
  unfold k0_part77
  refine retL ?_
  refine assocL ?_
  unfold k0_part78
  iterate 32 ((repeat (first | refine repR ?_ | refine rep0R ?_ | refine retR ?_ | refine assocR ?_)); refine step2 fun _ => ?_)
  repeat (first | refine repR ?_ | refine rep0R ?_ | refine assocR ?_ | refine retR ?_)
  refine loop2 rfl (fun t s => rfl) ?_
  rintro _
  refine retL ?_
  refine assocL ?_
  unfold k0_part79
  iterate 2 ((repeat (first | refine repR ?_ | refine rep0R ?_ | refine retR ?_ | refine assocR ?_)); refine step2 fun _ => ?_)
  refine step2 fun _ => ?_
  iterate 14 ((repeat (first | refine repR ?_ | refine rep0R ?_ | refine retR ?_ | refine assocR ?_)); refine step2 fun _ => ?_)
  refine retL ?_
  refine assocL ?_
  unfold k0_part80
  iterate 20 ((repeat (first | refine repR ?_ | refine rep0R ?_ | refine retR ?_ | refine assocR ?_)); refine step2 fun _ => ?_)
  refine retL ?_
  refine assocL ?_
  unfold k0_part81
  iterate 20 ((repeat (first | refine repR ?_ | refine rep0R ?_ | refine retR ?_ | refine assocR ?_)); refine step2 fun _ => ?_)
  refine retL ?_
  refine assocL ?_
  unfold k0_part82
  iterate 12 ((repeat (first | refine repR ?_ | refine rep0R ?_ | refine retR ?_ | refine assocR ?_)); refine step2 fun _ => ?_)
  refine retL ?_
  refine assocL ?_
  unfold k0_part83
  refine retL ?_
  refine assocL ?_
  unfold k0_part84
  iterate 32 ((repeat (first | refine repR ?_ | refine rep0R ?_ | refine retR ?_ | refine assocR ?_)); refine step2 fun _ => ?_)
  repeat (first | refine repR ?_ | refine rep0R ?_ | refine assocR ?_ | refine retR ?_)
  refine loop2 rfl (fun t s => rfl) ?_
  rintro _
  refine retL ?_
  refine assocL ?_
  unfold k0_part85
  iterate 2 ((repeat (first | refine repR ?_ | refine rep0R ?_ | refine retR ?_ | refine assocR ?_)); refine step2 fun _ => ?_)
  refine step2 fun _ => ?_
  iterate 14 ((repeat (first | refine repR ?_ | refine rep0R ?_ | refine retR ?_ | refine assocR ?_)); refine step2 fun _ => ?_)
  refine retL ?_
  refine assocL ?_
  unfold k0_part86
  iterate 20 ((repeat (first | refine repR ?_ | refine rep0R ?_ | refine retR ?_ | refine assocR ?_)); refine step2 fun _ => ?_)
  refine retL ?_
  refine assocL ?_
  unfold k0_part87
  iterate 20 ((repeat (first | refine repR ?_ | refine rep0R ?_ | refine retR ?_ | refine assocR ?_)); refine step2 fun _ => ?_)
  refine retL ?_
  refine assocL ?_
  unfold k0_part88
  iterate 12 ((repeat (first | refine repR ?_ | refine rep0R ?_ | refine retR ?_ | refine assocR ?_)); refine step2 fun _ => ?_)
  refine retL ?_
  refine assocL ?_
  unfold k0_part89
  refine retR ?_
  refine rep0R ?_
  refine retR ?_
  refine namedR (F := F) fun s89 hs89 => ?_
  refine retLE (y := ⟨s89.2, s89.1⟩) (by rw [hs89]; rfl) ?_
  clear hs89
  refine assocL ?_
  unfold k0_part90
  iterate 32 ((repeat (first | refine repR ?_ | refine rep0R ?_ | refine retR ?_ | refine assocR ?_)); refine step2 fun _ => ?_)
  repeat (first | refine repR ?_ | refine rep0R ?_ | refine assocR ?_ | refine retR ?_)
  refine loop2 rfl (fun t s => rfl) ?_
  rintro _
  refine retL ?_
  refine assocL ?_
  unfold k0_part91
  iterate 2 ((repeat (first | refine repR ?_ | refine rep0R ?_ | refine retR ?_ | refine assocR ?_)); refine step2 fun _ => ?_)
  refine step2 fun _ => ?_
  iterate 15 ((repeat (first | refine repR ?_ | refine rep0R ?_ | refine retR ?_ | refine assocR ?_)); refine step2 fun _ => ?_)
  refine retL ?_
  refine assocL ?_
  unfold k0_part92
  iterate 20 ((repeat (first | refine repR ?_ | refine rep0R ?_ | refine retR ?_ | refine assocR ?_)); refine step2 fun _ => ?_)
  refine retL ?_
  refine assocL ?_
  unfold k0_part93
  iterate 20 ((repeat (first | refine repR ?_ | refine rep0R ?_ | refine retR ?_ | refine assocR ?_)); refine step2 fun _ => ?_)
  refine retL ?_
  refine assocL ?_
  unfold k0_part94
  iterate 11 ((repeat (first | refine repR ?_ | refine rep0R ?_ | refine retR ?_ | refine assocR ?_)); refine step2 fun _ => ?_)
  refine retL ?_
  refine assocL ?_
  unfold k0_part95
  refine retR ?_
  refine rep0R ?_
  refine retR ?_
  refine namedR (F := F) fun s95 hs95 => ?_
  iterate 2 ((repeat (first | refine repR ?_ | refine rep0R ?_ | refine retR ?_ | refine assocR ?_)); refine step2 fun _ => ?_)
  refine retLE (y := ⟨s95.2, s95.1⟩) (by rw [hs95]; rfl) ?_
  clear hs95
  refine assocL ?_
  unfold k0_part96
  iterate 30 ((repeat (first | refine repR ?_ | refine rep0R ?_ | refine retR ?_ | refine assocR ?_)); refine step2 fun _ => ?_)
  repeat (first | refine repR ?_ | refine rep0R ?_ | refine assocR ?_ | refine retR ?_)
  refine loop2 rfl (fun t s => rfl) ?_
  rintro _
  refine retL ?_
  refine assocL ?_
  unfold k0_part97
  iterate 2 ((repeat (first | refine repR ?_ | refine rep0R ?_ | refine retR ?_ | refine assocR ?_)); refine step2 fun _ => ?_)
  refine step2 fun _ => ?_
  iterate 16 ((repeat (first | refine repR ?_ | refine rep0R ?_ | refine retR ?_ | refine assocR ?_)); refine step2 fun _ => ?_)
  refine retL ?_
  refine assocL ?_
  unfold k0_part98
  iterate 20 ((repeat (first | refine repR ?_ | refine rep0R ?_ | refine retR ?_ | refine assocR ?_)); refine step2 fun _ => ?_)
  refine retL ?_
  refine assocL ?_
  unfold k0_part99
  iterate 20 ((repeat (first | refine repR ?_ | refine rep0R ?_ | refine retR ?_ | refine assocR ?_)); refine step2 fun _ => ?_)
  refine retL ?_
  refine assocL ?_
  unfold k0_part100
  iterate 10 ((repeat (first | refine repR ?_ | refine rep0R ?_ | refine retR ?_ | refine assocR ?_)); refine step2 fun _ => ?_)
  refine retL ?_
  refine assocL ?_
  unfold k0_part101
  refine retR ?_
  refine rep0R ?_
  refine retR ?_
  refine namedR (F := F) fun s101 hs101 => ?_
  iterate 3 ((repeat (first | refine repR ?_ | refine rep0R ?_ | refine retR ?_ | refine assocR ?_)); refine step2 fun _ => ?_)
  refine retLE (y := ⟨s101.2, s101.1⟩) (by rw [hs101]; rfl) ?_
  clear hs101
  refine retL ?_
  unfold k0_part102
  iterate 29 ((repeat (first | refine repR ?_ | refine rep0R ?_ | refine retR ?_ | refine assocR ?_)); refine step2 fun _ => ?_)
  repeat (first | refine repR ?_ | refine rep0R ?_ | refine assocR ?_ | refine retR ?_)
  refine loop2 rfl (fun t s => rfl) ?_
  rintro _
  iterate 1 ((repeat (first | refine repR ?_ | refine rep0R ?_ | refine retR ?_ | refine assocR ?_)); refine step2 fun _ => ?_)
  refine retL ?_
  unfold k0_part103
  iterate 1 ((repeat (first | refine repR ?_ | refine rep0R ?_ | refine retR ?_ | refine assocR ?_)); refine step2 fun _ => ?_)
  refine step2 fun _ => ?_
  iterate 16 ((repeat (first | refine repR ?_ | refine rep0R ?_ | refine retR ?_ | refine assocR ?_)); refine step2 fun _ => ?_)
  refine retL ?_
  unfold k0_part104
  iterate 20 ((repeat (first | refine repR ?_ | refine rep0R ?_ | refine retR ?_ | refine assocR ?_)); refine step2 fun _ => ?_)
  refine retL ?_
  unfold k0_part105
  iterate 20 ((repeat (first | refine repR ?_ | refine rep0R ?_ | refine retR ?_ | refine assocR ?_)); refine step2 fun _ => ?_)
  refine retL ?_
  unfold k0_part106
  iterate 10 ((repeat (first | refine repR ?_ | refine rep0R ?_ | refine retR ?_ | refine assocR ?_)); refine step2 fun _ => ?_)
  refine retL ?_
  unfold k0_part107
  refine retR ?_
  refine rep0R ?_
  refine retR ?_
  refine namedR (F := F) fun s107 hs107 => ?_
  iterate 4 ((repeat (first | refine repR ?_ | refine rep0R ?_ | refine retR ?_ | refine assocR ?_)); refine step2 fun _ => ?_)
  refine retLE (y := ⟨s107.2, s107.1⟩) (by rw [hs107]; rfl) ?_
  clear hs107
  unfold k0_part108
  iterate 28 ((repeat (first | refine repR ?_ | refine rep0R ?_ | refine retR ?_ | refine assocR ?_)); refine step2 fun _ => ?_)
  repeat (first | refine repR ?_ | refine rep0R ?_ | refine assocR ?_ | refine retR ?_)
  refine loop2 rfl (fun t s => rfl) ?_
  rintro _
  iterate 1 ((repeat (first | refine repR ?_ | refine rep0R ?_ | refine retR ?_ | refine assocR ?_)); refine step2 fun _ => ?_)
  refine retL ?_
  unfold k0_part109
  iterate 1 ((repeat (first | refine repR ?_ | refine rep0R ?_ | refine retR ?_ | refine assocR ?_)); refine step2 fun _ => ?_)
  refine step2 fun _ => ?_
  iterate 17 ((repeat (first | refine repR ?_ | refine rep0R ?_ | refine retR ?_ | refine assocR ?_)); refine step2 fun _ => ?_)
  refine retL ?_
  unfold k0_part110
  iterate 20 ((repeat (first | refine repR ?_ | refine rep0R ?_ | refine retR ?_ | refine assocR ?_)); refine step2 fun _ => ?_)
  refine retL ?_
  unfold k0_part111
  iterate 20 ((repeat (first | refine repR ?_ | refine rep0R ?_ | refine retR ?_ | refine assocR ?_)); refine step2 fun _ => ?_)
  refine retL ?_
  unfold k0_part112
  iterate 9 ((repeat (first | refine repR ?_ | refine rep0R ?_ | refine retR ?_ | refine assocR ?_)); refine step2 fun _ => ?_)
  refine retL ?_
  unfold k0_part113
  refine retR ?_
  refine rep0R ?_
  refine retR ?_
  refine namedR (F := F) fun s113 hs113 => ?_
  refine loop2 rfl ?_ ?_
  · intro t a
    refine (t11_eq i _ t a).trans ?_
    refine congrArg (fun v => trip3 v t a) ?_
    rw [hs113]
    rfl
  rintro ⟨z0, z1⟩
  iterate 2 ((repeat (first | refine repR ?_ | refine rep0R ?_ | refine retR ?_ | refine assocR ?_)); refine step2 fun _ => ?_)
  refine retLE (y := ⟨s113.1, z1⟩) (by rw [hs113]; rfl) ?_
  clear hs113
  unfold k0_part114
  iterate 4 ((repeat (first | refine repR ?_ | refine rep0R ?_ | refine retR ?_ | refine assocR ?_)); refine step2 fun _ => ?_)
  refine assocR ?_
  refine step2 fun _ => ?_
  iterate 9 ((repeat (first | refine repR ?_ | refine rep0R ?_ | refine retR ?_ | refine assocR ?_)); refine step2 fun _ => ?_)
  refine retL ?_
  unfold k0_part115
  iterate 1 ((repeat (first | refine repR ?_ | refine rep0R ?_ | refine retR ?_ | refine assocR ?_)); refine step2 fun _ => ?_)
  refine retL ?_
  unfold k0_part116
  refine retL ?_
  refine retR ?_
  refine rep0R ?_
  refine idL ?_
  refine endG i (v26 := 0#32) (v28 := 0#32) ?e30 ?e_np ?e_kr ?e_bbs ?e_lds ?e_nlp ?e75 ?e77 ?e79 ?e82
  case e30 => rfl
  case e_np => rfl
  case e_kr => rfl
  case e_bbs => rfl
  case e_lds => rfl
  case e_nlp => rfl
  case e75 => rfl
  case e77 => rfl
  case e79 => rfl
  case e82 => rfl

end Cert.Proof.K

end
-- ==== Proof.K.Frame.lean ====
/- The kernel's run, and from it the frames of the two programs, which have the same text. -/
module

public import proofs.«01_k».proof.Proof.K.LaunchD
public import proofs.«01_k».proof.Proof.K.EqG
public import proofs.«01_k».proof.Proof.Gen.Kernel
public import proofs.«01_k».proof.Defs

@[expose] public section

noncomputable section

namespace Cert.Proof.K

open Cert.KernelIdeal Cert.KernelIdeal.Gen
open Idealize.ShloMosaic Idealize.SL.Sem

set_option maxRecDepth 16384 in
/-- The whole program's run, over any float values: it ends, every buffer holds what `VF` says, and the counters are at zero. -/
theorem run_main {F : FTy → Type} [FloatOps F] [∀ e, Nonempty (Elt F e)] (m : (ℓ : Loc nD τ sig) → Buf (Elt F) ℓ) (ρ) :
    θ_run (Cert.KernelIdeal.defs (F := F)) (Cert.KernelIdeal.threads (F := F)) ⟨m, fun _ => 0, ρ⟩ (QC m) :=
  run_of_tile m ρ (tileObl (HH m) tile_eq facts)

/-- The frame of the idealized kernel. -/
theorem frame_ideal : Cert.quiescent_KernelIdeal := fun m ρ _ =>
  (θ_run Cert.KernelIdeal.defs _ _).mono (fun r h => QC_args m r h) (run_main (F := Ideal) m ρ)

/-- The frame of the kernel as printed: the same run over machine words. -/
theorem frame_kernel : Cert.quiescent_Kernel := fun m ρ _ =>
  (θ_run Cert.KernelIdeal.defs _ _).mono (fun r h => QC_args m r h) (run_main (F := Bits) m ρ)

end Cert.Proof.K

end
-- ==== Proof.K.ValA.lean ====
/- The search for the best box, over the reals: it finds the greatest overlap ratio and the first box that has it. -/
module

public import proofs.«01_k».proof.Proof.K.Spec
public import Mathlib.Tactic.Linarith
public import Mathlib.Tactic.Positivity
public import Mathlib.Data.Real.Basic
public import Mathlib.Data.EReal.Operations

@[expose] public section

noncomputable section

namespace Cert.Proof.K

/-! ## Over the reals -/

/-- An axis-parallel box: its low corner and its high one. -/
structure RBox where
  x0 : ℝ
  y0 : ℝ
  x1 : ℝ
  y1 : ℝ

namespace RBox

/-- The box's area. -/
def area (a : RBox) : ℝ := (a.x1 - a.x0) * (a.y1 - a.y0)

/-- How far two boxes overlap in each direction, below zero when they do not. -/
def ovx (a b : RBox) : ℝ := min a.x1 b.x1 - max a.x0 b.x0
def ovy (a b : RBox) : ℝ := min a.y1 b.y1 - max a.y0 b.y0

/-- The area of the intersection. -/
def inter (a b : RBox) : ℝ := max (ovx a b) 0 * max (ovy a b) 0

/-- The area of the union. -/
def union (a b : RBox) : ℝ := a.area + b.area - inter a b

/-- The ratio of the two. -/
def iou (a b : RBox) : ℝ := inter a b / union a b

/-- The high corner lies beyond the low one. -/
def Ok (a : RBox) : Prop := a.x0 < a.x1 ∧ a.y0 < a.y1

theorem Ok.area_pos {a : RBox} (h : a.Ok) : 0 < a.area := mul_pos (sub_pos.mpr h.1) (sub_pos.mpr h.2)

theorem inter_nonneg (a b : RBox) : 0 ≤ inter a b := mul_nonneg (le_max_right _ _) (le_max_right _ _)

theorem inter_le {a b : RBox} (h : a.Ok) : inter a b ≤ a.area := by
  have hx : max (ovx a b) 0 ≤ a.x1 - a.x0 :=
    max_le (sub_le_sub (min_le_left _ _) (le_max_left _ _)) (sub_nonneg.mpr h.1.le)
  have hy : max (ovy a b) 0 ≤ a.y1 - a.y0 :=
    max_le (sub_le_sub (min_le_left _ _) (le_max_left _ _)) (sub_nonneg.mpr h.2.le)
  exact mul_le_mul hx hy (le_max_right _ _) (sub_nonneg.mpr h.1.le)

theorem le_union {a b : RBox} (ha : a.Ok) : b.area ≤ union a b := by
  have := inter_le (b := b) ha
  unfold union
  linarith

theorem union_pos {a b : RBox} (ha : a.Ok) (hb : b.Ok) : 0 < union a b := lt_of_lt_of_le hb.area_pos (le_union ha)

theorem iou_nonneg {a b : RBox} (ha : a.Ok) (hb : b.Ok) : 0 ≤ iou a b := div_nonneg (inter_nonneg a b) (union_pos ha hb).le

/-- The overlap as the search takes it: cut off at zero in one direction only. -/
def semi (a b : RBox) : ℝ := max (ovx a b) 0 * ovy a b

/-- The state of the search. -/
abbrev St : Type := ℝ × ℝ × ℕ

/-- One box compared with the best so far: the ratios by their cross products. -/
def step (a b : RBox) (g : ℕ) (s : St) : St :=
  if s.1 * (a.area + b.area - semi a b) < semi a b * s.2.1 then (semi a b, a.area + b.area - semi a b, g) else s

/-- The search over the first `k` of the boxes `b`. -/
def search (a : RBox) (b : ℕ → RBox) (k : ℕ) : St := iter (fun g s => step a (b g) g s) (0, 1, 0) k

/-- What the search knows after `k` boxes. -/
structure Inv (a : RBox) (b : ℕ → RBox) (k : ℕ) (s : St) : Prop where
  num : 0 ≤ s.1
  den : 0 < s.2.1
  le : ∀ g < k, iou a (b g) ≤ s.1 / s.2.1
  at_ : (s.1 = 0 ∧ s.2.2 = 0) ∨ (s.2.2 < k ∧ iou a (b s.2.2) = s.1 / s.2.1)
  lt : ∀ g < s.2.2, iou a (b g) < s.1 / s.2.1

theorem search_inv {a : RBox} {b : ℕ → RBox} (ha : a.Ok) : ∀ k, (∀ g < k, (b g).Ok) → Inv a b k (search a b k)
  | 0, _ => ⟨le_refl _, one_pos, fun _ h => absurd h (Nat.not_lt_zero _), Or.inl ⟨rfl, rfl⟩, fun _ h => absurd h (Nat.not_lt_zero _)⟩
  | k + 1, hb => by
    have ih := search_inv ha k fun g hg => hb g (Nat.lt_succ_of_lt hg)
    have hk := hb k (Nat.lt_succ_self k)
    show Inv a b (k + 1) (step a (b k) k (search a b k))
    generalize search a b k = s at ih
    have hu := union_pos ha hk
    have hn := inter_nonneg a (b k)
    have hx : 0 ≤ max (ovx a (b k)) 0 := le_max_right _ _
    by_cases hy : 0 ≤ ovy a (b k)
    · have e : semi a (b k) = inter a (b k) := by unfold semi inter; rw [max_eq_left hy]
      have eu : a.area + (b k).area - semi a (b k) = union a (b k) := by rw [e]; rfl
      unfold step
      rw [eu, e]
      split
      · next hc =>
        have hlt : s.1 / s.2.1 < iou a (b k) := (div_lt_div_iff₀ ih.den hu).mpr hc
        refine ⟨hn, hu, fun g hg => ?_, Or.inr ⟨Nat.lt_succ_self k, rfl⟩, fun g hg => lt_of_le_of_lt (ih.le g hg) hlt⟩
        rcases Nat.lt_succ_iff_lt_or_eq.mp hg with h | rfl
        · exact ((ih.le g h).trans hlt.le)
        · exact le_refl _
      · next hc =>
        have hle : iou a (b k) ≤ s.1 / s.2.1 := (div_le_div_iff₀ hu ih.den).mpr (not_lt.mp hc)
        refine ⟨ih.num, ih.den, fun g hg => ?_, ih.at_.imp id fun h => ⟨Nat.lt_succ_of_lt h.1, h.2⟩, ih.lt⟩
        rcases Nat.lt_succ_iff_lt_or_eq.mp hg with h | rfl
        · exact ih.le g h
        · exact hle
    · have hs : semi a (b k) ≤ 0 := mul_nonpos_of_nonneg_of_nonpos hx (not_le.mp hy).le
      have hi : inter a (b k) = 0 := by unfold inter; rw [max_eq_right (not_le.mp hy).le, mul_zero]
      have hz : iou a (b k) = 0 := by unfold iou; rw [hi, zero_div]
      have hc : ¬ s.1 * (a.area + (b k).area - semi a (b k)) < semi a (b k) * s.2.1 := by
        have h1 : 0 ≤ s.1 * (a.area + (b k).area - semi a (b k)) :=
          mul_nonneg ih.num (by have := ha.area_pos; have := hk.area_pos; linarith)
        have h2 : semi a (b k) * s.2.1 ≤ 0 := mul_nonpos_of_nonpos_of_nonneg hs ih.den.le
        linarith
      unfold step
      rw [if_neg hc]
      refine ⟨ih.num, ih.den, fun g hg => ?_, ih.at_.imp id fun h => ⟨Nat.lt_succ_of_lt h.1, h.2⟩, ih.lt⟩
      rcases Nat.lt_succ_iff_lt_or_eq.mp hg with h | rfl
      · exact ih.le g h
      · rw [hz]; exact div_nonneg ih.num ih.den.le

/-- The first of `n` boxes that overlaps most. -/
structure First (u : ℕ → ℝ) (n i : ℕ) : Prop where
  lt_n : i < n
  le : ∀ g < n, u g ≤ u i
  lt : ∀ g < i, u g < u i

theorem First.unique {u : ℕ → ℝ} {n i j : ℕ} (hi : First u n i) (hj : First u n j) : i = j := by
  rcases Nat.lt_trichotomy i j with h | h | h
  · exact absurd (hj.lt i h) (not_lt.mpr (hi.le j hj.lt_n))
  · exact h
  · exact absurd (hi.lt j h) (not_lt.mpr (hj.le i hi.lt_n))

/-- The search's result: the first box that overlaps most, and its ratio. -/
theorem search_first {a : RBox} {b : ℕ → RBox} (ha : a.Ok) {n : ℕ} (hn : 0 < n) (hb : ∀ g < n, (b g).Ok) :
    0 < (search a b n).2.1 ∧ First (fun g => iou a (b g)) n (search a b n).2.2
      ∧ (search a b n).1 / (search a b n).2.1 = iou a (b (search a b n).2.2) := by
  have h := search_inv ha n hb
  generalize search a b n = s at h
  have e : iou a (b s.2.2) = s.1 / s.2.1 ∧ s.2.2 < n := by
    rcases h.at_ with ⟨h0, hi⟩ | h'
    · rw [hi, h0, zero_div]
      refine ⟨le_antisymm ?_ (iou_nonneg ha (hb 0 hn)), hn⟩
      have := h.le 0 hn
      rwa [h0, zero_div] at this
    · exact ⟨h'.2, h'.1⟩
  exact ⟨h.den, ⟨e.2, fun g hg => by rw [e.1]; exact h.le g hg, fun g hg => by rw [e.1]; exact h.lt g hg⟩, e.1.symm⟩

end RBox

end Cert.Proof.K

end
-- ==== Proof.K.ValB.lean ====
/- The kernel's search for the best box, lane by lane, over the extended reals: where the corners are real it is the search over the reals. -/
module

public import proofs.«01_k».proof.Proof.K.ValA
public import Idealize.ShloMosaic.Lib.ValueIdx
public import Mathlib.Tactic.NormNum

@[expose] public section

noncomputable section

namespace Cert.Proof.K

open Cert.KernelIdeal Cert.KernelIdeal.Gen
open Idealize.ShloMosaic

/-! ## The literals -/

theorem lit0 : Ideal.ofBits .f32 0x00000000#32 = 0 := by simp [Ideal.ofBits, Ideal.ieee]
theorem lit1 : Ideal.ofBits .f32 0x3F800000#32 = 1 := by simp [Ideal.ofBits, Ideal.ieee, -EReal.coe_mul]; norm_num
theorem lit4 : Ideal.ofBits .f32 0x40800000#32 = ((4 : ℝ) : EReal) := by simp [Ideal.ofBits, Ideal.ieee, -EReal.coe_mul]; norm_num
theorem lit5 : Ideal.ofBits .f32 0x40A00000#32 = ((5 : ℝ) : EReal) := by simp [Ideal.ofBits, Ideal.ieee, -EReal.coe_mul]; norm_num
theorem lit10 : Ideal.ofBits .f32 0x41200000#32 = ((10 : ℝ) : EReal) := by simp [Ideal.ofBits, Ideal.ieee, -EReal.coe_mul]; norm_num
theorem litHalf : Ideal.ofBits .f32 0x3F000000#32 = ((1 / 2 : ℝ) : EReal) := by simp [Ideal.ofBits, Ideal.ieee, -EReal.coe_mul]; norm_num
/-- The small addend of the widths: a positive real. -/
theorem litTiny : ∃ e : ℝ, 0 < e ∧ Ideal.ofBits .f32 0x283424DC#32 = (e : EReal) := by
  refine ⟨11805916 * 2 ^ (-70 : Int), by positivity, ?_⟩
  simp [Ideal.ofBits, Ideal.ieee, -EReal.coe_mul]

theorem cmp_ogt (a b : EReal) : Ideal.cmp .ogt a b = if b < a then 1#1 else 0#1 := by
  show BitVec.ofBool (decide (b < a)) = _
  by_cases h : b < a <;> simp [h]
theorem cmp_oge (a b : EReal) : Ideal.cmp .oge a b = if b ≤ a then 1#1 else 0#1 := by
  show BitVec.ofBool (decide (b ≤ a)) = _
  by_cases h : b ≤ a <;> simp [h]
theorem cmp_olt (a b : EReal) : Ideal.cmp .olt a b = if a < b then 1#1 else 0#1 := by
  show BitVec.ofBool (decide (a < b)) = _
  by_cases h : a < b <;> simp [h]

/-! ## The search -/

theorem better_lane {a c : RBox} {g : ℕ} {s : RBox.St} {x0 y0 x1 y1 ar bx0 by0 bx1 by1 ab : FVec Ideal S16 .f32} {S : Best Ideal} (x : S16.Idx)
    (h0 : x0 x = (a.x0 : EReal)) (h1 : y0 x = (a.y0 : EReal)) (h2 : x1 x = (a.x1 : EReal)) (h3 : y1 x = (a.y1 : EReal)) (h4 : ar x = (a.area : EReal))
    (k0 : bx0 x = (c.x0 : EReal)) (k1 : by0 x = (c.y0 : EReal)) (k2 : bx1 x = (c.x1 : EReal)) (k3 : by1 x = (c.y1 : EReal)) (k4 : ab x = (c.area : EReal))
    (e1 : S.1 x = (s.1 : EReal)) (e2 : S.2.1 x = (s.2.1 : EReal)) (e3 : S.2.2 x = BitVec.ofNat 32 s.2.2) :
    (better g x0 y0 x1 y1 ar bx0 by0 bx1 by1 ab S).1 x = ((RBox.step a c g s).1 : EReal)
      ∧ (better g x0 y0 x1 y1 ar bx0 by0 bx1 by1 ab S).2.1 x = ((RBox.step a c g s).2.1 : EReal)
      ∧ (better g x0 y0 x1 y1 ar bx0 by0 bx1 by1 ab S).2.2 x = BitVec.ofNat 32 (RBox.step a c g s).2.2 := by
  have hi : (mulf (maximumf (subf (minimumf x1 bx1) (maximumf x0 bx0)) (bf 0x00000000#32)) (subf (minimumf y1 by1) (maximumf y0 by0)) : FVec Ideal S16 .f32) x
      = (RBox.semi a c : EReal) := by
    show max (min (x1 x) (bx1 x) - max (x0 x) (bx0 x)) (Ideal.ofBits .f32 0x00000000#32) * (min (y1 x) (by1 x) - max (y0 x) (by0 x)) = _
    rw [lit0, h0, h1, h2, h3, k0, k1, k2, k3]
    unfold RBox.semi RBox.ovx RBox.ovy
    norm_cast
  have hu : (subf (addf ar ab) (mulf (maximumf (subf (minimumf x1 bx1) (maximumf x0 bx0)) (bf 0x00000000#32)) (subf (minimumf y1 by1) (maximumf y0 by0))) : FVec Ideal S16 .f32) x
      = ((a.area + c.area - RBox.semi a c : ℝ) : EReal) := by
    show ar x + ab x - (mulf (maximumf (subf (minimumf x1 bx1) (maximumf x0 bx0)) (bf 0x00000000#32)) (subf (minimumf y1 by1) (maximumf y0 by0)) : FVec Ideal S16 .f32) x = _
    rw [hi, h4, k4]
    norm_cast
  unfold better RBox.step
  dsimp only
  generalize (mulf (maximumf (subf (minimumf x1 bx1) (maximumf x0 bx0)) (bf 0x00000000#32)) (subf (minimumf y1 by1) (maximumf y0 by0)) : FVec Ideal S16 .f32) = I at hi hu
  generalize subf (addf ar ab) I = U at hu
  have hc : cmpf .ogt (mulf I S.2.1) (mulf S.1 U) x = if s.1 * (a.area + c.area - RBox.semi a c) < RBox.semi a c * s.2.1 then 1#1 else 0#1 := by
    show Ideal.cmp .ogt (I x * S.2.1 x) (S.1 x * U x) = _
    rw [hi, hu, e1, e2, cmp_ogt, ← EReal.coe_mul, ← EReal.coe_mul]
    exact if_congr EReal.coe_lt_coe_iff rfl rfl
  generalize cmpf .ogt (mulf I S.2.1) (mulf S.1 U) = C at hc
  show Scalar.select (C x) (I x) (S.1 x) = _ ∧ Scalar.select (C x) (U x) (S.2.1 x) = _ ∧ Scalar.select (C x) (BitVec.ofNat 32 g) (S.2.2 x) = _
  rw [hc]
  split
  · exact ⟨hi, hu, rfl⟩
  · exact ⟨e1, e2, e3⟩

namespace TileIn

variable (A : TileIn Ideal)

/-- The corners of the anchor in the lane `x` of the group at `o` are `a`'s. -/
structure AncIs (o : ℕ) (x : S16.Idx) (a : RBox) : Prop where
  x0 : rdN A.x0 o x = (a.x0 : EReal)
  y0 : rdN A.y0 o x = (a.y0 : EReal)
  x1 : rdN A.x1 o x = (a.x1 : EReal)
  y1 : rdN A.y1 o x = (a.y1 : EReal)

/-- The corners of the tile's boxes, in the lane `x`, are `b`'s. -/
structure BoxIs (x : S16.Idx) (b : ℕ → RBox) : Prop where
  x0 : ∀ g < 32, rdN A.box (16 * g) x = ((b g).x0 : EReal)
  y0 : ∀ g < 32, rdN A.box (512 + 16 * g) x = ((b g).y0 : EReal)
  x1 : ∀ g < 32, rdN A.box (1024 + 16 * g) x = ((b g).x1 : EReal)
  y1 : ∀ g < 32, rdN A.box (1536 + 16 * g) x = ((b g).y1 : EReal)

theorem best_lane {o : ℕ} {x : S16.Idx} {a : RBox} {b : ℕ → RBox} (ha : A.AncIs o x a) (hb : A.BoxIs x b) : ∀ k, k ≤ 32 →
    (A.best o k).1 x = ((RBox.search a b k).1 : EReal) ∧ (A.best o k).2.1 x = ((RBox.search a b k).2.1 : EReal)
      ∧ (A.best o k).2.2 x = BitVec.ofNat 32 (RBox.search a b k).2.2
  | 0, _ => ⟨lit0.trans EReal.coe_zero.symm, lit1.trans EReal.coe_one.symm, rfl⟩
  | k + 1, hk => by
    obtain ⟨e1, e2, e3⟩ := best_lane ha hb k (by omega)
    refine better_lane (a := a) (c := b k) (s := RBox.search a b k) x ha.x0 ha.y0 ha.x1 ha.y1 ?_ (hb.x0 k hk) (hb.y0 k hk) (hb.x1 k hk) (hb.y1 k hk) ?_ e1 e2 e3
    · show (rdN A.x1 o x - rdN A.x0 o x) * (rdN A.y1 o x - rdN A.y0 o x) = _
      rw [ha.x0, ha.y0, ha.x1, ha.y1]; unfold RBox.area; norm_cast
    · show (rdN A.box (1024 + 16 * k) x - rdN A.box (16 * k) x) * (rdN A.box (1536 + 16 * k) x - rdN A.box (512 + 16 * k) x) = _
      rw [hb.x0 k hk, hb.y0 k hk, hb.x1 k hk, hb.y1 k hk]; unfold RBox.area; norm_cast

/-- What the search leaves in a lane: the ratio and the index of the first box that overlaps most. -/
theorem best_first {g : ℕ} {x : S16.Idx} {a : RBox} {b : ℕ → RBox} (ha : A.AncIs (16 * g) x a) (hb : A.BoxIs x b) (hA : a.Ok) (hB : ∀ g < 32, (b g).Ok) :
    ∃ i, RBox.First (fun g => RBox.iou a (b g)) 32 i ∧ A.iouOf g x = (RBox.iou a (b i) : EReal) ∧ A.argOf g x = BitVec.ofNat 32 i := by
  obtain ⟨e1, e2, e3⟩ := A.best_lane ha hb 32 le_rfl
  obtain ⟨h0, h1, h2⟩ := RBox.search_first hA (n := 32) (by decide) hB
  refine ⟨_, h1, ?_, e3⟩
  show Ideal.div ((A.best (16 * g) 32).1 x) ((A.best (16 * g) 32).2.1 x) = _
  rw [e1, e2, ← h2, Ideal.div, if_neg (by rw [EReal.coe_eq_zero]; exact h0.ne'), ← EReal.coe_inv, ← EReal.coe_mul, div_eq_mul_inv]

end TileIn

end Cert.Proof.K

end
-- ==== Proof.K.ValC.lean ====
/- An image's box loss and landmark loss as the kernel leaves them, as sums over the image's anchors. -/
module

public import proofs.«01_k».proof.Proof.K.ValB
public import Mathlib.Algebra.BigOperators.Intervals

@[expose] public section

noncomputable section

namespace Cert.Proof.K

open Cert.KernelIdeal Cert.KernelIdeal.Gen
open Idealize.ShloMosaic

/-! ## Sums -/

/-- A step that adds to a part of the state adds up. -/
theorem iter_sum {σ : Type} (f : ℕ → σ → σ) (s : σ) (π : σ → EReal) (t : ℕ → EReal) : ∀ k, (∀ g < k, ∀ s, π (f g s) = π s + t g) →
    π (iter f s k) = π s + ∑ g ∈ Finset.range k, t g
  | 0, _ => by rw [Finset.sum_range_zero, add_zero]; rfl
  | k + 1, h => by
    rw [Finset.sum_range_succ, ← add_assoc, ← iter_sum f s π t k fun g hg => h g (Nat.lt_succ_of_lt hg)]
    exact h k (Nat.lt_succ_self k) _

theorem sum_blocks (m n : ℕ) (t : ℕ → EReal) : ∑ a ∈ Finset.range (n * m), t a = ∑ g ∈ Finset.range m, ∑ x ∈ Finset.range n, t (n * g + x) := by
  induction m with
  | zero => simp
  | succ m ih => rw [Nat.mul_succ, Finset.sum_range_add, ih, Finset.sum_range_succ]

/-- The sum over an image's anchors, as the lanes, the tiles and the groups of sixteen have it. -/
theorem sum_tiles (t : ℕ → EReal) : ∑ x ∈ Finset.range 16, ∑ r ∈ Finset.range 4, ∑ g ∈ Finset.range 250, t (4000 * r + 16 * g + x) = ∑ a ∈ Finset.range 16000, t a := by
  rw [show 16000 = 4000 * 4 from rfl, sum_blocks, Finset.sum_comm]
  refine Finset.sum_congr rfl fun r _ => ?_
  rw [show 4000 = 16 * 250 from rfl, sum_blocks, Finset.sum_comm]
  simp only [Nat.add_assoc]

theorem lane_eq (v : FVec Ideal S16 .f32) (k : ℕ) (h : S16.Slices ![k] S1) (hk : k < 16) : lane v k h = v (ixm 16 k) := by
  show v _ = v _
  refine congrArg v (idx_ext ?_)
  rw [ixm_val_of_lt 16 hk]
  rfl

theorem lsum_eq (v : FVec Ideal S16 .f32) (y : S16.Idx) : lsum v y = ∑ x ∈ Finset.range 16, v (ixm 16 x) := by
  show Scalar.addf _ _ = _
  rw [lane_eq v 0 _ (by decide), lane_eq v 1 _ (by decide), lane_eq v 2 _ (by decide), lane_eq v 3 _ (by decide), lane_eq v 4 _ (by decide),
    lane_eq v 5 _ (by decide), lane_eq v 6 _ (by decide), lane_eq v 7 _ (by decide), lane_eq v 8 _ (by decide), lane_eq v 9 _ (by decide),
    lane_eq v 10 _ (by decide), lane_eq v 11 _ (by decide), lane_eq v 12 _ (by decide), lane_eq v 13 _ (by decide), lane_eq v 14 _ (by decide),
    lane_eq v 15 _ (by decide)]
  simp only [Finset.sum_range_succ, Finset.sum_range_zero, zero_add]
  rfl

/-! ## One anchor's terms -/

/-- The smooth absolute difference. -/
def sl1E (t b : EReal) : EReal :=
  Scalar.select (Ideal.cmp .olt (max (t - b) (-(t - b))) (Ideal.ofBits .f32 0x3F800000#32))
    (Ideal.ofBits .f32 0x3F000000#32 * max (t - b) (-(t - b)) * max (t - b) (-(t - b)))
    (max (t - b) (-(t - b)) - Ideal.ofBits .f32 0x3F000000#32)

/-- A centre. -/
def ctrE (x w : EReal) : EReal := x + Ideal.ofBits .f32 0x3F000000#32 * w

/-- The targets: of a coordinate, and of a width. -/
def tgE (g c w : EReal) : EReal := Ideal.div (g - c) (w + Ideal.ofBits .f32 0x283424DC#32) * Ideal.ofBits .f32 0x41200000#32
def twE (g w : EReal) : EReal := Ideal.log (Ideal.div g (w + Ideal.ofBits .f32 0x283424DC#32)) * Ideal.ofBits .f32 0x40A00000#32

/-- An anchor's box loss: the anchor's corners, its label's and its regression. -/
def bbE (x0 y0 x1 y1 g0 g1 g2 g3 b0 b1 b2 b3 : EReal) : EReal :=
  sl1E (tgE (ctrE g0 (g2 - g0)) (ctrE x0 (x1 - x0)) (x1 - x0)) b0 + sl1E (tgE (ctrE g1 (g3 - g1)) (ctrE y0 (y1 - y0)) (y1 - y0)) b1
    + sl1E (twE (g2 - g0) (x1 - x0)) b2 + sl1E (twE (g3 - g1) (y1 - y0)) b3

/-- An anchor's landmark loss. -/
def ldE (x0 y0 x1 y1 : EReal) (g l : ℕ → EReal) : EReal :=
  let u f := sl1E (tgE (g f) (ctrE x0 (x1 - x0)) (x1 - x0)) (l f)
  let v f := sl1E (tgE (g f) (ctrE y0 (y1 - y0)) (y1 - y0)) (l f)
  u 0 + v 1 + u 2 + v 3 + u 4 + v 5 + u 6 + v 7 + u 8 + v 9

/-- Whether a label has landmarks. -/
def lpE (g : ℕ → EReal) : BitVec 1 :=
  Ideal.cmp .ogt (g 0 + g 1 + g 2 + g 3 + g 4 + g 5 + g 6 + g 7 + g 8 + g 9) (Ideal.ofBits .f32 0x00000000#32)

/-- The kernel multiplies by the reciprocal where the quotient is meant. -/
theorem mul_rcp {w : ℝ} (hw : 0 < w) (y : EReal) : y * Ideal.div (Ideal.ofBits .f32 0x3F800000#32) ((w : EReal) + Ideal.ofBits .f32 0x283424DC#32)
    = Ideal.div y ((w : EReal) + Ideal.ofBits .f32 0x283424DC#32) := by
  obtain ⟨e, he, h⟩ := litTiny
  have hne : ((w : EReal) + (e : EReal)) ≠ 0 := by
    rw [← EReal.coe_add, Ne, EReal.coe_eq_zero]; exact (add_pos hw he).ne'
  rw [h, lit1, Ideal.div, Ideal.div, if_neg hne, if_neg hne, one_mul]

theorem tgt_lane {g c w : FVec Ideal S16 .f32} {x : S16.Idx} {r : ℝ} (hr : 0 < r) (hw : w x = (r : EReal)) :
    tgt g c (rcp w) x = tgE (g x) (c x) (w x) := by
  show (g x - c x) * Ideal.div (Ideal.ofBits .f32 0x3F800000#32) (w x + Ideal.ofBits .f32 0x283424DC#32) * Ideal.ofBits .f32 0x41200000#32 = _
  unfold tgE
  rw [hw, mul_rcp hr]

theorem tgw_lane {g w : FVec Ideal S16 .f32} {x : S16.Idx} {r : ℝ} (hr : 0 < r) (hw : w x = (r : EReal)) :
    tgw g (rcp w) x = twE (g x) (w x) := by
  show Ideal.log (g x * Ideal.div (Ideal.ofBits .f32 0x3F800000#32) (w x + Ideal.ofBits .f32 0x283424DC#32)) * Ideal.ofBits .f32 0x40A00000#32 = _
  unfold twE
  rw [hw, mul_rcp hr]

theorem sl1_lane (t b : FVec Ideal S16 .f32) (x : S16.Idx) : sl1 t b x = sl1E (t x) (b x) := rfl

theorem bbSum_lane {x0 y0 x1 y1 g0 g1 g2 g3 b0 b1 b2 b3 : FVec Ideal S16 .f32} {x : S16.Idx} {w h : ℝ} (hw : 0 < w) (hh : 0 < h)
    (ew : x1 x - x0 x = (w : EReal)) (eh : y1 x - y0 x = (h : EReal)) :
    bbSum x0 y0 x1 y1 g0 g1 g2 g3 b0 b1 b2 b3 x = bbE (x0 x) (y0 x) (x1 x) (y1 x) (g0 x) (g1 x) (g2 x) (g3 x) (b0 x) (b1 x) (b2 x) (b3 x) := by
  show sl1 _ _ x + sl1 _ _ x + sl1 _ _ x + sl1 _ _ x = _
  rw [sl1_lane, sl1_lane, sl1_lane, sl1_lane, tgt_lane hw ew, tgt_lane hh eh, tgw_lane hw ew, tgw_lane hh eh]
  rfl

theorem ldSum_lane {x0 y0 x1 y1 g4 g5 g6 g7 g8 g9 g10 g11 g12 g13 l0 l1 l2 l3 l4 l5 l6 l7 l8 l9 : FVec Ideal S16 .f32} {x : S16.Idx} {g l : ℕ → EReal} {w h : ℝ} (hw : 0 < w) (hh : 0 < h)
    (ew : x1 x - x0 x = (w : EReal)) (eh : y1 x - y0 x = (h : EReal))
    (e0 : g4 x = g 0) (e1 : g5 x = g 1) (e2 : g6 x = g 2) (e3 : g7 x = g 3) (e4 : g8 x = g 4) (e5 : g9 x = g 5) (e6 : g10 x = g 6) (e7 : g11 x = g 7) (e8 : g12 x = g 8) (e9 : g13 x = g 9)
    (f0 : l0 x = l 0) (f1 : l1 x = l 1) (f2 : l2 x = l 2) (f3 : l3 x = l 3) (f4 : l4 x = l 4) (f5 : l5 x = l 5) (f6 : l6 x = l 6) (f7 : l7 x = l 7) (f8 : l8 x = l 8) (f9 : l9 x = l 9) :
    ldSum x0 y0 x1 y1 g4 g5 g6 g7 g8 g9 g10 g11 g12 g13 l0 l1 l2 l3 l4 l5 l6 l7 l8 l9 x = ldE (x0 x) (y0 x) (x1 x) (y1 x) g l := by
  show Ideal.ofBits .f32 0x00000000#32 + sl1 _ _ x + sl1 _ _ x + sl1 _ _ x + sl1 _ _ x + sl1 _ _ x + sl1 _ _ x + sl1 _ _ x + sl1 _ _ x + sl1 _ _ x + sl1 _ _ x = _
  simp only [sl1_lane]
  have hu (g : FVec Ideal S16 .f32) : tgt g (ctr x0 (subf x1 x0)) (rcp (subf x1 x0)) x = tgE (g x) (ctrE (x0 x) (x1 x - x0 x)) (x1 x - x0 x) := tgt_lane hw ew
  have hv (g : FVec Ideal S16 .f32) : tgt g (ctr y0 (subf y1 y0)) (rcp (subf y1 y0)) x = tgE (g x) (ctrE (y0 x) (y1 x - y0 x)) (y1 x - y0 x) := tgt_lane hh eh
  simp only [hu, hv, lit0, zero_add, e0, e1, e2, e3, e4, e5, e6, e7, e8, e9, f0, f1, f2, f3, f4, f5, f6, f7, f8, f9]
  rfl

end Cert.Proof.K

end
-- ==== Proof.K.ValD.lean ====
/- An image's losses in the lanes of what its tiles leave, as sums over the image's anchors. -/
module

public import proofs.«01_k».proof.Proof.K.ValC

@[expose] public section

noncomputable section

namespace Cert.Proof.K

open Cert.KernelIdeal Cert.KernelIdeal.Gen
open Idealize.ShloMosaic

/-- An image: the anchors, its boxes, its labels' columns, its two regressions. -/
structure Img where
  an : ℕ → RBox
  bx : ℕ → RBox
  ann : ℕ → ℕ → EReal
  reg : ℕ → ℕ → EReal
  ldm : ℕ → ℕ → EReal

namespace Img

variable (I : Img)

/-- Every anchor and every box has a positive width and height. -/
structure Ok : Prop where
  an : ∀ a < 16000, (I.an a).Ok
  bx : ∀ g < 32, (I.bx g).Ok

/-- An anchor's best box, and by how much it overlaps. -/
def top (a : ℕ) : ℕ := (RBox.search (I.an a) I.bx 32).2.2
def most (a : ℕ) : EReal := (RBox.iou (I.an a) (I.bx (I.top a)) : EReal)

theorem top_first (h : I.Ok) {a : ℕ} (ha : a < 16000) : RBox.First (fun g => RBox.iou (I.an a) (I.bx g)) 32 (I.top a) :=
  (RBox.search_first (h.an a ha) (by decide) h.bx).2.1

/-- Whether the anchor is positive. -/
def pos (a : ℕ) : BitVec 1 := Ideal.cmp .oge (I.most a) (Ideal.ofBits .f32 0x3F000000#32)

/-- Whether the anchor is positive and its label has landmarks. -/
def mask (a : ℕ) : BitVec 1 := lpE (fun f => I.ann (f + 4) (I.top a)) &&& I.pos a

/-- The anchor's box loss and landmark loss. -/
def bb (a : ℕ) : EReal := bbE (I.an a).x0 (I.an a).y0 (I.an a).x1 (I.an a).y1 (I.ann 0 (I.top a)) (I.ann 1 (I.top a)) (I.ann 2 (I.top a)) (I.ann 3 (I.top a))
  (I.reg 0 a) (I.reg 1 a) (I.reg 2 a) (I.reg 3 a)
def ld (a : ℕ) : EReal := ldE (I.an a).x0 (I.an a).y0 (I.an a).x1 (I.an a).y1 (fun f => I.ann (f + 4) (I.top a)) (fun f => I.ldm f a)

/-- How many anchors the mask takes. -/
def cnt (m : ℕ → BitVec 1) : EReal := ∑ a ∈ Finset.range 16000, Scalar.select (m a) (Ideal.ofBits .f32 0x3F800000#32) (Ideal.ofBits .f32 0x00000000#32)
/-- The sum over the anchors that the mask takes. -/
def tot (m : ℕ → BitVec 1) (v : ℕ → EReal) : EReal := ∑ a ∈ Finset.range 16000, Scalar.select (m a) (v a) (Ideal.ofBits .f32 0x00000000#32)

/-- A mean loss, the sum over the count and `w`. -/
def mean (c t w : EReal) : EReal :=
  Scalar.select (Ideal.cmp .ogt c (Ideal.ofBits .f32 0x00000000#32)) (Ideal.div t (max c (Ideal.ofBits .f32 0x3F800000#32) * w)) (Ideal.ofBits .f32 0x00000000#32)

def boxLoss : EReal := mean (cnt I.pos) (tot I.pos I.bb) (Ideal.ofBits .f32 0x40800000#32)
def ldmLoss : EReal := mean (cnt I.mask) (tot I.mask I.ld) (Ideal.ofBits .f32 0x41200000#32)

end Img

/-- What the four tiles of a group bring in is the image's. -/
structure Holds (A : ℕ → TileIn Ideal) (q : ℕ) (I : Img) : Prop where
  anc : ∀ r < 4, ∀ g < 250, ∀ x < 16, (A (4 * q + r)).AncIs (16 * g) (ixm 16 x) (I.an (4000 * r + 16 * g + x))
  box : ∀ r < 4, ∀ x < 16, (A (4 * q + r)).BoxIs (ixm 16 x) I.bx
  tb : ∀ r < 4, ∀ f < 14, ∀ i < 32, (A (4 * q + r)).tb (ixm 448 (i + 32 * f)) = I.ann f i
  b0 : ∀ r < 4, ∀ g < 250, ∀ x < 16, rdN (A (4 * q + r)).b0 (16 * g) (ixm 16 x) = I.reg 0 (4000 * r + 16 * g + x)
  b1 : ∀ r < 4, ∀ g < 250, ∀ x < 16, rdN (A (4 * q + r)).b1 (16 * g) (ixm 16 x) = I.reg 1 (4000 * r + 16 * g + x)
  b2 : ∀ r < 4, ∀ g < 250, ∀ x < 16, rdN (A (4 * q + r)).b2 (16 * g) (ixm 16 x) = I.reg 2 (4000 * r + 16 * g + x)
  b3 : ∀ r < 4, ∀ g < 250, ∀ x < 16, rdN (A (4 * q + r)).b3 (16 * g) (ixm 16 x) = I.reg 3 (4000 * r + 16 * g + x)
  l0 : ∀ r < 4, ∀ g < 250, ∀ x < 16, rdN (A (4 * q + r)).l0 (16 * g) (ixm 16 x) = I.ldm 0 (4000 * r + 16 * g + x)
  l1 : ∀ r < 4, ∀ g < 250, ∀ x < 16, rdN (A (4 * q + r)).l1 (16 * g) (ixm 16 x) = I.ldm 1 (4000 * r + 16 * g + x)
  l2 : ∀ r < 4, ∀ g < 250, ∀ x < 16, rdN (A (4 * q + r)).l2 (16 * g) (ixm 16 x) = I.ldm 2 (4000 * r + 16 * g + x)
  l3 : ∀ r < 4, ∀ g < 250, ∀ x < 16, rdN (A (4 * q + r)).l3 (16 * g) (ixm 16 x) = I.ldm 3 (4000 * r + 16 * g + x)
  l4 : ∀ r < 4, ∀ g < 250, ∀ x < 16, rdN (A (4 * q + r)).l4 (16 * g) (ixm 16 x) = I.ldm 4 (4000 * r + 16 * g + x)
  l5 : ∀ r < 4, ∀ g < 250, ∀ x < 16, rdN (A (4 * q + r)).l5 (16 * g) (ixm 16 x) = I.ldm 5 (4000 * r + 16 * g + x)
  l6 : ∀ r < 4, ∀ g < 250, ∀ x < 16, rdN (A (4 * q + r)).l6 (16 * g) (ixm 16 x) = I.ldm 6 (4000 * r + 16 * g + x)
  l7 : ∀ r < 4, ∀ g < 250, ∀ x < 16, rdN (A (4 * q + r)).l7 (16 * g) (ixm 16 x) = I.ldm 7 (4000 * r + 16 * g + x)
  l8 : ∀ r < 4, ∀ g < 250, ∀ x < 16, rdN (A (4 * q + r)).l8 (16 * g) (ixm 16 x) = I.ldm 8 (4000 * r + 16 * g + x)
  l9 : ∀ r < 4, ∀ g < 250, ∀ x < 16, rdN (A (4 * q + r)).l9 (16 * g) (ixm 16 x) = I.ldm 9 (4000 * r + 16 * g + x)

namespace Holds

variable {A : ℕ → TileIn Ideal} {q : ℕ} {I : Img} (H : Holds A q I) (hI : I.Ok)
include H hI

theorem best {r g x : ℕ} (hr : r < 4) (hg : g < 250) (hx : x < 16) :
    (A (4 * q + r)).iouOf g (ixm 16 x) = I.most (4000 * r + 16 * g + x)
      ∧ (A (4 * q + r)).argOf g (ixm 16 x) = BitVec.ofNat 32 (I.top (4000 * r + 16 * g + x)) := by
  have ha : 4000 * r + 16 * g + x < 16000 := by omega
  obtain ⟨i, h1, h2, h3⟩ := (A (4 * q + r)).best_first (H.anc r hr g hg x hx) (H.box r hr x hx) (hI.an _ ha) hI.bx
  have hi := h1.unique (I.top_first hI ha)
  rw [hi] at h2 h3
  exact ⟨h2, h3⟩

theorem lab {r g x f : ℕ} (hr : r < 4) (hg : g < 250) (hx : x < 16) (hf : f < 14) :
    (A (4 * q + r)).lab g f (ixm 16 x) = I.ann f (I.top (4000 * r + 16 * g + x)) := by
  have hi := (I.top_first hI (a := 4000 * r + 16 * g + x) (by omega)).lt_n
  show (A (4 * q + r)).tb (ixm 448 (((A (4 * q + r)).argOf g (ixm 16 x)).toNat + 32 * f)) = _
  rw [(best H hI hr hg hx).2, BitVec.toNat_ofNat, Nat.mod_eq_of_lt (by omega)]
  exact H.tb r hr f hf _ hi

theorem pos {r g x : ℕ} (hr : r < 4) (hg : g < 250) (hx : x < 16) :
    cmpf .oge ((A (4 * q + r)).iouOf g) (bf 0x3F000000#32) (ixm 16 x) = I.pos (4000 * r + 16 * g + x) := by
  show Ideal.cmp .oge ((A (4 * q + r)).iouOf g (ixm 16 x)) _ = _
  rw [(best H hI hr hg hx).1]; rfl

/-- The number of positives. -/
theorem np (y : S16.Idx) : lsum (tot1 A q 4).1 y = Img.cnt I.pos := by
  rw [lsum_eq, Img.cnt, ← sum_tiles]
  refine Finset.sum_congr rfl fun x hx => ?_
  have hx := Finset.mem_range.mp hx
  refine (iter_sum _ _ (fun s : Car1 Ideal => s.1 (ixm 16 x)) (fun r => ∑ g ∈ Finset.range 250, Scalar.select (I.pos (4000 * r + 16 * g + x)) (Ideal.ofBits .f32 0x3F800000#32) (Ideal.ofBits .f32 0x00000000#32)) 4 ?_).trans ?_
  · intro r hr s
    show s.1 (ixm 16 x) + ((A (4 * q + r)).car1 250).1 (ixm 16 x) = _
    congr 1
    refine (iter_sum _ _ (fun s : Car1 Ideal => s.1 (ixm 16 x)) (fun g => Scalar.select (I.pos (4000 * r + 16 * g + x)) (Ideal.ofBits .f32 0x3F800000#32) (Ideal.ofBits .f32 0x00000000#32)) 250 ?_).trans ?_
    · intro g hg s
      show s.1 (ixm 16 x) + Scalar.select (cmpf .oge ((A (4 * q + r)).iouOf g) (bf 0x3F000000#32) (ixm 16 x)) _ _ = _
      rw [pos H hI hr hg hx]; rfl
    · show Ideal.ofBits .f32 0x00000000#32 + _ = _
      rw [lit0, zero_add]
  · show Ideal.ofBits .f32 0x00000000#32 + _ = _
    rw [lit0, zero_add]

/-- A sum of the second loop, over the tiles, from what one step adds to it. -/
theorem tot2_sum (π : Car2 Ideal → FVec Ideal S16 .f32) (t : ℕ → EReal) (y : S16.Idx)
    (h0 : ∀ x, π TileIn.zero2 x = 0)
    (h1 : ∀ r s x, π (addf s.1 (out2 A (4 * q + r)).1, addf s.2.1 (out2 A (4 * q + r)).2.1, addf s.2.2.1 (out2 A (4 * q + r)).2.2.1,
        addf s.2.2.2.1 (out2 A (4 * q + r)).2.2.2.1, addf s.2.2.2.2.1 (out2 A (4 * q + r)).2.2.2.2.1,
        addf s.2.2.2.2.2 (out2 A (4 * q + r)).2.2.2.2.2) x = π s x + π (out2 A (4 * q + r)) x)
    (h2 : ∀ r < 4, ∀ m0 m1, ∀ g < 250, ∀ x < 16, ∀ s, π ((fun B : TileIn Ideal => car2Step m0 m1 (B.iouOf g) (rdN B.x0 (16 * g)) (rdN B.y0 (16 * g)) (rdN B.x1 (16 * g)) (rdN B.y1 (16 * g))
        (B.lab g 0) (B.lab g 1) (B.lab g 2) (B.lab g 3) (B.lab g 4) (B.lab g 5) (B.lab g 6) (B.lab g 7) (B.lab g 8) (B.lab g 9)
        (B.lab g 10) (B.lab g 11) (B.lab g 12) (B.lab g 13)
        (rdN B.b0 (16 * g)) (rdN B.b1 (16 * g)) (rdN B.b2 (16 * g)) (rdN B.b3 (16 * g))
        (rdN B.l0 (16 * g)) (rdN B.l1 (16 * g)) (rdN B.l2 (16 * g)) (rdN B.l3 (16 * g)) (rdN B.l4 (16 * g)) (rdN B.l5 (16 * g))
        (rdN B.l6 (16 * g)) (rdN B.l7 (16 * g)) (rdN B.l8 (16 * g)) (rdN B.l9 (16 * g))
        (rdN B.c0 (16 * g)) (rdN B.c1 (16 * g)) s) (A (4 * q + r))) (ixm 16 x) = π s (ixm 16 x) + t (4000 * r + 16 * g + x)) :
    lsum (π (tot2 A q 4)) y = ∑ a ∈ Finset.range 16000, t a := by
  rw [lsum_eq, ← sum_tiles]
  refine Finset.sum_congr rfl fun x hx => ?_
  have hx := Finset.mem_range.mp hx
  refine (iter_sum _ _ (fun s : Car2 Ideal => π s (ixm 16 x)) (fun r => ∑ g ∈ Finset.range 250, t (4000 * r + 16 * g + x)) 4 ?_).trans ?_
  · intro r hr s
    refine (h1 r s (ixm 16 x)).trans ?_
    congr 1
    refine (iter_sum _ _ (fun s : Car2 Ideal => π s (ixm 16 x)) (fun g => t (4000 * r + 16 * g + x)) 250 ?_).trans ?_
    · intro g hg s
      exact h2 r hr _ _ g hg x hx s
    · show π TileIn.zero2 (ixm 16 x) + _ = _
      rw [h0, zero_add]
  · show π TileIn.zero2 (ixm 16 x) + _ = _
    rw [h0, zero_add]

end Holds

end Cert.Proof.K

end
-- ==== Proof.K.ValE.lean ====
/- An image's box loss and landmark loss in the second and third lanes of what its tiles leave. -/
module

public import proofs.«01_k».proof.Proof.K.ValD

@[expose] public section

noncomputable section

namespace Cert.Proof.K

open Cert.KernelIdeal Cert.KernelIdeal.Gen
open Idealize.ShloMosaic

namespace Holds

variable {A : ℕ → TileIn Ideal} {q : ℕ} {I : Img} (H : Holds A q I) (hI : I.Ok)
include H hI

theorem ldPos_lane {r g x : ℕ} (hr : r < 4) (hg : g < 250) (hx : x < 16) (B : TileIn Ideal) (hB : B = A (4 * q + r)) :
    ldPos (B.lab g 4) (B.lab g 5) (B.lab g 6) (B.lab g 7) (B.lab g 8) (B.lab g 9) (B.lab g 10) (B.lab g 11) (B.lab g 12) (B.lab g 13) (ixm 16 x)
      = lpE (fun f => I.ann (f + 4) (I.top (4000 * r + 16 * g + x))) := by
  subst hB
  have h f (hf : f < 14) := lab H hI hr hg hx hf
  show Ideal.cmp .ogt ((A (4 * q + r)).lab g 4 (ixm 16 x) + (A (4 * q + r)).lab g 5 (ixm 16 x) + (A (4 * q + r)).lab g 6 (ixm 16 x)
    + (A (4 * q + r)).lab g 7 (ixm 16 x) + (A (4 * q + r)).lab g 8 (ixm 16 x) + (A (4 * q + r)).lab g 9 (ixm 16 x)
    + (A (4 * q + r)).lab g 10 (ixm 16 x) + (A (4 * q + r)).lab g 11 (ixm 16 x) + (A (4 * q + r)).lab g 12 (ixm 16 x)
    + (A (4 * q + r)).lab g 13 (ixm 16 x)) _ = _
  rw [h 4 (by omega), h 5 (by omega), h 6 (by omega), h 7 (by omega), h 8 (by omega), h 9 (by omega), h 10 (by omega), h 11 (by omega),
    h 12 (by omega), h 13 (by omega)]
  rfl

theorem mask_lane {r g x : ℕ} (hr : r < 4) (hg : g < 250) (hx : x < 16) (B : TileIn Ideal) (hB : B = A (4 * q + r)) :
    andi (ldPos (B.lab g 4) (B.lab g 5) (B.lab g 6) (B.lab g 7) (B.lab g 8) (B.lab g 9) (B.lab g 10) (B.lab g 11) (B.lab g 12) (B.lab g 13))
      (cmpf .oge (B.iouOf g) (bf 0x3F000000#32)) (ixm 16 x) = I.mask (4000 * r + 16 * g + x) := by
  show ldPos _ _ _ _ _ _ _ _ _ _ (ixm 16 x) &&& cmpf .oge (B.iouOf g) (bf 0x3F000000#32) (ixm 16 x) = _
  rw [ldPos_lane H hI hr hg hx B hB, hB, pos H hI hr hg hx]
  rfl

theorem wh {r g x : ℕ} (hr : r < 4) (hg : g < 250) (hx : x < 16) (B : TileIn Ideal) (hB : B = A (4 * q + r)) :
    ∃ w h : ℝ, 0 < w ∧ 0 < h ∧ rdN B.x1 (16 * g) (ixm 16 x) - rdN B.x0 (16 * g) (ixm 16 x) = (w : EReal)
      ∧ rdN B.y1 (16 * g) (ixm 16 x) - rdN B.y0 (16 * g) (ixm 16 x) = (h : EReal) := by
  subst hB
  have ha := H.anc r hr g hg x hx
  have ho := hI.an (4000 * r + 16 * g + x) (by omega)
  refine ⟨(I.an (4000 * r + 16 * g + x)).x1 - (I.an (4000 * r + 16 * g + x)).x0, (I.an (4000 * r + 16 * g + x)).y1 - (I.an (4000 * r + 16 * g + x)).y0,
    sub_pos.mpr ho.1, sub_pos.mpr ho.2, ?_, ?_⟩
  · rw [ha.x1, ha.x0, EReal.coe_sub]
  · rw [ha.y1, ha.y0, EReal.coe_sub]

/-- The box losses' sum. -/
theorem bbs (y : S16.Idx) : lsum (tot2 A q 4).2.2.2.1 y = Img.tot I.pos I.bb := by
  refine tot2_sum (A := A) (q := q) H hI (fun s => s.2.2.2.1) _ y (fun x => lit0) (fun r s x => rfl) ?_
  intro r hr m0 m1 g hg x hx s
  obtain ⟨w, h, hw, hh, ew, eh⟩ := wh H hI hr hg hx _ rfl
  have ha := H.anc r hr g hg x hx
  show s.2.2.2.1 (ixm 16 x) + Scalar.select (cmpf .oge ((A (4 * q + r)).iouOf g) (bf 0x3F000000#32) (ixm 16 x))
    (bbSum _ _ _ _ _ _ _ _ _ _ _ _ (ixm 16 x)) (Ideal.ofBits .f32 0x00000000#32) = _
  rw [pos H hI hr hg hx, bbSum_lane hw hh ew eh, lab H hI hr hg hx (by omega), lab H hI hr hg hx (by omega), lab H hI hr hg hx (by omega),
    lab H hI hr hg hx (by omega), H.b0 r hr g hg x hx, H.b1 r hr g hg x hx, H.b2 r hr g hg x hx, H.b3 r hr g hg x hx, ha.x0, ha.y0, ha.x1, ha.y1]
  rfl

/-- The landmark losses' sum. -/
theorem lds (y : S16.Idx) : lsum (tot2 A q 4).2.2.2.2.1 y = Img.tot I.mask I.ld := by
  refine tot2_sum (A := A) (q := q) H hI (fun s => s.2.2.2.2.1) _ y (fun x => lit0) (fun r s x => rfl) ?_
  intro r hr m0 m1 g hg x hx s
  obtain ⟨w, h, hw, hh, ew, eh⟩ := wh H hI hr hg hx _ rfl
  have ha := H.anc r hr g hg x hx
  have hl f (hf : f < 14) := lab H hI hr hg hx hf
  refine Eq.trans (b := s.2.2.2.2.1 (ixm 16 x) + Scalar.select (andi (ldPos _ _ _ _ _ _ _ _ _ _) (cmpf .oge ((A (4 * q + r)).iouOf g) (bf 0x3F000000#32)) (ixm 16 x))
    (ldSum _ _ _ _ _ _ _ _ _ _ _ _ _ _ _ _ _ _ _ _ _ _ _ _ (ixm 16 x)) (Ideal.ofBits .f32 0x00000000#32)) rfl ?_
  rw [mask_lane H hI hr hg hx _ rfl]
  rw [ldSum_lane (g := fun f => I.ann (f + 4) (I.top (4000 * r + 16 * g + x))) (l := fun f => I.ldm f (4000 * r + 16 * g + x)) hw hh ew eh
    (hl 4 (by omega)) (hl 5 (by omega)) (hl 6 (by omega)) (hl 7 (by omega)) (hl 8 (by omega)) (hl 9 (by omega)) (hl 10 (by omega)) (hl 11 (by omega))
    (hl 12 (by omega)) (hl 13 (by omega))
    (H.l0 r hr g hg x hx) (H.l1 r hr g hg x hx) (H.l2 r hr g hg x hx) (H.l3 r hr g hg x hx) (H.l4 r hr g hg x hx) (H.l5 r hr g hg x hx)
    (H.l6 r hr g hg x hx) (H.l7 r hr g hg x hx) (H.l8 r hr g hg x hx) (H.l9 r hr g hg x hx), ha.x0, ha.y0, ha.x1, ha.y1]
  rfl

/-- The number of positives with landmarks. -/
theorem nlp (y : S16.Idx) : lsum (tot2 A q 4).2.2.2.2.2 y = Img.cnt I.mask := by
  refine tot2_sum (A := A) (q := q) H hI (fun s => s.2.2.2.2.2) _ y (fun x => lit0) (fun r s x => rfl) ?_
  intro r hr m0 m1 g hg x hx s
  refine Eq.trans (b := s.2.2.2.2.2 (ixm 16 x) + Scalar.select (andi (ldPos _ _ _ _ _ _ _ _ _ _) (cmpf .oge ((A (4 * q + r)).iouOf g) (bf 0x3F000000#32)) (ixm 16 x))
    (Ideal.ofBits .f32 0x3F800000#32) (Ideal.ofBits .f32 0x00000000#32)) rfl ?_
  rw [mask_lane H hI hr hg hx _ rfl]

/-- The second lane holds the box loss. -/
theorem loss1 : loss A q (ixm 16 1) = I.boxLoss := by
  refine Eq.trans (b := bbxOf (lsum (tot1 A q 4).1) (lsum (tot2 A q 4).2.2.2.1) (ixm 16 1)) rfl ?_
  refine Eq.trans (b := Img.mean (lsum (tot1 A q 4).1 (ixm 16 1)) (lsum (tot2 A q 4).2.2.2.1 (ixm 16 1)) (Ideal.ofBits .f32 0x40800000#32)) rfl ?_
  rw [np H hI, bbs H hI]; rfl

/-- The third lane holds the landmark loss. -/
theorem loss2 : loss A q (ixm 16 2) = I.ldmLoss := by
  refine Eq.trans (b := ldmOf (lsum (tot2 A q 4).2.2.2.2.2) (lsum (tot2 A q 4).2.2.2.2.1) (ixm 16 2)) rfl ?_
  refine Eq.trans (b := Img.mean (lsum (tot2 A q 4).2.2.2.2.2 (ixm 16 2)) (lsum (tot2 A q 4).2.2.2.2.1 (ixm 16 2)) (Ideal.ofBits .f32 0x41200000#32)) rfl ?_
  rw [nlp H hI, lds H hI]; rfl

end Holds

end Cert.Proof.K

end
-- ==== Proof.K.ValI.lean ====
/- An image of the argument arrays, and what the precondition says of the anchors and the boxes. -/
module

public import proofs.«01_k».proof.Proof.K.ValE
public import proofs.«01_k».proof.Proof.Gen.Pre_sensible
public import Idealize.ShloMosaic.Lib.Pointwise
public import Idealize.ShloMosaic.Lib.ReduceAll

@[expose] public section

noncomputable section

namespace Cert.Proof.K

open Idealize.ShloMosaic

abbrev TReg : Shape := ⟨3, ![8, 16000, 4]⟩
abbrev TLdm : Shape := ⟨3, ![8, 16000, 10]⟩
abbrev TAnc : Shape := ⟨2, ![16000, 4]⟩
abbrev TAnn : Shape := ⟨3, ![8, 32, 14]⟩

/-- A number as a coordinate, kept within bounds. -/
def fn (n : ℕ) [NeZero n] (k : ℕ) : Fin n := Fin.ofNat n k

theorem fn_eq {n : ℕ} [NeZero n] {k : ℕ} (h : k < n) : fn n k = ⟨k, h⟩ := Fin.ext (Nat.mod_eq_of_lt h)
theorem fn_val {n : ℕ} [NeZero n] (k : Fin n) : fn n k.val = k := fn_eq k.isLt

/-- The image `b` of the arguments. -/
def imgOf (reg : TReg.Idx → EReal) (ldm : TLdm.Idx → EReal) (anc : TAnc.Idx → EReal) (ann : TAnn.Idx → EReal) (b : Fin 8) : Img where
  an a := ⟨(anc (ix2 (fn 16000 a) (0 : Fin 4))).toReal, (anc (ix2 (fn 16000 a) (1 : Fin 4))).toReal, (anc (ix2 (fn 16000 a) (2 : Fin 4))).toReal,
    (anc (ix2 (fn 16000 a) (3 : Fin 4))).toReal⟩
  bx g := ⟨(ann (ix3 b (fn 32 g) (0 : Fin 14))).toReal, (ann (ix3 b (fn 32 g) (1 : Fin 14))).toReal, (ann (ix3 b (fn 32 g) (2 : Fin 14))).toReal,
    (ann (ix3 b (fn 32 g) (3 : Fin 14))).toReal⟩
  ann f i := ann (ix3 b (fn 32 i) (fn 14 f))
  reg f a := reg (ix3 b (fn 16000 a) (fn 4 f))
  ldm f a := ldm (ix3 b (fn 16000 a) (fn 10 f))

/-- The anchors and the boxes are finite, of positive width and height, and no box is too small. -/
structure Sens (anc : TAnc.Idx → EReal) (ann : TAnn.Idx → EReal) : Prop where
  a0 : ∀ a, ∃ r : ℝ, anc (ix2 a (0 : Fin 4)) = (r : EReal)
  a1 : ∀ a, ∃ r : ℝ, anc (ix2 a (1 : Fin 4)) = (r : EReal)
  a2 : ∀ a, ∃ r : ℝ, anc (ix2 a (2 : Fin 4)) = (r : EReal)
  a3 : ∀ a, ∃ r : ℝ, anc (ix2 a (3 : Fin 4)) = (r : EReal)
  ax : ∀ a, anc (ix2 a (0 : Fin 4)) < anc (ix2 a (2 : Fin 4))
  ay : ∀ a, anc (ix2 a (1 : Fin 4)) < anc (ix2 a (3 : Fin 4))
  b0 : ∀ b g, ∃ r : ℝ, ann (ix3 b g (0 : Fin 14)) = (r : EReal)
  b1 : ∀ b g, ∃ r : ℝ, ann (ix3 b g (1 : Fin 14)) = (r : EReal)
  b2 : ∀ b g, ∃ r : ℝ, ann (ix3 b g (2 : Fin 14)) = (r : EReal)
  b3 : ∀ b g, ∃ r : ℝ, ann (ix3 b g (3 : Fin 14)) = (r : EReal)
  bx : ∀ b g, ann (ix3 b g (0 : Fin 14)) < ann (ix3 b g (2 : Fin 14))
  by_ : ∀ b g, ann (ix3 b g (1 : Fin 14)) < ann (ix3 b g (3 : Fin 14))
  area : ∀ b g, Ideal.ofBits .f32 0x322BCC77#32
    ≤ (ann (ix3 b g (2 : Fin 14)) - ann (ix3 b g (0 : Fin 14))) * (ann (ix3 b g (3 : Fin 14)) - ann (ix3 b g (1 : Fin 14)))

theorem and_one {x y : BitVec 1} (h : x &&& y = 1#1) : x = 1#1 ∧ y = 1#1 := by
  revert h; revert x y; decide

theorem fin_of {x : EReal} (h : max x (-x) < ⊤) : ∃ r : ℝ, x = (r : EReal) := by
  induction x with
  | bot => simp at h
  | top => simp at h
  | coe r => exact ⟨r, rfl⟩

theorem top_bits : Ideal.ofBits .f32 0x7F800000#32 = ⊤ := by
  simp [Ideal.ofBits, Ideal.ieee]

theorem of_dec {p : Prop} [Decidable p] (h : BitVec.ofBool (decide p) = 1#1) : p := by
  by_contra hp
  rw [decide_eq_false hp] at h
  exact absurd h (by decide)

theorem sens_of {c : IVec Cert.Pre_sensible.S8x16000x2 32} {reg : TReg.Idx → EReal} {ldm : TLdm.Idx → EReal} {anc : TAnc.Idx → EReal} {ann : TAnn.Idx → EReal}
    (h : Cert.Pre_sensible.fn (F := Ideal) c reg ldm anc ann = fun _ => 1#1) : Sens anc ann := by
  have h0 := congrFun h ix0
  dsimp only [Cert.Pre_sensible.fn, Cert.Pre_sensible.fn_part1, Cert.Pre_sensible.fn_part2, Cert.Pre_sensible.fn_part3] at h0
  obtain ⟨hA, hB⟩ := and_one h0
  have hA a := Host.reduce_andi_all _ _ _ _ _ hA (ix1 (a : Fin 16000))
  have hB b g := Host.reduce_andi_all _ _ _ _ _ hB (ix2 (b : Fin 8) (g : Fin 32))
  clear h h0
  pointwise at hA hB
  have f (x : EReal) (e : BitVec.ofBool (decide (FloatOps.absf (F := Ideal) (φ := .f32) x < Ideal.ofBits .f32 2139095040#32)) = 1#1) : ∃ r : ℝ, x = (r : EReal) :=
    fin_of (top_bits ▸ of_dec e)
  constructor
  · intro a; exact f _ (and_one (and_one (and_one (and_one (and_one (hA a)).1).1).1).1).1
  · intro a; exact f _ (and_one (and_one (and_one (and_one (and_one (hA a)).1).1).1).1).2
  · intro a; exact f _ (and_one (and_one (and_one (and_one (hA a)).1).1).1).2
  · intro a; exact f _ (and_one (and_one (and_one (hA a)).1).1).2
  · intro a; exact of_dec (and_one (and_one (hA a)).1).2
  · intro a; exact of_dec (and_one (hA a)).2
  · intro b g; exact f _ (and_one (and_one (and_one (and_one (and_one (and_one (hB b g)).1).1).1).1).1).1
  · intro b g; exact f _ (and_one (and_one (and_one (and_one (and_one (and_one (hB b g)).1).1).1).1).1).2
  · intro b g; exact f _ (and_one (and_one (and_one (and_one (and_one (hB b g)).1).1).1).1).2
  · intro b g; exact f _ (and_one (and_one (and_one (and_one (hB b g)).1).1).1).2
  · intro b g; exact of_dec (and_one (and_one (and_one (hB b g)).1).1).2
  · intro b g; exact of_dec (and_one (and_one (hB b g)).1).2
  · intro b g; exact of_dec (and_one (hB b g)).2

variable {reg : TReg.Idx → EReal} {ldm : TLdm.Idx → EReal} {anc : TAnc.Idx → EReal} {ann : TAnn.Idx → EReal}

theorem lt_real {x y : EReal} (hx : ∃ r : ℝ, x = (r : EReal)) (hy : ∃ r : ℝ, y = (r : EReal)) (h : x < y) : x.toReal < y.toReal := by
  obtain ⟨r, rfl⟩ := hx; obtain ⟨s, rfl⟩ := hy
  simpa using h

theorem ok_of (h : Sens anc ann) (b : Fin 8) : (imgOf reg ldm anc ann b).Ok where
  an a _ := ⟨lt_real (h.a0 _) (h.a2 _) (h.ax _), lt_real (h.a1 _) (h.a3 _) (h.ay _)⟩
  bx g _ := ⟨lt_real (h.b0 _ _) (h.b2 _ _) (h.bx _ _), lt_real (h.b1 _ _) (h.b3 _ _) (h.by_ _ _)⟩

end Cert.Proof.K

end
-- ==== Proof.K.ValF.lean ====
/- The arrays the host hands the tiles, read from the arguments, and the two results the host returns. -/
module

public import proofs.«01_k».proof.Proof.K.LaunchD
public import proofs.«01_k».proof.Proof.K.ValI
public import Idealize.ShloMosaic.Lib.Tactic.CleanTypes

@[expose] public section

noncomputable section

namespace Cert.Proof.K

open Cert.KernelIdeal Cert.KernelIdeal.Gen
open Idealize.ShloMosaic

/-! ## The arrays handed to the tiles -/

def pAnc (x : TAnc.Idx → EReal) : (L1 64000).Idx → EReal :=
  shapeCast S64000 (transpose S4x16000 [1, 0] x transposes_S16000x4_S4x16000_1_0) shapeCasts_S4x16000_S64000
def pReg (x : TReg.Idx → EReal) : (L1 512000).Idx → EReal :=
  shapeCast S512000 (transpose S8x4x16000 [0, 2, 1] x transposes_S8x16000x4_S8x4x16000_0_2_1) shapeCasts_S8x4x16000_S512000
def pLdm (x : TLdm.Idx → EReal) : (L1 1280000).Idx → EReal :=
  shapeCast S1280000 (transpose S8x10x16000 [0, 2, 1] x transposes_S8x16000x10_S8x10x16000_0_2_1) shapeCasts_S8x10x16000_S1280000
def pBox (x : TAnn.Idx → EReal) : (L1 16384).Idx → EReal :=
  shapeCast S16384 (broadcastInDim S8x4x32x16 ![0, 1, 2, 3] bcast_S8x4x32x1_S8x4x32x16_0_1_2_3
    (broadcastInDim S8x4x32x1 ![0, 1, 2] bcast_S8x4x32_S8x4x32x1_0_1_2
      (transpose S8x4x32 [0, 2, 1] (extractStridedSlice S8x32x4 ![0, 0, 0] x slices_S8x32x14_S8x32x4_0_0_0) transposes_S8x32x4_S8x4x32_0_2_1)))
    shapeCasts_S8x4x32x16_S16384
def pTab (x : TAnn.Idx → EReal) : (L1 3584).Idx → EReal :=
  shapeCast S3584 (transpose S8x14x32 [0, 2, 1] x transposes_S8x32x14_S8x14x32_0_2_1) shapeCasts_S8x14x32_S3584

theorem pAnc_at (x : TAnc.Idx → EReal) (f : Fin 4) (a : Fin 16000) :
    pAnc x (ix1 (⟨f.val * 16000 + a.val, by omega⟩ : Fin 64000)) = x (ix2 a f) := by
  unfold pAnc; pointwise <;> rfl
theorem pReg_at (x : TReg.Idx → EReal) (b : Fin 8) (f : Fin 4) (a : Fin 16000) :
    pReg x (ix1 (⟨(b.val * 4 + f.val) * 16000 + a.val, by omega⟩ : Fin 512000)) = x (ix3 b a f) := by
  unfold pReg; pointwise <;> rfl
theorem pLdm_at (x : TLdm.Idx → EReal) (b : Fin 8) (f : Fin 10) (a : Fin 16000) :
    pLdm x (ix1 (⟨(b.val * 10 + f.val) * 16000 + a.val, by omega⟩ : Fin 1280000)) = x (ix3 b a f) := by
  unfold pLdm; pointwise <;> rfl
theorem pBox_at (x : TAnn.Idx → EReal) (b : Fin 8) (f : Fin 4) (g : Fin 32) (k : Fin 16) :
    pBox x (ix1 (⟨((b.val * 4 + f.val) * 32 + g.val) * 16 + k.val, by omega⟩ : Fin 16384)) = x (ix3 b g (⟨f.val, by omega⟩ : Fin 14)) := by
  unfold pBox; pointwise <;> rfl
theorem pTab_at (x : TAnn.Idx → EReal) (b : Fin 8) (f : Fin 14) (i : Fin 32) :
    pTab x (ix1 (⟨(b.val * 14 + f.val) * 32 + i.val, by omega⟩ : Fin 3584)) = x (ix3 b i f) := by
  unfold pTab; pointwise <;> rfl

theorem ixm_ix1 {n : ℕ} [NeZero n] {k : ℕ} (j : Fin n) (h : k = j.val) : ixm n k = (ix1 j : (L1 n).Idx) :=
  idx_ext (by rw [ixm_val_of_lt n (by rw [h]; exact j.isLt), h]; rfl)

theorem pAnc_flat (x : TAnc.Idx → EReal) {f a k : ℕ} (hf : f < 4) (ha : a < 16000) (hk : k = 16000 * f + a) :
    pAnc x (ixm 64000 k) = x (ix2 (fn 16000 a) (⟨f, hf⟩ : Fin 4)) := by
  rw [fn_eq ha]; exact (congrArg _ (ixm_ix1 _ (by rw [hk]; show _ = f * 16000 + a; omega))).trans (pAnc_at x ⟨f, hf⟩ ⟨a, ha⟩)
theorem pReg_flat (x : TReg.Idx → EReal) (b : Fin 8) {f a k : ℕ} (hf : f < 4) (ha : a < 16000) (hk : k = 64000 * b.val + 16000 * f + a) :
    pReg x (ixm 512000 k) = x (ix3 b (fn 16000 a) (fn 4 f)) := by
  rw [fn_eq ha, fn_eq hf]; exact (congrArg _ (ixm_ix1 _ (by rw [hk]; show _ = (b.val * 4 + f) * 16000 + a; omega))).trans (pReg_at x b ⟨f, hf⟩ ⟨a, ha⟩)
theorem pLdm_flat (x : TLdm.Idx → EReal) (b : Fin 8) {f a k : ℕ} (hf : f < 10) (ha : a < 16000) (hk : k = 160000 * b.val + 16000 * f + a) :
    pLdm x (ixm 1280000 k) = x (ix3 b (fn 16000 a) (fn 10 f)) := by
  rw [fn_eq ha, fn_eq hf]; exact (congrArg _ (ixm_ix1 _ (by rw [hk]; show _ = (b.val * 10 + f) * 16000 + a; omega))).trans (pLdm_at x b ⟨f, hf⟩ ⟨a, ha⟩)
theorem pBox_flat (x : TAnn.Idx → EReal) (b : Fin 8) {f g l k : ℕ} (hf : f < 4) (hg : g < 32) (hl : l < 16) (hk : k = 2048 * b.val + 512 * f + 16 * g + l) :
    pBox x (ixm 16384 k) = x (ix3 b (fn 32 g) (⟨f, by omega⟩ : Fin 14)) := by
  rw [fn_eq hg]
  exact (congrArg _ (ixm_ix1 _ (by rw [hk]; show _ = ((b.val * 4 + f) * 32 + g) * 16 + l; omega))).trans (pBox_at x b ⟨f, hf⟩ ⟨g, hg⟩ ⟨l, hl⟩)
theorem pTab_flat (x : TAnn.Idx → EReal) (b : Fin 8) {f i k : ℕ} (hf : f < 14) (hi : i < 32) (hk : k = 448 * b.val + 32 * f + i) :
    pTab x (ixm 3584 k) = x (ix3 b (fn 32 i) (fn 14 f)) := by
  rw [fn_eq hi, fn_eq hf]; exact (congrArg _ (ixm_ix1 _ (by rw [hk]; show _ = (b.val * 14 + f) * 32 + i; omega))).trans (pTab_at x b ⟨f, hf⟩ ⟨i, hi⟩)

/-! ## What a tile reads of them -/

theorem rd_cut {n : ℕ} [NeZero n] (f : (L1 n).Idx → EReal) {o : Fin 1 → ℕ} {k : ℕ} (ho : o = ![k]) (h : ∀ a, o a + (L1 4000).size a ≤ (L1 n).size a) {g x : ℕ}
    (hg : g < 250) (hx : x < 16) :
    rdN (n := 4000) (fun z => f ((Rect.unit (s := L1 n) o (L1 4000).size h).emb z)) (16 * g) (ixm 16 x) = f (ixm n (k + (16 * g + x))) := by
  show f ((Rect.unit (s := L1 n) o (L1 4000).size h).emb (ixm 4000 (16 * g + (ixm 16 x 0).val))) = _
  rw [rect_emb ho, ixm_val_of_lt 16 hx, ixm_val_of_lt 4000 (by omega)]
theorem at_cut {n w : ℕ} [NeZero n] [NeZero w] (f : (L1 n).Idx → EReal) {o : Fin 1 → ℕ} {k : ℕ} (ho : o = ![k]) (h : ∀ a, o a + (L1 w).size a ≤ (L1 n).size a) {p : ℕ}
    (hp : p < w) : (fun z => f ((Rect.unit (s := L1 n) o (L1 w).size h).emb z)) (ixm w p) = f (ixm n (k + p)) := by
  show f _ = _
  rw [rect_emb ho, ixm_val_of_lt w hp]

/-- The arrays handed to the tiles are read from these arguments. -/
structure Given (b : HB Ideal) (reg : TReg.Idx → EReal) (ldm : TLdm.Idx → EReal) (anc : TAnc.Idx → EReal) (ann : TAnn.Idx → EReal) : Prop where
  anc : b.anc = pAnc anc
  reg : b.reg = pReg reg
  ldm : b.ldm = pLdm ldm
  box : b.box = pBox ann
  tab : b.tab = pTab ann

theorem toReal_of {x : EReal} (h : ∃ r : ℝ, x = (r : EReal)) : x = (x.toReal : EReal) := by
  obtain ⟨r, rfl⟩ := h; simp

section

variable {b : HB Ideal} {reg : TReg.Idx → EReal} {ldm : TLdm.Idx → EReal} {anc : TAnc.Idx → EReal} {ann : TAnn.Idx → EReal}
variable (H : Given b reg ldm anc ann) (hS : Sens anc ann) {i : grid0.Coords} {G : Fin 8} {r : ℕ} (hr : r < 4) (hP : plc i = r) (hG : img i = G.val)

include H hS hr hP in
theorem tin_anc {g x : ℕ} (hg : g < 250) (hx : x < 16) : (tin i b).AncIs (16 * g) (ixm 16 x) ((imgOf reg ldm anc ann G).an (4000 * r + 16 * g + x)) where
  x0 := by
    refine (rd_cut b.anc (off1_eq i 0) (k0_off1_inb i 0) hg hx).trans ?_
    rw [H.anc]
    refine (pAnc_flat anc (f := 0) (a := 4000 * r + 16 * g + x) (by omega) (by omega) ?_).trans (toReal_of (hS.a0 _))
    show 16000 * 0 + 4000 * plc i + (16 * g + x) = 16000 * 0 + (4000 * r + 16 * g + x)
    omega
  y0 := by
    refine (rd_cut b.anc (off1_eq i 1) (k0_off1_inb i 1) hg hx).trans ?_
    rw [H.anc]
    refine (pAnc_flat anc (f := 1) (a := 4000 * r + 16 * g + x) (by omega) (by omega) ?_).trans (toReal_of (hS.a1 _))
    show 16000 * 1 + 4000 * plc i + (16 * g + x) = 16000 * 1 + (4000 * r + 16 * g + x)
    omega
  x1 := by
    refine (rd_cut b.anc (off1_eq i 2) (k0_off1_inb i 2) hg hx).trans ?_
    rw [H.anc]
    refine (pAnc_flat anc (f := 2) (a := 4000 * r + 16 * g + x) (by omega) (by omega) ?_).trans (toReal_of (hS.a2 _))
    show 16000 * 2 + 4000 * plc i + (16 * g + x) = 16000 * 2 + (4000 * r + 16 * g + x)
    omega
  y1 := by
    refine (rd_cut b.anc (off1_eq i 3) (k0_off1_inb i 3) hg hx).trans ?_
    rw [H.anc]
    refine (pAnc_flat anc (f := 3) (a := 4000 * r + 16 * g + x) (by omega) (by omega) ?_).trans (toReal_of (hS.a3 _))
    show 16000 * 3 + 4000 * plc i + (16 * g + x) = 16000 * 3 + (4000 * r + 16 * g + x)
    omega

include H hS hG in
theorem tin_box {x : ℕ} (hx : x < 16) : (tin i b).BoxIs (ixm 16 x) (imgOf reg ldm anc ann G).bx where
  x0 := fun g hg => by
    refine (at_cut b.box (off5_eq i) (k0_off5_inb i) (p := 16 * g + (ixm 16 x 0).val) (by rw [ixm_val_of_lt 16 hx]; omega)).trans ?_
    rw [H.box]
    refine (pBox_flat ann G (f := 0) (g := g) (l := x) (by omega) hg hx ?_).trans (toReal_of (hS.b0 _ _))
    rw [ixm_val_of_lt 16 hx]
    omega
  y0 := fun g hg => by
    refine (at_cut b.box (off5_eq i) (k0_off5_inb i) (p := 512 + 16 * g + (ixm 16 x 0).val) (by rw [ixm_val_of_lt 16 hx]; omega)).trans ?_
    rw [H.box]
    refine (pBox_flat ann G (f := 1) (g := g) (l := x) (by omega) hg hx ?_).trans (toReal_of (hS.b1 _ _))
    rw [ixm_val_of_lt 16 hx]
    omega
  x1 := fun g hg => by
    refine (at_cut b.box (off5_eq i) (k0_off5_inb i) (p := 1024 + 16 * g + (ixm 16 x 0).val) (by rw [ixm_val_of_lt 16 hx]; omega)).trans ?_
    rw [H.box]
    refine (pBox_flat ann G (f := 2) (g := g) (l := x) (by omega) hg hx ?_).trans (toReal_of (hS.b2 _ _))
    rw [ixm_val_of_lt 16 hx]
    omega
  y1 := fun g hg => by
    refine (at_cut b.box (off5_eq i) (k0_off5_inb i) (p := 1536 + 16 * g + (ixm 16 x 0).val) (by rw [ixm_val_of_lt 16 hx]; omega)).trans ?_
    rw [H.box]
    refine (pBox_flat ann G (f := 3) (g := g) (l := x) (by omega) hg hx ?_).trans (toReal_of (hS.b3 _ _))
    rw [ixm_val_of_lt 16 hx]
    omega

include H hG in
theorem tin_tb {f k : ℕ} (hf : f < 14) (hk : k < 32) : (tin i b).tb (ixm 448 (k + 32 * f)) = (imgOf reg ldm anc ann G).ann f k := by
  refine (at_cut b.tab (off6_eq i) (k0_off6_inb i) (p := k + 32 * f) (by omega)).trans ?_
  rw [H.tab]
  exact pTab_flat ann G hf hk (by omega)

include H hr hP hG in
theorem tin_b0 {g x : ℕ} (hg : g < 250) (hx : x < 16) : rdN (tin i b).b0 (16 * g) (ixm 16 x) = (imgOf reg ldm anc ann G).reg 0 (4000 * r + 16 * g + x) := by
  refine (rd_cut b.reg (off3_eq i 0) (k0_off3_inb i 0) hg hx).trans ?_
  rw [H.reg]
  refine pReg_flat reg G (f := 0) (a := 4000 * r + 16 * g + x) (by omega) (by omega) ?_
  show 64000 * img i + 16000 * 0 + 4000 * plc i + (16 * g + x) = 64000 * G.val + 16000 * 0 + (4000 * r + 16 * g + x)
  omega

include H hr hP hG in
theorem tin_b1 {g x : ℕ} (hg : g < 250) (hx : x < 16) : rdN (tin i b).b1 (16 * g) (ixm 16 x) = (imgOf reg ldm anc ann G).reg 1 (4000 * r + 16 * g + x) := by
  refine (rd_cut b.reg (off3_eq i 1) (k0_off3_inb i 1) hg hx).trans ?_
  rw [H.reg]
  refine pReg_flat reg G (f := 1) (a := 4000 * r + 16 * g + x) (by omega) (by omega) ?_
  show 64000 * img i + 16000 * 1 + 4000 * plc i + (16 * g + x) = 64000 * G.val + 16000 * 1 + (4000 * r + 16 * g + x)
  omega

include H hr hP hG in
theorem tin_b2 {g x : ℕ} (hg : g < 250) (hx : x < 16) : rdN (tin i b).b2 (16 * g) (ixm 16 x) = (imgOf reg ldm anc ann G).reg 2 (4000 * r + 16 * g + x) := by
  refine (rd_cut b.reg (off3_eq i 2) (k0_off3_inb i 2) hg hx).trans ?_
  rw [H.reg]
  refine pReg_flat reg G (f := 2) (a := 4000 * r + 16 * g + x) (by omega) (by omega) ?_
  show 64000 * img i + 16000 * 2 + 4000 * plc i + (16 * g + x) = 64000 * G.val + 16000 * 2 + (4000 * r + 16 * g + x)
  omega

include H hr hP hG in
theorem tin_b3 {g x : ℕ} (hg : g < 250) (hx : x < 16) : rdN (tin i b).b3 (16 * g) (ixm 16 x) = (imgOf reg ldm anc ann G).reg 3 (4000 * r + 16 * g + x) := by
  refine (rd_cut b.reg (off3_eq i 3) (k0_off3_inb i 3) hg hx).trans ?_
  rw [H.reg]
  refine pReg_flat reg G (f := 3) (a := 4000 * r + 16 * g + x) (by omega) (by omega) ?_
  show 64000 * img i + 16000 * 3 + 4000 * plc i + (16 * g + x) = 64000 * G.val + 16000 * 3 + (4000 * r + 16 * g + x)
  omega

include H hr hP hG in
theorem tin_l0 {g x : ℕ} (hg : g < 250) (hx : x < 16) : rdN (tin i b).l0 (16 * g) (ixm 16 x) = (imgOf reg ldm anc ann G).ldm 0 (4000 * r + 16 * g + x) := by
  refine (rd_cut b.ldm (off4_eq i 0) (k0_off4_inb i 0) hg hx).trans ?_
  rw [H.ldm]
  refine pLdm_flat ldm G (f := 0) (a := 4000 * r + 16 * g + x) (by omega) (by omega) ?_
  show 160000 * img i + 16000 * 0 + 4000 * plc i + (16 * g + x) = 160000 * G.val + 16000 * 0 + (4000 * r + 16 * g + x)
  omega

include H hr hP hG in
theorem tin_l1 {g x : ℕ} (hg : g < 250) (hx : x < 16) : rdN (tin i b).l1 (16 * g) (ixm 16 x) = (imgOf reg ldm anc ann G).ldm 1 (4000 * r + 16 * g + x) := by
  refine (rd_cut b.ldm (off4_eq i 1) (k0_off4_inb i 1) hg hx).trans ?_
  rw [H.ldm]
  refine pLdm_flat ldm G (f := 1) (a := 4000 * r + 16 * g + x) (by omega) (by omega) ?_
  show 160000 * img i + 16000 * 1 + 4000 * plc i + (16 * g + x) = 160000 * G.val + 16000 * 1 + (4000 * r + 16 * g + x)
  omega

include H hr hP hG in
theorem tin_l2 {g x : ℕ} (hg : g < 250) (hx : x < 16) : rdN (tin i b).l2 (16 * g) (ixm 16 x) = (imgOf reg ldm anc ann G).ldm 2 (4000 * r + 16 * g + x) := by
  refine (rd_cut b.ldm (off4_eq i 2) (k0_off4_inb i 2) hg hx).trans ?_
  rw [H.ldm]
  refine pLdm_flat ldm G (f := 2) (a := 4000 * r + 16 * g + x) (by omega) (by omega) ?_
  show 160000 * img i + 16000 * 2 + 4000 * plc i + (16 * g + x) = 160000 * G.val + 16000 * 2 + (4000 * r + 16 * g + x)
  omega

include H hr hP hG in
theorem tin_l3 {g x : ℕ} (hg : g < 250) (hx : x < 16) : rdN (tin i b).l3 (16 * g) (ixm 16 x) = (imgOf reg ldm anc ann G).ldm 3 (4000 * r + 16 * g + x) := by
  refine (rd_cut b.ldm (off4_eq i 3) (k0_off4_inb i 3) hg hx).trans ?_
  rw [H.ldm]
  refine pLdm_flat ldm G (f := 3) (a := 4000 * r + 16 * g + x) (by omega) (by omega) ?_
  show 160000 * img i + 16000 * 3 + 4000 * plc i + (16 * g + x) = 160000 * G.val + 16000 * 3 + (4000 * r + 16 * g + x)
  omega

include H hr hP hG in
theorem tin_l4 {g x : ℕ} (hg : g < 250) (hx : x < 16) : rdN (tin i b).l4 (16 * g) (ixm 16 x) = (imgOf reg ldm anc ann G).ldm 4 (4000 * r + 16 * g + x) := by
  refine (rd_cut b.ldm (off4_eq i 4) (k0_off4_inb i 4) hg hx).trans ?_
  rw [H.ldm]
  refine pLdm_flat ldm G (f := 4) (a := 4000 * r + 16 * g + x) (by omega) (by omega) ?_
  show 160000 * img i + 16000 * 4 + 4000 * plc i + (16 * g + x) = 160000 * G.val + 16000 * 4 + (4000 * r + 16 * g + x)
  omega

include H hr hP hG in
theorem tin_l5 {g x : ℕ} (hg : g < 250) (hx : x < 16) : rdN (tin i b).l5 (16 * g) (ixm 16 x) = (imgOf reg ldm anc ann G).ldm 5 (4000 * r + 16 * g + x) := by
  refine (rd_cut b.ldm (off4_eq i 5) (k0_off4_inb i 5) hg hx).trans ?_
  rw [H.ldm]
  refine pLdm_flat ldm G (f := 5) (a := 4000 * r + 16 * g + x) (by omega) (by omega) ?_
  show 160000 * img i + 16000 * 5 + 4000 * plc i + (16 * g + x) = 160000 * G.val + 16000 * 5 + (4000 * r + 16 * g + x)
  omega

include H hr hP hG in
theorem tin_l6 {g x : ℕ} (hg : g < 250) (hx : x < 16) : rdN (tin i b).l6 (16 * g) (ixm 16 x) = (imgOf reg ldm anc ann G).ldm 6 (4000 * r + 16 * g + x) := by
  refine (rd_cut b.ldm (off4_eq i 6) (k0_off4_inb i 6) hg hx).trans ?_
  rw [H.ldm]
  refine pLdm_flat ldm G (f := 6) (a := 4000 * r + 16 * g + x) (by omega) (by omega) ?_
  show 160000 * img i + 16000 * 6 + 4000 * plc i + (16 * g + x) = 160000 * G.val + 16000 * 6 + (4000 * r + 16 * g + x)
  omega

include H hr hP hG in
theorem tin_l7 {g x : ℕ} (hg : g < 250) (hx : x < 16) : rdN (tin i b).l7 (16 * g) (ixm 16 x) = (imgOf reg ldm anc ann G).ldm 7 (4000 * r + 16 * g + x) := by
  refine (rd_cut b.ldm (off4_eq i 7) (k0_off4_inb i 7) hg hx).trans ?_
  rw [H.ldm]
  refine pLdm_flat ldm G (f := 7) (a := 4000 * r + 16 * g + x) (by omega) (by omega) ?_
  show 160000 * img i + 16000 * 7 + 4000 * plc i + (16 * g + x) = 160000 * G.val + 16000 * 7 + (4000 * r + 16 * g + x)
  omega

include H hr hP hG in
theorem tin_l8 {g x : ℕ} (hg : g < 250) (hx : x < 16) : rdN (tin i b).l8 (16 * g) (ixm 16 x) = (imgOf reg ldm anc ann G).ldm 8 (4000 * r + 16 * g + x) := by
  refine (rd_cut b.ldm (off4_eq i 8) (k0_off4_inb i 8) hg hx).trans ?_
  rw [H.ldm]
  refine pLdm_flat ldm G (f := 8) (a := 4000 * r + 16 * g + x) (by omega) (by omega) ?_
  show 160000 * img i + 16000 * 8 + 4000 * plc i + (16 * g + x) = 160000 * G.val + 16000 * 8 + (4000 * r + 16 * g + x)
  omega

include H hr hP hG in
theorem tin_l9 {g x : ℕ} (hg : g < 250) (hx : x < 16) : rdN (tin i b).l9 (16 * g) (ixm 16 x) = (imgOf reg ldm anc ann G).ldm 9 (4000 * r + 16 * g + x) := by
  refine (rd_cut b.ldm (off4_eq i 9) (k0_off4_inb i 9) hg hx).trans ?_
  rw [H.ldm]
  refine pLdm_flat ldm G (f := 9) (a := 4000 * r + 16 * g + x) (by omega) (by omega) ?_
  show 160000 * img i + 16000 * 9 + 4000 * plc i + (16 * g + x) = 160000 * G.val + 16000 * 9 + (4000 * r + 16 * g + x)
  omega

end

theorem plc_tl (c : Fin 2) {t : ℕ} (h : t < 16) : plc (tl c ⟨t % 16, Nat.mod_lt _ (by decide)⟩) = t % 4 := by
  show t % 16 % 4 = t % 4
  omega
theorem img_tl (c : Fin 2) {t : ℕ} (h : t < 16) : img (tl c ⟨t % 16, Nat.mod_lt _ (by decide)⟩) = 4 * c.val + t / 4 := by
  show 4 * c.val + t % 16 / 4 = _
  omega

section

variable {b : HB Ideal} {reg : TReg.Idx → EReal} {ldm : TLdm.Idx → EReal} {anc : TAnc.Idx → EReal} {ann : TAnn.Idx → EReal}

theorem tl_place (G : Fin 8) {r : ℕ} (hr : r < 4) :
    plc (tl ⟨G.val / 4 % 2, Nat.mod_lt _ (by decide)⟩ ⟨(4 * (G.val % 4) + r) % 16, Nat.mod_lt _ (by decide)⟩) = r
      ∧ img (tl ⟨G.val / 4 % 2, Nat.mod_lt _ (by decide)⟩ ⟨(4 * (G.val % 4) + r) % 16, Nat.mod_lt _ (by decide)⟩) = G.val := by
  have hG := G.isLt
  refine ⟨(plc_tl _ (by omega)).trans (by omega), (img_tl _ (by omega)).trans ?_⟩
  show 4 * (G.val / 4 % 2) + (4 * (G.val % 4) + r) / 4 = G.val
  omega

theorem holds_of (H : Given b reg ldm anc ann) (hS : Sens anc ann) (G : Fin 8) :
    Holds (AA b ⟨G.val / 4 % 2, Nat.mod_lt _ (by decide)⟩) (G.val % 4) (imgOf reg ldm anc ann G) where
  anc := fun r hr g hg x hx => tin_anc H hS hr (tl_place G hr).1 hg hx
  box := fun r hr x hx => tin_box H hS (tl_place G hr).2 hx
  tb := fun r hr f hf k hk => tin_tb H (tl_place G hr).2 hf hk
  b0 := fun r hr g hg x hx => tin_b0 H hr (tl_place G hr).1 (tl_place G hr).2 hg hx
  b1 := fun r hr g hg x hx => tin_b1 H hr (tl_place G hr).1 (tl_place G hr).2 hg hx
  b2 := fun r hr g hg x hx => tin_b2 H hr (tl_place G hr).1 (tl_place G hr).2 hg hx
  b3 := fun r hr g hg x hx => tin_b3 H hr (tl_place G hr).1 (tl_place G hr).2 hg hx
  l0 := fun r hr g hg x hx => tin_l0 H hr (tl_place G hr).1 (tl_place G hr).2 hg hx
  l1 := fun r hr g hg x hx => tin_l1 H hr (tl_place G hr).1 (tl_place G hr).2 hg hx
  l2 := fun r hr g hg x hx => tin_l2 H hr (tl_place G hr).1 (tl_place G hr).2 hg hx
  l3 := fun r hr g hg x hx => tin_l3 H hr (tl_place G hr).1 (tl_place G hr).2 hg hx
  l4 := fun r hr g hg x hx => tin_l4 H hr (tl_place G hr).1 (tl_place G hr).2 hg hx
  l5 := fun r hr g hg x hx => tin_l5 H hr (tl_place G hr).1 (tl_place G hr).2 hg hx
  l6 := fun r hr g hg x hx => tin_l6 H hr (tl_place G hr).1 (tl_place G hr).2 hg hx
  l7 := fun r hr g hg x hx => tin_l7 H hr (tl_place G hr).1 (tl_place G hr).2 hg hx
  l8 := fun r hr g hg x hx => tin_l8 H hr (tl_place G hr).1 (tl_place G hr).2 hg hx
  l9 := fun r hr g hg x hx => tin_l9 H hr (tl_place G hr).1 (tl_place G hr).2 hg hx

theorem vv1 (H : Given b reg ldm anc ann) (hS : Sens anc ann) (G : Fin 8) : vv b G.val (ixm 16 1) = (imgOf reg ldm anc ann G).boxLoss :=
  (holds_of H hS G).loss1 (ok_of hS G)
theorem vv2 (H : Given b reg ldm anc ann) (hS : Sens anc ann) (G : Fin 8) : vv b G.val (ixm 16 2) = (imgOf reg ldm anc ann G).ldmLoss :=
  (holds_of H hS G).loss2 (ok_of hS G)

end

/-! ## The host's lines -/

variable (m : (ℓ : Loc nD τ sig) → Buf (Elt Ideal) ℓ) (d : Dev nD)

theorem given : Given (HH m d) (m (d, hr main_arg1)) (m (d, hr main_arg2)) (m (d, hr main_arg3)) (m (d, hr main_arg4)) where
  anc := by
    show VP m d (hr main_v1) = _
    unfold VP pre
    after_results_simp
    rfl
  reg := by
    show VP m d (hr main_v5) = _
    unfold VP pre
    after_results_simp
    rfl
  ldm := by
    show VP m d (hr main_v7) = _
    unfold VP pre
    after_results_simp
    rfl
  box := by
    show VP m d (hr main_v12) = _
    unfold VP pre
    after_results_simp
    rfl
  tab := by
    show VP m d (hr main_v14) = _
    unfold VP pre
    after_results_simp
    rfl

/-! ## The results -/

/-- The mean over the images of column 1 of the tiles' results. -/
def mean1 (x : (L1 128).Idx → EReal) : S_.Idx → EReal :=
  Host.divf (F := Ideal) (φ := .f32) (Host.reduceAdd (F := Ideal) (φ := .f32) (shapeCast S8 (extractStridedSlice S8x1 ![0, 1] (shapeCast S8x16 x shapeCasts_S128_S8x16) slices_S8x16_S8x1_0_1) shapeCasts_S8x1_S8)
    (constant (F := Ideal) S_ .f32 0x00000000#32) reducesTo_S8_S_d0 h_S_) (constant (F := Ideal) S_ .f32 0x41000000#32)

theorem mean1_at (x : (L1 128).Idx → EReal) : @Eq EReal (mean1 x ix0)
    (Ideal.div (∑ b : Fin 8, x (ix1 (⟨b.val * 16 + 1, by omega⟩ : Fin 128))) (Ideal.ofBits .f32 0x41000000#32)) := by
  unfold mean1
  clean_types
  pointwise

theorem VF24 : VF m d (hr main_v24) = mean1 (catN 16 128 (vv (HH m d))) := by
  have e : VC m d (hr main_v15) = catN 16 128 (vv (HH m d)) := Function.update_self _ _ _
  unfold VF post
  after_results_simp
  rw [e]
  rfl

theorem VF24_eq {c : Cert.Pre_sensible.S8x16000x2.Idx → BitVec 32}
    (h : Cert.Pre_sensible.fn (F := Ideal) c (m (d, hr main_arg1)) (m (d, hr main_arg2)) (m (d, hr main_arg3)) (m (d, hr main_arg4)) = fun _ => 1#1) (i : S_.Idx) :
    @Eq EReal (VF m d (hr main_v24) i) (Ideal.div (∑ b : Fin 8, (imgOf (m (d, hr main_arg1)) (m (d, hr main_arg2)) (m (d, hr main_arg3)) (m (d, hr main_arg4)) b).boxLoss)
      (Ideal.ofBits .f32 0x41000000#32)) := by
  rw [show i = ix0 from Subsingleton.elim _ _, VF24]
  refine (mean1_at _).trans (congrArg (Ideal.div · (Ideal.ofBits .f32 0x41000000#32)) (Finset.sum_congr rfl fun b _ => ?_))
  rw [← vv1 (given m d) (sens_of h) b, ← ixm_ix1 (k := 16 * b.val + 1) (⟨b.val * 16 + 1, by omega⟩ : Fin 128) (by show _ = b.val * 16 + 1; omega)]
  exact catN_ixm (vv (HH m d)) (by decide) (by omega)

/-- The mean over the images of column 2 of the tiles' results. -/
def mean2 (x : (L1 128).Idx → EReal) : S_.Idx → EReal :=
  Host.divf (F := Ideal) (φ := .f32) (Host.reduceAdd (F := Ideal) (φ := .f32) (shapeCast S8 (extractStridedSlice S8x1 ![0, 2] (shapeCast S8x16 x shapeCasts_S128_S8x16) slices_S8x16_S8x1_0_2) shapeCasts_S8x1_S8)
    (constant (F := Ideal) S_ .f32 0x00000000#32) reducesTo_S8_S_d0 h_S_) (constant (F := Ideal) S_ .f32 0x41000000#32)

theorem mean2_at (x : (L1 128).Idx → EReal) : @Eq EReal (mean2 x ix0)
    (Ideal.div (∑ b : Fin 8, x (ix1 (⟨b.val * 16 + 2, by omega⟩ : Fin 128))) (Ideal.ofBits .f32 0x41000000#32)) := by
  unfold mean2
  clean_types
  pointwise

theorem VF28 : VF m d (hr main_v28) = mean2 (catN 16 128 (vv (HH m d))) := by
  have e : VC m d (hr main_v15) = catN 16 128 (vv (HH m d)) := Function.update_self _ _ _
  unfold VF post
  after_results_simp
  rw [e]
  rfl

theorem VF28_eq {c : Cert.Pre_sensible.S8x16000x2.Idx → BitVec 32}
    (h : Cert.Pre_sensible.fn (F := Ideal) c (m (d, hr main_arg1)) (m (d, hr main_arg2)) (m (d, hr main_arg3)) (m (d, hr main_arg4)) = fun _ => 1#1) (i : S_.Idx) :
    @Eq EReal (VF m d (hr main_v28) i) (Ideal.div (∑ b : Fin 8, (imgOf (m (d, hr main_arg1)) (m (d, hr main_arg2)) (m (d, hr main_arg3)) (m (d, hr main_arg4)) b).ldmLoss)
      (Ideal.ofBits .f32 0x41000000#32)) := by
  rw [show i = ix0 from Subsingleton.elim _ _, VF28]
  refine (mean2_at _).trans (congrArg (Ideal.div · (Ideal.ofBits .f32 0x41000000#32)) (Finset.sum_congr rfl fun b _ => ?_))
  rw [← vv2 (given m d) (sens_of h) b, ← ixm_ix1 (k := 16 * b.val + 2) (⟨b.val * 16 + 2, by omega⟩ : Fin 128) (by show _ = b.val * 16 + 2; omega)]
  exact catN_ixm (vv (HH m d)) (by decide) (by omega)

end Cert.Proof.K

end
-- ==== Proof.K.RefA.lean ====
/- The reference's intermediate arrays, each from the ones before it. -/
module

public import proofs.«01_k».proof.Proof.Gen.ReferenceIdeal.Run
public import proofs.«01_k».proof.Proof.K.ValE

@[expose] public section

noncomputable section

namespace Cert.Proof.KR

open Cert.ReferenceIdeal Cert.ReferenceIdeal.Gen
open Idealize.ShloMosaic

def f3 (arg3 : S16000x4.Idx → EReal) : FVec Ideal S16000x2 .f32 :=
  subf (extractStridedSlice S16000x2 ![0, 2] arg3 slices_S16000x4_S16000x2_0_2) (extractStridedSlice S16000x2 ![0, 0] arg3 slices_S16000x4_S16000x2_0_0)

def f7 (arg3 : S16000x4.Idx → EReal) (v3 : S16000x2.Idx → EReal) : FVec Ideal S16000x2 .f32 :=
  addf (extractStridedSlice S16000x2 ![0, 0] arg3 slices_S16000x4_S16000x2_0_0) (mulf (broadcastInDim S16000x2 ![] bcast_S_S16000x2 (constant S_ .f32 0x3F000000#32)) v3)

def f10 (arg4 : S8x32x14.Idx → EReal) : FVec Ideal S8x32x2 .f32 :=
  subf (extractStridedSlice S8x32x2 ![0, 0, 2] arg4 slices_S8x32x14_S8x32x2_0_0_2) (extractStridedSlice S8x32x2 ![0, 0, 0] arg4 slices_S8x32x14_S8x32x2_0_0_0)

def f27 (arg3 : S16000x4.Idx → EReal) (arg4 : S8x32x14.Idx → EReal) : FVec Ideal S8x16000x32x2 .f32 :=
  maximumf (subf (minimumf (broadcastInDim S8x16000x32x2 ![0, 1, 2, 3] bcast_S1x16000x1x2_S8x16000x32x2_0_1_2_3 (broadcastInDim S1x16000x1x2 ![1, 3] bcast_S16000x2_S1x16000x1x2_1_3 (extractStridedSlice S16000x2 ![0, 2] arg3 slices_S16000x4_S16000x2_0_2))) (broadcastInDim S8x16000x32x2 ![0, 1, 2, 3] bcast_S8x1x32x2_S8x16000x32x2_0_1_2_3 (broadcastInDim S8x1x32x2 ![0, 2, 3] bcast_S8x32x2_S8x1x32x2_0_2_3 (extractStridedSlice S8x32x2 ![0, 0, 2] arg4 slices_S8x32x14_S8x32x2_0_0_2)))) (maximumf (broadcastInDim S8x16000x32x2 ![0, 1, 2, 3] bcast_S1x16000x1x2_S8x16000x32x2_0_1_2_3 (broadcastInDim S1x16000x1x2 ![1, 3] bcast_S16000x2_S1x16000x1x2_1_3 (extractStridedSlice S16000x2 ![0, 0] arg3 slices_S16000x4_S16000x2_0_0))) (broadcastInDim S8x16000x32x2 ![0, 1, 2, 3] bcast_S8x1x32x2_S8x16000x32x2_0_1_2_3 (broadcastInDim S8x1x32x2 ![0, 2, 3] bcast_S8x32x2_S8x1x32x2_0_2_3 (extractStridedSlice S8x32x2 ![0, 0, 0] arg4 slices_S8x32x14_S8x32x2_0_0_0))))) (broadcastInDim S8x16000x32x2 ![] bcast_S_S8x16000x32x2 (constant S_ .f32 0x00000000#32))

def f32 (v27 : S8x16000x32x2.Idx → EReal) : FVec Ideal S8x16000x32 .f32 :=
  mulf (shapeCast _ (extractStridedSlice S8x16000x32x1 ![0, 0, 0, 0] v27 slices_S8x16000x32x2_S8x16000x32x1_0_0_0_0) shapeCasts_S8x16000x32x1_S8x16000x32) (shapeCast _ (extractStridedSlice S8x16000x32x1 ![0, 0, 0, 1] v27 slices_S8x16000x32x2_S8x16000x32x1_0_0_0_1) shapeCasts_S8x16000x32x1_S8x16000x32)

def f51 (v3 : S16000x2.Idx → EReal) (v10 : S8x32x2.Idx → EReal) (v32 : S8x16000x32.Idx → EReal) : FVec Ideal S8x16000x32 .f32 :=
  Host.divf v32 (maximumf (subf (addf (broadcastInDim S8x16000x32 ![0, 1, 2] bcast_S1x16000x1_S8x16000x32_0_1_2 (broadcastInDim S1x16000x1 ![1] bcast_S16000_S1x16000x1_1 (mulf (shapeCast _ (extractStridedSlice S16000x1 ![0, 0] v3 slices_S16000x2_S16000x1_0_0) shapeCasts_S16000x1_S16000) (shapeCast _ (extractStridedSlice S16000x1 ![0, 1] v3 slices_S16000x2_S16000x1_0_1) shapeCasts_S16000x1_S16000)))) (broadcastInDim S8x16000x32 ![0, 1, 2] bcast_S8x1x32_S8x16000x32_0_1_2 (broadcastInDim S8x1x32 ![0, 2] bcast_S8x32_S8x1x32_0_2 (mulf (shapeCast _ (extractStridedSlice S8x32x1 ![0, 0, 0] v10 slices_S8x32x2_S8x32x1_0_0_0) shapeCasts_S8x32x1_S8x32) (shapeCast _ (extractStridedSlice S8x32x1 ![0, 0, 1] v10 slices_S8x32x2_S8x32x1_0_0_1) shapeCasts_S8x32x1_S8x32))))) v32) (broadcastInDim S8x16000x32 ![] bcast_S_S8x16000x32 (constant S_ .f32 0x322BCC77#32)))

def f52 (v51 : S8x16000x32.Idx → EReal) : FVec Ideal S8x16000 .f32 :=
  Host.reduce (FloatOps.maximumf (F := Ideal) (φ := .f32)) v51 (constant S_ .f32 0xFF800000#32) reducesTo_S8x16000x32_S8x16000_d2 h_S_

def f62 (v52 : S8x16000.Idx → EReal) : IVec S8x16000 1 :=
  cmpf (F := Ideal) (φ := .f32) .oge v52 (broadcastInDim S8x16000 ![] bcast_S_S8x16000 (constant S_ .f32 0x3F000000#32))

def f64 (v62 : S8x16000.Idx → BitVec 1) : IVec S8 32 :=
  Host.reduce IntOp.addi (extui 32 v62 natLt_1_32) (constantI S_ 32 0#32) reducesTo_S8x16000_S8_d1 h_S_

def f110 (arg4 : S8x32x14.Idx → EReal) (v51 : S8x16000x32.Idx → EReal) (v52 : S8x16000.Idx → EReal) : FVec Ideal S8x16000x14 .f32 :=
  Host.gather gather_S256x14_S8x16000x1_S8x16000x14_2_0_n_n_0_2_114 (shapeCast _ arg4 shapeCasts_S8x32x14_S256x14) (broadcastInDim S8x16000x1 ![0, 1] bcast_S8x16000_S8x16000x1_0_1 (addi (broadcastInDim S8x16000 ![0, 1] bcast_S8x1_S8x16000_0_1 (muli (broadcastInDim S8x1 ![0] bcast_S8_S8x1_0 (iotaInDim S8 32 0)) (broadcastInDim S8x1 ![] bcast_S_S8x1 (constantI S_ 32 32#32)))) (Host.reduce IntOp.minsi (select (cmpf (F := Ideal) (φ := .f32) .oeq v51 (broadcastInDim S8x16000x32 ![0, 1, 2] bcast_S8x16000x1_S8x16000x32_0_1_2 (broadcastInDim S8x16000x1 ![0, 1] bcast_S8x16000_S8x16000x1_0_1 v52))) (broadcastInDim S8x16000x32 ![2] bcast_S32_S8x16000x32_2 (iotaInDim S32 32 0)) (broadcastInDim S8x16000x32 ![] bcast_S_S8x16000x32 (id (constantI S_ 32 32#32)))) (constantI S_ 32 2147483647#32) reducesTo_S8x16000x32_S8x16000_d2 h_S_)))

def f113 (v110 : S8x16000x14.Idx → EReal) : FVec Ideal S8x16000x2 .f32 :=
  subf (extractStridedSlice S8x16000x2 ![0, 0, 2] v110 slices_S8x16000x14_S8x16000x2_0_0_2) (extractStridedSlice S8x16000x2 ![0, 0, 0] v110 slices_S8x16000x14_S8x16000x2_0_0_0)

def f138 (arg1 : S8x16000x4.Idx → EReal) (v3 : S16000x2.Idx → EReal) (v7 : S16000x2.Idx → EReal) (v110 : S8x16000x14.Idx → EReal) (v113 : S8x16000x2.Idx → EReal) : FVec Ideal S8x16000x2 .f32 :=
  Host.absf (subf (mulf (Host.divf (subf (addf (extractStridedSlice S8x16000x2 ![0, 0, 0] v110 slices_S8x16000x14_S8x16000x2_0_0_0) (mulf (broadcastInDim S8x16000x2 ![] bcast_S_S8x16000x2 (constant S_ .f32 0x3F000000#32)) v113)) (broadcastInDim S8x16000x2 ![0, 1, 2] bcast_S1x16000x2_S8x16000x2_0_1_2 (broadcastInDim S1x16000x2 ![1, 2] bcast_S16000x2_S1x16000x2_1_2 v7))) (broadcastInDim S8x16000x2 ![0, 1, 2] bcast_S1x16000x2_S8x16000x2_0_1_2 (broadcastInDim S1x16000x2 ![1, 2] bcast_S16000x2_S1x16000x2_1_2 (addf v3 (broadcastInDim S16000x2 ![] bcast_S_S16000x2 (constant S_ .f32 0x283424DC#32)))))) (broadcastInDim S8x16000x2 ![] bcast_S_S8x16000x2 (constant S_ .f32 0x41200000#32))) (extractStridedSlice S8x16000x2 ![0, 0, 0] arg1 slices_S8x16000x4_S8x16000x2_0_0_0))

def f150 (arg1 : S8x16000x4.Idx → EReal) (v3 : S16000x2.Idx → EReal) (v113 : S8x16000x2.Idx → EReal) : FVec Ideal S8x16000x2 .f32 :=
  Host.absf (subf (mulf (Host.log (Host.divf v113 (broadcastInDim S8x16000x2 ![0, 1, 2] bcast_S1x16000x2_S8x16000x2_0_1_2 (broadcastInDim S1x16000x2 ![1, 2] bcast_S16000x2_S1x16000x2_1_2 (addf v3 (broadcastInDim S16000x2 ![] bcast_S_S16000x2 (constant S_ .f32 0x283424DC#32))))))) (broadcastInDim S8x16000x2 ![] bcast_S_S8x16000x2 (constant S_ .f32 0x40A00000#32))) (extractStridedSlice S8x16000x2 ![0, 0, 2] arg1 slices_S8x16000x4_S8x16000x2_0_0_2))

def f172 (v110 : S8x16000x14.Idx → EReal) : FVec Ideal S8x16000x10 .f32 :=
  extractStridedSlice S8x16000x10 ![0, 0, 4] v110 slices_S8x16000x14_S8x16000x10_0_0_4

def f176 (v62 : S8x16000.Idx → BitVec 1) (v172 : S8x16000x10.Idx → EReal) : IVec S8x16000 1 :=
  andi (cmpf (F := Ideal) (φ := .f32) .ogt (Host.reduceAdd v172 (constant S_ .f32 0x00000000#32) reducesTo_S8x16000x10_S8x16000_d2 h_S_) (broadcastInDim S8x16000 ![] bcast_S_S8x16000 (constant S_ .f32 0x00000000#32))) v62

def f178 (v176 : S8x16000.Idx → BitVec 1) : IVec S8 32 :=
  Host.reduce IntOp.addi (extui 32 v176 natLt_1_32) (constantI S_ 32 0#32) reducesTo_S8x16000_S8_d1 h_S_

def f194 (arg2 : S8x16000x10.Idx → EReal) (v3 : S16000x2.Idx → EReal) (v7 : S16000x2.Idx → EReal) (v172 : S8x16000x10.Idx → EReal) : FVec Ideal S8x16000x5x2 .f32 :=
  Host.absf (subf (mulf (Host.divf (subf (shapeCast _ v172 shapeCasts_S8x16000x10_S8x16000x5x2) (broadcastInDim S8x16000x5x2 ![0, 1, 2, 3] bcast_S1x16000x1x2_S8x16000x5x2_0_1_2_3 (broadcastInDim S1x16000x1x2 ![1, 2, 3] bcast_S16000x1x2_S1x16000x1x2_1_2_3 (broadcastInDim S16000x1x2 ![0, 2] bcast_S16000x2_S16000x1x2_0_2 v7)))) (broadcastInDim S8x16000x5x2 ![0, 1, 2, 3] bcast_S1x16000x1x2_S8x16000x5x2_0_1_2_3 (broadcastInDim S1x16000x1x2 ![1, 2, 3] bcast_S16000x1x2_S1x16000x1x2_1_2_3 (broadcastInDim S16000x1x2 ![0, 2] bcast_S16000x2_S16000x1x2_0_2 (addf v3 (broadcastInDim S16000x2 ![] bcast_S_S16000x2 (constant S_ .f32 0x283424DC#32))))))) (broadcastInDim S8x16000x5x2 ![] bcast_S_S8x16000x5x2 (constant S_ .f32 0x41200000#32))) (shapeCast _ arg2 shapeCasts_S8x16000x10_S8x16000x5x2))

def f218 (v62 : S8x16000.Idx → BitVec 1) (v64 : S8.Idx → BitVec 32) (v138 : S8x16000x2.Idx → EReal) (v150 : S8x16000x2.Idx → EReal) : FVec Ideal S_ .f32 :=
  Host.divf (Host.reduceAdd (select (cmpi .sgt v64 (broadcastInDim S8 ![] bcast_S_S8 (constantI S_ 32 0#32))) (Host.divf (Host.reduceAdd (select v62 (addf (Host.reduceAdd (select (cmpf (F := Ideal) (φ := .f32) .olt v138 (broadcastInDim S8x16000x2 ![] bcast_S_S8x16000x2 (constant S_ .f32 0x3F800000#32))) (mulf (mulf (broadcastInDim S8x16000x2 ![] bcast_S_S8x16000x2 (constant S_ .f32 0x3F000000#32)) v138) v138) (subf v138 (broadcastInDim S8x16000x2 ![] bcast_S_S8x16000x2 (constant S_ .f32 0x3F000000#32)))) (constant S_ .f32 0x00000000#32) reducesTo_S8x16000x2_S8x16000_d2 h_S_) (Host.reduceAdd (select (cmpf (F := Ideal) (φ := .f32) .olt v150 (broadcastInDim S8x16000x2 ![] bcast_S_S8x16000x2 (constant S_ .f32 0x3F800000#32))) (mulf (mulf (broadcastInDim S8x16000x2 ![] bcast_S_S8x16000x2 (constant S_ .f32 0x3F000000#32)) v150) v150) (subf v150 (broadcastInDim S8x16000x2 ![] bcast_S_S8x16000x2 (constant S_ .f32 0x3F000000#32)))) (constant S_ .f32 0x00000000#32) reducesTo_S8x16000x2_S8x16000_d2 h_S_)) (broadcastInDim S8x16000 ![] bcast_S_S8x16000 (id (constant S_ .f32 0x00000000#32)))) (constant S_ .f32 0x00000000#32) reducesTo_S8x16000_S8_d1 h_S_) (mulf (sitofp .f32 (maxsi v64 (broadcastInDim S8 ![] bcast_S_S8 (constantI S_ 32 1#32)))) (broadcastInDim S8 ![] bcast_S_S8 (constant S_ .f32 0x40800000#32)))) (broadcastInDim S8 ![] bcast_S_S8 (id (constant S_ .f32 0x00000000#32)))) (constant S_ .f32 0x00000000#32) reducesTo_S8_S_d0 h_S_) (constant S_ .f32 0x41000000#32)

def f220 (v176 : S8x16000.Idx → BitVec 1) (v178 : S8.Idx → BitVec 32) (v194 : S8x16000x5x2.Idx → EReal) : FVec Ideal S_ .f32 :=
  Host.divf (Host.reduceAdd (select (cmpi .sgt v178 (broadcastInDim S8 ![] bcast_S_S8 (constantI S_ 32 0#32))) (Host.divf (Host.reduceAdd (select v176 (Host.reduceAdd (select (cmpf (F := Ideal) (φ := .f32) .olt v194 (broadcastInDim S8x16000x5x2 ![] bcast_S_S8x16000x5x2 (constant S_ .f32 0x3F800000#32))) (mulf (mulf (broadcastInDim S8x16000x5x2 ![] bcast_S_S8x16000x5x2 (constant S_ .f32 0x3F000000#32)) v194) v194) (subf v194 (broadcastInDim S8x16000x5x2 ![] bcast_S_S8x16000x5x2 (constant S_ .f32 0x3F000000#32)))) (constant S_ .f32 0x00000000#32) reducesTo_S8x16000x5x2_S8x16000_d2_3 h_S_) (broadcastInDim S8x16000 ![] bcast_S_S8x16000 (id (constant S_ .f32 0x00000000#32)))) (constant S_ .f32 0x00000000#32) reducesTo_S8x16000_S8_d1 h_S_) (mulf (sitofp .f32 (maxsi v178 (broadcastInDim S8 ![] bcast_S_S8 (constantI S_ 32 1#32)))) (broadcastInDim S8 ![] bcast_S_S8 (constant S_ .f32 0x41200000#32)))) (broadcastInDim S8 ![] bcast_S_S8 (id (constant S_ .f32 0x00000000#32)))) (constant S_ .f32 0x00000000#32) reducesTo_S8_S_d0 h_S_) (constant S_ .f32 0x41000000#32)

/-! ## The arrays of a run -/

open Cert.ReferenceIdeal.Value

variable (V : Valuation τ sig (Elt Ideal))

/-- The arguments. -/
abbrev aReg : S8x16000x4.Idx → EReal := V (Proc.devRef .tc main_arg1)
abbrev aLdm : S8x16000x10.Idx → EReal := V (Proc.devRef .tc main_arg2)
abbrev aAnc : S16000x4.Idx → EReal := V (Proc.devRef .tc main_arg3)
abbrev aAnn : S8x32x14.Idx → EReal := V (Proc.devRef .tc main_arg4)

def r3 : S16000x2.Idx → EReal := f3 (aAnc V)
theorem res3 : res_main_v3 V = r3 V := by
  unfold r3 f3 res_main_v3
  rfl

def r7 : S16000x2.Idx → EReal := f7 (aAnc V) (r3 V)
theorem res7 : res_main_v7 V = r7 V := by
  unfold r7 f7 res_main_v7
  rfl

def r10 : S8x32x2.Idx → EReal := f10 (aAnn V)
theorem res10 : res_main_v10 V = r10 V := by
  unfold r10 f10 res_main_v10
  rfl

def r27 : S8x16000x32x2.Idx → EReal := f27 (aAnc V) (aAnn V)
theorem res27 : res_main_v27 V = r27 V := by
  unfold r27 f27 res_main_v27
  rfl

def r32 : S8x16000x32.Idx → EReal := f32 (r27 V)
theorem res32 : res_main_v32 V = r32 V := by
  unfold r32 f32 res_main_v32
  rfl

def r51 : S8x16000x32.Idx → EReal := f51 (r3 V) (r10 V) (r32 V)
theorem res51 : res_main_v51 V = r51 V := by
  unfold r51 f51 res_main_v51
  rfl

def r52 : S8x16000.Idx → EReal := f52 (r51 V)
theorem res52 : res_main_v52 V = r52 V := by
  unfold r52 f52 res_main_v52
  rfl

def r62 : S8x16000.Idx → BitVec 1 := f62 (r52 V)
theorem res62 : res_main_v62 V = r62 V := by
  unfold r62 f62 res_main_v62
  rfl

def r64 : S8.Idx → BitVec 32 := f64 (r62 V)
theorem res64 : res_main_v64 V = r64 V := by
  unfold r64 f64 res_main_v64
  rfl

def r110 : S8x16000x14.Idx → EReal := f110 (aAnn V) (r51 V) (r52 V)
theorem res110 : res_main_v110 V = r110 V := by
  unfold r110 f110 res_main_v110
  rfl

def r113 : S8x16000x2.Idx → EReal := f113 (r110 V)
theorem res113 : res_main_v113 V = r113 V := by
  unfold r113 f113 res_main_v113
  rfl

def r138 : S8x16000x2.Idx → EReal := f138 (aReg V) (r3 V) (r7 V) (r110 V) (r113 V)
theorem res138 : res_main_v138 V = r138 V := by
  unfold r138 f138 res_main_v138
  rfl

def r150 : S8x16000x2.Idx → EReal := f150 (aReg V) (r3 V) (r113 V)
theorem res150 : res_main_v150 V = r150 V := by
  unfold r150 f150 res_main_v150
  rfl

def r172 : S8x16000x10.Idx → EReal := f172 (r110 V)
theorem res172 : res_main_v172 V = r172 V := by
  unfold r172 f172 res_main_v172
  rfl

def r176 : S8x16000.Idx → BitVec 1 := f176 (r62 V) (r172 V)
theorem res176 : res_main_v176 V = r176 V := by
  unfold r176 f176 res_main_v176
  rfl

def r178 : S8.Idx → BitVec 32 := f178 (r176 V)
theorem res178 : res_main_v178 V = r178 V := by
  unfold r178 f178 res_main_v178
  rfl

def r194 : S8x16000x5x2.Idx → EReal := f194 (aLdm V) (r3 V) (r7 V) (r172 V)
theorem res194 : res_main_v194 V = r194 V := by
  unfold r194 f194 res_main_v194
  rfl

def r218 : S_.Idx → EReal := f218 (r62 V) (r64 V) (r138 V) (r150 V)

def r220 : S_.Idx → EReal := f220 (r176 V) (r178 V) (r194 V)

theorem end218 : (Host.divf (Host.reduceAdd (select (cmpi .sgt (res_main_v64 V) (broadcastInDim S8 ![] bcast_S_S8 (constantI S_ 32 0#32))) (Host.divf (Host.reduceAdd (select (res_main_v62 V) (addf (Host.reduceAdd (select (cmpf .olt (res_main_v138 V) (broadcastInDim S8x16000x2 ![] bcast_S_S8x16000x2 (constant S_ .f32 0x3F800000#32))) (mulf (mulf (broadcastInDim S8x16000x2 ![] bcast_S_S8x16000x2 (constant S_ .f32 0x3F000000#32)) (res_main_v138 V)) (res_main_v138 V)) (subf (res_main_v138 V) (broadcastInDim S8x16000x2 ![] bcast_S_S8x16000x2 (constant S_ .f32 0x3F000000#32)))) (constant S_ .f32 0x00000000#32) reducesTo_S8x16000x2_S8x16000_d2 h_S_) (Host.reduceAdd (select (cmpf .olt (res_main_v150 V) (broadcastInDim S8x16000x2 ![] bcast_S_S8x16000x2 (constant S_ .f32 0x3F800000#32))) (mulf (mulf (broadcastInDim S8x16000x2 ![] bcast_S_S8x16000x2 (constant S_ .f32 0x3F000000#32)) (res_main_v150 V)) (res_main_v150 V)) (subf (res_main_v150 V) (broadcastInDim S8x16000x2 ![] bcast_S_S8x16000x2 (constant S_ .f32 0x3F000000#32)))) (constant S_ .f32 0x00000000#32) reducesTo_S8x16000x2_S8x16000_d2 h_S_)) (broadcastInDim S8x16000 ![] bcast_S_S8x16000 (id (constant S_ .f32 0x00000000#32)))) (constant S_ .f32 0x00000000#32) reducesTo_S8x16000_S8_d1 h_S_) (mulf (sitofp .f32 (maxsi (res_main_v64 V) (broadcastInDim S8 ![] bcast_S_S8 (constantI S_ 32 1#32)))) (broadcastInDim S8 ![] bcast_S_S8 (constant S_ .f32 0x40800000#32)))) (broadcastInDim S8 ![] bcast_S_S8 (id (constant S_ .f32 0x00000000#32)))) (constant S_ .f32 0x00000000#32) reducesTo_S8_S_d0 h_S_) (constant S_ .f32 0x41000000#32) : FVec Ideal S_ .f32) = r218 V := by
  unfold r218 f218
  rfl

theorem end220 : (Host.divf (Host.reduceAdd (select (cmpi .sgt (res_main_v178 V) (broadcastInDim S8 ![] bcast_S_S8 (constantI S_ 32 0#32))) (Host.divf (Host.reduceAdd (select (res_main_v176 V) (Host.reduceAdd (select (cmpf .olt (res_main_v194 V) (broadcastInDim S8x16000x5x2 ![] bcast_S_S8x16000x5x2 (constant S_ .f32 0x3F800000#32))) (mulf (mulf (broadcastInDim S8x16000x5x2 ![] bcast_S_S8x16000x5x2 (constant S_ .f32 0x3F000000#32)) (res_main_v194 V)) (res_main_v194 V)) (subf (res_main_v194 V) (broadcastInDim S8x16000x5x2 ![] bcast_S_S8x16000x5x2 (constant S_ .f32 0x3F000000#32)))) (constant S_ .f32 0x00000000#32) reducesTo_S8x16000x5x2_S8x16000_d2_3 h_S_) (broadcastInDim S8x16000 ![] bcast_S_S8x16000 (id (constant S_ .f32 0x00000000#32)))) (constant S_ .f32 0x00000000#32) reducesTo_S8x16000_S8_d1 h_S_) (mulf (sitofp .f32 (maxsi (res_main_v178 V) (broadcastInDim S8 ![] bcast_S_S8 (constantI S_ 32 1#32)))) (broadcastInDim S8 ![] bcast_S_S8 (constant S_ .f32 0x41200000#32)))) (broadcastInDim S8 ![] bcast_S_S8 (id (constant S_ .f32 0x00000000#32)))) (constant S_ .f32 0x00000000#32) reducesTo_S8_S_d0 h_S_) (constant S_ .f32 0x41000000#32) : FVec Ideal S_ .f32) = r220 V := by
  unfold r220 f220
  rfl

end Cert.Proof.KR

end
-- ==== Proof.K.RefB.lean ====
/- The reference's arrays at an index: the boxes and their overlaps. -/
module

public import proofs.«01_k».proof.Proof.K.RefA
public import proofs.«01_k».proof.Proof.K.ValE
public import Idealize.ShloMosaic.Lib.Tactic.CleanTypes
public import Idealize.ShloMosaic.Lib.Pointwise

@[expose] public section

noncomputable section

namespace Cert.Proof.KR

open Cert.ReferenceIdeal Cert.ReferenceIdeal.Gen
open Idealize.ShloMosaic

theorem f3_0 (arg3 : S16000x4.Idx → EReal) (a : Fin 16000) : @Eq (EReal) (f3 arg3 (ix2 a (0 : Fin 2)))
    (arg3 (ix2 a (2 : Fin 4)) - arg3 (ix2 a (0 : Fin 4))) := by
  unfold f3
  clean_types
  pointwise <;> rfl

theorem f7_0 (arg3 : S16000x4.Idx → EReal) (v3 : S16000x2.Idx → EReal) (a : Fin 16000) : @Eq (EReal) (f7 arg3 v3 (ix2 a (0 : Fin 2)))
    (arg3 (ix2 a (0 : Fin 4)) + (Ideal.ofBits .f32 0x3F000000#32) * v3 (ix2 a (0 : Fin 2))) := by
  unfold f7
  clean_types
  pointwise <;> rfl

theorem f10_0 (arg4 : S8x32x14.Idx → EReal) (b : Fin 8) (g : Fin 32) : @Eq (EReal) (f10 arg4 (ix3 b g (0 : Fin 2)))
    (arg4 (ix3 b g (2 : Fin 14)) - arg4 (ix3 b g (0 : Fin 14))) := by
  unfold f10
  clean_types
  pointwise <;> rfl

theorem f27_0 (arg3 : S16000x4.Idx → EReal) (arg4 : S8x32x14.Idx → EReal) (b : Fin 8) (a : Fin 16000) (g : Fin 32) : @Eq (EReal) (f27 arg3 arg4 (ix4 b a g (0 : Fin 2)))
    (max (min (arg3 (ix2 a (2 : Fin 4))) (arg4 (ix3 b g (2 : Fin 14))) - max (arg3 (ix2 a (0 : Fin 4))) (arg4 (ix3 b g (0 : Fin 14)))) 0) := by
  unfold f27
  clean_types
  pointwise <;> rfl

theorem f3_1 (arg3 : S16000x4.Idx → EReal) (a : Fin 16000) : @Eq (EReal) (f3 arg3 (ix2 a (1 : Fin 2)))
    (arg3 (ix2 a (3 : Fin 4)) - arg3 (ix2 a (1 : Fin 4))) := by
  unfold f3
  clean_types
  pointwise <;> rfl

theorem f7_1 (arg3 : S16000x4.Idx → EReal) (v3 : S16000x2.Idx → EReal) (a : Fin 16000) : @Eq (EReal) (f7 arg3 v3 (ix2 a (1 : Fin 2)))
    (arg3 (ix2 a (1 : Fin 4)) + (Ideal.ofBits .f32 0x3F000000#32) * v3 (ix2 a (1 : Fin 2))) := by
  unfold f7
  clean_types
  pointwise <;> rfl

theorem f10_1 (arg4 : S8x32x14.Idx → EReal) (b : Fin 8) (g : Fin 32) : @Eq (EReal) (f10 arg4 (ix3 b g (1 : Fin 2)))
    (arg4 (ix3 b g (3 : Fin 14)) - arg4 (ix3 b g (1 : Fin 14))) := by
  unfold f10
  clean_types
  pointwise <;> rfl

theorem f27_1 (arg3 : S16000x4.Idx → EReal) (arg4 : S8x32x14.Idx → EReal) (b : Fin 8) (a : Fin 16000) (g : Fin 32) : @Eq (EReal) (f27 arg3 arg4 (ix4 b a g (1 : Fin 2)))
    (max (min (arg3 (ix2 a (3 : Fin 4))) (arg4 (ix3 b g (3 : Fin 14))) - max (arg3 (ix2 a (1 : Fin 4))) (arg4 (ix3 b g (1 : Fin 14)))) 0) := by
  unfold f27
  clean_types
  pointwise <;> rfl

theorem f32_at (v27 : S8x16000x32x2.Idx → EReal) (b : Fin 8) (a : Fin 16000) (g : Fin 32) : @Eq (EReal) (f32 v27 (ix3 b a g))
    (v27 (ix4 b a g (0 : Fin 2)) * v27 (ix4 b a g (1 : Fin 2))) := by
  unfold f32
  clean_types
  pointwise <;> rfl

theorem f51_at (v3 : S16000x2.Idx → EReal) (v10 : S8x32x2.Idx → EReal) (v32 : S8x16000x32.Idx → EReal) (b : Fin 8) (a : Fin 16000) (g : Fin 32) : @Eq (EReal) (f51 v3 v10 v32 (ix3 b a g))
    (Ideal.div (v32 (ix3 b a g)) (max (v3 (ix2 a (0 : Fin 2)) * v3 (ix2 a (1 : Fin 2)) + v10 (ix3 b g (0 : Fin 2)) * v10 (ix3 b g (1 : Fin 2)) - v32 (ix3 b a g)) (Ideal.ofBits .f32 0x322BCC77#32))) := by
  unfold f51
  clean_types
  pointwise <;> rfl

theorem f52_at (v51 : S8x16000x32.Idx → EReal) (b : Fin 8) (a : Fin 16000) : @Eq (EReal) (f52 v51 (ix2 b a))
    (Finset.univ.fold max (Ideal.ofBits .f32 0xFF800000#32) (fun g : Fin 32 => v51 (ix3 b a g))) := by
  unfold f52
  clean_types
  pointwise <;> rfl

theorem f62_at (v52 : S8x16000.Idx → EReal) (b : Fin 8) (a : Fin 16000) : @Eq (BitVec 1) (f62 v52 (ix2 b a))
    (Ideal.cmp .oge (v52 (ix2 b a)) (Ideal.ofBits .f32 0x3F000000#32)) := by
  unfold f62
  clean_types
  pointwise <;> rfl

theorem f64_at (v62 : S8x16000.Idx → BitVec 1) (b : Fin 8) : @Eq (BitVec 32) (f64 v62 (ix1 b))
    (Finset.univ.fold IntOp.addi 0#32 (fun a : Fin 16000 => (v62 (ix2 b a)).setWidth 32)) := by
  unfold f64
  clean_types
  pointwise <;> rfl

theorem f178_at (v176 : S8x16000.Idx → BitVec 1) (b : Fin 8) : @Eq (BitVec 32) (f178 v176 (ix1 b))
    (Finset.univ.fold IntOp.addi 0#32 (fun a : Fin 16000 => (v176 (ix2 b a)).setWidth 32)) := by
  unfold f178
  clean_types
  pointwise <;> rfl

theorem f172_at (v110 : S8x16000x14.Idx → EReal) (b : Fin 8) (a : Fin 16000) (f : Fin 10) : @Eq (EReal) (f172 v110 (ix3 b a f))
    (v110 (ix3 b a (⟨4 + f.val, by omega⟩ : Fin 14))) := by
  unfold f172
  clean_types
  pointwise <;> rfl

theorem f176_at (v62 : S8x16000.Idx → BitVec 1) (v172 : S8x16000x10.Idx → EReal) (b : Fin 8) (a : Fin 16000) : @Eq (BitVec 1) (f176 v62 v172 (ix2 b a))
    (Ideal.cmp .ogt (∑ f : Fin 10, v172 (ix3 b a f)) 0 &&& v62 (ix2 b a)) := by
  unfold f176
  clean_types
  pointwise <;> rfl

end Cert.Proof.KR

end
-- ==== Proof.K.RefC.lean ====
/- The reference's labels, read at an index. -/
module

public import proofs.«01_k».proof.Proof.K.RefB
public import Idealize.ShloMosaic.Lib.Tactic.CleanTypes
public import Idealize.ShloMosaic.Lib.Pointwise
public import proofs.«01_k».proof.Proof.K.ValE

@[expose] public section

noncomputable section

namespace Cert.Proof.KR

open Cert.ReferenceIdeal Cert.ReferenceIdeal.Gen
open Idealize.ShloMosaic

variable (arg4 : S8x32x14.Idx → EReal) (v51 : S8x16000x32.Idx → EReal) (v52 : S8x16000.Idx → EReal)

/-- The gather of the labels' rows, at an index: the row is the start index, kept within bounds. -/
theorem gather_at (x : S256x14.Idx → EReal) (idx : IVec S8x16000x1 32) (b : Fin 8) (a : Fin 16000) (f : Fin 14) :
    Host.gather gather_S256x14_S8x16000x1_S8x16000x14_2_0_n_n_0_2_114 x idx (ix3 b a f)
      = x (ix2 (⟨min (idx (ix3 b a (0 : Fin 1))).toInt.toNat 255, by omega⟩ : Fin 256) f) := by
  unfold Host.gather
  congr 1
  funext d
  refine Fin.ext ?_
  match d with
  | ⟨0, _⟩ =>
    show (GatherDims.start _ (ix3 b a f) idx 0) + GatherDims.batchCoord _ (ix3 b a f) 0 + GatherDims.offCoord _ (ix3 b a f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x14_S8x16000x1_S8x16000x14_2_0_n_n_0_2_114.startIndexMap from List.mem_singleton.mpr rfl)]
    refine congrArg (fun j => min (idx j).toInt.toNat 255) ?_
    funext k; refine Fin.ext ?_
    match k with
    | ⟨0, _⟩ => rfl
    | ⟨1, _⟩ => rfl
    | ⟨2, _⟩ => rfl
  | ⟨1, _⟩ =>
    show (GatherDims.start _ (ix3 b a f) idx 1) + GatherDims.batchCoord _ (ix3 b a f) 1 + GatherDims.offCoord _ (ix3 b a f) 1 = f.val
    rw [GatherDims.batchCoord_eq_zero _ _ _ List.not_mem_nil]
    unfold GatherDims.start GatherDims.offCoord
    rw [dif_neg (show ¬ (1 : Fin 2) ∈ gather_S256x14_S8x16000x1_S8x16000x14_2_0_n_n_0_2_114.startIndexMap by decide),
      dif_pos (show (1 : Fin 2) ∈ gather_S256x14_S8x16000x1_S8x16000x14_2_0_n_n_0_2_114.sKept by decide), Nat.zero_add]
    rfl

/-- The least index at which the overlap is the greatest. -/
def vArg : IVec S8x16000 32 :=
  Host.reduce IntOp.minsi (select (cmpf (F := Ideal) (φ := .f32) .oeq v51 (broadcastInDim S8x16000x32 ![0, 1, 2] bcast_S8x16000x1_S8x16000x32_0_1_2 (broadcastInDim S8x16000x1 ![0, 1] bcast_S8x16000_S8x16000x1_0_1 v52))) (broadcastInDim S8x16000x32 ![2] bcast_S32_S8x16000x32_2 (iotaInDim S32 32 0)) (broadcastInDim S8x16000x32 ![] bcast_S_S8x16000x32 (id (constantI S_ 32 32#32)))) (constantI S_ 32 2147483647#32) reducesTo_S8x16000x32_S8x16000_d2 h_S_

theorem vArg_at (b : Fin 8) (a : Fin 16000) : vArg v51 v52 (ix2 b a)
    = Finset.univ.fold IntOp.minsi 2147483647#32 (fun g : Fin 32 => Scalar.select (Ideal.cmp .oeq (v51 (ix3 b a g)) (v52 (ix2 b a)))
        (BitVec.ofNat 32 g.val) 32#32) := by
  unfold vArg
  clean_types
  pointwise <;> rfl

/-- Each anchor's label row. -/
def vRow : IVec S8x16000x1 32 :=
  broadcastInDim S8x16000x1 ![0, 1] bcast_S8x16000_S8x16000x1_0_1 (addi (broadcastInDim S8x16000 ![0, 1] bcast_S8x1_S8x16000_0_1 (muli (broadcastInDim S8x1 ![0] bcast_S8_S8x1_0 (iotaInDim S8 32 0)) (broadcastInDim S8x1 ![] bcast_S_S8x1 (constantI S_ 32 32#32)))) (vArg v51 v52))

theorem vRow_at (b : Fin 8) (a : Fin 16000) : vRow v51 v52 (ix3 b a (0 : Fin 1)) = BitVec.ofNat 32 b.val * 32#32 + vArg v51 v52 (ix2 b a) := by
  unfold vRow
  clean_types
  pointwise <;> rfl

def vTab : S256x14.Idx → EReal := shapeCast _ arg4 shapeCasts_S8x32x14_S256x14

theorem vTab_at (b : Fin 8) (g : Fin 32) (f : Fin 14) : vTab arg4 (ix2 (⟨b.val * 32 + g.val, by omega⟩ : Fin 256) f) = arg4 (ix3 b g f) := by
  unfold vTab
  pointwise <;> rfl

theorem f110_at (b : Fin 8) (a : Fin 16000) (f : Fin 14) {g : ℕ} (hg : g < 32) (h : vArg v51 v52 (ix2 b a) = BitVec.ofNat 32 g) :
    @Eq EReal (f110 arg4 v51 v52 (ix3 b a f)) (arg4 (ix3 b (⟨g, hg⟩ : Fin 32) f)) := by
  refine (gather_at (vTab arg4) (vRow v51 v52) b a f).trans ?_
  refine Eq.trans (congrArg (fun i => vTab arg4 (ix2 i f)) (Fin.ext ?_)) (vTab_at arg4 b ⟨g, hg⟩ f)
  have e : BitVec.ofNat 32 b.val * 32#32 + BitVec.ofNat 32 g = BitVec.ofNat 32 (b.val * 32 + g) := by
    rw [show (32#32 : BitVec 32) = BitVec.ofNat 32 32 from rfl, ← BitVec.ofNat_mul, ← BitVec.ofNat_add]
  have hb := b.isLt
  show min (vRow v51 v52 (ix3 b a (0 : Fin 1))).toInt.toNat 255 = b.val * 32 + g
  rw [vRow_at, h, e, BitVec.toInt_eq_toNat_of_lt (by rw [BitVec.toNat_ofNat]; omega), BitVec.toNat_ofNat, Int.toNat_natCast]
  omega

end Cert.Proof.KR

end
-- ==== Proof.K.RefE.lean ====
/- The reference's arrays at an index: the targets' distances from the regressions. -/
module

public import proofs.«01_k».proof.Proof.K.RefA
public import proofs.«01_k».proof.Proof.K.ValE
public import Idealize.ShloMosaic.Lib.Tactic.CleanTypes
public import Idealize.ShloMosaic.Lib.Pointwise

@[expose] public section

noncomputable section

namespace Cert.Proof.KR

open Cert.ReferenceIdeal Cert.ReferenceIdeal.Gen
open Idealize.ShloMosaic

theorem f113_0 (v110 : S8x16000x14.Idx → EReal) (b : Fin 8) (a : Fin 16000) : @Eq (EReal) (f113 v110 (ix3 b a (0 : Fin 2)))
    (v110 (ix3 b a (2 : Fin 14)) - v110 (ix3 b a (0 : Fin 14))) := by
  unfold f113
  clean_types
  pointwise <;> rfl

theorem f138_0 (arg1 : S8x16000x4.Idx → EReal) (v3 : S16000x2.Idx → EReal) (v7 : S16000x2.Idx → EReal) (v110 : S8x16000x14.Idx → EReal) (v113 : S8x16000x2.Idx → EReal) (b : Fin 8) (a : Fin 16000) : @Eq (EReal) (f138 arg1 v3 v7 v110 v113 (ix3 b a (0 : Fin 2)))
    (FloatOps.absf (F := Ideal) (φ := .f32) (Ideal.div (v110 (ix3 b a (0 : Fin 14)) + (Ideal.ofBits .f32 0x3F000000#32) * v113 (ix3 b a (0 : Fin 2)) - v7 (ix2 a (0 : Fin 2))) (v3 (ix2 a (0 : Fin 2)) + Ideal.ofBits .f32 0x283424DC#32) * Ideal.ofBits .f32 0x41200000#32 - arg1 (ix3 b a (0 : Fin 4)))) := by
  unfold f138
  clean_types
  pointwise <;> rfl

theorem f150_0 (arg1 : S8x16000x4.Idx → EReal) (v3 : S16000x2.Idx → EReal) (v113 : S8x16000x2.Idx → EReal) (b : Fin 8) (a : Fin 16000) : @Eq (EReal) (f150 arg1 v3 v113 (ix3 b a (0 : Fin 2)))
    (FloatOps.absf (F := Ideal) (φ := .f32) (Ideal.log (Ideal.div (v113 (ix3 b a (0 : Fin 2))) (v3 (ix2 a (0 : Fin 2)) + Ideal.ofBits .f32 0x283424DC#32)) * Ideal.ofBits .f32 0x40A00000#32 - arg1 (ix3 b a (2 : Fin 4)))) := by
  unfold f150
  clean_types
  pointwise <;> rfl

theorem f194_00 (arg2 : S8x16000x10.Idx → EReal) (v3 : S16000x2.Idx → EReal) (v7 : S16000x2.Idx → EReal) (v172 : S8x16000x10.Idx → EReal) (b : Fin 8) (a : Fin 16000) : @Eq (EReal) (f194 arg2 v3 v7 v172 (ix4 b a (0 : Fin 5) (0 : Fin 2)))
    (FloatOps.absf (F := Ideal) (φ := .f32) (Ideal.div (v172 (ix3 b a (0 : Fin 10)) - v7 (ix2 a (0 : Fin 2))) (v3 (ix2 a (0 : Fin 2)) + Ideal.ofBits .f32 0x283424DC#32) * Ideal.ofBits .f32 0x41200000#32 - arg2 (ix3 b a (0 : Fin 10)))) := by
  unfold f194
  clean_types
  pointwise <;> rfl

theorem f194_10 (arg2 : S8x16000x10.Idx → EReal) (v3 : S16000x2.Idx → EReal) (v7 : S16000x2.Idx → EReal) (v172 : S8x16000x10.Idx → EReal) (b : Fin 8) (a : Fin 16000) : @Eq (EReal) (f194 arg2 v3 v7 v172 (ix4 b a (1 : Fin 5) (0 : Fin 2)))
    (FloatOps.absf (F := Ideal) (φ := .f32) (Ideal.div (v172 (ix3 b a (2 : Fin 10)) - v7 (ix2 a (0 : Fin 2))) (v3 (ix2 a (0 : Fin 2)) + Ideal.ofBits .f32 0x283424DC#32) * Ideal.ofBits .f32 0x41200000#32 - arg2 (ix3 b a (2 : Fin 10)))) := by
  unfold f194
  clean_types
  pointwise <;> rfl

theorem f194_20 (arg2 : S8x16000x10.Idx → EReal) (v3 : S16000x2.Idx → EReal) (v7 : S16000x2.Idx → EReal) (v172 : S8x16000x10.Idx → EReal) (b : Fin 8) (a : Fin 16000) : @Eq (EReal) (f194 arg2 v3 v7 v172 (ix4 b a (2 : Fin 5) (0 : Fin 2)))
    (FloatOps.absf (F := Ideal) (φ := .f32) (Ideal.div (v172 (ix3 b a (4 : Fin 10)) - v7 (ix2 a (0 : Fin 2))) (v3 (ix2 a (0 : Fin 2)) + Ideal.ofBits .f32 0x283424DC#32) * Ideal.ofBits .f32 0x41200000#32 - arg2 (ix3 b a (4 : Fin 10)))) := by
  unfold f194
  clean_types
  pointwise <;> rfl

theorem f194_30 (arg2 : S8x16000x10.Idx → EReal) (v3 : S16000x2.Idx → EReal) (v7 : S16000x2.Idx → EReal) (v172 : S8x16000x10.Idx → EReal) (b : Fin 8) (a : Fin 16000) : @Eq (EReal) (f194 arg2 v3 v7 v172 (ix4 b a (3 : Fin 5) (0 : Fin 2)))
    (FloatOps.absf (F := Ideal) (φ := .f32) (Ideal.div (v172 (ix3 b a (6 : Fin 10)) - v7 (ix2 a (0 : Fin 2))) (v3 (ix2 a (0 : Fin 2)) + Ideal.ofBits .f32 0x283424DC#32) * Ideal.ofBits .f32 0x41200000#32 - arg2 (ix3 b a (6 : Fin 10)))) := by
  unfold f194
  clean_types
  pointwise <;> rfl

theorem f194_40 (arg2 : S8x16000x10.Idx → EReal) (v3 : S16000x2.Idx → EReal) (v7 : S16000x2.Idx → EReal) (v172 : S8x16000x10.Idx → EReal) (b : Fin 8) (a : Fin 16000) : @Eq (EReal) (f194 arg2 v3 v7 v172 (ix4 b a (4 : Fin 5) (0 : Fin 2)))
    (FloatOps.absf (F := Ideal) (φ := .f32) (Ideal.div (v172 (ix3 b a (8 : Fin 10)) - v7 (ix2 a (0 : Fin 2))) (v3 (ix2 a (0 : Fin 2)) + Ideal.ofBits .f32 0x283424DC#32) * Ideal.ofBits .f32 0x41200000#32 - arg2 (ix3 b a (8 : Fin 10)))) := by
  unfold f194
  clean_types
  pointwise <;> rfl

theorem f113_1 (v110 : S8x16000x14.Idx → EReal) (b : Fin 8) (a : Fin 16000) : @Eq (EReal) (f113 v110 (ix3 b a (1 : Fin 2)))
    (v110 (ix3 b a (3 : Fin 14)) - v110 (ix3 b a (1 : Fin 14))) := by
  unfold f113
  clean_types
  pointwise <;> rfl

theorem f138_1 (arg1 : S8x16000x4.Idx → EReal) (v3 : S16000x2.Idx → EReal) (v7 : S16000x2.Idx → EReal) (v110 : S8x16000x14.Idx → EReal) (v113 : S8x16000x2.Idx → EReal) (b : Fin 8) (a : Fin 16000) : @Eq (EReal) (f138 arg1 v3 v7 v110 v113 (ix3 b a (1 : Fin 2)))
    (FloatOps.absf (F := Ideal) (φ := .f32) (Ideal.div (v110 (ix3 b a (1 : Fin 14)) + (Ideal.ofBits .f32 0x3F000000#32) * v113 (ix3 b a (1 : Fin 2)) - v7 (ix2 a (1 : Fin 2))) (v3 (ix2 a (1 : Fin 2)) + Ideal.ofBits .f32 0x283424DC#32) * Ideal.ofBits .f32 0x41200000#32 - arg1 (ix3 b a (1 : Fin 4)))) := by
  unfold f138
  clean_types
  pointwise <;> rfl

theorem f150_1 (arg1 : S8x16000x4.Idx → EReal) (v3 : S16000x2.Idx → EReal) (v113 : S8x16000x2.Idx → EReal) (b : Fin 8) (a : Fin 16000) : @Eq (EReal) (f150 arg1 v3 v113 (ix3 b a (1 : Fin 2)))
    (FloatOps.absf (F := Ideal) (φ := .f32) (Ideal.log (Ideal.div (v113 (ix3 b a (1 : Fin 2))) (v3 (ix2 a (1 : Fin 2)) + Ideal.ofBits .f32 0x283424DC#32)) * Ideal.ofBits .f32 0x40A00000#32 - arg1 (ix3 b a (3 : Fin 4)))) := by
  unfold f150
  clean_types
  pointwise <;> rfl

theorem f194_01 (arg2 : S8x16000x10.Idx → EReal) (v3 : S16000x2.Idx → EReal) (v7 : S16000x2.Idx → EReal) (v172 : S8x16000x10.Idx → EReal) (b : Fin 8) (a : Fin 16000) : @Eq (EReal) (f194 arg2 v3 v7 v172 (ix4 b a (0 : Fin 5) (1 : Fin 2)))
    (FloatOps.absf (F := Ideal) (φ := .f32) (Ideal.div (v172 (ix3 b a (1 : Fin 10)) - v7 (ix2 a (1 : Fin 2))) (v3 (ix2 a (1 : Fin 2)) + Ideal.ofBits .f32 0x283424DC#32) * Ideal.ofBits .f32 0x41200000#32 - arg2 (ix3 b a (1 : Fin 10)))) := by
  unfold f194
  clean_types
  pointwise <;> rfl

theorem f194_11 (arg2 : S8x16000x10.Idx → EReal) (v3 : S16000x2.Idx → EReal) (v7 : S16000x2.Idx → EReal) (v172 : S8x16000x10.Idx → EReal) (b : Fin 8) (a : Fin 16000) : @Eq (EReal) (f194 arg2 v3 v7 v172 (ix4 b a (1 : Fin 5) (1 : Fin 2)))
    (FloatOps.absf (F := Ideal) (φ := .f32) (Ideal.div (v172 (ix3 b a (3 : Fin 10)) - v7 (ix2 a (1 : Fin 2))) (v3 (ix2 a (1 : Fin 2)) + Ideal.ofBits .f32 0x283424DC#32) * Ideal.ofBits .f32 0x41200000#32 - arg2 (ix3 b a (3 : Fin 10)))) := by
  unfold f194
  clean_types
  pointwise <;> rfl

theorem f194_21 (arg2 : S8x16000x10.Idx → EReal) (v3 : S16000x2.Idx → EReal) (v7 : S16000x2.Idx → EReal) (v172 : S8x16000x10.Idx → EReal) (b : Fin 8) (a : Fin 16000) : @Eq (EReal) (f194 arg2 v3 v7 v172 (ix4 b a (2 : Fin 5) (1 : Fin 2)))
    (FloatOps.absf (F := Ideal) (φ := .f32) (Ideal.div (v172 (ix3 b a (5 : Fin 10)) - v7 (ix2 a (1 : Fin 2))) (v3 (ix2 a (1 : Fin 2)) + Ideal.ofBits .f32 0x283424DC#32) * Ideal.ofBits .f32 0x41200000#32 - arg2 (ix3 b a (5 : Fin 10)))) := by
  unfold f194
  clean_types
  pointwise <;> rfl

theorem f194_31 (arg2 : S8x16000x10.Idx → EReal) (v3 : S16000x2.Idx → EReal) (v7 : S16000x2.Idx → EReal) (v172 : S8x16000x10.Idx → EReal) (b : Fin 8) (a : Fin 16000) : @Eq (EReal) (f194 arg2 v3 v7 v172 (ix4 b a (3 : Fin 5) (1 : Fin 2)))
    (FloatOps.absf (F := Ideal) (φ := .f32) (Ideal.div (v172 (ix3 b a (7 : Fin 10)) - v7 (ix2 a (1 : Fin 2))) (v3 (ix2 a (1 : Fin 2)) + Ideal.ofBits .f32 0x283424DC#32) * Ideal.ofBits .f32 0x41200000#32 - arg2 (ix3 b a (7 : Fin 10)))) := by
  unfold f194
  clean_types
  pointwise <;> rfl

theorem f194_41 (arg2 : S8x16000x10.Idx → EReal) (v3 : S16000x2.Idx → EReal) (v7 : S16000x2.Idx → EReal) (v172 : S8x16000x10.Idx → EReal) (b : Fin 8) (a : Fin 16000) : @Eq (EReal) (f194 arg2 v3 v7 v172 (ix4 b a (4 : Fin 5) (1 : Fin 2)))
    (FloatOps.absf (F := Ideal) (φ := .f32) (Ideal.div (v172 (ix3 b a (9 : Fin 10)) - v7 (ix2 a (1 : Fin 2))) (v3 (ix2 a (1 : Fin 2)) + Ideal.ofBits .f32 0x283424DC#32) * Ideal.ofBits .f32 0x41200000#32 - arg2 (ix3 b a (9 : Fin 10)))) := by
  unfold f194
  clean_types
  pointwise <;> rfl

end Cert.Proof.KR

end
-- ==== Proof.K.RefF.lean ====
/- The reference's two last results. -/
module

public import proofs.«01_k».proof.Proof.K.RefA
public import proofs.«01_k».proof.Proof.K.ValE
public import Idealize.ShloMosaic.Lib.Tactic.CleanTypes
public import Idealize.ShloMosaic.Lib.Pointwise

@[expose] public section

noncomputable section

namespace Cert.Proof.KR

open Cert.ReferenceIdeal Cert.ReferenceIdeal.Gen
open Idealize.ShloMosaic

/-- The smooth absolute value, of an absolute value. -/
def smE (x : EReal) : EReal := if x < 1 then Ideal.ofBits .f32 0x3F000000#32 * x * x else x - Ideal.ofBits .f32 0x3F000000#32

theorem f218_at (v62 : S8x16000.Idx → BitVec 1) (v64 : S8.Idx → BitVec 32) (v138 : S8x16000x2.Idx → EReal) (v150 : S8x16000x2.Idx → EReal)  : @Eq (EReal) (f218 v62 v64 v138 v150 ix0)
    (Ideal.div (∑ b : Fin 8, Scalar.select (IntOp.cmpi .sgt (v64 (ix1 b)) 0#32) (Ideal.div (∑ a : Fin 16000, Scalar.select (v62 (ix2 b a)) ((∑ d : Fin 2, smE (v138 (ix3 b a d))) + ∑ d : Fin 2, smE (v150 (ix3 b a d))) (Ideal.ofBits .f32 0x00000000#32)) (FloatOps.sitofp (F := Ideal) .f32 (IntOp.maxsi (v64 (ix1 b)) 1#32) * Ideal.ofBits .f32 0x40800000#32)) (Ideal.ofBits .f32 0x00000000#32)) (Ideal.ofBits .f32 0x41000000#32)) := by
  unfold f218
  clean_types
  pointwise
  have hz : id (constant (F := Ideal) S_ FTy.f32 0x00000000#32) ix0 = Ideal.ofBits .f32 0x00000000#32 := rfl
  simp only [hz, smE, Cert.Proof.K.lit0]

theorem f220_at (v176 : S8x16000.Idx → BitVec 1) (v178 : S8.Idx → BitVec 32) (v194 : S8x16000x5x2.Idx → EReal)  : @Eq (EReal) (f220 v176 v178 v194 ix0)
    (Ideal.div (∑ b : Fin 8, Scalar.select (IntOp.cmpi .sgt (v178 (ix1 b)) 0#32) (Ideal.div (∑ a : Fin 16000, Scalar.select (v176 (ix2 b a)) (∑ k : Fin 5, ∑ d : Fin 2, smE (v194 (ix4 b a k d))) (Ideal.ofBits .f32 0x00000000#32)) (FloatOps.sitofp (F := Ideal) .f32 (IntOp.maxsi (v178 (ix1 b)) 1#32) * Ideal.ofBits .f32 0x41200000#32)) (Ideal.ofBits .f32 0x00000000#32)) (Ideal.ofBits .f32 0x41000000#32)) := by
  unfold f220
  clean_types
  pointwise
  have hz : id (constant (F := Ideal) S_ FTy.f32 0x00000000#32) ix0 = Ideal.ofBits .f32 0x00000000#32 := rfl
  simp only [hz, smE, Cert.Proof.K.lit0]

end Cert.Proof.KR

end
-- ==== Proof.K.RefD.lean ====
/- The reference's two last results are the images' losses. -/
module

public import proofs.«01_k».proof.Proof.K.RefB
public import proofs.«01_k».proof.Proof.K.RefC
public import proofs.«01_k».proof.Proof.K.RefE
public import proofs.«01_k».proof.Proof.K.RefF
public import proofs.«01_k».proof.Proof.K.ValI
public import Idealize.ShloMosaic.Lib.IndicatorCount

@[expose] public section

noncomputable section

namespace Cert.Proof.KR

open Cert.ReferenceIdeal Cert.ReferenceIdeal.Gen
open Idealize.ShloMosaic
open Cert.Proof.K (Img RBox imgOf fn fn_eq fn_val Sens ok_of lit0 lit1 sl1E tgE twE ctrE bbE ldE lpE cmp_ogt)

theorem coe_toReal_of {x : EReal} (h : ∃ r : ℝ, x = (r : EReal)) : x = (x.toReal : EReal) := by
  obtain ⟨r, rfl⟩ := h; simp

theorem bot_bits : Ideal.ofBits .f32 0xFF800000#32 = ⊥ := by
  simp [Ideal.ofBits, Ideal.ieee]

/-- A fold whose operation keeps `c` against every value keeps `c`. -/
theorem fold_keep {α β : Type} (op : β → β → β) [Std.Commutative op] [Std.Associative op] [DecidableEq α] (b c : β) (f : α → β) (hb : op c b = c) (hf : ∀ x, op c (f x) = c) (s : Finset α) :
    op c (s.fold op b f) = c := by
  induction s using Finset.induction_on with
  | empty => exact hb
  | insert x s hx ih => rw [Finset.fold_insert hx, ← Std.Associative.assoc (op := op), hf, ih]

theorem fold_first {α β : Type} [Fintype α] (op : β → β → β) [Std.Commutative op] [Std.Associative op] [DecidableEq α] (b : β) (f : α → β) (t : α) (hb : op (f t) b = f t)
    (hf : ∀ x, op (f t) (f x) = f t) : Finset.univ.fold op b f = f t := by
  rw [← Finset.insert_erase (Finset.mem_univ t), Finset.fold_insert (Finset.notMem_erase t _)]
  exact fold_keep op b (f t) f hb hf _

theorem minsi_le : ∀ (t : Fin 32) (y : Fin 33), t.val ≤ y.val → IntOp.minsi (BitVec.ofNat 32 t.val) (BitVec.ofNat 32 y.val) = BitVec.ofNat 32 t.val := by decide
theorem minsi_top : ∀ t : Fin 32, IntOp.minsi (BitVec.ofNat 32 t.val) 2147483647#32 = BitVec.ofNat 32 t.val := by decide

/-- The counts, as whole numbers and as reals. -/
theorem count_pos {n : ℕ} (hn : n ≤ 16000) : IntOp.cmpi .sgt (BitVec.ofNat 32 n) 0#32 = Ideal.cmp .ogt (n : EReal) (Ideal.ofBits .f32 0x00000000#32) := by
  have h : (BitVec.ofNat 32 n).toInt = n := by
    rw [BitVec.toInt_eq_toNat_of_lt (by rw [BitVec.toNat_ofNat]; omega), BitVec.toNat_ofNat, Nat.mod_eq_of_lt (by omega)]
  rw [cmp_ogt, lit0]
  show BitVec.ofBool ((0#32).slt (BitVec.ofNat 32 n)) = _
  rw [BitVec.slt, h]
  rcases Nat.eq_zero_or_pos n with rfl | hp
  · simp
  · have h1 : (0 : EReal) < (n : EReal) := by exact_mod_cast hp
    have h2 : (0 : ℤ) < (n : ℤ) := by exact_mod_cast hp
    simp [h1, h2, hp]

theorem count_max {n : ℕ} (hn : n ≤ 16000) : FloatOps.sitofp (F := Ideal) .f32 (IntOp.maxsi (BitVec.ofNat 32 n) 1#32) = max (n : EReal) (Ideal.ofBits .f32 0x3F800000#32) := by
  have h : (BitVec.ofNat 32 n).toInt = n := by
    rw [BitVec.toInt_eq_toNat_of_lt (by rw [BitVec.toNat_ofNat]; omega), BitVec.toNat_ofNat, Nat.mod_eq_of_lt (by omega)]
  show (((IntOp.maxsi (BitVec.ofNat 32 n) 1#32).toInt : ℝ) : EReal) = _
  rw [lit1, IntOp.maxsi]
  have h1 : (1#32 : BitVec 32).toInt = 1 := by decide
  split
  · next hs =>
    rw [BitVec.slt, h, h1] at hs
    have hs : 1 < n := by simpa using hs
    rw [h, max_eq_left (by exact_mod_cast hs.le)]
    simp
  · next hs =>
    rw [BitVec.slt, h, h1] at hs
    have hs : n ≤ 1 := by simpa using hs
    rw [h1, max_eq_right (by exact_mod_cast hs)]
    simp

theorem count_card (m : ℕ → BitVec 1) : Img.cnt m = (((Finset.univ : Finset (Fin 16000)).filter fun a => m a.val = 1#1).card : EReal) := by
  unfold Img.cnt
  rw [Finset.sum_range (fun a => Scalar.select (m a) (Ideal.ofBits .f32 0x3F800000#32) (Ideal.ofBits .f32 0x00000000#32)), lit0, lit1, Finset.card_filter]
  push_cast
  refine Finset.sum_congr rfl fun a _ => ?_
  unfold Scalar.select
  rfl

/-- A mean loss from the count of the mask. -/
theorem mean_of {m : ℕ → BitVec 1} {c : BitVec 32} (w : Fin 16000 → BitVec 1) (hw : ∀ a, w a = m a.val)
    (hc : c = Finset.univ.fold IntOp.addi 0#32 (fun a : Fin 16000 => (w a).setWidth 32)) (t l : EReal) :
    Scalar.select (IntOp.cmpi .sgt c 0#32) (Ideal.div t (FloatOps.sitofp (F := Ideal) .f32 (IntOp.maxsi c 1#32) * l)) (Ideal.ofBits .f32 0x00000000#32)
      = Img.mean (Img.cnt m) t l := by
  have hle : ((Finset.univ : Finset (Fin 16000)).filter fun a => m a.val = 1#1).card ≤ 16000 :=
    (Finset.card_filter_le _ _).trans (by rw [Finset.card_univ, Fintype.card_fin])
  have hc' : c = BitVec.ofNat 32 ((Finset.univ : Finset (Fin 16000)).filter fun a => m a.val = 1#1).card := by
    rw [hc, IndicatorCount.fold_addi_setWidth_eq_card]
    simp only [hw]
  rw [hc', count_pos hle, count_max hle, ← count_card]
  rfl

theorem smE_eq (t b : EReal) : smE (FloatOps.absf (F := Ideal) (φ := .f32) (t - b)) = sl1E t b := by
  unfold sl1E smE
  rw [Cert.Proof.K.cmp_olt, lit1]
  show (if max (t - b) (-(t - b)) < 1 then _ else _) = _
  unfold Scalar.select
  split <;> rfl

end Cert.Proof.KR

end
-- ==== Proof.K.RefG.lean ====
/- The reference's two last results are the images' losses. -/
module

public import proofs.«01_k».proof.Proof.K.RefD

@[expose] public section

noncomputable section

namespace Cert.Proof.KR

open Cert.ReferenceIdeal Cert.ReferenceIdeal.Gen
open Idealize.ShloMosaic
open Cert.Proof.K (Img RBox imgOf fn fn_eq fn_val Sens ok_of lit0 lit1 sl1E tgE twE ctrE bbE ldE lpE)

variable (V : Valuation τ sig (Elt Ideal))

theorem div_congr {s t l : EReal} (h : s = t) : Ideal.div s l = Ideal.div t l := by rw [h]
theorem mean_congr {c s t l : EReal} (h : s = t) : Img.mean c s l = Img.mean c t l := by rw [h]

/-- An image of the arguments. -/
abbrev img (b : Fin 8) : Img := imgOf (aReg V) (aLdm V) (aAnc V) (aAnn V) b

variable {V} (hS : Sens (aAnc V) (aAnn V)) (b : Fin 8) (a : Fin 16000) (g : Fin 32)
include hS

theorem an0 : aAnc V (ix2 a (0 : Fin 4)) = (((img V b).an a.val).x0 : EReal) := by
  show _ = ((aAnc V (ix2 (fn 16000 a.val) (0 : Fin 4))).toReal : EReal)
  rw [fn_val]; exact coe_toReal_of (hS.a0 a)
theorem an1 : aAnc V (ix2 a (1 : Fin 4)) = (((img V b).an a.val).y0 : EReal) := by
  show _ = ((aAnc V (ix2 (fn 16000 a.val) (1 : Fin 4))).toReal : EReal)
  rw [fn_val]; exact coe_toReal_of (hS.a1 a)
theorem an2 : aAnc V (ix2 a (2 : Fin 4)) = (((img V b).an a.val).x1 : EReal) := by
  show _ = ((aAnc V (ix2 (fn 16000 a.val) (2 : Fin 4))).toReal : EReal)
  rw [fn_val]; exact coe_toReal_of (hS.a2 a)
theorem an3 : aAnc V (ix2 a (3 : Fin 4)) = (((img V b).an a.val).y1 : EReal) := by
  show _ = ((aAnc V (ix2 (fn 16000 a.val) (3 : Fin 4))).toReal : EReal)
  rw [fn_val]; exact coe_toReal_of (hS.a3 a)
theorem bx0 : aAnn V (ix3 b g (0 : Fin 14)) = (((img V b).bx g.val).x0 : EReal) := by
  show _ = ((aAnn V (ix3 b (fn 32 g.val) (0 : Fin 14))).toReal : EReal)
  rw [fn_val]; exact coe_toReal_of (hS.b0 b g)
theorem bx1 : aAnn V (ix3 b g (1 : Fin 14)) = (((img V b).bx g.val).y0 : EReal) := by
  show _ = ((aAnn V (ix3 b (fn 32 g.val) (1 : Fin 14))).toReal : EReal)
  rw [fn_val]; exact coe_toReal_of (hS.b1 b g)
theorem bx2 : aAnn V (ix3 b g (2 : Fin 14)) = (((img V b).bx g.val).x1 : EReal) := by
  show _ = ((aAnn V (ix3 b (fn 32 g.val) (2 : Fin 14))).toReal : EReal)
  rw [fn_val]; exact coe_toReal_of (hS.b2 b g)
theorem bx3 : aAnn V (ix3 b g (3 : Fin 14)) = (((img V b).bx g.val).y1 : EReal) := by
  show _ = ((aAnn V (ix3 b (fn 32 g.val) (3 : Fin 14))).toReal : EReal)
  rw [fn_val]; exact coe_toReal_of (hS.b3 b g)

theorem r32_at : r32 V (ix3 b a g) = (RBox.inter ((img V b).an a.val) ((img V b).bx g.val) : EReal) := by
  unfold r32 r27
  rw [f32_at, f27_0, f27_1, an0 hS b, an1 hS b, an2 hS b, an3 hS b, bx0 hS, bx1 hS, bx2 hS, bx3 hS]
  unfold RBox.inter RBox.ovx RBox.ovy
  norm_cast

theorem r51_at : r51 V (ix3 b a g) = (RBox.iou ((img V b).an a.val) ((img V b).bx g.val) : EReal) := by
  have hI : (img V b).Ok := ok_of hS b
  have ha := hI.an a.val a.isLt
  have hb := hI.bx g.val g.isLt
  have hu : r3 V (ix2 a (0 : Fin 2)) * r3 V (ix2 a (1 : Fin 2)) + r10 V (ix3 b g (0 : Fin 2)) * r10 V (ix3 b g (1 : Fin 2)) - r32 V (ix3 b a g)
      = (RBox.union ((img V b).an a.val) ((img V b).bx g.val) : EReal) := by
    rw [r32_at hS]
    unfold r3 r10
    rw [f3_0, f3_1, f10_0, f10_1, an0 hS b, an1 hS b, an2 hS b, an3 hS b, bx0 hS, bx1 hS, bx2 hS, bx3 hS]
    unfold RBox.union RBox.area
    norm_cast
  have hm : Ideal.ofBits .f32 0x322BCC77#32 ≤ (RBox.union ((img V b).an a.val) ((img V b).bx g.val) : EReal) := by
    refine (hS.area b g).trans ?_
    rw [bx0 hS, bx1 hS, bx2 hS, bx3 hS]
    refine le_trans (le_of_eq ?_) (EReal.coe_le_coe_iff.mpr (RBox.le_union (b := (img V b).bx g.val) ha))
    unfold RBox.area
    norm_cast
  unfold r51
  rw [f51_at, hu, max_eq_left hm, r32_at hS, Ideal.div, if_neg (by rw [EReal.coe_eq_zero]; exact (RBox.union_pos ha hb).ne'), ← EReal.coe_inv, ← EReal.coe_mul]
  rfl

omit hS in
theorem most_iou : (img V b).most a.val = (RBox.iou ((img V b).an a.val) ((img V b).bx ((img V b).top a.val)) : EReal) := rfl

theorem top_lt : (img V b).top a.val < 32 := ((img V b).top_first (ok_of hS b) a.isLt).lt_n

theorem r52_at : r52 V (ix2 b a) = (img V b).most a.val := by
  have hf := (img V b).top_first (ok_of hS b) a.isLt
  unfold r52
  rw [f52_at, bot_bits]
  refine le_antisymm ?_ ?_
  · refine (Finset.fold_max_le _).mpr ⟨bot_le, fun g _ => ?_⟩
    rw [r51_at hS]
    exact EReal.coe_le_coe_iff.mpr (hf.le g.val g.isLt)
  · refine (Finset.le_fold_max _).mpr (Or.inr ⟨⟨_, hf.lt_n⟩, Finset.mem_univ _, ?_⟩)
    rw [r51_at hS]
    exact le_rfl

theorem arg_at : vArg (r51 V) (r52 V) (ix2 b a) = BitVec.ofNat 32 ((img V b).top a.val) := by
  have hf := (img V b).top_first (ok_of hS b) a.isLt
  have e : ∀ g : Fin 32, Scalar.select (Ideal.cmp .oeq (r51 V (ix3 b a g)) (r52 V (ix2 b a))) (BitVec.ofNat 32 g.val) 32#32
      = if RBox.iou ((img V b).an a.val) ((img V b).bx g.val) = RBox.iou ((img V b).an a.val) ((img V b).bx ((img V b).top a.val)) then BitVec.ofNat 32 g.val else 32#32 := by
    intro g
    rw [r51_at hS, r52_at hS, most_iou]
    show Scalar.select (BitVec.ofBool (decide (_ = _))) _ _ = _
    unfold Scalar.select
    by_cases h : RBox.iou ((img V b).an a.val) ((img V b).bx g.val) = RBox.iou ((img V b).an a.val) ((img V b).bx ((img V b).top a.val))
    · rw [if_pos h, h]; simp
    · rw [if_neg h, decide_eq_false (fun hc => h (EReal.coe_eq_coe_iff.mp hc))]; simp
  rw [vArg_at]
  simp only [e]
  refine (fold_first IntOp.minsi _ _ (⟨(img V b).top a.val, hf.lt_n⟩ : Fin 32) ?_ ?_).trans ?_
  · rw [if_pos rfl]; exact minsi_top ⟨_, hf.lt_n⟩
  · intro g
    rw [if_pos rfl]
    by_cases h : RBox.iou ((img V b).an a.val) ((img V b).bx g.val) = RBox.iou ((img V b).an a.val) ((img V b).bx ((img V b).top a.val))
    · rw [if_pos h]
      refine minsi_le ⟨_, hf.lt_n⟩ ⟨g.val, by omega⟩ ?_
      by_contra hl
      exact absurd h (hf.lt g.val (not_le.mp hl)).ne
    · rw [if_neg h]
      exact minsi_le ⟨_, hf.lt_n⟩ ⟨32, by omega⟩ hf.lt_n.le
  · rw [if_pos rfl]

theorem r110_at (f : Fin 14) : r110 V (ix3 b a f) = (img V b).ann f.val ((img V b).top a.val) := by
  unfold r110
  rw [f110_at (aAnn V) (r51 V) (r52 V) b a f (top_lt hS b a) (arg_at hS b a)]
  show _ = aAnn V (ix3 b (fn 32 ((img V b).top a.val)) (fn 14 f.val))
  rw [fn_val, fn_eq (top_lt hS b a)]

theorem r62_at : r62 V (ix2 b a) = (img V b).pos a.val := by
  unfold r62
  rw [f62_at, r52_at hS]
  rfl

theorem r172_at (f : Fin 10) : r172 V (ix3 b a f) = (img V b).ann (f.val + 4) ((img V b).top a.val) := by
  unfold r172
  rw [f172_at, r110_at hS]
  exact congrArg (fun k => (img V b).ann k ((img V b).top a.val)) (Nat.add_comm 4 f.val)

theorem r176_at : r176 V (ix2 b a) = (img V b).mask a.val := by
  unfold r176
  rw [f176_at, r62_at hS]
  simp only [r172_at hS]
  rw [← Finset.sum_range (fun f => (img V b).ann (f + 4) ((img V b).top a.val))]
  unfold Img.mask lpE
  simp only [Finset.sum_range_succ, Finset.sum_range_zero, zero_add, lit0]

/-- The differences, against the terms of the losses. -/
theorem r138_0 : smE (r138 V (ix3 b a (0 : Fin 2))) = sl1E (tgE (ctrE ((img V b).ann 0 ((img V b).top a.val)) ((img V b).ann 2 ((img V b).top a.val) - (img V b).ann 0 ((img V b).top a.val)))
    (ctrE ((img V b).an a.val).x0 (((img V b).an a.val).x1 - ((img V b).an a.val).x0)) (((img V b).an a.val).x1 - ((img V b).an a.val).x0)) ((img V b).reg 0 a.val) := by
  unfold r138 r113 r7 r3
  rw [f138_0, smE_eq, f113_0, f7_0, f3_0, r110_at hS, r110_at hS, an0 hS b, an2 hS b]
  show sl1E _ _ = sl1E _ (aReg V (ix3 b (fn 16000 a.val) (fn 4 0)))
  rw [fn_val]; rfl
theorem r138_1 : smE (r138 V (ix3 b a (1 : Fin 2))) = sl1E (tgE (ctrE ((img V b).ann 1 ((img V b).top a.val)) ((img V b).ann 3 ((img V b).top a.val) - (img V b).ann 1 ((img V b).top a.val)))
    (ctrE ((img V b).an a.val).y0 (((img V b).an a.val).y1 - ((img V b).an a.val).y0)) (((img V b).an a.val).y1 - ((img V b).an a.val).y0)) ((img V b).reg 1 a.val) := by
  unfold r138 r113 r7 r3
  rw [f138_1, smE_eq, f113_1, f7_1, f3_1, r110_at hS, r110_at hS, an1 hS b, an3 hS b]
  show sl1E _ _ = sl1E _ (aReg V (ix3 b (fn 16000 a.val) (fn 4 1)))
  rw [fn_val]; rfl
theorem r150_0 : smE (r150 V (ix3 b a (0 : Fin 2))) = sl1E (twE ((img V b).ann 2 ((img V b).top a.val) - (img V b).ann 0 ((img V b).top a.val))
    (((img V b).an a.val).x1 - ((img V b).an a.val).x0)) ((img V b).reg 2 a.val) := by
  unfold r150 r113 r3
  rw [f150_0, smE_eq, f113_0, f3_0, r110_at hS, r110_at hS, an0 hS b, an2 hS b]
  show sl1E _ _ = sl1E _ (aReg V (ix3 b (fn 16000 a.val) (fn 4 2)))
  rw [fn_val]; rfl
theorem r150_1 : smE (r150 V (ix3 b a (1 : Fin 2))) = sl1E (twE ((img V b).ann 3 ((img V b).top a.val) - (img V b).ann 1 ((img V b).top a.val))
    (((img V b).an a.val).y1 - ((img V b).an a.val).y0)) ((img V b).reg 3 a.val) := by
  unfold r150 r113 r3
  rw [f150_1, smE_eq, f113_1, f3_1, r110_at hS, r110_at hS, an1 hS b, an3 hS b]
  show sl1E _ _ = sl1E _ (aReg V (ix3 b (fn 16000 a.val) (fn 4 3)))
  rw [fn_val]; rfl

theorem bb_at : (∑ d : Fin 2, smE (r138 V (ix3 b a d))) + ∑ d : Fin 2, smE (r150 V (ix3 b a d)) = (img V b).bb a.val := by
  rw [Fin.sum_univ_two, Fin.sum_univ_two, r138_0 hS, r138_1 hS, r150_0 hS, r150_1 hS, ← add_assoc]
  rfl

theorem r194_00 : smE (r194 V (ix4 b a (0 : Fin 5) (0 : Fin 2))) = sl1E (tgE ((img V b).ann 4 ((img V b).top a.val))
    (ctrE ((img V b).an a.val).x0 (((img V b).an a.val).x1 - ((img V b).an a.val).x0)) (((img V b).an a.val).x1 - ((img V b).an a.val).x0)) ((img V b).ldm 0 a.val) := by
  unfold r194 r7 r3
  rw [f194_00, smE_eq, f7_0, f3_0, r172_at hS, an0 hS b, an2 hS b]
  show sl1E _ _ = sl1E _ (aLdm V (ix3 b (fn 16000 a.val) (fn 10 0)))
  rw [fn_val]; rfl
theorem r194_10 : smE (r194 V (ix4 b a (1 : Fin 5) (0 : Fin 2))) = sl1E (tgE ((img V b).ann 6 ((img V b).top a.val))
    (ctrE ((img V b).an a.val).x0 (((img V b).an a.val).x1 - ((img V b).an a.val).x0)) (((img V b).an a.val).x1 - ((img V b).an a.val).x0)) ((img V b).ldm 2 a.val) := by
  unfold r194 r7 r3
  rw [f194_10, smE_eq, f7_0, f3_0, r172_at hS, an0 hS b, an2 hS b]
  show sl1E _ _ = sl1E _ (aLdm V (ix3 b (fn 16000 a.val) (fn 10 2)))
  rw [fn_val]; rfl
theorem r194_20 : smE (r194 V (ix4 b a (2 : Fin 5) (0 : Fin 2))) = sl1E (tgE ((img V b).ann 8 ((img V b).top a.val))
    (ctrE ((img V b).an a.val).x0 (((img V b).an a.val).x1 - ((img V b).an a.val).x0)) (((img V b).an a.val).x1 - ((img V b).an a.val).x0)) ((img V b).ldm 4 a.val) := by
  unfold r194 r7 r3
  rw [f194_20, smE_eq, f7_0, f3_0, r172_at hS, an0 hS b, an2 hS b]
  show sl1E _ _ = sl1E _ (aLdm V (ix3 b (fn 16000 a.val) (fn 10 4)))
  rw [fn_val]; rfl
theorem r194_30 : smE (r194 V (ix4 b a (3 : Fin 5) (0 : Fin 2))) = sl1E (tgE ((img V b).ann 10 ((img V b).top a.val))
    (ctrE ((img V b).an a.val).x0 (((img V b).an a.val).x1 - ((img V b).an a.val).x0)) (((img V b).an a.val).x1 - ((img V b).an a.val).x0)) ((img V b).ldm 6 a.val) := by
  unfold r194 r7 r3
  rw [f194_30, smE_eq, f7_0, f3_0, r172_at hS, an0 hS b, an2 hS b]
  show sl1E _ _ = sl1E _ (aLdm V (ix3 b (fn 16000 a.val) (fn 10 6)))
  rw [fn_val]; rfl
theorem r194_40 : smE (r194 V (ix4 b a (4 : Fin 5) (0 : Fin 2))) = sl1E (tgE ((img V b).ann 12 ((img V b).top a.val))
    (ctrE ((img V b).an a.val).x0 (((img V b).an a.val).x1 - ((img V b).an a.val).x0)) (((img V b).an a.val).x1 - ((img V b).an a.val).x0)) ((img V b).ldm 8 a.val) := by
  unfold r194 r7 r3
  rw [f194_40, smE_eq, f7_0, f3_0, r172_at hS, an0 hS b, an2 hS b]
  show sl1E _ _ = sl1E _ (aLdm V (ix3 b (fn 16000 a.val) (fn 10 8)))
  rw [fn_val]; rfl
theorem r194_01 : smE (r194 V (ix4 b a (0 : Fin 5) (1 : Fin 2))) = sl1E (tgE ((img V b).ann 5 ((img V b).top a.val))
    (ctrE ((img V b).an a.val).y0 (((img V b).an a.val).y1 - ((img V b).an a.val).y0)) (((img V b).an a.val).y1 - ((img V b).an a.val).y0)) ((img V b).ldm 1 a.val) := by
  unfold r194 r7 r3
  rw [f194_01, smE_eq, f7_1, f3_1, r172_at hS, an1 hS b, an3 hS b]
  show sl1E _ _ = sl1E _ (aLdm V (ix3 b (fn 16000 a.val) (fn 10 1)))
  rw [fn_val]; rfl
theorem r194_11 : smE (r194 V (ix4 b a (1 : Fin 5) (1 : Fin 2))) = sl1E (tgE ((img V b).ann 7 ((img V b).top a.val))
    (ctrE ((img V b).an a.val).y0 (((img V b).an a.val).y1 - ((img V b).an a.val).y0)) (((img V b).an a.val).y1 - ((img V b).an a.val).y0)) ((img V b).ldm 3 a.val) := by
  unfold r194 r7 r3
  rw [f194_11, smE_eq, f7_1, f3_1, r172_at hS, an1 hS b, an3 hS b]
  show sl1E _ _ = sl1E _ (aLdm V (ix3 b (fn 16000 a.val) (fn 10 3)))
  rw [fn_val]; rfl
theorem r194_21 : smE (r194 V (ix4 b a (2 : Fin 5) (1 : Fin 2))) = sl1E (tgE ((img V b).ann 9 ((img V b).top a.val))
    (ctrE ((img V b).an a.val).y0 (((img V b).an a.val).y1 - ((img V b).an a.val).y0)) (((img V b).an a.val).y1 - ((img V b).an a.val).y0)) ((img V b).ldm 5 a.val) := by
  unfold r194 r7 r3
  rw [f194_21, smE_eq, f7_1, f3_1, r172_at hS, an1 hS b, an3 hS b]
  show sl1E _ _ = sl1E _ (aLdm V (ix3 b (fn 16000 a.val) (fn 10 5)))
  rw [fn_val]; rfl
theorem r194_31 : smE (r194 V (ix4 b a (3 : Fin 5) (1 : Fin 2))) = sl1E (tgE ((img V b).ann 11 ((img V b).top a.val))
    (ctrE ((img V b).an a.val).y0 (((img V b).an a.val).y1 - ((img V b).an a.val).y0)) (((img V b).an a.val).y1 - ((img V b).an a.val).y0)) ((img V b).ldm 7 a.val) := by
  unfold r194 r7 r3
  rw [f194_31, smE_eq, f7_1, f3_1, r172_at hS, an1 hS b, an3 hS b]
  show sl1E _ _ = sl1E _ (aLdm V (ix3 b (fn 16000 a.val) (fn 10 7)))
  rw [fn_val]; rfl
theorem r194_41 : smE (r194 V (ix4 b a (4 : Fin 5) (1 : Fin 2))) = sl1E (tgE ((img V b).ann 13 ((img V b).top a.val))
    (ctrE ((img V b).an a.val).y0 (((img V b).an a.val).y1 - ((img V b).an a.val).y0)) (((img V b).an a.val).y1 - ((img V b).an a.val).y0)) ((img V b).ldm 9 a.val) := by
  unfold r194 r7 r3
  rw [f194_41, smE_eq, f7_1, f3_1, r172_at hS, an1 hS b, an3 hS b]
  show sl1E _ _ = sl1E _ (aLdm V (ix3 b (fn 16000 a.val) (fn 10 9)))
  rw [fn_val]; rfl

theorem ld_at : ∑ k : Fin 5, ∑ d : Fin 2, smE (r194 V (ix4 b a k d)) = (img V b).ld a.val := by
  simp only [Fin.sum_univ_two, Fin.sum_univ_five, r194_00 hS, r194_01 hS, r194_10 hS, r194_11 hS, r194_20 hS, r194_21 hS, r194_30 hS, r194_31 hS, r194_40 hS, r194_41 hS]
  simp only [← add_assoc]
  rfl

omit b a g in
/-- The box losses. -/
theorem r218_eq : r218 V ix0 = Ideal.div (∑ b : Fin 8, (img V b).boxLoss) (Ideal.ofBits .f32 0x41000000#32) := by
  unfold r218
  rw [f218_at]
  refine div_congr (Finset.sum_congr rfl fun b _ => ?_)
  rw [mean_of (m := (img V b).pos) (c := r64 V (ix1 b)) (fun a => r62 V (ix2 b a)) (fun a => r62_at hS b a) (f64_at (r62 V) b)]
  refine mean_congr ?_
  unfold Img.tot
  rw [Finset.sum_range (fun a => Scalar.select ((img V b).pos a) ((img V b).bb a) (Ideal.ofBits .f32 0x00000000#32))]
  refine Finset.sum_congr rfl fun a _ => ?_
  rw [r62_at hS, bb_at hS]

omit b a g in
/-- The landmark losses. -/
theorem r220_eq : r220 V ix0 = Ideal.div (∑ b : Fin 8, (img V b).ldmLoss) (Ideal.ofBits .f32 0x41000000#32) := by
  unfold r220
  rw [f220_at]
  refine div_congr (Finset.sum_congr rfl fun b _ => ?_)
  rw [mean_of (m := (img V b).mask) (c := r178 V (ix1 b)) (fun a => r176 V (ix2 b a)) (fun a => r176_at hS b a) (f178_at (r176 V) b)]
  refine mean_congr ?_
  unfold Img.tot
  rw [Finset.sum_range (fun a => Scalar.select ((img V b).mask a) ((img V b).ld a) (Ideal.ofBits .f32 0x00000000#32))]
  refine Finset.sum_congr rfl fun a _ => ?_
  rw [r176_at hS, ld_at hS]

end Cert.Proof.KR

end
-- ==== Proof.K.Alg.lean ====
/- The reference's frame, and the equality of the last two results of the kernel and the reference. -/
module

public import proofs.«01_k».proof.Proof.K.Frame
public import proofs.«01_k».proof.Proof.K.ValF
public import proofs.«01_k».proof.Proof.K.RefG
public import proofs.«01_k».proof.Proof.Gen.ReferenceIdeal.Run
public import proofs.«01_k».proof.Defs

@[expose] public section

noncomputable section

namespace Cert.Proof.KA

open Idealize.ShloMosaic Idealize.ShloMosaic.StableHlo Idealize.SL.Sem

/-- The frame of the reference. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem ref2 (m : (ℓ : Loc Cert.ReferenceIdeal.nD Cert.ReferenceIdeal.τ Cert.ReferenceIdeal.sig) → Buf (Elt Ideal) ℓ) (c : Dev Cert.ReferenceIdeal.nD)
    {reg : K.TReg.Idx → EReal} {ldm : K.TLdm.Idx → EReal} {anc : K.TAnc.Idx → EReal} {ann : K.TAnn.Idx → EReal}
    (h1 : KR.aReg (launchContents m c) = reg) (h2 : KR.aLdm (launchContents m c) = ldm) (h3 : KR.aAnc (launchContents m c) = anc)
    (h4 : KR.aAnn (launchContents m c) = ann) (hS : K.Sens anc ann) (i : Cert.ReferenceIdeal.S_.Idx) :
    KR.r218 (launchContents m c) i = Ideal.div (∑ b : Fin 8, (K.imgOf reg ldm anc ann b).boxLoss) (Ideal.ofBits .f32 0x41000000#32) := by
  subst h1 h2 h3 h4
  rw [show i = ix0 from Subsingleton.elim _ _]
  exact KR.r218_eq hS

theorem ref3 (m : (ℓ : Loc Cert.ReferenceIdeal.nD Cert.ReferenceIdeal.τ Cert.ReferenceIdeal.sig) → Buf (Elt Ideal) ℓ) (c : Dev Cert.ReferenceIdeal.nD)
    {reg : K.TReg.Idx → EReal} {ldm : K.TLdm.Idx → EReal} {anc : K.TAnc.Idx → EReal} {ann : K.TAnn.Idx → EReal}
    (h1 : KR.aReg (launchContents m c) = reg) (h2 : KR.aLdm (launchContents m c) = ldm) (h3 : KR.aAnc (launchContents m c) = anc)
    (h4 : KR.aAnn (launchContents m c) = ann) (hS : K.Sens anc ann) (i : Cert.ReferenceIdeal.S_.Idx) :
    KR.r220 (launchContents m c) i = Ideal.div (∑ b : Fin 8, (K.imgOf reg ldm anc ann b).ldmLoss) (Ideal.ofBits .f32 0x41000000#32) := by
  subst h1 h2 h3 h4
  rw [show i = ix0 from Subsingleton.elim _ _]
  exact KR.r220_eq hS

variable [hOn : Cert.On_boxes_and_landmarks.Facts]

/-- The second and the third result are the reference's, wherever the arguments are sensible. -/
theorem algebraic : Cert.algebraic_KernelIdeal_ReferenceIdeal_on_boxes_and_landmarks_pre_sensible := by
  intro m g m' g' hp ha
  refine ⟨fun c => K.VF m c (K.hr Cert.KernelIdeal.main_v20), fun c => K.VF m c (K.hr Cert.KernelIdeal.main_v24), fun c => K.VF m c (K.hr Cert.KernelIdeal.main_v28), ?_, ?_⟩
  · refine (θ_run Cert.KernelIdeal.defs _ _).mono (fun r h c => ?_) (K.run_main (F := Ideal) m g)
    exact ⟨fun i _ => congrFun (h.1 c (K.hr Cert.KernelIdeal.main_v20) (K.hr_uc _ rfl)) i, fun i _ => congrFun (h.1 c (K.hr Cert.KernelIdeal.main_v24) (K.hr_uc _ rfl)) i,
      fun i _ => congrFun (h.1 c (K.hr Cert.KernelIdeal.main_v28) (K.hr_uc _ rfl)) i, (K.QC_args m r h).1 c⟩
  · refine (θ_run Cert.ReferenceIdeal.defs _ _).mono (fun r h c => ?_) (Cert.ReferenceIdeal.Value.run (F := Ideal) m' g')
    obtain ⟨_, e1, e2, e3, e4⟩ := ha c
    refine ⟨fun i hi => absurd (show (0#1 : BitVec 1) = 1#1 from hi) (by decide), fun i _ => ?_, fun i _ => ?_, (h c).2.2.2⟩
    · refine (congrFun ((h c).2.1.trans (KR.end218 _)) i).trans ?_
      exact (ref2 m' c e1 e2 e3 e4 (K.sens_of (hp c)) i).trans (K.VF24_eq m c (hp c) i).symm
    · refine (congrFun ((h c).2.2.1.trans (KR.end220 _)) i).trans ?_
      exact (ref3 m' c e1 e2 e3 e4 (K.sens_of (hp c)) i).trans (K.VF28_eq m c (hp c) i).symm

end Cert.Proof.KA

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_sensible
public import proofs.«01_k».proof.Proof.K.Frame
public import proofs.«01_k».proof.Proof.K.Alg
public import Idealize.ShloMosaic.Adequacy
public import Idealize.ShloMosaic.Init

@[expose] public section

noncomputable section

namespace Cert.Proof

open Idealize.ShloMosaic Idealize.SL.Sem Cert.Kernel

/-- Every claim: the frames of the kernel, of its idealization and of the reference, that one kernel is the other's idealization, and
    that the box loss and the landmark loss are the reference's. -/
theorem claim : Cert.Claim :=
  ⟨Cert.Kernel.Gen.facts, Cert.KernelIdeal.Gen.facts, Cert.ReferenceIdeal.Gen.facts, Cert.Pre_sensible.Gen.facts, ⟨⟩,
    K.frame_kernel, K.frame_ideal, fun m g _ => K.frame_ideal m g trivial, KA.frame_ref, fun m g _ => KA.frame_ref m g trivial, trivial,
    KA.algebraic (hOn := ⟨⟩)⟩

end Cert.Proof

end
